-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S32x39 : Shape := ⟨2, ![32, 39]⟩
abbrev S_ : Shape := ⟨0, ![]⟩
abbrev S1x39 : Shape := ⟨2, ![1, 39]⟩
abbrev S39 : Shape := ⟨1, ![39]⟩
abbrev S6x64x4096 : Shape := ⟨3, ![6, 64, 4096]⟩
abbrev S6 : Shape := ⟨1, ![6]⟩
abbrev S8x128 : Shape := ⟨2, ![8, 128]⟩
abbrev S32x8x128 : Shape := ⟨3, ![32, 8, 128]⟩
abbrev S31 : Shape := ⟨1, ![31]⟩
abbrev S1 : Shape := ⟨1, ![1]⟩
abbrev S64x4096 : Shape := ⟨2, ![64, 4096]⟩
abbrev S1x64x4096 : Shape := ⟨3, ![1, 64, 4096]⟩
abbrev S64x256 : Shape := ⟨2, ![64, 256]⟩
abbrev S1x64x256 : Shape := ⟨3, ![1, 64, 256]⟩
abbrev S1x1x1 : Shape := ⟨3, ![1, 1, 1]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 25
  | .vmem => 8
  | .smem => 1
  | _ => 0

abbrev bufTy : (tb : Table) → Fin (tcTables nBuf tb) → BufTy
  | .hbm, ⟨0, _⟩ => ⟨S128x4096, .bf16⟩
  | .hbm, ⟨1, _⟩ => ⟨S4096x256, .bf16⟩
  | .hbm, ⟨2, _⟩ => ⟨S32x39, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x39, .i32⟩
  | .hbm, ⟨23, _⟩ => ⟨S39, .i32⟩
  | .hbm, ⟨24, _⟩ => ⟨S4096x256, .f32⟩
  | .local _ .vmem, ⟨0, _⟩ => ⟨S128x4096, .bf16⟩
  | .local _ .vmem, ⟨1, _⟩ => ⟨S4096x256, .bf16⟩
  | .local _ .vmem, ⟨2, _⟩ => ⟨S4096x256, .f32⟩
  | .local _ .vmem, ⟨3, _⟩ => ⟨S4096x256, .bf16⟩
  | .local _ .vmem, ⟨4, _⟩ => ⟨S6x64x4096, .bf16⟩
  | .local _ .vmem, ⟨5, _⟩ => ⟨S6x64x4096, .bf16⟩
  | .local _ .vmem, ⟨6, _⟩ => ⟨S8x128, .f32⟩
  | .local _ .vmem, ⟨7, _⟩ => ⟨S32x8x128, .f32⟩
  | .local _ .smem, ⟨0, _⟩ => ⟨S39, .i32⟩
  | _, _ => ⟨S128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 5 60 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_2 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_c_5 : Ref sig .tc := ⟨.hbm, 15, rfl⟩
abbrev main_v8 : Ref sig .tc := ⟨.hbm, 16, rfl⟩
abbrev main_c_6 : Ref sig .tc := ⟨.hbm, 17, rfl⟩
abbrev main_c_7 : Ref sig .tc := ⟨.hbm, 18, rfl⟩
abbrev main_v9 : Ref sig .tc := ⟨.hbm, 19, rfl⟩
abbrev main_c_8 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch6 : Ref sig .tc := ⟨.vmem, 5, rfl⟩
abbrev cc0_scratch11 : Ref sig .tc := ⟨.vmem, 6, rfl⟩
abbrev cc0_scratch12 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 4

abbrev nD : Nat := 32
abbrev τ : Topo := Topo.v7x

variable {F : FTy → Type} [FloatOps F]

abbrev grid0 : Pipeline.Grid := .none

def k0_dev1 (v4 : BitVec 32) : Nat :=
  let c0_i32 : BitVec 32 := 0#32
  let c1_i32_1 : BitVec 32 := 1#32
  let v6 : BitVec 32 := Scalar.muli v4 c1_i32_1
  let v7 : BitVec 32 := Scalar.addi c0_i32 v6
  v7.toNat

def k0_dev2 (v3 : BitVec 32) : Nat :=
  let c0_i32_4 : BitVec 32 := 0#32
  let c1_i32_3 : BitVec 32 := 1#32
  let v8 : BitVec 32 := Scalar.muli v3 c1_i32_3
  let v9 : BitVec 32 := Scalar.addi c0_i32_4 v8
  v9.toNat

def k0_dev3 (v3 : BitVec 32) : Nat :=
  let c0_i32_31 : BitVec 32 := 0#32
  let c1_i32_30 : BitVec 32 := 1#32
  let v35 : BitVec 32 := Scalar.muli v3 c1_i32_30
  let v36 : BitVec 32 := Scalar.addi c0_i32_31 v35
  v36.toNat
def k0_dev4 (v4 : BitVec 32) : Nat :=
  let c0_i32_41 : BitVec 32 := 0#32
  let c1_i32_40 : BitVec 32 := 1#32
  let v45 : BitVec 32 := Scalar.muli v4 c1_i32_40
  let v46 : BitVec 32 := Scalar.addi c0_i32_41 v45
  v46.toNat
def k0_dev5 (v3 : BitVec 32) : Nat :=
  let c0_i32_49 : BitVec 32 := 0#32
  let c1_i32_48 : BitVec 32 := 1#32
  let v55 : BitVec 32 := Scalar.muli v3 c1_i32_48
  let v56 : BitVec 32 := Scalar.addi c0_i32_49 v55
  v56.toNat
def k0_dev6 (v4 : BitVec 32) : Nat :=
  let c0_i32_59 : BitVec 32 := 0#32
  let c1_i32_58 : BitVec 32 := 1#32
  let v65 : BitVec 32 := Scalar.muli v4 c1_i32_58
  let v66 : BitVec 32 := Scalar.addi c0_i32_59 v65
  v66.toNat
def k0_off1 (v77 : BitVec 32) : Fin 2 → Nat :=
  let c128_i32 : BitVec 32 := 128#32
  let v82 : BitVec 32 := Scalar.muli v77 c128_i32
  let c0_i32_71 : BitVec 32 := 0#32
  let v83 : BitVec 32 := Scalar.addi v82 c0_i32_71
  let v84 : Index := Scalar.indexCast v83
  let c0_72 : Index := 0#32
  ![v84.toNat, 0]

def k0_chk3 (v77 : BitVec 32) : Prop :=
  (∀ a, (k0_off1 v77) a + S64x256.size a ≤ S4096x256.size a)
theorem k0_off1_inb : ∀ (v77 : BitVec 32) (k0_hw3 : k0_chk3 v77), ∀ a, (k0_off1 v77) a + S64x256.size a ≤ S4096x256.size a := fun v77 k0_hw3 => k0_hw3

def k0_off2 (v93 : BitVec 32) : Fin 2 → Nat :=
  let c128_i32_83 : BitVec 32 := 128#32
  let v98 : BitVec 32 := Scalar.muli v93 c128_i32_83
  let c64_i32 : BitVec 32 := 64#32
  let v99 : BitVec 32 := Scalar.addi v98 c64_i32
  let v100 : Index := Scalar.indexCast v99
  let c0_84 : Index := 0#32
  ![v100.toNat, 0]

def k0_chk4 (v93 : BitVec 32) : Prop :=
  (∀ a, (k0_off2 v93) a + S64x256.size a ≤ S4096x256.size a)
theorem k0_off2_inb : ∀ (v93 : BitVec 32) (k0_hw4 : k0_chk4 v93), ∀ a, (k0_off2 v93) a + S64x256.size a ≤ S4096x256.size a := fun v93 k0_hw4 => k0_hw4

def k0_dev7 (v4 : BitVec 32) : Nat :=
  let c0_i32_97 : BitVec 32 := 0#32
  let c1_i32_96 : BitVec 32 := 1#32
  let v113 : BitVec 32 := Scalar.muli v4 c1_i32_96
  let v114 : BitVec 32 := Scalar.addi c0_i32_97 v113
  v114.toNat
def k0_dev8 (v3 : BitVec 32) : Nat :=
  let c0_i32_113 : BitVec 32 := 0#32
  let c1_i32_112 : BitVec 32 := 1#32
  let v123 : BitVec 32 := Scalar.muli v3 c1_i32_112
  let v124 : BitVec 32 := Scalar.addi c0_i32_113 v123
  v124.toNat
def k0_dev9 (v3 : BitVec 32) : Nat :=
  let c0_i32_129 : BitVec 32 := 0#32
  let c1_i32_128 : BitVec 32 := 1#32
  let v139 : BitVec 32 := Scalar.muli v3 c1_i32_128
  let v140 : BitVec 32 := Scalar.addi c0_i32_129 v139
  v140.toNat
def k0_dev10 (v4 : BitVec 32) : Nat :=
  let c0_i32_145 : BitVec 32 := 0#32
  let c1_i32_144 : BitVec 32 := 1#32
  let v149 : BitVec 32 := Scalar.muli v4 c1_i32_144
  let v150 : BitVec 32 := Scalar.addi c0_i32_145 v149
  v150.toNat
def k0_off3 (v161 : BitVec 32) : Fin 2 → Nat :=
  let c128_i32_156 : BitVec 32 := 128#32
  let v166 : BitVec 32 := Scalar.muli v161 c128_i32_156
  let c0_i32_157 : BitVec 32 := 0#32
  let v167 : BitVec 32 := Scalar.addi v166 c0_i32_157
  let v168 : Index := Scalar.indexCast v167
  let c0_158 : Index := 0#32
  ![v168.toNat, 0]

def k0_chk5 (v161 : BitVec 32) : Prop :=
  (∀ a, (k0_off3 v161) a + S64x256.size a ≤ S4096x256.size a)
theorem k0_off3_inb : ∀ (v161 : BitVec 32) (k0_hw5 : k0_chk5 v161), ∀ a, (k0_off3 v161) a + S64x256.size a ≤ S4096x256.size a := fun v161 k0_hw5 => k0_hw5

def k0_off4 (v177 : BitVec 32) : Fin 2 → Nat :=
  let c128_i32_167 : BitVec 32 := 128#32
  let v182 : BitVec 32 := Scalar.muli v177 c128_i32_167
  let c0_i32_168 : BitVec 32 := 0#32
  let v183 : BitVec 32 := Scalar.addi v182 c0_i32_168
  let v184 : Index := Scalar.indexCast v183
  let c0_169 : Index := 0#32
  ![v184.toNat, 0]

def k0_chk6 (v177 : BitVec 32) : Prop :=
  (∀ a, (k0_off4 v177) a + S64x256.size a ≤ S4096x256.size a)
theorem k0_off4_inb : ∀ (v177 : BitVec 32) (k0_hw6 : k0_chk6 v177), ∀ a, (k0_off4 v177) a + S64x256.size a ≤ S4096x256.size a := fun v177 k0_hw6 => k0_hw6

def k0_dev11 (v4 : BitVec 32) : Nat :=
  let c0_i32_182 : BitVec 32 := 0#32
  let c1_i32_181 : BitVec 32 := 1#32
  let v197 : BitVec 32 := Scalar.muli v4 c1_i32_181
  let v198 : BitVec 32 := Scalar.addi c0_i32_182 v197
  v198.toNat
def k0_dev12 (v3 : BitVec 32) : Nat :=
  let c0_i32_197 : BitVec 32 := 0#32
  let c1_i32_196 : BitVec 32 := 1#32
  let v207 : BitVec 32 := Scalar.muli v3 c1_i32_196
  let v208 : BitVec 32 := Scalar.addi c0_i32_197 v207
  v208.toNat
def k0_dev13 (v3 : BitVec 32) : Nat :=
  let c0_i32_213 : BitVec 32 := 0#32
  let c1_i32_212 : BitVec 32 := 1#32
  let v223 : BitVec 32 := Scalar.muli v3 c1_i32_212
  let v224 : BitVec 32 := Scalar.addi c0_i32_213 v223
  v224.toNat
def k0_dev14 (v4 : BitVec 32) : Nat :=
  let c0_i32_229 : BitVec 32 := 0#32
  let c1_i32_228 : BitVec 32 := 1#32
  let v233 : BitVec 32 := Scalar.muli v4 c1_i32_228
  let v234 : BitVec 32 := Scalar.addi c0_i32_229 v233
  v234.toNat
def k0_off5 (v245 : BitVec 32) : Fin 2 → Nat :=
  let c128_i32_241 : BitVec 32 := 128#32
  let v250 : BitVec 32 := Scalar.muli v245 c128_i32_241
  let c64_i32_242 : BitVec 32 := 64#32
  let v251 : BitVec 32 := Scalar.addi v250 c64_i32_242
  let v252 : Index := Scalar.indexCast v251
  let c0_243 : Index := 0#32
  ![v252.toNat, 0]

def k0_chk7 (v245 : BitVec 32) : Prop :=
  (∀ a, (k0_off5 v245) a + S64x256.size a ≤ S4096x256.size a)
theorem k0_off5_inb : ∀ (v245 : BitVec 32) (k0_hw7 : k0_chk7 v245), ∀ a, (k0_off5 v245) a + S64x256.size a ≤ S4096x256.size a := fun v245 k0_hw7 => k0_hw7

def k0_off6 (v261 : BitVec 32) : Fin 2 → Nat :=
  let c128_i32_253 : BitVec 32 := 128#32
  let v266 : BitVec 32 := Scalar.muli v261 c128_i32_253
  let c64_i32_254 : BitVec 32 := 64#32
  let v267 : BitVec 32 := Scalar.addi v266 c64_i32_254
  let v268 : Index := Scalar.indexCast v267
  let c0_255 : Index := 0#32
  ![v268.toNat, 0]

def k0_chk8 (v261 : BitVec 32) : Prop :=
  (∀ a, (k0_off6 v261) a + S64x256.size a ≤ S4096x256.size a)
theorem k0_off6_inb : ∀ (v261 : BitVec 32) (k0_hw8 : k0_chk8 v261), ∀ a, (k0_off6 v261) a + S64x256.size a ≤ S4096x256.size a := fun v261 k0_hw8 => k0_hw8

def k0_dev15 (v4 : BitVec 32) : Nat :=
  let c0_i32_270 : BitVec 32 := 0#32
  let c1_i32_269 : BitVec 32 := 1#32
  let v281 : BitVec 32 := Scalar.muli v4 c1_i32_269
  let v282 : BitVec 32 := Scalar.addi c0_i32_270 v281
  v282.toNat
def k0_dev16 (v3 : BitVec 32) : Nat :=
  let c0_i32_286 : BitVec 32 := 0#32
  let c1_i32_285 : BitVec 32 := 1#32
  let v291 : BitVec 32 := Scalar.muli v3 c1_i32_285
  let v292 : BitVec 32 := Scalar.addi c0_i32_286 v291
  v292.toNat
def k0_dev17 (v3 : BitVec 32) : Nat :=
  let c0_i32_304 : BitVec 32 := 0#32
  let c1_i32_303 : BitVec 32 := 1#32
  let v307 : BitVec 32 := Scalar.muli v3 c1_i32_303
  let v308 : BitVec 32 := Scalar.addi c0_i32_304 v307
  v308.toNat
def k0_dev18 (v4 : BitVec 32) : Nat :=
  let c0_i32_320 : BitVec 32 := 0#32
  let c1_i32_319 : BitVec 32 := 1#32
  let v317 : BitVec 32 := Scalar.muli v4 c1_i32_319
  let v318 : BitVec 32 := Scalar.addi c0_i32_320 v317
  v318.toNat
def k0_off7 (v329 : BitVec 32) : Fin 2 → Nat :=
  let c128_i32_331 : BitVec 32 := 128#32
  let v334 : BitVec 32 := Scalar.muli v329 c128_i32_331
  let c0_i32_332 : BitVec 32 := 0#32
  let v335 : BitVec 32 := Scalar.addi v334 c0_i32_332
  let v336 : Index := Scalar.indexCast v335
  let c0_333 : Index := 0#32
  ![v336.toNat, 0]

def k0_chk9 (v329 : BitVec 32) : Prop :=
  (∀ a, (k0_off7 v329) a + S64x256.size a ≤ S4096x256.size a)
theorem k0_off7_inb : ∀ (v329 : BitVec 32) (k0_hw9 : k0_chk9 v329), ∀ a, (k0_off7 v329) a + S64x256.size a ≤ S4096x256.size a := fun v329 k0_hw9 => k0_hw9

def k0_off8 (v345 : BitVec 32) : Fin 2 → Nat :=
  let c128_i32_342 : BitVec 32 := 128#32
  let v350 : BitVec 32 := Scalar.muli v345 c128_i32_342
  let c0_i32_343 : BitVec 32 := 0#32
  let v351 : BitVec 32 := Scalar.addi v350 c0_i32_343
  let v352 : Index := Scalar.indexCast v351
  let c0_344 : Index := 0#32
  ![v352.toNat, 0]

def k0_chk10 (v345 : BitVec 32) : Prop :=
  (∀ a, (k0_off8 v345) a + S64x256.size a ≤ S4096x256.size a)
theorem k0_off8_inb : ∀ (v345 : BitVec 32) (k0_hw10 : k0_chk10 v345), ∀ a, (k0_off8 v345) a + S64x256.size a ≤ S4096x256.size a := fun v345 k0_hw10 => k0_hw10

def k0_dev19 (v4 : BitVec 32) : Nat :=
  let c0_i32_359 : BitVec 32 := 0#32
  let c1_i32_358 : BitVec 32 := 1#32
  let v365 : BitVec 32 := Scalar.muli v4 c1_i32_358
  let v366 : BitVec 32 := Scalar.addi c0_i32_359 v365
  v366.toNat
def k0_dev20 (v3 : BitVec 32) : Nat :=
  let c0_i32_375 : BitVec 32 := 0#32
  let c1_i32_374 : BitVec 32 := 1#32
  let v375 : BitVec 32 := Scalar.muli v3 c1_i32_374
  let v376 : BitVec 32 := Scalar.addi c0_i32_375 v375
  v376.toNat
def k0_dev21 (v3 : BitVec 32) : Nat :=
  let c0_i32_393 : BitVec 32 := 0#32
  let c1_i32_392 : BitVec 32 := 1#32
  let v391 : BitVec 32 := Scalar.muli v3 c1_i32_392
  let v392 : BitVec 32 := Scalar.addi c0_i32_393 v391
  v392.toNat
def k0_dev22 (v4 : BitVec 32) : Nat :=
  let c0_i32_409 : BitVec 32 := 0#32
  let c1_i32_408 : BitVec 32 := 1#32
  let v401 : BitVec 32 := Scalar.muli v4 c1_i32_408
  let v402 : BitVec 32 := Scalar.addi c0_i32_409 v401
  v402.toNat
def k0_off9 (v413 : BitVec 32) : Fin 2 → Nat :=
  let c128_i32_421 : BitVec 32 := 128#32
  let v418 : BitVec 32 := Scalar.muli v413 c128_i32_421
  let c64_i32_422 : BitVec 32 := 64#32
  let v419 : BitVec 32 := Scalar.addi v418 c64_i32_422
  let v420 : Index := Scalar.indexCast v419
  let c0_423 : Index := 0#32
  ![v420.toNat, 0]

def k0_chk11 (v413 : BitVec 32) : Prop :=
  (∀ a, (k0_off9 v413) a + S64x256.size a ≤ S4096x256.size a)
theorem k0_off9_inb : ∀ (v413 : BitVec 32) (k0_hw11 : k0_chk11 v413), ∀ a, (k0_off9 v413) a + S64x256.size a ≤ S4096x256.size a := fun v413 k0_hw11 => k0_hw11

def k0_off10 (v429 : BitVec 32) : Fin 2 → Nat :=
  let c128_i32_433 : BitVec 32 := 128#32
  let v434 : BitVec 32 := Scalar.muli v429 c128_i32_433
  let c64_i32_434 : BitVec 32 := 64#32
  let v435 : BitVec 32 := Scalar.addi v434 c64_i32_434
  let v436 : Index := Scalar.indexCast v435
  let c0_435 : Index := 0#32
  ![v436.toNat, 0]

def k0_chk12 (v429 : BitVec 32) : Prop :=
  (∀ a, (k0_off10 v429) a + S64x256.size a ≤ S4096x256.size a)
theorem k0_off10_inb : ∀ (v429 : BitVec 32) (k0_hw12 : k0_chk12 v429), ∀ a, (k0_off10 v429) a + S64x256.size a ≤ S4096x256.size a := fun v429 k0_hw12 => k0_hw12

def k0_dev23 (v4 : BitVec 32) : Nat :=
  let c0_i32_450 : BitVec 32 := 0#32
  let c1_i32_449 : BitVec 32 := 1#32
  let v449 : BitVec 32 := Scalar.muli v4 c1_i32_449
  let v450 : BitVec 32 := Scalar.addi c0_i32_450 v449
  v450.toNat
def k0_dev24 (v3 : BitVec 32) : Nat :=
  let c0_i32_466 : BitVec 32 := 0#32
  let c1_i32_465 : BitVec 32 := 1#32
  let v459 : BitVec 32 := Scalar.muli v3 c1_i32_465
  let v460 : BitVec 32 := Scalar.addi c0_i32_466 v459
  v460.toNat
def k0_dev25 (v3 : BitVec 32) : Nat :=
  let c0_i32_484 : BitVec 32 := 0#32
  let c1_i32_483 : BitVec 32 := 1#32
  let v475 : BitVec 32 := Scalar.muli v3 c1_i32_483
  let v476 : BitVec 32 := Scalar.addi c0_i32_484 v475
  v476.toNat
def k0_dev26 (v4 : BitVec 32) : Nat :=
  let c0_i32_500 : BitVec 32 := 0#32
  let c1_i32_499 : BitVec 32 := 1#32
  let v485 : BitVec 32 := Scalar.muli v4 c1_i32_499
  let v486 : BitVec 32 := Scalar.addi c0_i32_500 v485
  v486.toNat
def k0_off11 (v497 : BitVec 32) : Fin 2 → Nat :=
  let c128_i32_512 : BitVec 32 := 128#32
  let v502 : BitVec 32 := Scalar.muli v497 c128_i32_512
  let c0_i32_513 : BitVec 32 := 0#32
  let v503 : BitVec 32 := Scalar.addi v502 c0_i32_513
  let v504 : Index := Scalar.indexCast v503
  let c0_514 : Index := 0#32
  ![v504.toNat, 0]

def k0_chk13 (v497 : BitVec 32) : Prop :=
  (∀ a, (k0_off11 v497) a + S64x256.size a ≤ S4096x256.size a)
theorem k0_off11_inb : ∀ (v497 : BitVec 32) (k0_hw13 : k0_chk13 v497), ∀ a, (k0_off11 v497) a + S64x256.size a ≤ S4096x256.size a := fun v497 k0_hw13 => k0_hw13

def k0_off12 (v513 : BitVec 32) : Fin 2 → Nat :=
  let c128_i32_523 : BitVec 32 := 128#32
  let v518 : BitVec 32 := Scalar.muli v513 c128_i32_523
  let c0_i32_524 : BitVec 32 := 0#32
  let v519 : BitVec 32 := Scalar.addi v518 c0_i32_524
  let v520 : Index := Scalar.indexCast v519
  let c0_525 : Index := 0#32
  ![v520.toNat, 0]

def k0_chk14 (v513 : BitVec 32) : Prop :=
  (∀ a, (k0_off12 v513) a + S64x256.size a ≤ S4096x256.size a)
theorem k0_off12_inb : ∀ (v513 : BitVec 32) (k0_hw14 : k0_chk14 v513), ∀ a, (k0_off12 v513) a + S64x256.size a ≤ S4096x256.size a := fun v513 k0_hw14 => k0_hw14

def k0_dev27 (v4 : BitVec 32) : Nat :=
  let c0_i32_540 : BitVec 32 := 0#32
  let c1_i32_539 : BitVec 32 := 1#32
  let v533 : BitVec 32 := Scalar.muli v4 c1_i32_539
  let v534 : BitVec 32 := Scalar.addi c0_i32_540 v533
  v534.toNat
def k0_dev28 (v3 : BitVec 32) : Nat :=
  let c0_i32_556 : BitVec 32 := 0#32
  let c1_i32_555 : BitVec 32 := 1#32
  let v543 : BitVec 32 := Scalar.muli v3 c1_i32_555
  let v544 : BitVec 32 := Scalar.addi c0_i32_556 v543
  v544.toNat
def k0_dev29 (v3 : BitVec 32) : Nat :=
  let c0_i32_574 : BitVec 32 := 0#32
  let c1_i32_573 : BitVec 32 := 1#32
  let v559 : BitVec 32 := Scalar.muli v3 c1_i32_573
  let v560 : BitVec 32 := Scalar.addi c0_i32_574 v559
  v560.toNat
def k0_dev30 (v4 : BitVec 32) : Nat :=
  let c0_i32_590 : BitVec 32 := 0#32
  let c1_i32_589 : BitVec 32 := 1#32
  let v569 : BitVec 32 := Scalar.muli v4 c1_i32_589
  let v570 : BitVec 32 := Scalar.addi c0_i32_590 v569
  v570.toNat
def k0_off13 (v581 : BitVec 32) : Fin 2 → Nat :=
  let c128_i32_603 : BitVec 32 := 128#32
  let v586 : BitVec 32 := Scalar.muli v581 c128_i32_603
  let c64_i32_604 : BitVec 32 := 64#32
  let v587 : BitVec 32 := Scalar.addi v586 c64_i32_604
  let v588 : Index := Scalar.indexCast v587
  let c0_605 : Index := 0#32
  ![v588.toNat, 0]

def k0_chk15 (v581 : BitVec 32) : Prop :=
  (∀ a, (k0_off13 v581) a + S64x256.size a ≤ S4096x256.size a)
theorem k0_off13_inb : ∀ (v581 : BitVec 32) (k0_hw15 : k0_chk15 v581), ∀ a, (k0_off13 v581) a + S64x256.size a ≤ S4096x256.size a := fun v581 k0_hw15 => k0_hw15

def k0_off14 (v597 : BitVec 32) : Fin 2 → Nat :=
  let c128_i32_615 : BitVec 32 := 128#32
  let v602 : BitVec 32 := Scalar.muli v597 c128_i32_615
  let c64_i32_616 : BitVec 32 := 64#32
  let v603 : BitVec 32 := Scalar.addi v602 c64_i32_616
  let v604 : Index := Scalar.indexCast v603
  let c0_617 : Index := 0#32
  ![v604.toNat, 0]

def k0_chk16 (v597 : BitVec 32) : Prop :=
  (∀ a, (k0_off14 v597) a + S64x256.size a ≤ S4096x256.size a)
theorem k0_off14_inb : ∀ (v597 : BitVec 32) (k0_hw16 : k0_chk16 v597), ∀ a, (k0_off14 v597) a + S64x256.size a ≤ S4096x256.size a := fun v597 k0_hw16 => k0_hw16

def k0_dev31 (v4 : BitVec 32) : Nat :=
  let c0_i32_632 : BitVec 32 := 0#32
  let c1_i32_631 : BitVec 32 := 1#32
  let v617 : BitVec 32 := Scalar.muli v4 c1_i32_631
  let v618 : BitVec 32 := Scalar.addi c0_i32_632 v617
  v618.toNat
def k0_dev32 (v3 : BitVec 32) : Nat :=
  let c0_i32_648 : BitVec 32 := 0#32
  let c1_i32_647 : BitVec 32 := 1#32
  let v627 : BitVec 32 := Scalar.muli v3 c1_i32_647
  let v628 : BitVec 32 := Scalar.addi c0_i32_648 v627
  v628.toNat
def k0_dev33 (v3 : BitVec 32) : Nat :=
  let c0_i32_666 : BitVec 32 := 0#32
  let c1_i32_665 : BitVec 32 := 1#32
  let v643 : BitVec 32 := Scalar.muli v3 c1_i32_665
  let v644 : BitVec 32 := Scalar.addi c0_i32_666 v643
  v644.toNat
def k0_dev34 (v4 : BitVec 32) : Nat :=
  let c0_i32_682 : BitVec 32 := 0#32
  let c1_i32_681 : BitVec 32 := 1#32
  let v653 : BitVec 32 := Scalar.muli v4 c1_i32_681
  let v654 : BitVec 32 := Scalar.addi c0_i32_682 v653
  v654.toNat
def k0_off15 (v665 : BitVec 32) : Fin 2 → Nat :=
  let c128_i32_694 : BitVec 32 := 128#32
  let v670 : BitVec 32 := Scalar.muli v665 c128_i32_694
  let c0_i32_695 : BitVec 32 := 0#32
  let v671 : BitVec 32 := Scalar.addi v670 c0_i32_695
  let v672 : Index := Scalar.indexCast v671
  let c0_696 : Index := 0#32
  ![v672.toNat, 0]

def k0_chk17 (v665 : BitVec 32) : Prop :=
  (∀ a, (k0_off15 v665) a + S64x256.size a ≤ S4096x256.size a)
theorem k0_off15_inb : ∀ (v665 : BitVec 32) (k0_hw17 : k0_chk17 v665), ∀ a, (k0_off15 v665) a + S64x256.size a ≤ S4096x256.size a := fun v665 k0_hw17 => k0_hw17

def k0_off16 (v681 : BitVec 32) : Fin 2 → Nat :=
  let c128_i32_705 : BitVec 32 := 128#32
  let v686 : BitVec 32 := Scalar.muli v681 c128_i32_705
  let c0_i32_706 : BitVec 32 := 0#32
  let v687 : BitVec 32 := Scalar.addi v686 c0_i32_706
  let v688 : Index := Scalar.indexCast v687
  let c0_707 : Index := 0#32
  ![v688.toNat, 0]

def k0_chk18 (v681 : BitVec 32) : Prop :=
  (∀ a, (k0_off16 v681) a + S64x256.size a ≤ S4096x256.size a)
theorem k0_off16_inb : ∀ (v681 : BitVec 32) (k0_hw18 : k0_chk18 v681), ∀ a, (k0_off16 v681) a + S64x256.size a ≤ S4096x256.size a := fun v681 k0_hw18 => k0_hw18

def k0_dev35 (v4 : BitVec 32) : Nat :=
  let c0_i32_722 : BitVec 32 := 0#32
  let c1_i32_721 : BitVec 32 := 1#32
  let v701 : BitVec 32 := Scalar.muli v4 c1_i32_721
  let v702 : BitVec 32 := Scalar.addi c0_i32_722 v701
  v702.toNat
def k0_dev36 (v3 : BitVec 32) : Nat :=
  let c0_i32_738 : BitVec 32 := 0#32
  let c1_i32_737 : BitVec 32 := 1#32
  let v711 : BitVec 32 := Scalar.muli v3 c1_i32_737
  let v712 : BitVec 32 := Scalar.addi c0_i32_738 v711
  v712.toNat
def k0_dev37 (v3 : BitVec 32) : Nat :=
  let c0_i32_756 : BitVec 32 := 0#32
  let c1_i32_755 : BitVec 32 := 1#32
  let v727 : BitVec 32 := Scalar.muli v3 c1_i32_755
  let v728 : BitVec 32 := Scalar.addi c0_i32_756 v727
  v728.toNat
def k0_dev38 (v4 : BitVec 32) : Nat :=
  let c0_i32_772 : BitVec 32 := 0#32
  let c1_i32_771 : BitVec 32 := 1#32
  let v737 : BitVec 32 := Scalar.muli v4 c1_i32_771
  let v738 : BitVec 32 := Scalar.addi c0_i32_772 v737
  v738.toNat
def k0_off17 (v749 : BitVec 32) : Fin 2 → Nat :=
  let c128_i32_785 : BitVec 32 := 128#32
  let v754 : BitVec 32 := Scalar.muli v749 c128_i32_785
  let c64_i32_786 : BitVec 32 := 64#32
  let v755 : BitVec 32 := Scalar.addi v754 c64_i32_786
  let v756 : Index := Scalar.indexCast v755
  let c0_787 : Index := 0#32
  ![v756.toNat, 0]

def k0_chk19 (v749 : BitVec 32) : Prop :=
  (∀ a, (k0_off17 v749) a + S64x256.size a ≤ S4096x256.size a)
theorem k0_off17_inb : ∀ (v749 : BitVec 32) (k0_hw19 : k0_chk19 v749), ∀ a, (k0_off17 v749) a + S64x256.size a ≤ S4096x256.size a := fun v749 k0_hw19 => k0_hw19

def k0_off18 (v765 : BitVec 32) : Fin 2 → Nat :=
  let c128_i32_797 : BitVec 32 := 128#32
  let v770 : BitVec 32 := Scalar.muli v765 c128_i32_797
  let c64_i32_798 : BitVec 32 := 64#32
  let v771 : BitVec 32 := Scalar.addi v770 c64_i32_798
  let v772 : Index := Scalar.indexCast v771
  let c0_799 : Index := 0#32
  ![v772.toNat, 0]

def k0_chk20 (v765 : BitVec 32) : Prop :=
  (∀ a, (k0_off18 v765) a + S64x256.size a ≤ S4096x256.size a)
theorem k0_off18_inb : ∀ (v765 : BitVec 32) (k0_hw20 : k0_chk20 v765), ∀ a, (k0_off18 v765) a + S64x256.size a ≤ S4096x256.size a := fun v765 k0_hw20 => k0_hw20

def k0_dev39 (v4 : BitVec 32) : Nat :=
  let c0_i32_814 : BitVec 32 := 0#32
  let c1_i32_813 : BitVec 32 := 1#32
  let v785 : BitVec 32 := Scalar.muli v4 c1_i32_813
  let v786 : BitVec 32 := Scalar.addi c0_i32_814 v785
  v786.toNat
def k0_dev40 (v3 : BitVec 32) : Nat :=
  let c0_i32_830 : BitVec 32 := 0#32
  let c1_i32_829 : BitVec 32 := 1#32
  let v795 : BitVec 32 := Scalar.muli v3 c1_i32_829
  let v796 : BitVec 32 := Scalar.addi c0_i32_830 v795
  v796.toNat
def k0_dev41 (v3 : BitVec 32) : Nat :=
  let c0_i32_848 : BitVec 32 := 0#32
  let c1_i32_847 : BitVec 32 := 1#32
  let v811 : BitVec 32 := Scalar.muli v3 c1_i32_847
  let v812 : BitVec 32 := Scalar.addi c0_i32_848 v811
  v812.toNat
def k0_dev42 (v4 : BitVec 32) : Nat :=
  let c0_i32_864 : BitVec 32 := 0#32
  let c1_i32_863 : BitVec 32 := 1#32
  let v821 : BitVec 32 := Scalar.muli v4 c1_i32_863
  let v822 : BitVec 32 := Scalar.addi c0_i32_864 v821
  v822.toNat
def k0_off19 (v833 : BitVec 32) : Fin 2 → Nat :=
  let c128_i32_876 : BitVec 32 := 128#32
  let v838 : BitVec 32 := Scalar.muli v833 c128_i32_876
  let c0_i32_877 : BitVec 32 := 0#32
  let v839 : BitVec 32 := Scalar.addi v838 c0_i32_877
  let v840 : Index := Scalar.indexCast v839
  let c0_878 : Index := 0#32
  ![v840.toNat, 0]

def k0_chk21 (v833 : BitVec 32) : Prop :=
  (∀ a, (k0_off19 v833) a + S64x256.size a ≤ S4096x256.size a)
theorem k0_off19_inb : ∀ (v833 : BitVec 32) (k0_hw21 : k0_chk21 v833), ∀ a, (k0_off19 v833) a + S64x256.size a ≤ S4096x256.size a := fun v833 k0_hw21 => k0_hw21

def k0_off20 (v849 : BitVec 32) : Fin 2 → Nat :=
  let c128_i32_887 : BitVec 32 := 128#32
  let v854 : BitVec 32 := Scalar.muli v849 c128_i32_887
  let c0_i32_888 : BitVec 32 := 0#32
  let v855 : BitVec 32 := Scalar.addi v854 c0_i32_888
  let v856 : Index := Scalar.indexCast v855
  let c0_889 : Index := 0#32
  ![v856.toNat, 0]

def k0_chk22 (v849 : BitVec 32) : Prop :=
  (∀ a, (k0_off20 v849) a + S64x256.size a ≤ S4096x256.size a)
theorem k0_off20_inb : ∀ (v849 : BitVec 32) (k0_hw22 : k0_chk22 v849), ∀ a, (k0_off20 v849) a + S64x256.size a ≤ S4096x256.size a := fun v849 k0_hw22 => k0_hw22

def k0_dev43 (v4 : BitVec 32) : Nat :=
  let c0_i32_904 : BitVec 32 := 0#32
  let c1_i32_903 : BitVec 32 := 1#32
  let v869 : BitVec 32 := Scalar.muli v4 c1_i32_903
  let v870 : BitVec 32 := Scalar.addi c0_i32_904 v869
  v870.toNat
def k0_dev44 (v3 : BitVec 32) : Nat :=
  let c0_i32_920 : BitVec 32 := 0#32
  let c1_i32_919 : BitVec 32 := 1#32
  let v879 : BitVec 32 := Scalar.muli v3 c1_i32_919
  let v880 : BitVec 32 := Scalar.addi c0_i32_920 v879
  v880.toNat
def k0_dev45 (v3 : BitVec 32) : Nat :=
  let c0_i32_938 : BitVec 32 := 0#32
  let c1_i32_937 : BitVec 32 := 1#32
  let v895 : BitVec 32 := Scalar.muli v3 c1_i32_937
  let v896 : BitVec 32 := Scalar.addi c0_i32_938 v895
  v896.toNat
def k0_dev46 (v4 : BitVec 32) : Nat :=
  let c0_i32_954 : BitVec 32 := 0#32
  let c1_i32_953 : BitVec 32 := 1#32
  let v905 : BitVec 32 := Scalar.muli v4 c1_i32_953
  let v906 : BitVec 32 := Scalar.addi c0_i32_954 v905
  v906.toNat
def k0_off21 (v917 : BitVec 32) : Fin 2 → Nat :=
  let c128_i32_967 : BitVec 32 := 128#32
  let v922 : BitVec 32 := Scalar.muli v917 c128_i32_967
  let c64_i32_968 : BitVec 32 := 64#32
  let v923 : BitVec 32 := Scalar.addi v922 c64_i32_968
  let v924 : Index := Scalar.indexCast v923
  let c0_969 : Index := 0#32
  ![v924.toNat, 0]

def k0_chk23 (v917 : BitVec 32) : Prop :=
  (∀ a, (k0_off21 v917) a + S64x256.size a ≤ S4096x256.size a)
theorem k0_off21_inb : ∀ (v917 : BitVec 32) (k0_hw23 : k0_chk23 v917), ∀ a, (k0_off21 v917) a + S64x256.size a ≤ S4096x256.size a := fun v917 k0_hw23 => k0_hw23

def k0_off22 (v933 : BitVec 32) : Fin 2 → Nat :=
  let c128_i32_979 : BitVec 32 := 128#32
  let v938 : BitVec 32 := Scalar.muli v933 c128_i32_979
  let c64_i32_980 : BitVec 32 := 64#32
  let v939 : BitVec 32 := Scalar.addi v938 c64_i32_980
  let v940 : Index := Scalar.indexCast v939
  let c0_981 : Index := 0#32
  ![v940.toNat, 0]

def k0_chk24 (v933 : BitVec 32) : Prop :=
  (∀ a, (k0_off22 v933) a + S64x256.size a ≤ S4096x256.size a)
theorem k0_off22_inb : ∀ (v933 : BitVec 32) (k0_hw24 : k0_chk24 v933), ∀ a, (k0_off22 v933) a + S64x256.size a ≤ S4096x256.size a := fun v933 k0_hw24 => k0_hw24

def k0_dev47 (v4 : BitVec 32) : Nat :=
  let c0_i32_996 : BitVec 32 := 0#32
  let c1_i32_995 : BitVec 32 := 1#32
  let v953 : BitVec 32 := Scalar.muli v4 c1_i32_995
  let v954 : BitVec 32 := Scalar.addi c0_i32_996 v953
  v954.toNat
def k0_dev48 (v3 : BitVec 32) : Nat :=
  let c0_i32_1012 : BitVec 32 := 0#32
  let c1_i32_1011 : BitVec 32 := 1#32
  let v963 : BitVec 32 := Scalar.muli v3 c1_i32_1011
  let v964 : BitVec 32 := Scalar.addi c0_i32_1012 v963
  v964.toNat
def k0_dev49 (v3 : BitVec 32) : Nat :=
  let c0_i32_1030 : BitVec 32 := 0#32
  let c1_i32_1029 : BitVec 32 := 1#32
  let v979 : BitVec 32 := Scalar.muli v3 c1_i32_1029
  let v980 : BitVec 32 := Scalar.addi c0_i32_1030 v979
  v980.toNat
def k0_dev50 (v4 : BitVec 32) : Nat :=
  let c0_i32_1046 : BitVec 32 := 0#32
  let c1_i32_1045 : BitVec 32 := 1#32
  let v989 : BitVec 32 := Scalar.muli v4 c1_i32_1045
  let v990 : BitVec 32 := Scalar.addi c0_i32_1046 v989
  v990.toNat
def k0_off23 (v1001 : BitVec 32) : Fin 2 → Nat :=
  let c128_i32_1058 : BitVec 32 := 128#32
  let v1006 : BitVec 32 := Scalar.muli v1001 c128_i32_1058
  let c0_i32_1059 : BitVec 32 := 0#32
  let v1007 : BitVec 32 := Scalar.addi v1006 c0_i32_1059
  let v1008 : Index := Scalar.indexCast v1007
  let c0_1060 : Index := 0#32
  ![v1008.toNat, 0]

def k0_chk25 (v1001 : BitVec 32) : Prop :=
  (∀ a, (k0_off23 v1001) a + S64x256.size a ≤ S4096x256.size a)
theorem k0_off23_inb : ∀ (v1001 : BitVec 32) (k0_hw25 : k0_chk25 v1001), ∀ a, (k0_off23 v1001) a + S64x256.size a ≤ S4096x256.size a := fun v1001 k0_hw25 => k0_hw25

def k0_off24 (v1017 : BitVec 32) : Fin 2 → Nat :=
  let c128_i32_1069 : BitVec 32 := 128#32
  let v1022 : BitVec 32 := Scalar.muli v1017 c128_i32_1069
  let c0_i32_1070 : BitVec 32 := 0#32
  let v1023 : BitVec 32 := Scalar.addi v1022 c0_i32_1070
  let v1024 : Index := Scalar.indexCast v1023
  let c0_1071 : Index := 0#32
  ![v1024.toNat, 0]

def k0_chk26 (v1017 : BitVec 32) : Prop :=
  (∀ a, (k0_off24 v1017) a + S64x256.size a ≤ S4096x256.size a)
theorem k0_off24_inb : ∀ (v1017 : BitVec 32) (k0_hw26 : k0_chk26 v1017), ∀ a, (k0_off24 v1017) a + S64x256.size a ≤ S4096x256.size a := fun v1017 k0_hw26 => k0_hw26

def k0_dev51 (v4 : BitVec 32) : Nat :=
  let c0_i32_1086 : BitVec 32 := 0#32
  let c1_i32_1085 : BitVec 32 := 1#32
  let v1037 : BitVec 32 := Scalar.muli v4 c1_i32_1085
  let v1038 : BitVec 32 := Scalar.addi c0_i32_1086 v1037
  v1038.toNat
def k0_dev52 (v3 : BitVec 32) : Nat :=
  let c0_i32_1102 : BitVec 32 := 0#32
  let c1_i32_1101 : BitVec 32 := 1#32
  let v1047 : BitVec 32 := Scalar.muli v3 c1_i32_1101
  let v1048 : BitVec 32 := Scalar.addi c0_i32_1102 v1047
  v1048.toNat
def k0_dev53 (v3 : BitVec 32) : Nat :=
  let c0_i32_1120 : BitVec 32 := 0#32
  let c1_i32_1119 : BitVec 32 := 1#32
  let v1063 : BitVec 32 := Scalar.muli v3 c1_i32_1119
  let v1064 : BitVec 32 := Scalar.addi c0_i32_1120 v1063
  v1064.toNat
def k0_dev54 (v4 : BitVec 32) : Nat :=
  let c0_i32_1136 : BitVec 32 := 0#32
  let c1_i32_1135 : BitVec 32 := 1#32
  let v1073 : BitVec 32 := Scalar.muli v4 c1_i32_1135
  let v1074 : BitVec 32 := Scalar.addi c0_i32_1136 v1073
  v1074.toNat
def k0_off25 (v1085 : BitVec 32) : Fin 2 → Nat :=
  let c128_i32_1149 : BitVec 32 := 128#32
  let v1090 : BitVec 32 := Scalar.muli v1085 c128_i32_1149
  let c64_i32_1150 : BitVec 32 := 64#32
  let v1091 : BitVec 32 := Scalar.addi v1090 c64_i32_1150
  let v1092 : Index := Scalar.indexCast v1091
  let c0_1151 : Index := 0#32
  ![v1092.toNat, 0]

def k0_chk27 (v1085 : BitVec 32) : Prop :=
  (∀ a, (k0_off25 v1085) a + S64x256.size a ≤ S4096x256.size a)
theorem k0_off25_inb : ∀ (v1085 : BitVec 32) (k0_hw27 : k0_chk27 v1085), ∀ a, (k0_off25 v1085) a + S64x256.size a ≤ S4096x256.size a := fun v1085 k0_hw27 => k0_hw27

def k0_off26 (v1101 : BitVec 32) : Fin 2 → Nat :=
  let c128_i32_1161 : BitVec 32 := 128#32
  let v1106 : BitVec 32 := Scalar.muli v1101 c128_i32_1161
  let c64_i32_1162 : BitVec 32 := 64#32
  let v1107 : BitVec 32 := Scalar.addi v1106 c64_i32_1162
  let v1108 : Index := Scalar.indexCast v1107
  let c0_1163 : Index := 0#32
  ![v1108.toNat, 0]

def k0_chk28 (v1101 : BitVec 32) : Prop :=
  (∀ a, (k0_off26 v1101) a + S64x256.size a ≤ S4096x256.size a)
theorem k0_off26_inb : ∀ (v1101 : BitVec 32) (k0_hw28 : k0_chk28 v1101), ∀ a, (k0_off26 v1101) a + S64x256.size a ≤ S4096x256.size a := fun v1101 k0_hw28 => k0_hw28

def k0_dev55 (v4 : BitVec 32) : Nat :=
  let c0_i32_1178 : BitVec 32 := 0#32
  let c1_i32_1177 : BitVec 32 := 1#32
  let v1121 : BitVec 32 := Scalar.muli v4 c1_i32_1177
  let v1122 : BitVec 32 := Scalar.addi c0_i32_1178 v1121
  v1122.toNat
def k0_dev56 (v3 : BitVec 32) : Nat :=
  let c0_i32_1194 : BitVec 32 := 0#32
  let c1_i32_1193 : BitVec 32 := 1#32
  let v1131 : BitVec 32 := Scalar.muli v3 c1_i32_1193
  let v1132 : BitVec 32 := Scalar.addi c0_i32_1194 v1131
  v1132.toNat
def k0_dev57 (v3 : BitVec 32) : Nat :=
  let c0_i32_1212 : BitVec 32 := 0#32
  let c1_i32_1211 : BitVec 32 := 1#32
  let v1147 : BitVec 32 := Scalar.muli v3 c1_i32_1211
  let v1148 : BitVec 32 := Scalar.addi c0_i32_1212 v1147
  v1148.toNat
def k0_dev58 (v4 : BitVec 32) : Nat :=
  let c0_i32_1228 : BitVec 32 := 0#32
  let c1_i32_1227 : BitVec 32 := 1#32
  let v1157 : BitVec 32 := Scalar.muli v4 c1_i32_1227
  let v1158 : BitVec 32 := Scalar.addi c0_i32_1228 v1157
  v1158.toNat
def k0_off27 (v1169 : BitVec 32) : Fin 2 → Nat :=
  let c128_i32_1240 : BitVec 32 := 128#32
  let v1174 : BitVec 32 := Scalar.muli v1169 c128_i32_1240
  let c0_i32_1241 : BitVec 32 := 0#32
  let v1175 : BitVec 32 := Scalar.addi v1174 c0_i32_1241
  let v1176 : Index := Scalar.indexCast v1175
  let c0_1242 : Index := 0#32
  ![v1176.toNat, 0]

def k0_chk29 (v1169 : BitVec 32) : Prop :=
  (∀ a, (k0_off27 v1169) a + S64x256.size a ≤ S4096x256.size a)
theorem k0_off27_inb : ∀ (v1169 : BitVec 32) (k0_hw29 : k0_chk29 v1169), ∀ a, (k0_off27 v1169) a + S64x256.size a ≤ S4096x256.size a := fun v1169 k0_hw29 => k0_hw29

def k0_off28 (v1185 : BitVec 32) : Fin 2 → Nat :=
  let c128_i32_1251 : BitVec 32 := 128#32
  let v1190 : BitVec 32 := Scalar.muli v1185 c128_i32_1251
  let c0_i32_1252 : BitVec 32 := 0#32
  let v1191 : BitVec 32 := Scalar.addi v1190 c0_i32_1252
  let v1192 : Index := Scalar.indexCast v1191
  let c0_1253 : Index := 0#32
  ![v1192.toNat, 0]

def k0_chk30 (v1185 : BitVec 32) : Prop :=
  (∀ a, (k0_off28 v1185) a + S64x256.size a ≤ S4096x256.size a)
theorem k0_off28_inb : ∀ (v1185 : BitVec 32) (k0_hw30 : k0_chk30 v1185), ∀ a, (k0_off28 v1185) a + S64x256.size a ≤ S4096x256.size a := fun v1185 k0_hw30 => k0_hw30

def k0_dev59 (v4 : BitVec 32) : Nat :=
  let c0_i32_1268 : BitVec 32 := 0#32
  let c1_i32_1267 : BitVec 32 := 1#32
  let v1205 : BitVec 32 := Scalar.muli v4 c1_i32_1267
  let v1206 : BitVec 32 := Scalar.addi c0_i32_1268 v1205
  v1206.toNat
def k0_dev60 (v3 : BitVec 32) : Nat :=
  let c0_i32_1284 : BitVec 32 := 0#32
  let c1_i32_1283 : BitVec 32 := 1#32
  let v1215 : BitVec 32 := Scalar.muli v3 c1_i32_1283
  let v1216 : BitVec 32 := Scalar.addi c0_i32_1284 v1215
  v1216.toNat
def k0_dev61 (v3 : BitVec 32) : Nat :=
  let c0_i32_1302 : BitVec 32 := 0#32
  let c1_i32_1301 : BitVec 32 := 1#32
  let v1231 : BitVec 32 := Scalar.muli v3 c1_i32_1301
  let v1232 : BitVec 32 := Scalar.addi c0_i32_1302 v1231
  v1232.toNat
def k0_dev62 (v4 : BitVec 32) : Nat :=
  let c0_i32_1318 : BitVec 32 := 0#32
  let c1_i32_1317 : BitVec 32 := 1#32
  let v1241 : BitVec 32 := Scalar.muli v4 c1_i32_1317
  let v1242 : BitVec 32 := Scalar.addi c0_i32_1318 v1241
  v1242.toNat
def k0_off29 (v1253 : BitVec 32) : Fin 2 → Nat :=
  let c128_i32_1331 : BitVec 32 := 128#32
  let v1258 : BitVec 32 := Scalar.muli v1253 c128_i32_1331
  let c64_i32_1332 : BitVec 32 := 64#32
  let v1259 : BitVec 32 := Scalar.addi v1258 c64_i32_1332
  let v1260 : Index := Scalar.indexCast v1259
  let c0_1333 : Index := 0#32
  ![v1260.toNat, 0]

def k0_chk31 (v1253 : BitVec 32) : Prop :=
  (∀ a, (k0_off29 v1253) a + S64x256.size a ≤ S4096x256.size a)
theorem k0_off29_inb : ∀ (v1253 : BitVec 32) (k0_hw31 : k0_chk31 v1253), ∀ a, (k0_off29 v1253) a + S64x256.size a ≤ S4096x256.size a := fun v1253 k0_hw31 => k0_hw31

def k0_off30 (v1269 : BitVec 32) : Fin 2 → Nat :=
  let c128_i32_1343 : BitVec 32 := 128#32
  let v1274 : BitVec 32 := Scalar.muli v1269 c128_i32_1343
  let c64_i32_1344 : BitVec 32 := 64#32
  let v1275 : BitVec 32 := Scalar.addi v1274 c64_i32_1344
  let v1276 : Index := Scalar.indexCast v1275
  let c0_1345 : Index := 0#32
  ![v1276.toNat, 0]

def k0_chk32 (v1269 : BitVec 32) : Prop :=
  (∀ a, (k0_off30 v1269) a + S64x256.size a ≤ S4096x256.size a)
theorem k0_off30_inb : ∀ (v1269 : BitVec 32) (k0_hw32 : k0_chk32 v1269), ∀ a, (k0_off30 v1269) a + S64x256.size a ≤ S4096x256.size a := fun v1269 k0_hw32 => k0_hw32

def k0_dev63 (v4 : BitVec 32) : Nat :=
  let c0_i32_1360 : BitVec 32 := 0#32
  let c1_i32_1359 : BitVec 32 := 1#32
  let v1289 : BitVec 32 := Scalar.muli v4 c1_i32_1359
  let v1290 : BitVec 32 := Scalar.addi c0_i32_1360 v1289
  v1290.toNat
def k0_dev64 (v3 : BitVec 32) : Nat :=
  let c0_i32_1376 : BitVec 32 := 0#32
  let c1_i32_1375 : BitVec 32 := 1#32
  let v1299 : BitVec 32 := Scalar.muli v3 c1_i32_1375
  let v1300 : BitVec 32 := Scalar.addi c0_i32_1376 v1299
  v1300.toNat
def k0_dev65 (v3 : BitVec 32) : Nat :=
  let c0_i32_1394 : BitVec 32 := 0#32
  let c1_i32_1393 : BitVec 32 := 1#32
  let v1315 : BitVec 32 := Scalar.muli v3 c1_i32_1393
  let v1316 : BitVec 32 := Scalar.addi c0_i32_1394 v1315
  v1316.toNat
def k0_dev66 (v4 : BitVec 32) : Nat :=
  let c0_i32_1410 : BitVec 32 := 0#32
  let c1_i32_1409 : BitVec 32 := 1#32
  let v1325 : BitVec 32 := Scalar.muli v4 c1_i32_1409
  let v1326 : BitVec 32 := Scalar.addi c0_i32_1410 v1325
  v1326.toNat
def k0_off31 (v1337 : BitVec 32) : Fin 2 → Nat :=
  let c128_i32_1422 : BitVec 32 := 128#32
  let v1342 : BitVec 32 := Scalar.muli v1337 c128_i32_1422
  let c0_i32_1423 : BitVec 32 := 0#32
  let v1343 : BitVec 32 := Scalar.addi v1342 c0_i32_1423
  let v1344 : Index := Scalar.indexCast v1343
  let c0_1424 : Index := 0#32
  ![v1344.toNat, 0]

def k0_chk33 (v1337 : BitVec 32) : Prop :=
  (∀ a, (k0_off31 v1337) a + S64x256.size a ≤ S4096x256.size a)
theorem k0_off31_inb : ∀ (v1337 : BitVec 32) (k0_hw33 : k0_chk33 v1337), ∀ a, (k0_off31 v1337) a + S64x256.size a ≤ S4096x256.size a := fun v1337 k0_hw33 => k0_hw33

def k0_off32 (v1353 : BitVec 32) : Fin 2 → Nat :=
  let c128_i32_1433 : BitVec 32 := 128#32
  let v1358 : BitVec 32 := Scalar.muli v1353 c128_i32_1433
  let c0_i32_1434 : BitVec 32 := 0#32
  let v1359 : BitVec 32 := Scalar.addi v1358 c0_i32_1434
  let v1360 : Index := Scalar.indexCast v1359
  let c0_1435 : Index := 0#32
  ![v1360.toNat, 0]

def k0_chk34 (v1353 : BitVec 32) : Prop :=
  (∀ a, (k0_off32 v1353) a + S64x256.size a ≤ S4096x256.size a)
theorem k0_off32_inb : ∀ (v1353 : BitVec 32) (k0_hw34 : k0_chk34 v1353), ∀ a, (k0_off32 v1353) a + S64x256.size a ≤ S4096x256.size a := fun v1353 k0_hw34 => k0_hw34

def k0_dev67 (v4 : BitVec 32) : Nat :=
  let c0_i32_1450 : BitVec 32 := 0#32
  let c1_i32_1449 : BitVec 32 := 1#32
  let v1373 : BitVec 32 := Scalar.muli v4 c1_i32_1449
  let v1374 : BitVec 32 := Scalar.addi c0_i32_1450 v1373
  v1374.toNat
def k0_dev68 (v3 : BitVec 32) : Nat :=
  let c0_i32_1466 : BitVec 32 := 0#32
  let c1_i32_1465 : BitVec 32 := 1#32
  let v1383 : BitVec 32 := Scalar.muli v3 c1_i32_1465
  let v1384 : BitVec 32 := Scalar.addi c0_i32_1466 v1383
  v1384.toNat
def k0_dev69 (v3 : BitVec 32) : Nat :=
  let c0_i32_1484 : BitVec 32 := 0#32
  let c1_i32_1483 : BitVec 32 := 1#32
  let v1399 : BitVec 32 := Scalar.muli v3 c1_i32_1483
  let v1400 : BitVec 32 := Scalar.addi c0_i32_1484 v1399
  v1400.toNat
def k0_dev70 (v4 : BitVec 32) : Nat :=
  let c0_i32_1500 : BitVec 32 := 0#32
  let c1_i32_1499 : BitVec 32 := 1#32
  let v1409 : BitVec 32 := Scalar.muli v4 c1_i32_1499
  let v1410 : BitVec 32 := Scalar.addi c0_i32_1500 v1409
  v1410.toNat
def k0_off33 (v1421 : BitVec 32) : Fin 2 → Nat :=
  let c128_i32_1513 : BitVec 32 := 128#32
  let v1426 : BitVec 32 := Scalar.muli v1421 c128_i32_1513
  let c64_i32_1514 : BitVec 32 := 64#32
  let v1427 : BitVec 32 := Scalar.addi v1426 c64_i32_1514
  let v1428 : Index := Scalar.indexCast v1427
  let c0_1515 : Index := 0#32
  ![v1428.toNat, 0]

def k0_chk35 (v1421 : BitVec 32) : Prop :=
  (∀ a, (k0_off33 v1421) a + S64x256.size a ≤ S4096x256.size a)
theorem k0_off33_inb : ∀ (v1421 : BitVec 32) (k0_hw35 : k0_chk35 v1421), ∀ a, (k0_off33 v1421) a + S64x256.size a ≤ S4096x256.size a := fun v1421 k0_hw35 => k0_hw35

def k0_off34 (v1437 : BitVec 32) : Fin 2 → Nat :=
  let c128_i32_1525 : BitVec 32 := 128#32
  let v1442 : BitVec 32 := Scalar.muli v1437 c128_i32_1525
  let c64_i32_1526 : BitVec 32 := 64#32
  let v1443 : BitVec 32 := Scalar.addi v1442 c64_i32_1526
  let v1444 : Index := Scalar.indexCast v1443
  let c0_1527 : Index := 0#32
  ![v1444.toNat, 0]

def k0_chk36 (v1437 : BitVec 32) : Prop :=
  (∀ a, (k0_off34 v1437) a + S64x256.size a ≤ S4096x256.size a)
theorem k0_off34_inb : ∀ (v1437 : BitVec 32) (k0_hw36 : k0_chk36 v1437), ∀ a, (k0_off34 v1437) a + S64x256.size a ≤ S4096x256.size a := fun v1437 k0_hw36 => k0_hw36

def k0_dev71 (v4 : BitVec 32) : Nat :=
  let c0_i32_1542 : BitVec 32 := 0#32
  let c1_i32_1541 : BitVec 32 := 1#32
  let v1457 : BitVec 32 := Scalar.muli v4 c1_i32_1541
  let v1458 : BitVec 32 := Scalar.addi c0_i32_1542 v1457
  v1458.toNat
def k0_dev72 (v3 : BitVec 32) : Nat :=
  let c0_i32_1558 : BitVec 32 := 0#32
  let c1_i32_1557 : BitVec 32 := 1#32
  let v1467 : BitVec 32 := Scalar.muli v3 c1_i32_1557
  let v1468 : BitVec 32 := Scalar.addi c0_i32_1558 v1467
  v1468.toNat
def k0_dev73 (v3 : BitVec 32) : Nat :=
  let c0_i32_1576 : BitVec 32 := 0#32
  let c1_i32_1575 : BitVec 32 := 1#32
  let v1483 : BitVec 32 := Scalar.muli v3 c1_i32_1575
  let v1484 : BitVec 32 := Scalar.addi c0_i32_1576 v1483
  v1484.toNat
def k0_dev74 (v4 : BitVec 32) : Nat :=
  let c0_i32_1592 : BitVec 32 := 0#32
  let c1_i32_1591 : BitVec 32 := 1#32
  let v1493 : BitVec 32 := Scalar.muli v4 c1_i32_1591
  let v1494 : BitVec 32 := Scalar.addi c0_i32_1592 v1493
  v1494.toNat
def k0_off35 (v1505 : BitVec 32) : Fin 2 → Nat :=
  let c128_i32_1604 : BitVec 32 := 128#32
  let v1510 : BitVec 32 := Scalar.muli v1505 c128_i32_1604
  let c0_i32_1605 : BitVec 32 := 0#32
  let v1511 : BitVec 32 := Scalar.addi v1510 c0_i32_1605
  let v1512 : Index := Scalar.indexCast v1511
  let c0_1606 : Index := 0#32
  ![v1512.toNat, 0]

def k0_chk37 (v1505 : BitVec 32) : Prop :=
  (∀ a, (k0_off35 v1505) a + S64x256.size a ≤ S4096x256.size a)
theorem k0_off35_inb : ∀ (v1505 : BitVec 32) (k0_hw37 : k0_chk37 v1505), ∀ a, (k0_off35 v1505) a + S64x256.size a ≤ S4096x256.size a := fun v1505 k0_hw37 => k0_hw37

def k0_off36 (v1521 : BitVec 32) : Fin 2 → Nat :=
  let c128_i32_1615 : BitVec 32 := 128#32
  let v1526 : BitVec 32 := Scalar.muli v1521 c128_i32_1615
  let c0_i32_1616 : BitVec 32 := 0#32
  let v1527 : BitVec 32 := Scalar.addi v1526 c0_i32_1616
  let v1528 : Index := Scalar.indexCast v1527
  let c0_1617 : Index := 0#32
  ![v1528.toNat, 0]

def k0_chk38 (v1521 : BitVec 32) : Prop :=
  (∀ a, (k0_off36 v1521) a + S64x256.size a ≤ S4096x256.size a)
theorem k0_off36_inb : ∀ (v1521 : BitVec 32) (k0_hw38 : k0_chk38 v1521), ∀ a, (k0_off36 v1521) a + S64x256.size a ≤ S4096x256.size a := fun v1521 k0_hw38 => k0_hw38

def k0_dev75 (v4 : BitVec 32) : Nat :=
  let c0_i32_1632 : BitVec 32 := 0#32
  let c1_i32_1631 : BitVec 32 := 1#32
  let v1541 : BitVec 32 := Scalar.muli v4 c1_i32_1631
  let v1542 : BitVec 32 := Scalar.addi c0_i32_1632 v1541
  v1542.toNat
def k0_dev76 (v3 : BitVec 32) : Nat :=
  let c0_i32_1648 : BitVec 32 := 0#32
  let c1_i32_1647 : BitVec 32 := 1#32
  let v1551 : BitVec 32 := Scalar.muli v3 c1_i32_1647
  let v1552 : BitVec 32 := Scalar.addi c0_i32_1648 v1551
  v1552.toNat
def k0_dev77 (v3 : BitVec 32) : Nat :=
  let c0_i32_1666 : BitVec 32 := 0#32
  let c1_i32_1665 : BitVec 32 := 1#32
  let v1567 : BitVec 32 := Scalar.muli v3 c1_i32_1665
  let v1568 : BitVec 32 := Scalar.addi c0_i32_1666 v1567
  v1568.toNat
def k0_dev78 (v4 : BitVec 32) : Nat :=
  let c0_i32_1682 : BitVec 32 := 0#32
  let c1_i32_1681 : BitVec 32 := 1#32
  let v1577 : BitVec 32 := Scalar.muli v4 c1_i32_1681
  let v1578 : BitVec 32 := Scalar.addi c0_i32_1682 v1577
  v1578.toNat
def k0_off37 (v1589 : BitVec 32) : Fin 2 → Nat :=
  let c128_i32_1695 : BitVec 32 := 128#32
  let v1594 : BitVec 32 := Scalar.muli v1589 c128_i32_1695
  let c64_i32_1696 : BitVec 32 := 64#32
  let v1595 : BitVec 32 := Scalar.addi v1594 c64_i32_1696
  let v1596 : Index := Scalar.indexCast v1595
  let c0_1697 : Index := 0#32
  ![v1596.toNat, 0]

def k0_chk39 (v1589 : BitVec 32) : Prop :=
  (∀ a, (k0_off37 v1589) a + S64x256.size a ≤ S4096x256.size a)
theorem k0_off37_inb : ∀ (v1589 : BitVec 32) (k0_hw39 : k0_chk39 v1589), ∀ a, (k0_off37 v1589) a + S64x256.size a ≤ S4096x256.size a := fun v1589 k0_hw39 => k0_hw39

def k0_off38 (v1605 : BitVec 32) : Fin 2 → Nat :=
  let c128_i32_1707 : BitVec 32 := 128#32
  let v1610 : BitVec 32 := Scalar.muli v1605 c128_i32_1707
  let c64_i32_1708 : BitVec 32 := 64#32
  let v1611 : BitVec 32 := Scalar.addi v1610 c64_i32_1708
  let v1612 : Index := Scalar.indexCast v1611
  let c0_1709 : Index := 0#32
  ![v1612.toNat, 0]

def k0_chk40 (v1605 : BitVec 32) : Prop :=
  (∀ a, (k0_off38 v1605) a + S64x256.size a ≤ S4096x256.size a)
theorem k0_off38_inb : ∀ (v1605 : BitVec 32) (k0_hw40 : k0_chk40 v1605), ∀ a, (k0_off38 v1605) a + S64x256.size a ≤ S4096x256.size a := fun v1605 k0_hw40 => k0_hw40

def k0_dev79 (v4 : BitVec 32) : Nat :=
  let c0_i32_1724 : BitVec 32 := 0#32
  let c1_i32_1723 : BitVec 32 := 1#32
  let v1625 : BitVec 32 := Scalar.muli v4 c1_i32_1723
  let v1626 : BitVec 32 := Scalar.addi c0_i32_1724 v1625
  v1626.toNat
def k0_dev80 (v3 : BitVec 32) : Nat :=
  let c0_i32_1740 : BitVec 32 := 0#32
  let c1_i32_1739 : BitVec 32 := 1#32
  let v1635 : BitVec 32 := Scalar.muli v3 c1_i32_1739
  let v1636 : BitVec 32 := Scalar.addi c0_i32_1740 v1635
  v1636.toNat
def k0_dev81 (v3 : BitVec 32) : Nat :=
  let c0_i32_1758 : BitVec 32 := 0#32
  let c1_i32_1757 : BitVec 32 := 1#32
  let v1651 : BitVec 32 := Scalar.muli v3 c1_i32_1757
  let v1652 : BitVec 32 := Scalar.addi c0_i32_1758 v1651
  v1652.toNat
def k0_dev82 (v4 : BitVec 32) : Nat :=
  let c0_i32_1774 : BitVec 32 := 0#32
  let c1_i32_1773 : BitVec 32 := 1#32
  let v1661 : BitVec 32 := Scalar.muli v4 c1_i32_1773
  let v1662 : BitVec 32 := Scalar.addi c0_i32_1774 v1661
  v1662.toNat
def k0_off39 (v1673 : BitVec 32) : Fin 2 → Nat :=
  let c128_i32_1786 : BitVec 32 := 128#32
  let v1678 : BitVec 32 := Scalar.muli v1673 c128_i32_1786
  let c0_i32_1787 : BitVec 32 := 0#32
  let v1679 : BitVec 32 := Scalar.addi v1678 c0_i32_1787
  let v1680 : Index := Scalar.indexCast v1679
  let c0_1788 : Index := 0#32
  ![v1680.toNat, 0]

def k0_chk41 (v1673 : BitVec 32) : Prop :=
  (∀ a, (k0_off39 v1673) a + S64x256.size a ≤ S4096x256.size a)
theorem k0_off39_inb : ∀ (v1673 : BitVec 32) (k0_hw41 : k0_chk41 v1673), ∀ a, (k0_off39 v1673) a + S64x256.size a ≤ S4096x256.size a := fun v1673 k0_hw41 => k0_hw41

def k0_off40 (v1689 : BitVec 32) : Fin 2 → Nat :=
  let c128_i32_1797 : BitVec 32 := 128#32
  let v1694 : BitVec 32 := Scalar.muli v1689 c128_i32_1797
  let c0_i32_1798 : BitVec 32 := 0#32
  let v1695 : BitVec 32 := Scalar.addi v1694 c0_i32_1798
  let v1696 : Index := Scalar.indexCast v1695
  let c0_1799 : Index := 0#32
  ![v1696.toNat, 0]

def k0_chk42 (v1689 : BitVec 32) : Prop :=
  (∀ a, (k0_off40 v1689) a + S64x256.size a ≤ S4096x256.size a)
theorem k0_off40_inb : ∀ (v1689 : BitVec 32) (k0_hw42 : k0_chk42 v1689), ∀ a, (k0_off40 v1689) a + S64x256.size a ≤ S4096x256.size a := fun v1689 k0_hw42 => k0_hw42

def k0_dev83 (v4 : BitVec 32) : Nat :=
  let c0_i32_1814 : BitVec 32 := 0#32
  let c1_i32_1813 : BitVec 32 := 1#32
  let v1709 : BitVec 32 := Scalar.muli v4 c1_i32_1813
  let v1710 : BitVec 32 := Scalar.addi c0_i32_1814 v1709
  v1710.toNat
def k0_dev84 (v3 : BitVec 32) : Nat :=
  let c0_i32_1830 : BitVec 32 := 0#32
  let c1_i32_1829 : BitVec 32 := 1#32
  let v1719 : BitVec 32 := Scalar.muli v3 c1_i32_1829
  let v1720 : BitVec 32 := Scalar.addi c0_i32_1830 v1719
  v1720.toNat
def k0_dev85 (v3 : BitVec 32) : Nat :=
  let c0_i32_1848 : BitVec 32 := 0#32
  let c1_i32_1847 : BitVec 32 := 1#32
  let v1735 : BitVec 32 := Scalar.muli v3 c1_i32_1847
  let v1736 : BitVec 32 := Scalar.addi c0_i32_1848 v1735
  v1736.toNat
def k0_dev86 (v4 : BitVec 32) : Nat :=
  let c0_i32_1864 : BitVec 32 := 0#32
  let c1_i32_1863 : BitVec 32 := 1#32
  let v1745 : BitVec 32 := Scalar.muli v4 c1_i32_1863
  let v1746 : BitVec 32 := Scalar.addi c0_i32_1864 v1745
  v1746.toNat
def k0_off41 (v1757 : BitVec 32) : Fin 2 → Nat :=
  let c128_i32_1877 : BitVec 32 := 128#32
  let v1762 : BitVec 32 := Scalar.muli v1757 c128_i32_1877
  let c64_i32_1878 : BitVec 32 := 64#32
  let v1763 : BitVec 32 := Scalar.addi v1762 c64_i32_1878
  let v1764 : Index := Scalar.indexCast v1763
  let c0_1879 : Index := 0#32
  ![v1764.toNat, 0]

def k0_chk43 (v1757 : BitVec 32) : Prop :=
  (∀ a, (k0_off41 v1757) a + S64x256.size a ≤ S4096x256.size a)
theorem k0_off41_inb : ∀ (v1757 : BitVec 32) (k0_hw43 : k0_chk43 v1757), ∀ a, (k0_off41 v1757) a + S64x256.size a ≤ S4096x256.size a := fun v1757 k0_hw43 => k0_hw43

def k0_off42 (v1773 : BitVec 32) : Fin 2 → Nat :=
  let c128_i32_1889 : BitVec 32 := 128#32
  let v1778 : BitVec 32 := Scalar.muli v1773 c128_i32_1889
  let c64_i32_1890 : BitVec 32 := 64#32
  let v1779 : BitVec 32 := Scalar.addi v1778 c64_i32_1890
  let v1780 : Index := Scalar.indexCast v1779
  let c0_1891 : Index := 0#32
  ![v1780.toNat, 0]

def k0_chk44 (v1773 : BitVec 32) : Prop :=
  (∀ a, (k0_off42 v1773) a + S64x256.size a ≤ S4096x256.size a)
theorem k0_off42_inb : ∀ (v1773 : BitVec 32) (k0_hw44 : k0_chk44 v1773), ∀ a, (k0_off42 v1773) a + S64x256.size a ≤ S4096x256.size a := fun v1773 k0_hw44 => k0_hw44

def k0_dev87 (v4 : BitVec 32) : Nat :=
  let c0_i32_1906 : BitVec 32 := 0#32
  let c1_i32_1905 : BitVec 32 := 1#32
  let v1793 : BitVec 32 := Scalar.muli v4 c1_i32_1905
  let v1794 : BitVec 32 := Scalar.addi c0_i32_1906 v1793
  v1794.toNat
def k0_dev88 (v3 : BitVec 32) : Nat :=
  let c0_i32_1922 : BitVec 32 := 0#32
  let c1_i32_1921 : BitVec 32 := 1#32
  let v1803 : BitVec 32 := Scalar.muli v3 c1_i32_1921
  let v1804 : BitVec 32 := Scalar.addi c0_i32_1922 v1803
  v1804.toNat
def k0_dev89 (v3 : BitVec 32) : Nat :=
  let c0_i32_1940 : BitVec 32 := 0#32
  let c1_i32_1939 : BitVec 32 := 1#32
  let v1819 : BitVec 32 := Scalar.muli v3 c1_i32_1939
  let v1820 : BitVec 32 := Scalar.addi c0_i32_1940 v1819
  v1820.toNat
def k0_dev90 (v4 : BitVec 32) : Nat :=
  let c0_i32_1956 : BitVec 32 := 0#32
  let c1_i32_1955 : BitVec 32 := 1#32
  let v1829 : BitVec 32 := Scalar.muli v4 c1_i32_1955
  let v1830 : BitVec 32 := Scalar.addi c0_i32_1956 v1829
  v1830.toNat
def k0_off43 (v1841 : BitVec 32) : Fin 2 → Nat :=
  let c128_i32_1968 : BitVec 32 := 128#32
  let v1846 : BitVec 32 := Scalar.muli v1841 c128_i32_1968
  let c0_i32_1969 : BitVec 32 := 0#32
  let v1847 : BitVec 32 := Scalar.addi v1846 c0_i32_1969
  let v1848 : Index := Scalar.indexCast v1847
  let c0_1970 : Index := 0#32
  ![v1848.toNat, 0]

def k0_chk45 (v1841 : BitVec 32) : Prop :=
  (∀ a, (k0_off43 v1841) a + S64x256.size a ≤ S4096x256.size a)
theorem k0_off43_inb : ∀ (v1841 : BitVec 32) (k0_hw45 : k0_chk45 v1841), ∀ a, (k0_off43 v1841) a + S64x256.size a ≤ S4096x256.size a := fun v1841 k0_hw45 => k0_hw45

def k0_off44 (v1857 : BitVec 32) : Fin 2 → Nat :=
  let c128_i32_1979 : BitVec 32 := 128#32
  let v1862 : BitVec 32 := Scalar.muli v1857 c128_i32_1979
  let c0_i32_1980 : BitVec 32 := 0#32
  let v1863 : BitVec 32 := Scalar.addi v1862 c0_i32_1980
  let v1864 : Index := Scalar.indexCast v1863
  let c0_1981 : Index := 0#32
  ![v1864.toNat, 0]

def k0_chk46 (v1857 : BitVec 32) : Prop :=
  (∀ a, (k0_off44 v1857) a + S64x256.size a ≤ S4096x256.size a)
theorem k0_off44_inb : ∀ (v1857 : BitVec 32) (k0_hw46 : k0_chk46 v1857), ∀ a, (k0_off44 v1857) a + S64x256.size a ≤ S4096x256.size a := fun v1857 k0_hw46 => k0_hw46

def k0_dev91 (v4 : BitVec 32) : Nat :=
  let c0_i32_1996 : BitVec 32 := 0#32
  let c1_i32_1995 : BitVec 32 := 1#32
  let v1877 : BitVec 32 := Scalar.muli v4 c1_i32_1995
  let v1878 : BitVec 32 := Scalar.addi c0_i32_1996 v1877
  v1878.toNat
def k0_dev92 (v3 : BitVec 32) : Nat :=
  let c0_i32_2012 : BitVec 32 := 0#32
  let c1_i32_2011 : BitVec 32 := 1#32
  let v1887 : BitVec 32 := Scalar.muli v3 c1_i32_2011
  let v1888 : BitVec 32 := Scalar.addi c0_i32_2012 v1887
  v1888.toNat
def k0_dev93 (v3 : BitVec 32) : Nat :=
  let c0_i32_2030 : BitVec 32 := 0#32
  let c1_i32_2029 : BitVec 32 := 1#32
  let v1903 : BitVec 32 := Scalar.muli v3 c1_i32_2029
  let v1904 : BitVec 32 := Scalar.addi c0_i32_2030 v1903
  v1904.toNat
def k0_dev94 (v4 : BitVec 32) : Nat :=
  let c0_i32_2046 : BitVec 32 := 0#32
  let c1_i32_2045 : BitVec 32 := 1#32
  let v1913 : BitVec 32 := Scalar.muli v4 c1_i32_2045
  let v1914 : BitVec 32 := Scalar.addi c0_i32_2046 v1913
  v1914.toNat
def k0_off45 (v1925 : BitVec 32) : Fin 2 → Nat :=
  let c128_i32_2059 : BitVec 32 := 128#32
  let v1930 : BitVec 32 := Scalar.muli v1925 c128_i32_2059
  let c64_i32_2060 : BitVec 32 := 64#32
  let v1931 : BitVec 32 := Scalar.addi v1930 c64_i32_2060
  let v1932 : Index := Scalar.indexCast v1931
  let c0_2061 : Index := 0#32
  ![v1932.toNat, 0]

def k0_chk47 (v1925 : BitVec 32) : Prop :=
  (∀ a, (k0_off45 v1925) a + S64x256.size a ≤ S4096x256.size a)
theorem k0_off45_inb : ∀ (v1925 : BitVec 32) (k0_hw47 : k0_chk47 v1925), ∀ a, (k0_off45 v1925) a + S64x256.size a ≤ S4096x256.size a := fun v1925 k0_hw47 => k0_hw47

def k0_off46 (v1941 : BitVec 32) : Fin 2 → Nat :=
  let c128_i32_2071 : BitVec 32 := 128#32
  let v1946 : BitVec 32 := Scalar.muli v1941 c128_i32_2071
  let c64_i32_2072 : BitVec 32 := 64#32
  let v1947 : BitVec 32 := Scalar.addi v1946 c64_i32_2072
  let v1948 : Index := Scalar.indexCast v1947
  let c0_2073 : Index := 0#32
  ![v1948.toNat, 0]

def k0_chk48 (v1941 : BitVec 32) : Prop :=
  (∀ a, (k0_off46 v1941) a + S64x256.size a ≤ S4096x256.size a)
theorem k0_off46_inb : ∀ (v1941 : BitVec 32) (k0_hw48 : k0_chk48 v1941), ∀ a, (k0_off46 v1941) a + S64x256.size a ≤ S4096x256.size a := fun v1941 k0_hw48 => k0_hw48

def k0_dev95 (v4 : BitVec 32) : Nat :=
  let c0_i32_2088 : BitVec 32 := 0#32
  let c1_i32_2087 : BitVec 32 := 1#32
  let v1961 : BitVec 32 := Scalar.muli v4 c1_i32_2087
  let v1962 : BitVec 32 := Scalar.addi c0_i32_2088 v1961
  v1962.toNat
def k0_dev96 (v3 : BitVec 32) : Nat :=
  let c0_i32_2104 : BitVec 32 := 0#32
  let c1_i32_2103 : BitVec 32 := 1#32
  let v1971 : BitVec 32 := Scalar.muli v3 c1_i32_2103
  let v1972 : BitVec 32 := Scalar.addi c0_i32_2104 v1971
  v1972.toNat
def k0_dev97 (v3 : BitVec 32) : Nat :=
  let c0_i32_2122 : BitVec 32 := 0#32
  let c1_i32_2121 : BitVec 32 := 1#32
  let v1987 : BitVec 32 := Scalar.muli v3 c1_i32_2121
  let v1988 : BitVec 32 := Scalar.addi c0_i32_2122 v1987
  v1988.toNat
def k0_dev98 (v4 : BitVec 32) : Nat :=
  let c0_i32_2138 : BitVec 32 := 0#32
  let c1_i32_2137 : BitVec 32 := 1#32
  let v1997 : BitVec 32 := Scalar.muli v4 c1_i32_2137
  let v1998 : BitVec 32 := Scalar.addi c0_i32_2138 v1997
  v1998.toNat
def k0_off47 (v2009 : BitVec 32) : Fin 2 → Nat :=
  let c128_i32_2150 : BitVec 32 := 128#32
  let v2014 : BitVec 32 := Scalar.muli v2009 c128_i32_2150
  let c0_i32_2151 : BitVec 32 := 0#32
  let v2015 : BitVec 32 := Scalar.addi v2014 c0_i32_2151
  let v2016 : Index := Scalar.indexCast v2015
  let c0_2152 : Index := 0#32
  ![v2016.toNat, 0]

def k0_chk49 (v2009 : BitVec 32) : Prop :=
  (∀ a, (k0_off47 v2009) a + S64x256.size a ≤ S4096x256.size a)
theorem k0_off47_inb : ∀ (v2009 : BitVec 32) (k0_hw49 : k0_chk49 v2009), ∀ a, (k0_off47 v2009) a + S64x256.size a ≤ S4096x256.size a := fun v2009 k0_hw49 => k0_hw49

def k0_off48 (v2025 : BitVec 32) : Fin 2 → Nat :=
  let c128_i32_2161 : BitVec 32 := 128#32
  let v2030 : BitVec 32 := Scalar.muli v2025 c128_i32_2161
  let c0_i32_2162 : BitVec 32 := 0#32
  let v2031 : BitVec 32 := Scalar.addi v2030 c0_i32_2162
  let v2032 : Index := Scalar.indexCast v2031
  let c0_2163 : Index := 0#32
  ![v2032.toNat, 0]

def k0_chk50 (v2025 : BitVec 32) : Prop :=
  (∀ a, (k0_off48 v2025) a + S64x256.size a ≤ S4096x256.size a)
theorem k0_off48_inb : ∀ (v2025 : BitVec 32) (k0_hw50 : k0_chk50 v2025), ∀ a, (k0_off48 v2025) a + S64x256.size a ≤ S4096x256.size a := fun v2025 k0_hw50 => k0_hw50

def k0_dev99 (v4 : BitVec 32) : Nat :=
  let c0_i32_2178 : BitVec 32 := 0#32
  let c1_i32_2177 : BitVec 32 := 1#32
  let v2045 : BitVec 32 := Scalar.muli v4 c1_i32_2177
  let v2046 : BitVec 32 := Scalar.addi c0_i32_2178 v2045
  v2046.toNat
def k0_dev100 (v3 : BitVec 32) : Nat :=
  let c0_i32_2194 : BitVec 32 := 0#32
  let c1_i32_2193 : BitVec 32 := 1#32
  let v2055 : BitVec 32 := Scalar.muli v3 c1_i32_2193
  let v2056 : BitVec 32 := Scalar.addi c0_i32_2194 v2055
  v2056.toNat
def k0_dev101 (v3 : BitVec 32) : Nat :=
  let c0_i32_2212 : BitVec 32 := 0#32
  let c1_i32_2211 : BitVec 32 := 1#32
  let v2071 : BitVec 32 := Scalar.muli v3 c1_i32_2211
  let v2072 : BitVec 32 := Scalar.addi c0_i32_2212 v2071
  v2072.toNat
def k0_dev102 (v4 : BitVec 32) : Nat :=
  let c0_i32_2228 : BitVec 32 := 0#32
  let c1_i32_2227 : BitVec 32 := 1#32
  let v2081 : BitVec 32 := Scalar.muli v4 c1_i32_2227
  let v2082 : BitVec 32 := Scalar.addi c0_i32_2228 v2081
  v2082.toNat
def k0_off49 (v2093 : BitVec 32) : Fin 2 → Nat :=
  let c128_i32_2241 : BitVec 32 := 128#32
  let v2098 : BitVec 32 := Scalar.muli v2093 c128_i32_2241
  let c64_i32_2242 : BitVec 32 := 64#32
  let v2099 : BitVec 32 := Scalar.addi v2098 c64_i32_2242
  let v2100 : Index := Scalar.indexCast v2099
  let c0_2243 : Index := 0#32
  ![v2100.toNat, 0]

def k0_chk51 (v2093 : BitVec 32) : Prop :=
  (∀ a, (k0_off49 v2093) a + S64x256.size a ≤ S4096x256.size a)
theorem k0_off49_inb : ∀ (v2093 : BitVec 32) (k0_hw51 : k0_chk51 v2093), ∀ a, (k0_off49 v2093) a + S64x256.size a ≤ S4096x256.size a := fun v2093 k0_hw51 => k0_hw51

def k0_off50 (v2109 : BitVec 32) : Fin 2 → Nat :=
  let c128_i32_2253 : BitVec 32 := 128#32
  let v2114 : BitVec 32 := Scalar.muli v2109 c128_i32_2253
  let c64_i32_2254 : BitVec 32 := 64#32
  let v2115 : BitVec 32 := Scalar.addi v2114 c64_i32_2254
  let v2116 : Index := Scalar.indexCast v2115
  let c0_2255 : Index := 0#32
  ![v2116.toNat, 0]

def k0_chk52 (v2109 : BitVec 32) : Prop :=
  (∀ a, (k0_off50 v2109) a + S64x256.size a ≤ S4096x256.size a)
theorem k0_off50_inb : ∀ (v2109 : BitVec 32) (k0_hw52 : k0_chk52 v2109), ∀ a, (k0_off50 v2109) a + S64x256.size a ≤ S4096x256.size a := fun v2109 k0_hw52 => k0_hw52

def k0_dev103 (v4 : BitVec 32) : Nat :=
  let c0_i32_2270 : BitVec 32 := 0#32
  let c1_i32_2269 : BitVec 32 := 1#32
  let v2129 : BitVec 32 := Scalar.muli v4 c1_i32_2269
  let v2130 : BitVec 32 := Scalar.addi c0_i32_2270 v2129
  v2130.toNat
def k0_dev104 (v3 : BitVec 32) : Nat :=
  let c0_i32_2286 : BitVec 32 := 0#32
  let c1_i32_2285 : BitVec 32 := 1#32
  let v2139 : BitVec 32 := Scalar.muli v3 c1_i32_2285
  let v2140 : BitVec 32 := Scalar.addi c0_i32_2286 v2139
  v2140.toNat
def k0_dev105 (v3 : BitVec 32) : Nat :=
  let c0_i32_2304 : BitVec 32 := 0#32
  let c1_i32_2303 : BitVec 32 := 1#32
  let v2155 : BitVec 32 := Scalar.muli v3 c1_i32_2303
  let v2156 : BitVec 32 := Scalar.addi c0_i32_2304 v2155
  v2156.toNat
def k0_dev106 (v4 : BitVec 32) : Nat :=
  let c0_i32_2320 : BitVec 32 := 0#32
  let c1_i32_2319 : BitVec 32 := 1#32
  let v2165 : BitVec 32 := Scalar.muli v4 c1_i32_2319
  let v2166 : BitVec 32 := Scalar.addi c0_i32_2320 v2165
  v2166.toNat
def k0_off51 (v2177 : BitVec 32) : Fin 2 → Nat :=
  let c128_i32_2332 : BitVec 32 := 128#32
  let v2182 : BitVec 32 := Scalar.muli v2177 c128_i32_2332
  let c0_i32_2333 : BitVec 32 := 0#32
  let v2183 : BitVec 32 := Scalar.addi v2182 c0_i32_2333
  let v2184 : Index := Scalar.indexCast v2183
  let c0_2334 : Index := 0#32
  ![v2184.toNat, 0]

def k0_chk53 (v2177 : BitVec 32) : Prop :=
  (∀ a, (k0_off51 v2177) a + S64x256.size a ≤ S4096x256.size a)
theorem k0_off51_inb : ∀ (v2177 : BitVec 32) (k0_hw53 : k0_chk53 v2177), ∀ a, (k0_off51 v2177) a + S64x256.size a ≤ S4096x256.size a := fun v2177 k0_hw53 => k0_hw53

def k0_off52 (v2193 : BitVec 32) : Fin 2 → Nat :=
  let c128_i32_2343 : BitVec 32 := 128#32
  let v2198 : BitVec 32 := Scalar.muli v2193 c128_i32_2343
  let c0_i32_2344 : BitVec 32 := 0#32
  let v2199 : BitVec 32 := Scalar.addi v2198 c0_i32_2344
  let v2200 : Index := Scalar.indexCast v2199
  let c0_2345 : Index := 0#32
  ![v2200.toNat, 0]

def k0_chk54 (v2193 : BitVec 32) : Prop :=
  (∀ a, (k0_off52 v2193) a + S64x256.size a ≤ S4096x256.size a)
theorem k0_off52_inb : ∀ (v2193 : BitVec 32) (k0_hw54 : k0_chk54 v2193), ∀ a, (k0_off52 v2193) a + S64x256.size a ≤ S4096x256.size a := fun v2193 k0_hw54 => k0_hw54

def k0_dev107 (v4 : BitVec 32) : Nat :=
  let c0_i32_2360 : BitVec 32 := 0#32
  let c1_i32_2359 : BitVec 32 := 1#32
  let v2213 : BitVec 32 := Scalar.muli v4 c1_i32_2359
  let v2214 : BitVec 32 := Scalar.addi c0_i32_2360 v2213
  v2214.toNat
def k0_dev108 (v3 : BitVec 32) : Nat :=
  let c0_i32_2376 : BitVec 32 := 0#32
  let c1_i32_2375 : BitVec 32 := 1#32
  let v2223 : BitVec 32 := Scalar.muli v3 c1_i32_2375
  let v2224 : BitVec 32 := Scalar.addi c0_i32_2376 v2223
  v2224.toNat
def k0_dev109 (v3 : BitVec 32) : Nat :=
  let c0_i32_2394 : BitVec 32 := 0#32
  let c1_i32_2393 : BitVec 32 := 1#32
  let v2239 : BitVec 32 := Scalar.muli v3 c1_i32_2393
  let v2240 : BitVec 32 := Scalar.addi c0_i32_2394 v2239
  v2240.toNat
def k0_dev110 (v4 : BitVec 32) : Nat :=
  let c0_i32_2410 : BitVec 32 := 0#32
  let c1_i32_2409 : BitVec 32 := 1#32
  let v2249 : BitVec 32 := Scalar.muli v4 c1_i32_2409
  let v2250 : BitVec 32 := Scalar.addi c0_i32_2410 v2249
  v2250.toNat
def k0_off53 (v2261 : BitVec 32) : Fin 2 → Nat :=
  let c128_i32_2423 : BitVec 32 := 128#32
  let v2266 : BitVec 32 := Scalar.muli v2261 c128_i32_2423
  let c64_i32_2424 : BitVec 32 := 64#32
  let v2267 : BitVec 32 := Scalar.addi v2266 c64_i32_2424
  let v2268 : Index := Scalar.indexCast v2267
  let c0_2425 : Index := 0#32
  ![v2268.toNat, 0]

def k0_chk55 (v2261 : BitVec 32) : Prop :=
  (∀ a, (k0_off53 v2261) a + S64x256.size a ≤ S4096x256.size a)
theorem k0_off53_inb : ∀ (v2261 : BitVec 32) (k0_hw55 : k0_chk55 v2261), ∀ a, (k0_off53 v2261) a + S64x256.size a ≤ S4096x256.size a := fun v2261 k0_hw55 => k0_hw55

def k0_off54 (v2277 : BitVec 32) : Fin 2 → Nat :=
  let c128_i32_2435 : BitVec 32 := 128#32
  let v2282 : BitVec 32 := Scalar.muli v2277 c128_i32_2435
  let c64_i32_2436 : BitVec 32 := 64#32
  let v2283 : BitVec 32 := Scalar.addi v2282 c64_i32_2436
  let v2284 : Index := Scalar.indexCast v2283
  let c0_2437 : Index := 0#32
  ![v2284.toNat, 0]

def k0_chk56 (v2277 : BitVec 32) : Prop :=
  (∀ a, (k0_off54 v2277) a + S64x256.size a ≤ S4096x256.size a)
theorem k0_off54_inb : ∀ (v2277 : BitVec 32) (k0_hw56 : k0_chk56 v2277), ∀ a, (k0_off54 v2277) a + S64x256.size a ≤ S4096x256.size a := fun v2277 k0_hw56 => k0_hw56

def k0_dev111 (v4 : BitVec 32) : Nat :=
  let c0_i32_2452 : BitVec 32 := 0#32
  let c1_i32_2451 : BitVec 32 := 1#32
  let v2297 : BitVec 32 := Scalar.muli v4 c1_i32_2451
  let v2298 : BitVec 32 := Scalar.addi c0_i32_2452 v2297
  v2298.toNat
def k0_dev112 (v3 : BitVec 32) : Nat :=
  let c0_i32_2468 : BitVec 32 := 0#32
  let c1_i32_2467 : BitVec 32 := 1#32
  let v2307 : BitVec 32 := Scalar.muli v3 c1_i32_2467
  let v2308 : BitVec 32 := Scalar.addi c0_i32_2468 v2307
  v2308.toNat
def k0_dev113 (v3 : BitVec 32) : Nat :=
  let c0_i32_2486 : BitVec 32 := 0#32
  let c1_i32_2485 : BitVec 32 := 1#32
  let v2323 : BitVec 32 := Scalar.muli v3 c1_i32_2485
  let v2324 : BitVec 32 := Scalar.addi c0_i32_2486 v2323
  v2324.toNat
def k0_dev114 (v4 : BitVec 32) : Nat :=
  let c0_i32_2502 : BitVec 32 := 0#32
  let c1_i32_2501 : BitVec 32 := 1#32
  let v2333 : BitVec 32 := Scalar.muli v4 c1_i32_2501
  let v2334 : BitVec 32 := Scalar.addi c0_i32_2502 v2333
  v2334.toNat
def k0_off55 (v2345 : BitVec 32) : Fin 2 → Nat :=
  let c128_i32_2514 : BitVec 32 := 128#32
  let v2350 : BitVec 32 := Scalar.muli v2345 c128_i32_2514
  let c0_i32_2515 : BitVec 32 := 0#32
  let v2351 : BitVec 32 := Scalar.addi v2350 c0_i32_2515
  let v2352 : Index := Scalar.indexCast v2351
  let c0_2516 : Index := 0#32
  ![v2352.toNat, 0]

def k0_chk57 (v2345 : BitVec 32) : Prop :=
  (∀ a, (k0_off55 v2345) a + S64x256.size a ≤ S4096x256.size a)
theorem k0_off55_inb : ∀ (v2345 : BitVec 32) (k0_hw57 : k0_chk57 v2345), ∀ a, (k0_off55 v2345) a + S64x256.size a ≤ S4096x256.size a := fun v2345 k0_hw57 => k0_hw57

def k0_off56 (v2361 : BitVec 32) : Fin 2 → Nat :=
  let c128_i32_2525 : BitVec 32 := 128#32
  let v2366 : BitVec 32 := Scalar.muli v2361 c128_i32_2525
  let c0_i32_2526 : BitVec 32 := 0#32
  let v2367 : BitVec 32 := Scalar.addi v2366 c0_i32_2526
  let v2368 : Index := Scalar.indexCast v2367
  let c0_2527 : Index := 0#32
  ![v2368.toNat, 0]

def k0_chk58 (v2361 : BitVec 32) : Prop :=
  (∀ a, (k0_off56 v2361) a + S64x256.size a ≤ S4096x256.size a)
theorem k0_off56_inb : ∀ (v2361 : BitVec 32) (k0_hw58 : k0_chk58 v2361), ∀ a, (k0_off56 v2361) a + S64x256.size a ≤ S4096x256.size a := fun v2361 k0_hw58 => k0_hw58

def k0_dev115 (v4 : BitVec 32) : Nat :=
  let c0_i32_2542 : BitVec 32 := 0#32
  let c1_i32_2541 : BitVec 32 := 1#32
  let v2381 : BitVec 32 := Scalar.muli v4 c1_i32_2541
  let v2382 : BitVec 32 := Scalar.addi c0_i32_2542 v2381
  v2382.toNat
def k0_dev116 (v3 : BitVec 32) : Nat :=
  let c0_i32_2558 : BitVec 32 := 0#32
  let c1_i32_2557 : BitVec 32 := 1#32
  let v2391 : BitVec 32 := Scalar.muli v3 c1_i32_2557
  let v2392 : BitVec 32 := Scalar.addi c0_i32_2558 v2391
  v2392.toNat
def k0_dev117 (v3 : BitVec 32) : Nat :=
  let c0_i32_2576 : BitVec 32 := 0#32
  let c1_i32_2575 : BitVec 32 := 1#32
  let v2407 : BitVec 32 := Scalar.muli v3 c1_i32_2575
  let v2408 : BitVec 32 := Scalar.addi c0_i32_2576 v2407
  v2408.toNat
def k0_dev118 (v4 : BitVec 32) : Nat :=
  let c0_i32_2592 : BitVec 32 := 0#32
  let c1_i32_2591 : BitVec 32 := 1#32
  let v2417 : BitVec 32 := Scalar.muli v4 c1_i32_2591
  let v2418 : BitVec 32 := Scalar.addi c0_i32_2592 v2417
  v2418.toNat
def k0_off57 (v2429 : BitVec 32) : Fin 2 → Nat :=
  let c128_i32_2605 : BitVec 32 := 128#32
  let v2434 : BitVec 32 := Scalar.muli v2429 c128_i32_2605
  let c64_i32_2606 : BitVec 32 := 64#32
  let v2435 : BitVec 32 := Scalar.addi v2434 c64_i32_2606
  let v2436 : Index := Scalar.indexCast v2435
  let c0_2607 : Index := 0#32
  ![v2436.toNat, 0]

def k0_chk59 (v2429 : BitVec 32) : Prop :=
  (∀ a, (k0_off57 v2429) a + S64x256.size a ≤ S4096x256.size a)
theorem k0_off57_inb : ∀ (v2429 : BitVec 32) (k0_hw59 : k0_chk59 v2429), ∀ a, (k0_off57 v2429) a + S64x256.size a ≤ S4096x256.size a := fun v2429 k0_hw59 => k0_hw59

def k0_off58 (v2445 : BitVec 32) : Fin 2 → Nat :=
  let c128_i32_2617 : BitVec 32 := 128#32
  let v2450 : BitVec 32 := Scalar.muli v2445 c128_i32_2617
  let c64_i32_2618 : BitVec 32 := 64#32
  let v2451 : BitVec 32 := Scalar.addi v2450 c64_i32_2618
  let v2452 : Index := Scalar.indexCast v2451
  let c0_2619 : Index := 0#32
  ![v2452.toNat, 0]

def k0_chk60 (v2445 : BitVec 32) : Prop :=
  (∀ a, (k0_off58 v2445) a + S64x256.size a ≤ S4096x256.size a)
theorem k0_off58_inb : ∀ (v2445 : BitVec 32) (k0_hw60 : k0_chk60 v2445), ∀ a, (k0_off58 v2445) a + S64x256.size a ≤ S4096x256.size a := fun v2445 k0_hw60 => k0_hw60

def k0_dev119 (v3 : BitVec 32) : Nat :=
  let c0_i32_2647 : BitVec 32 := 0#32
  let c1_i32_2646 : BitVec 32 := 1#32
  let v2473 : BitVec 32 := Scalar.muli v3 c1_i32_2646
  let v2474 : BitVec 32 := Scalar.addi c0_i32_2647 v2473
  v2474.toNat

def k0_chk2_0 (v3 : BitVec 32) : Prop :=
  ((k0_dev2 v3) < nD) ∧
  ((k0_dev3 v3) < nD) ∧
  ((k0_dev5 v3) < nD) ∧
  ((k0_dev8 v3) < nD) ∧
  ((k0_dev9 v3) < nD) ∧
  ((k0_dev12 v3) < nD) ∧
  ((k0_dev13 v3) < nD) ∧
  ((k0_dev16 v3) < nD) ∧
  ((k0_dev17 v3) < nD) ∧
  ((k0_dev20 v3) < nD) ∧
  ((k0_dev21 v3) < nD) ∧
  ((k0_dev24 v3) < nD) ∧
  ((k0_dev25 v3) < nD) ∧
  ((k0_dev28 v3) < nD) ∧
  ((k0_dev29 v3) < nD) ∧
  ((k0_dev32 v3) < nD) ∧
  ((k0_dev33 v3) < nD) ∧
  ((k0_dev36 v3) < nD) ∧
  ((k0_dev37 v3) < nD) ∧
  ((k0_dev40 v3) < nD) ∧
  ((k0_dev41 v3) < nD) ∧
  ((k0_dev44 v3) < nD) ∧
  ((k0_dev45 v3) < nD) ∧
  ((k0_dev48 v3) < nD) ∧
  ((k0_dev49 v3) < nD) ∧
  ((k0_dev52 v3) < nD) ∧
  ((k0_dev53 v3) < nD) ∧
  ((k0_dev56 v3) < nD) ∧
  ((k0_dev57 v3) < nD) ∧
  ((k0_dev60 v3) < nD) ∧
  ((k0_dev61 v3) < nD) ∧
  ((k0_dev64 v3) < nD)
def k0_chk2_1 (v3 : BitVec 32) : Prop :=
  ((k0_dev65 v3) < nD) ∧
  ((k0_dev68 v3) < nD) ∧
  ((k0_dev69 v3) < nD) ∧
  ((k0_dev72 v3) < nD) ∧
  ((k0_dev73 v3) < nD) ∧
  ((k0_dev76 v3) < nD) ∧
  ((k0_dev77 v3) < nD) ∧
  ((k0_dev80 v3) < nD) ∧
  ((k0_dev81 v3) < nD) ∧
  ((k0_dev84 v3) < nD) ∧
  ((k0_dev85 v3) < nD) ∧
  ((k0_dev88 v3) < nD) ∧
  ((k0_dev89 v3) < nD) ∧
  ((k0_dev92 v3) < nD) ∧
  ((k0_dev93 v3) < nD) ∧
  ((k0_dev96 v3) < nD) ∧
  ((k0_dev97 v3) < nD) ∧
  ((k0_dev100 v3) < nD) ∧
  ((k0_dev101 v3) < nD) ∧
  ((k0_dev104 v3) < nD) ∧
  ((k0_dev105 v3) < nD) ∧
  ((k0_dev108 v3) < nD) ∧
  ((k0_dev109 v3) < nD) ∧
  ((k0_dev112 v3) < nD) ∧
  ((k0_dev113 v3) < nD) ∧
  ((k0_dev116 v3) < nD) ∧
  ((k0_dev117 v3) < nD) ∧
  ((k0_dev119 v3) < nD)
def k0_chk2 (v3 : BitVec 32) : Prop :=
  k0_chk2_0 v3 ∧
  k0_chk2_1 v3
theorem k0_dev2_lt : ∀ (v3 : BitVec 32) (k0_hw2 : k0_chk2 v3), (k0_dev2 v3) < nD := fun v3 k0_hw2 => k0_hw2.1.1
theorem k0_dev3_lt : ∀ (v3 : BitVec 32) (k0_hw2 : k0_chk2 v3), (k0_dev3 v3) < nD := fun v3 k0_hw2 => k0_hw2.1.2.1
theorem k0_dev5_lt : ∀ (v3 : BitVec 32) (k0_hw2 : k0_chk2 v3), (k0_dev5 v3) < nD := fun v3 k0_hw2 => k0_hw2.1.2.2.1
theorem k0_dev8_lt : ∀ (v3 : BitVec 32) (k0_hw2 : k0_chk2 v3), (k0_dev8 v3) < nD := fun v3 k0_hw2 => k0_hw2.1.2.2.2.1
theorem k0_dev9_lt : ∀ (v3 : BitVec 32) (k0_hw2 : k0_chk2 v3), (k0_dev9 v3) < nD := fun v3 k0_hw2 => k0_hw2.1.2.2.2.2.1
theorem k0_dev12_lt : ∀ (v3 : BitVec 32) (k0_hw2 : k0_chk2 v3), (k0_dev12 v3) < nD := fun v3 k0_hw2 => k0_hw2.1.2.2.2.2.2.1
theorem k0_dev13_lt : ∀ (v3 : BitVec 32) (k0_hw2 : k0_chk2 v3), (k0_dev13 v3) < nD := fun v3 k0_hw2 => k0_hw2.1.2.2.2.2.2.2.1
theorem k0_dev16_lt : ∀ (v3 : BitVec 32) (k0_hw2 : k0_chk2 v3), (k0_dev16 v3) < nD := fun v3 k0_hw2 => k0_hw2.1.2.2.2.2.2.2.2.1
theorem k0_dev17_lt : ∀ (v3 : BitVec 32) (k0_hw2 : k0_chk2 v3), (k0_dev17 v3) < nD := fun v3 k0_hw2 => k0_hw2.1.2.2.2.2.2.2.2.2.1
theorem k0_dev20_lt : ∀ (v3 : BitVec 32) (k0_hw2 : k0_chk2 v3), (k0_dev20 v3) < nD := fun v3 k0_hw2 => k0_hw2.1.2.2.2.2.2.2.2.2.2.1
theorem k0_dev21_lt : ∀ (v3 : BitVec 32) (k0_hw2 : k0_chk2 v3), (k0_dev21 v3) < nD := fun v3 k0_hw2 => k0_hw2.1.2.2.2.2.2.2.2.2.2.2.1
theorem k0_dev24_lt : ∀ (v3 : BitVec 32) (k0_hw2 : k0_chk2 v3), (k0_dev24 v3) < nD := fun v3 k0_hw2 => k0_hw2.1.2.2.2.2.2.2.2.2.2.2.2.1
theorem k0_dev25_lt : ∀ (v3 : BitVec 32) (k0_hw2 : k0_chk2 v3), (k0_dev25 v3) < nD := fun v3 k0_hw2 => k0_hw2.1.2.2.2.2.2.2.2.2.2.2.2.2.1
theorem k0_dev28_lt : ∀ (v3 : BitVec 32) (k0_hw2 : k0_chk2 v3), (k0_dev28 v3) < nD := fun v3 k0_hw2 => k0_hw2.1.2.2.2.2.2.2.2.2.2.2.2.2.2.1
theorem k0_dev29_lt : ∀ (v3 : BitVec 32) (k0_hw2 : k0_chk2 v3), (k0_dev29 v3) < nD := fun v3 k0_hw2 => k0_hw2.1.2.2.2.2.2.2.2.2.2.2.2.2.2.2.1
theorem k0_dev32_lt : ∀ (v3 : BitVec 32) (k0_hw2 : k0_chk2 v3), (k0_dev32 v3) < nD := fun v3 k0_hw2 => k0_hw2.1.2.2.2.2.2.2.2.2.2.2.2.2.2.2.2.1
theorem k0_dev33_lt : ∀ (v3 : BitVec 32) (k0_hw2 : k0_chk2 v3), (k0_dev33 v3) < nD := fun v3 k0_hw2 => k0_hw2.1.2.2.2.2.2.2.2.2.2.2.2.2.2.2.2.2.1
theorem k0_dev36_lt : ∀ (v3 : BitVec 32) (k0_hw2 : k0_chk2 v3), (k0_dev36 v3) < nD := fun v3 k0_hw2 => k0_hw2.1.2.2.2.2.2.2.2.2.2.2.2.2.2.2.2.2.2.1
theorem k0_dev37_lt : ∀ (v3 : BitVec 32) (k0_hw2 : k0_chk2 v3), (k0_dev37 v3) < nD := fun v3 k0_hw2 => k0_hw2.1.2.2.2.2.2.2.2.2.2.2.2.2.2.2.2.2.2.2.1
theorem k0_dev40_lt : ∀ (v3 : BitVec 32) (k0_hw2 : k0_chk2 v3), (k0_dev40 v3) < nD := fun v3 k0_hw2 => k0_hw2.1.2.2.2.2.2.2.2.2.2.2.2.2.2.2.2.2.2.2.2.1
theorem k0_dev41_lt : ∀ (v3 : BitVec 32) (k0_hw2 : k0_chk2 v3), (k0_dev41 v3) < nD := fun v3 k0_hw2 => k0_hw2.1.2.2.2.2.2.2.2.2.2.2.2.2.2.2.2.2.2.2.2.2.1
theorem k0_dev44_lt : ∀ (v3 : BitVec 32) (k0_hw2 : k0_chk2 v3), (k0_dev44 v3) < nD := fun v3 k0_hw2 => k0_hw2.1.2.2.2.2.2.2.2.2.2.2.2.2.2.2.2.2.2.2.2.2.2.1
theorem k0_dev45_lt : ∀ (v3 : BitVec 32) (k0_hw2 : k0_chk2 v3), (k0_dev45 v3) < nD := fun v3 k0_hw2 => k0_hw2.1.2.2.2.2.2.2.2.2.2.2.2.2.2.2.2.2.2.2.2.2.2.2.1
theorem k0_dev48_lt : ∀ (v3 : BitVec 32) (k0_hw2 : k0_chk2 v3), (k0_dev48 v3) < nD := fun v3 k0_hw2 => k0_hw2.1.2.2.2.2.2.2.2.2.2.2.2.2.2.2.2.2.2.2.2.2.2.2.2.1
theorem k0_dev49_lt : ∀ (v3 : BitVec 32) (k0_hw2 : k0_chk2 v3), (k0_dev49 v3) < nD := fun v3 k0_hw2 => k0_hw2.1.2.2.2.2.2.2.2.2.2.2.2.2.2.2.2.2.2.2.2.2.2.2.2.2.1
theorem k0_dev52_lt : ∀ (v3 : BitVec 32) (k0_hw2 : k0_chk2 v3), (k0_dev52 v3) < nD := fun v3 k0_hw2 => k0_hw2.1.2.2.2.2.2.2.2.2.2.2.2.2.2.2.2.2.2.2.2.2.2.2.2.2.2.1
theorem k0_dev53_lt : ∀ (v3 : BitVec 32) (k0_hw2 : k0_chk2 v3), (k0_dev53 v3) < nD := fun v3 k0_hw2 => k0_hw2.1.2.2.2.2.2.2.2.2.2.2.2.2.2.2.2.2.2.2.2.2.2.2.2.2.2.2.1
theorem k0_dev56_lt : ∀ (v3 : BitVec 32) (k0_hw2 : k0_chk2 v3), (k0_dev56 v3) < nD := fun v3 k0_hw2 => k0_hw2.1.2.2.2.2.2.2.2.2.2.2.2.2.2.2.2.2.2.2.2.2.2.2.2.2.2.2.2.1
theorem k0_dev57_lt : ∀ (v3 : BitVec 32) (k0_hw2 : k0_chk2 v3), (k0_dev57 v3) < nD := fun v3 k0_hw2 => k0_hw2.1.2.2.2.2.2.2.2.2.2.2.2.2.2.2.2.2.2.2.2.2.2.2.2.2.2.2.2.2.1
theorem k0_dev60_lt : ∀ (v3 : BitVec 32) (k0_hw2 : k0_chk2 v3), (k0_dev60 v3) < nD := fun v3 k0_hw2 => k0_hw2.1.2.2.2.2.2.2.2.2.2.2.2.2.2.2.2.2.2.2.2.2.2.2.2.2.2.2.2.2.2.1
theorem k0_dev61_lt : ∀ (v3 : BitVec 32) (k0_hw2 : k0_chk2 v3), (k0_dev61 v3) < nD := fun v3 k0_hw2 => k0_hw2.1.2.2.2.2.2.2.2.2.2.2.2.2.2.2.2.2.2.2.2.2.2.2.2.2.2.2.2.2.2.2.1
theorem k0_dev64_lt : ∀ (v3 : BitVec 32) (k0_hw2 : k0_chk2 v3), (k0_dev64 v3) < nD := fun v3 k0_hw2 => k0_hw2.1.2.2.2.2.2.2.2.2.2.2.2.2.2.2.2.2.2.2.2.2.2.2.2.2.2.2.2.2.2.2.2
theorem k0_dev65_lt : ∀ (v3 : BitVec 32) (k0_hw2 : k0_chk2 v3), (k0_dev65 v3) < nD := fun v3 k0_hw2 => k0_hw2.2.1
theorem k0_dev68_lt : ∀ (v3 : BitVec 32) (k0_hw2 : k0_chk2 v3), (k0_dev68 v3) < nD := fun v3 k0_hw2 => k0_hw2.2.2.1
theorem k0_dev69_lt : ∀ (v3 : BitVec 32) (k0_hw2 : k0_chk2 v3), (k0_dev69 v3) < nD := fun v3 k0_hw2 => k0_hw2.2.2.2.1
theorem k0_dev72_lt : ∀ (v3 : BitVec 32) (k0_hw2 : k0_chk2 v3), (k0_dev72 v3) < nD := fun v3 k0_hw2 => k0_hw2.2.2.2.2.1
theorem k0_dev73_lt : ∀ (v3 : BitVec 32) (k0_hw2 : k0_chk2 v3), (k0_dev73 v3) < nD := fun v3 k0_hw2 => k0_hw2.2.2.2.2.2.1
theorem k0_dev76_lt : ∀ (v3 : BitVec 32) (k0_hw2 : k0_chk2 v3), (k0_dev76 v3) < nD := fun v3 k0_hw2 => k0_hw2.2.2.2.2.2.2.1
theorem k0_dev77_lt : ∀ (v3 : BitVec 32) (k0_hw2 : k0_chk2 v3), (k0_dev77 v3) < nD := fun v3 k0_hw2 => k0_hw2.2.2.2.2.2.2.2.1
theorem k0_dev80_lt : ∀ (v3 : BitVec 32) (k0_hw2 : k0_chk2 v3), (k0_dev80 v3) < nD := fun v3 k0_hw2 => k0_hw2.2.2.2.2.2.2.2.2.1
theorem k0_dev81_lt : ∀ (v3 : BitVec 32) (k0_hw2 : k0_chk2 v3), (k0_dev81 v3) < nD := fun v3 k0_hw2 => k0_hw2.2.2.2.2.2.2.2.2.2.1
theorem k0_dev84_lt : ∀ (v3 : BitVec 32) (k0_hw2 : k0_chk2 v3), (k0_dev84 v3) < nD := fun v3 k0_hw2 => k0_hw2.2.2.2.2.2.2.2.2.2.2.1
theorem k0_dev85_lt : ∀ (v3 : BitVec 32) (k0_hw2 : k0_chk2 v3), (k0_dev85 v3) < nD := fun v3 k0_hw2 => k0_hw2.2.2.2.2.2.2.2.2.2.2.2.1
theorem k0_dev88_lt : ∀ (v3 : BitVec 32) (k0_hw2 : k0_chk2 v3), (k0_dev88 v3) < nD := fun v3 k0_hw2 => k0_hw2.2.2.2.2.2.2.2.2.2.2.2.2.1
theorem k0_dev89_lt : ∀ (v3 : BitVec 32) (k0_hw2 : k0_chk2 v3), (k0_dev89 v3) < nD := fun v3 k0_hw2 => k0_hw2.2.2.2.2.2.2.2.2.2.2.2.2.2.1
theorem k0_dev92_lt : ∀ (v3 : BitVec 32) (k0_hw2 : k0_chk2 v3), (k0_dev92 v3) < nD := fun v3 k0_hw2 => k0_hw2.2.2.2.2.2.2.2.2.2.2.2.2.2.2.1
theorem k0_dev93_lt : ∀ (v3 : BitVec 32) (k0_hw2 : k0_chk2 v3), (k0_dev93 v3) < nD := fun v3 k0_hw2 => k0_hw2.2.2.2.2.2.2.2.2.2.2.2.2.2.2.2.1
theorem k0_dev96_lt : ∀ (v3 : BitVec 32) (k0_hw2 : k0_chk2 v3), (k0_dev96 v3) < nD := fun v3 k0_hw2 => k0_hw2.2.2.2.2.2.2.2.2.2.2.2.2.2.2.2.2.1
theorem k0_dev97_lt : ∀ (v3 : BitVec 32) (k0_hw2 : k0_chk2 v3), (k0_dev97 v3) < nD := fun v3 k0_hw2 => k0_hw2.2.2.2.2.2.2.2.2.2.2.2.2.2.2.2.2.2.1
theorem k0_dev100_lt : ∀ (v3 : BitVec 32) (k0_hw2 : k0_chk2 v3), (k0_dev100 v3) < nD := fun v3 k0_hw2 => k0_hw2.2.2.2.2.2.2.2.2.2.2.2.2.2.2.2.2.2.2.1
theorem k0_dev101_lt : ∀ (v3 : BitVec 32) (k0_hw2 : k0_chk2 v3), (k0_dev101 v3) < nD := fun v3 k0_hw2 => k0_hw2.2.2.2.2.2.2.2.2.2.2.2.2.2.2.2.2.2.2.2.1
theorem k0_dev104_lt : ∀ (v3 : BitVec 32) (k0_hw2 : k0_chk2 v3), (k0_dev104 v3) < nD := fun v3 k0_hw2 => k0_hw2.2.2.2.2.2.2.2.2.2.2.2.2.2.2.2.2.2.2.2.2.1
theorem k0_dev105_lt : ∀ (v3 : BitVec 32) (k0_hw2 : k0_chk2 v3), (k0_dev105 v3) < nD := fun v3 k0_hw2 => k0_hw2.2.2.2.2.2.2.2.2.2.2.2.2.2.2.2.2.2.2.2.2.2.1
theorem k0_dev108_lt : ∀ (v3 : BitVec 32) (k0_hw2 : k0_chk2 v3), (k0_dev108 v3) < nD := fun v3 k0_hw2 => k0_hw2.2.2.2.2.2.2.2.2.2.2.2.2.2.2.2.2.2.2.2.2.2.2.1
theorem k0_dev109_lt : ∀ (v3 : BitVec 32) (k0_hw2 : k0_chk2 v3), (k0_dev109 v3) < nD := fun v3 k0_hw2 => k0_hw2.2.2.2.2.2.2.2.2.2.2.2.2.2.2.2.2.2.2.2.2.2.2.2.1
theorem k0_dev112_lt : ∀ (v3 : BitVec 32) (k0_hw2 : k0_chk2 v3), (k0_dev112 v3) < nD := fun v3 k0_hw2 => k0_hw2.2.2.2.2.2.2.2.2.2.2.2.2.2.2.2.2.2.2.2.2.2.2.2.2.1
theorem k0_dev113_lt : ∀ (v3 : BitVec 32) (k0_hw2 : k0_chk2 v3), (k0_dev113 v3) < nD := fun v3 k0_hw2 => k0_hw2.2.2.2.2.2.2.2.2.2.2.2.2.2.2.2.2.2.2.2.2.2.2.2.2.2.1
theorem k0_dev116_lt : ∀ (v3 : BitVec 32) (k0_hw2 : k0_chk2 v3), (k0_dev116 v3) < nD := fun v3 k0_hw2 => k0_hw2.2.2.2.2.2.2.2.2.2.2.2.2.2.2.2.2.2.2.2.2.2.2.2.2.2.2.1
theorem k0_dev117_lt : ∀ (v3 : BitVec 32) (k0_hw2 : k0_chk2 v3), (k0_dev117 v3) < nD := fun v3 k0_hw2 => k0_hw2.2.2.2.2.2.2.2.2.2.2.2.2.2.2.2.2.2.2.2.2.2.2.2.2.2.2.2.1
theorem k0_dev119_lt : ∀ (v3 : BitVec 32) (k0_hw2 : k0_chk2 v3), (k0_dev119 v3) < nD := fun v3 k0_hw2 => k0_hw2.2.2.2.2.2.2.2.2.2.2.2.2.2.2.2.2.2.2.2.2.2.2.2.2.2.2.2.2

def k0_off59 (v2485 : BitVec 32) : Fin 2 → Nat :=
  let c128_i32_2659 : BitVec 32 := 128#32
  let v2490 : BitVec 32 := Scalar.muli v2485 c128_i32_2659
  let c0_i32_2660 : BitVec 32 := 0#32
  let v2491 : BitVec 32 := Scalar.addi v2490 c0_i32_2660
  let v2492 : Index := Scalar.indexCast v2491
  let c0_2661 : Index := 0#32
  ![v2492.toNat, 0]

def k0_chk61 (v2485 : BitVec 32) : Prop :=
  (∀ a, (k0_off59 v2485) a + S64x256.size a ≤ S4096x256.size a)
theorem k0_off59_inb : ∀ (v2485 : BitVec 32) (k0_hw61 : k0_chk61 v2485), ∀ a, (k0_off59 v2485) a + S64x256.size a ≤ S4096x256.size a := fun v2485 k0_hw61 => k0_hw61

def k0_off60 (v2515 : BitVec 32) : Fin 2 → Nat :=
  let c128_i32_2692 : BitVec 32 := 128#32
  let v2520 : BitVec 32 := Scalar.muli v2515 c128_i32_2692
  let c64_i32_2693 : BitVec 32 := 64#32
  let v2521 : BitVec 32 := Scalar.addi v2520 c64_i32_2693
  let v2522 : Index := Scalar.indexCast v2521
  let c0_2694 : Index := 0#32
  ![v2522.toNat, 0]

def k0_chk62 (v2515 : BitVec 32) : Prop :=
  (∀ a, (k0_off60 v2515) a + S64x256.size a ≤ S4096x256.size a)
theorem k0_off60_inb : ∀ (v2515 : BitVec 32) (k0_hw62 : k0_chk62 v2515), ∀ a, (k0_off60 v2515) a + S64x256.size a ≤ S4096x256.size a := fun v2515 k0_hw62 => k0_hw62

def k0_off61 (v2545 : BitVec 32) : Fin 2 → Nat :=
  let c128_i32_2724 : BitVec 32 := 128#32
  let v2550 : BitVec 32 := Scalar.muli v2545 c128_i32_2724
  let c0_i32_2725 : BitVec 32 := 0#32
  let v2551 : BitVec 32 := Scalar.addi v2550 c0_i32_2725
  let v2552 : Index := Scalar.indexCast v2551
  let c0_2726 : Index := 0#32
  ![v2552.toNat, 0]

def k0_chk63 (v2545 : BitVec 32) : Prop :=
  (∀ a, (k0_off61 v2545) a + S64x256.size a ≤ S4096x256.size a)
theorem k0_off61_inb : ∀ (v2545 : BitVec 32) (k0_hw63 : k0_chk63 v2545), ∀ a, (k0_off61 v2545) a + S64x256.size a ≤ S4096x256.size a := fun v2545 k0_hw63 => k0_hw63

def k0_dev120 (v4 : BitVec 32) : Nat :=
  let c0_i32_2754 : BitVec 32 := 0#32
  let c1_i32_2753 : BitVec 32 := 1#32
  let v2573 : BitVec 32 := Scalar.muli v4 c1_i32_2753
  let v2574 : BitVec 32 := Scalar.addi c0_i32_2754 v2573
  v2574.toNat

def k0_chk1_0 (v4 : BitVec 32) : Prop :=
  ((k0_dev1 v4) < nD) ∧
  ((k0_dev4 v4) < nD) ∧
  ((k0_dev6 v4) < nD) ∧
  ((k0_dev7 v4) < nD) ∧
  ((k0_dev10 v4) < nD) ∧
  ((k0_dev11 v4) < nD) ∧
  ((k0_dev14 v4) < nD) ∧
  ((k0_dev15 v4) < nD) ∧
  ((k0_dev18 v4) < nD) ∧
  ((k0_dev19 v4) < nD) ∧
  ((k0_dev22 v4) < nD) ∧
  ((k0_dev23 v4) < nD) ∧
  ((k0_dev26 v4) < nD) ∧
  ((k0_dev27 v4) < nD) ∧
  ((k0_dev30 v4) < nD) ∧
  ((k0_dev31 v4) < nD) ∧
  ((k0_dev34 v4) < nD) ∧
  ((k0_dev35 v4) < nD) ∧
  ((k0_dev38 v4) < nD) ∧
  ((k0_dev39 v4) < nD) ∧
  ((k0_dev42 v4) < nD) ∧
  ((k0_dev43 v4) < nD) ∧
  ((k0_dev46 v4) < nD) ∧
  ((k0_dev47 v4) < nD) ∧
  ((k0_dev50 v4) < nD) ∧
  ((k0_dev51 v4) < nD) ∧
  ((k0_dev54 v4) < nD) ∧
  ((k0_dev55 v4) < nD) ∧
  ((k0_dev58 v4) < nD) ∧
  ((k0_dev59 v4) < nD) ∧
  ((k0_dev62 v4) < nD) ∧
  ((k0_dev63 v4) < nD)
def k0_chk1_1 (v4 : BitVec 32) : Prop :=
  ((k0_dev66 v4) < nD) ∧
  ((k0_dev67 v4) < nD) ∧
  ((k0_dev70 v4) < nD) ∧
  ((k0_dev71 v4) < nD) ∧
  ((k0_dev74 v4) < nD) ∧
  ((k0_dev75 v4) < nD) ∧
  ((k0_dev78 v4) < nD) ∧
  ((k0_dev79 v4) < nD) ∧
  ((k0_dev82 v4) < nD) ∧
  ((k0_dev83 v4) < nD) ∧
  ((k0_dev86 v4) < nD) ∧
  ((k0_dev87 v4) < nD) ∧
  ((k0_dev90 v4) < nD) ∧
  ((k0_dev91 v4) < nD) ∧
  ((k0_dev94 v4) < nD) ∧
  ((k0_dev95 v4) < nD) ∧
  ((k0_dev98 v4) < nD) ∧
  ((k0_dev99 v4) < nD) ∧
  ((k0_dev102 v4) < nD) ∧
  ((k0_dev103 v4) < nD) ∧
  ((k0_dev106 v4) < nD) ∧
  ((k0_dev107 v4) < nD) ∧
  ((k0_dev110 v4) < nD) ∧
  ((k0_dev111 v4) < nD) ∧
  ((k0_dev114 v4) < nD) ∧
  ((k0_dev115 v4) < nD) ∧
  ((k0_dev118 v4) < nD) ∧
  ((k0_dev120 v4) < nD)
def k0_chk1 (v4 : BitVec 32) : Prop :=
  k0_chk1_0 v4 ∧
  k0_chk1_1 v4
theorem k0_dev1_lt : ∀ (v4 : BitVec 32) (k0_hw1 : k0_chk1 v4), (k0_dev1 v4) < nD := fun v4 k0_hw1 => k0_hw1.1.1
theorem k0_dev4_lt : ∀ (v4 : BitVec 32) (k0_hw1 : k0_chk1 v4), (k0_dev4 v4) < nD := fun v4 k0_hw1 => k0_hw1.1.2.1
theorem k0_dev6_lt : ∀ (v4 : BitVec 32) (k0_hw1 : k0_chk1 v4), (k0_dev6 v4) < nD := fun v4 k0_hw1 => k0_hw1.1.2.2.1
theorem k0_dev7_lt : ∀ (v4 : BitVec 32) (k0_hw1 : k0_chk1 v4), (k0_dev7 v4) < nD := fun v4 k0_hw1 => k0_hw1.1.2.2.2.1
theorem k0_dev10_lt : ∀ (v4 : BitVec 32) (k0_hw1 : k0_chk1 v4), (k0_dev10 v4) < nD := fun v4 k0_hw1 => k0_hw1.1.2.2.2.2.1
theorem k0_dev11_lt : ∀ (v4 : BitVec 32) (k0_hw1 : k0_chk1 v4), (k0_dev11 v4) < nD := fun v4 k0_hw1 => k0_hw1.1.2.2.2.2.2.1
theorem k0_dev14_lt : ∀ (v4 : BitVec 32) (k0_hw1 : k0_chk1 v4), (k0_dev14 v4) < nD := fun v4 k0_hw1 => k0_hw1.1.2.2.2.2.2.2.1
theorem k0_dev15_lt : ∀ (v4 : BitVec 32) (k0_hw1 : k0_chk1 v4), (k0_dev15 v4) < nD := fun v4 k0_hw1 => k0_hw1.1.2.2.2.2.2.2.2.1
theorem k0_dev18_lt : ∀ (v4 : BitVec 32) (k0_hw1 : k0_chk1 v4), (k0_dev18 v4) < nD := fun v4 k0_hw1 => k0_hw1.1.2.2.2.2.2.2.2.2.1
theorem k0_dev19_lt : ∀ (v4 : BitVec 32) (k0_hw1 : k0_chk1 v4), (k0_dev19 v4) < nD := fun v4 k0_hw1 => k0_hw1.1.2.2.2.2.2.2.2.2.2.1
theorem k0_dev22_lt : ∀ (v4 : BitVec 32) (k0_hw1 : k0_chk1 v4), (k0_dev22 v4) < nD := fun v4 k0_hw1 => k0_hw1.1.2.2.2.2.2.2.2.2.2.2.1
theorem k0_dev23_lt : ∀ (v4 : BitVec 32) (k0_hw1 : k0_chk1 v4), (k0_dev23 v4) < nD := fun v4 k0_hw1 => k0_hw1.1.2.2.2.2.2.2.2.2.2.2.2.1
theorem k0_dev26_lt : ∀ (v4 : BitVec 32) (k0_hw1 : k0_chk1 v4), (k0_dev26 v4) < nD := fun v4 k0_hw1 => k0_hw1.1.2.2.2.2.2.2.2.2.2.2.2.2.1
theorem k0_dev27_lt : ∀ (v4 : BitVec 32) (k0_hw1 : k0_chk1 v4), (k0_dev27 v4) < nD := fun v4 k0_hw1 => k0_hw1.1.2.2.2.2.2.2.2.2.2.2.2.2.2.1
theorem k0_dev30_lt : ∀ (v4 : BitVec 32) (k0_hw1 : k0_chk1 v4), (k0_dev30 v4) < nD := fun v4 k0_hw1 => k0_hw1.1.2.2.2.2.2.2.2.2.2.2.2.2.2.2.1
theorem k0_dev31_lt : ∀ (v4 : BitVec 32) (k0_hw1 : k0_chk1 v4), (k0_dev31 v4) < nD := fun v4 k0_hw1 => k0_hw1.1.2.2.2.2.2.2.2.2.2.2.2.2.2.2.2.1
theorem k0_dev34_lt : ∀ (v4 : BitVec 32) (k0_hw1 : k0_chk1 v4), (k0_dev34 v4) < nD := fun v4 k0_hw1 => k0_hw1.1.2.2.2.2.2.2.2.2.2.2.2.2.2.2.2.2.1
theorem k0_dev35_lt : ∀ (v4 : BitVec 32) (k0_hw1 : k0_chk1 v4), (k0_dev35 v4) < nD := fun v4 k0_hw1 => k0_hw1.1.2.2.2.2.2.2.2.2.2.2.2.2.2.2.2.2.2.1
theorem k0_dev38_lt : ∀ (v4 : BitVec 32) (k0_hw1 : k0_chk1 v4), (k0_dev38 v4) < nD := fun v4 k0_hw1 => k0_hw1.1.2.2.2.2.2.2.2.2.2.2.2.2.2.2.2.2.2.2.1
theorem k0_dev39_lt : ∀ (v4 : BitVec 32) (k0_hw1 : k0_chk1 v4), (k0_dev39 v4) < nD := fun v4 k0_hw1 => k0_hw1.1.2.2.2.2.2.2.2.2.2.2.2.2.2.2.2.2.2.2.2.1
theorem k0_dev42_lt : ∀ (v4 : BitVec 32) (k0_hw1 : k0_chk1 v4), (k0_dev42 v4) < nD := fun v4 k0_hw1 => k0_hw1.1.2.2.2.2.2.2.2.2.2.2.2.2.2.2.2.2.2.2.2.2.1
theorem k0_dev43_lt : ∀ (v4 : BitVec 32) (k0_hw1 : k0_chk1 v4), (k0_dev43 v4) < nD := fun v4 k0_hw1 => k0_hw1.1.2.2.2.2.2.2.2.2.2.2.2.2.2.2.2.2.2.2.2.2.2.1
theorem k0_dev46_lt : ∀ (v4 : BitVec 32) (k0_hw1 : k0_chk1 v4), (k0_dev46 v4) < nD := fun v4 k0_hw1 => k0_hw1.1.2.2.2.2.2.2.2.2.2.2.2.2.2.2.2.2.2.2.2.2.2.2.1
theorem k0_dev47_lt : ∀ (v4 : BitVec 32) (k0_hw1 : k0_chk1 v4), (k0_dev47 v4) < nD := fun v4 k0_hw1 => k0_hw1.1.2.2.2.2.2.2.2.2.2.2.2.2.2.2.2.2.2.2.2.2.2.2.2.1
theorem k0_dev50_lt : ∀ (v4 : BitVec 32) (k0_hw1 : k0_chk1 v4), (k0_dev50 v4) < nD := fun v4 k0_hw1 => k0_hw1.1.2.2.2.2.2.2.2.2.2.2.2.2.2.2.2.2.2.2.2.2.2.2.2.2.1
theorem k0_dev51_lt : ∀ (v4 : BitVec 32) (k0_hw1 : k0_chk1 v4), (k0_dev51 v4) < nD := fun v4 k0_hw1 => k0_hw1.1.2.2.2.2.2.2.2.2.2.2.2.2.2.2.2.2.2.2.2.2.2.2.2.2.2.1
theorem k0_dev54_lt : ∀ (v4 : BitVec 32) (k0_hw1 : k0_chk1 v4), (k0_dev54 v4) < nD := fun v4 k0_hw1 => k0_hw1.1.2.2.2.2.2.2.2.2.2.2.2.2.2.2.2.2.2.2.2.2.2.2.2.2.2.2.1
theorem k0_dev55_lt : ∀ (v4 : BitVec 32) (k0_hw1 : k0_chk1 v4), (k0_dev55 v4) < nD := fun v4 k0_hw1 => k0_hw1.1.2.2.2.2.2.2.2.2.2.2.2.2.2.2.2.2.2.2.2.2.2.2.2.2.2.2.2.1
theorem k0_dev58_lt : ∀ (v4 : BitVec 32) (k0_hw1 : k0_chk1 v4), (k0_dev58 v4) < nD := fun v4 k0_hw1 => k0_hw1.1.2.2.2.2.2.2.2.2.2.2.2.2.2.2.2.2.2.2.2.2.2.2.2.2.2.2.2.2.1
theorem k0_dev59_lt : ∀ (v4 : BitVec 32) (k0_hw1 : k0_chk1 v4), (k0_dev59 v4) < nD := fun v4 k0_hw1 => k0_hw1.1.2.2.2.2.2.2.2.2.2.2.2.2.2.2.2.2.2.2.2.2.2.2.2.2.2.2.2.2.2.1
theorem k0_dev62_lt : ∀ (v4 : BitVec 32) (k0_hw1 : k0_chk1 v4), (k0_dev62 v4) < nD := fun v4 k0_hw1 => k0_hw1.1.2.2.2.2.2.2.2.2.2.2.2.2.2.2.2.2.2.2.2.2.2.2.2.2.2.2.2.2.2.2.1
theorem k0_dev63_lt : ∀ (v4 : BitVec 32) (k0_hw1 : k0_chk1 v4), (k0_dev63 v4) < nD := fun v4 k0_hw1 => k0_hw1.1.2.2.2.2.2.2.2.2.2.2.2.2.2.2.2.2.2.2.2.2.2.2.2.2.2.2.2.2.2.2.2
theorem k0_dev66_lt : ∀ (v4 : BitVec 32) (k0_hw1 : k0_chk1 v4), (k0_dev66 v4) < nD := fun v4 k0_hw1 => k0_hw1.2.1
theorem k0_dev67_lt : ∀ (v4 : BitVec 32) (k0_hw1 : k0_chk1 v4), (k0_dev67 v4) < nD := fun v4 k0_hw1 => k0_hw1.2.2.1
theorem k0_dev70_lt : ∀ (v4 : BitVec 32) (k0_hw1 : k0_chk1 v4), (k0_dev70 v4) < nD := fun v4 k0_hw1 => k0_hw1.2.2.2.1
theorem k0_dev71_lt : ∀ (v4 : BitVec 32) (k0_hw1 : k0_chk1 v4), (k0_dev71 v4) < nD := fun v4 k0_hw1 => k0_hw1.2.2.2.2.1
theorem k0_dev74_lt : ∀ (v4 : BitVec 32) (k0_hw1 : k0_chk1 v4), (k0_dev74 v4) < nD := fun v4 k0_hw1 => k0_hw1.2.2.2.2.2.1
theorem k0_dev75_lt : ∀ (v4 : BitVec 32) (k0_hw1 : k0_chk1 v4), (k0_dev75 v4) < nD := fun v4 k0_hw1 => k0_hw1.2.2.2.2.2.2.1
theorem k0_dev78_lt : ∀ (v4 : BitVec 32) (k0_hw1 : k0_chk1 v4), (k0_dev78 v4) < nD := fun v4 k0_hw1 => k0_hw1.2.2.2.2.2.2.2.1
theorem k0_dev79_lt : ∀ (v4 : BitVec 32) (k0_hw1 : k0_chk1 v4), (k0_dev79 v4) < nD := fun v4 k0_hw1 => k0_hw1.2.2.2.2.2.2.2.2.1
theorem k0_dev82_lt : ∀ (v4 : BitVec 32) (k0_hw1 : k0_chk1 v4), (k0_dev82 v4) < nD := fun v4 k0_hw1 => k0_hw1.2.2.2.2.2.2.2.2.2.1
theorem k0_dev83_lt : ∀ (v4 : BitVec 32) (k0_hw1 : k0_chk1 v4), (k0_dev83 v4) < nD := fun v4 k0_hw1 => k0_hw1.2.2.2.2.2.2.2.2.2.2.1
theorem k0_dev86_lt : ∀ (v4 : BitVec 32) (k0_hw1 : k0_chk1 v4), (k0_dev86 v4) < nD := fun v4 k0_hw1 => k0_hw1.2.2.2.2.2.2.2.2.2.2.2.1
theorem k0_dev87_lt : ∀ (v4 : BitVec 32) (k0_hw1 : k0_chk1 v4), (k0_dev87 v4) < nD := fun v4 k0_hw1 => k0_hw1.2.2.2.2.2.2.2.2.2.2.2.2.1
theorem k0_dev90_lt : ∀ (v4 : BitVec 32) (k0_hw1 : k0_chk1 v4), (k0_dev90 v4) < nD := fun v4 k0_hw1 => k0_hw1.2.2.2.2.2.2.2.2.2.2.2.2.2.1
theorem k0_dev91_lt : ∀ (v4 : BitVec 32) (k0_hw1 : k0_chk1 v4), (k0_dev91 v4) < nD := fun v4 k0_hw1 => k0_hw1.2.2.2.2.2.2.2.2.2.2.2.2.2.2.1
theorem k0_dev94_lt : ∀ (v4 : BitVec 32) (k0_hw1 : k0_chk1 v4), (k0_dev94 v4) < nD := fun v4 k0_hw1 => k0_hw1.2.2.2.2.2.2.2.2.2.2.2.2.2.2.2.1
theorem k0_dev95_lt : ∀ (v4 : BitVec 32) (k0_hw1 : k0_chk1 v4), (k0_dev95 v4) < nD := fun v4 k0_hw1 => k0_hw1.2.2.2.2.2.2.2.2.2.2.2.2.2.2.2.2.1
theorem k0_dev98_lt : ∀ (v4 : BitVec 32) (k0_hw1 : k0_chk1 v4), (k0_dev98 v4) < nD := fun v4 k0_hw1 => k0_hw1.2.2.2.2.2.2.2.2.2.2.2.2.2.2.2.2.2.1
theorem k0_dev99_lt : ∀ (v4 : BitVec 32) (k0_hw1 : k0_chk1 v4), (k0_dev99 v4) < nD := fun v4 k0_hw1 => k0_hw1.2.2.2.2.2.2.2.2.2.2.2.2.2.2.2.2.2.2.1
theorem k0_dev102_lt : ∀ (v4 : BitVec 32) (k0_hw1 : k0_chk1 v4), (k0_dev102 v4) < nD := fun v4 k0_hw1 => k0_hw1.2.2.2.2.2.2.2.2.2.2.2.2.2.2.2.2.2.2.2.1
theorem k0_dev103_lt : ∀ (v4 : BitVec 32) (k0_hw1 : k0_chk1 v4), (k0_dev103 v4) < nD := fun v4 k0_hw1 => k0_hw1.2.2.2.2.2.2.2.2.2.2.2.2.2.2.2.2.2.2.2.2.1
theorem k0_dev106_lt : ∀ (v4 : BitVec 32) (k0_hw1 : k0_chk1 v4), (k0_dev106 v4) < nD := fun v4 k0_hw1 => k0_hw1.2.2.2.2.2.2.2.2.2.2.2.2.2.2.2.2.2.2.2.2.2.1
theorem k0_dev107_lt : ∀ (v4 : BitVec 32) (k0_hw1 : k0_chk1 v4), (k0_dev107 v4) < nD := fun v4 k0_hw1 => k0_hw1.2.2.2.2.2.2.2.2.2.2.2.2.2.2.2.2.2.2.2.2.2.2.1
theorem k0_dev110_lt : ∀ (v4 : BitVec 32) (k0_hw1 : k0_chk1 v4), (k0_dev110 v4) < nD := fun v4 k0_hw1 => k0_hw1.2.2.2.2.2.2.2.2.2.2.2.2.2.2.2.2.2.2.2.2.2.2.2.1
theorem k0_dev111_lt : ∀ (v4 : BitVec 32) (k0_hw1 : k0_chk1 v4), (k0_dev111 v4) < nD := fun v4 k0_hw1 => k0_hw1.2.2.2.2.2.2.2.2.2.2.2.2.2.2.2.2.2.2.2.2.2.2.2.2.1
theorem k0_dev114_lt : ∀ (v4 : BitVec 32) (k0_hw1 : k0_chk1 v4), (k0_dev114 v4) < nD := fun v4 k0_hw1 => k0_hw1.2.2.2.2.2.2.2.2.2.2.2.2.2.2.2.2.2.2.2.2.2.2.2.2.2.1
theorem k0_dev115_lt : ∀ (v4 : BitVec 32) (k0_hw1 : k0_chk1 v4), (k0_dev115 v4) < nD := fun v4 k0_hw1 => k0_hw1.2.2.2.2.2.2.2.2.2.2.2.2.2.2.2.2.2.2.2.2.2.2.2.2.2.2.1
theorem k0_dev118_lt : ∀ (v4 : BitVec 32) (k0_hw1 : k0_chk1 v4), (k0_dev118 v4) < nD := fun v4 k0_hw1 => k0_hw1.2.2.2.2.2.2.2.2.2.2.2.2.2.2.2.2.2.2.2.2.2.2.2.2.2.2.2.1
theorem k0_dev120_lt : ∀ (v4 : BitVec 32) (k0_hw1 : k0_chk1 v4), (k0_dev120 v4) < nD := fun v4 k0_hw1 => k0_hw1.2.2.2.2.2.2.2.2.2.2.2.2.2.2.2.2.2.2.2.2.2.2.2.2.2.2.2.2

def k0_off62 (v2585 : BitVec 32) : Fin 2 → Nat :=
  let c128_i32_2767 : BitVec 32 := 128#32
  let v2590 : BitVec 32 := Scalar.muli v2585 c128_i32_2767
  let c64_i32_2768 : BitVec 32 := 64#32
  let v2591 : BitVec 32 := Scalar.addi v2590 c64_i32_2768
  let v2592 : Index := Scalar.indexCast v2591
  let c0_2769 : Index := 0#32
  ![v2592.toNat, 0]

def k0_chk64 (v2585 : BitVec 32) : Prop :=
  (∀ a, (k0_off62 v2585) a + S64x256.size a ≤ S4096x256.size a)
theorem k0_off62_inb : ∀ (v2585 : BitVec 32) (k0_hw64 : k0_chk64 v2585), ∀ a, (k0_off62 v2585) a + S64x256.size a ≤ S4096x256.size a := fun v2585 k0_hw64 => k0_hw64

def k0_off63 (v2615 : BitVec 32) : Fin 2 → Nat :=
  let c128_i32_2797 : BitVec 32 := 128#32
  let v2620 : BitVec 32 := Scalar.muli v2615 c128_i32_2797
  let c0_i32_2798 : BitVec 32 := 0#32
  let v2621 : BitVec 32 := Scalar.addi v2620 c0_i32_2798
  let v2622 : Index := Scalar.indexCast v2621
  let c0_2799 : Index := 0#32
  ![v2622.toNat, 0]

def k0_chk65 (v2615 : BitVec 32) : Prop :=
  (∀ a, (k0_off63 v2615) a + S64x256.size a ≤ S4096x256.size a)
theorem k0_off63_inb : ∀ (v2615 : BitVec 32) (k0_hw65 : k0_chk65 v2615), ∀ a, (k0_off63 v2615) a + S64x256.size a ≤ S4096x256.size a := fun v2615 k0_hw65 => k0_hw65

def k0_off64 (v2645 : BitVec 32) : Fin 2 → Nat :=
  let c128_i32_2828 : BitVec 32 := 128#32
  let v2650 : BitVec 32 := Scalar.muli v2645 c128_i32_2828
  let c64_i32_2829 : BitVec 32 := 64#32
  let v2651 : BitVec 32 := Scalar.addi v2650 c64_i32_2829
  let v2652 : Index := Scalar.indexCast v2651
  let c0_2830 : Index := 0#32
  ![v2652.toNat, 0]

def k0_chk66 (v2645 : BitVec 32) : Prop :=
  (∀ a, (k0_off64 v2645) a + S64x256.size a ≤ S4096x256.size a)
theorem k0_off64_inb : ∀ (v2645 : BitVec 32) (k0_hw66 : k0_chk66 v2645), ∀ a, (k0_off64 v2645) a + S64x256.size a ≤ S4096x256.size a := fun v2645 k0_hw66 => k0_hw66

def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_2839 : BitVec 32 := 0#32
  let c0_i32_2840 : BitVec 32 := 0#32
  ![v2.toNat, 0, 0]
def k0_dev121 (d0 : Dev nD) : Nat :=
  let c0_i32_2838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2834 : BitVec 32 := 1#32
  let v2663 : BitVec 32 := Scalar.addi v2 c1_i32_2834
  let c32_i32_2835 : BitVec 32 := 32#32
  let v2664 : BitVec 32 := Scalar.remsi v2663 c32_i32_2835
  let c1_i32_2837 : BitVec 32 := 1#32
  let v2665 : BitVec 32 := Scalar.muli v2664 c1_i32_2837
  let v2666 : BitVec 32 := Scalar.addi c0_i32_2838 v2665
  v2666.toNat
def k0_dev122 (d0 : Dev nD) : Nat :=
  let c0_i32_2845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2841 : BitVec 32 := 2#32
  let v2671 : BitVec 32 := Scalar.addi v2 c2_i32_2841
  let c32_i32_2842 : BitVec 32 := 32#32
  let v2672 : BitVec 32 := Scalar.remsi v2671 c32_i32_2842
  let c1_i32_2844 : BitVec 32 := 1#32
  let v2673 : BitVec 32 := Scalar.muli v2672 c1_i32_2844
  let v2674 : BitVec 32 := Scalar.addi c0_i32_2845 v2673
  v2674.toNat
def k0_dev123 (d0 : Dev nD) : Nat :=
  let c0_i32_2852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2848 : BitVec 32 := 3#32
  let v2679 : BitVec 32 := Scalar.addi v2 c3_i32_2848
  let c32_i32_2849 : BitVec 32 := 32#32
  let v2680 : BitVec 32 := Scalar.remsi v2679 c32_i32_2849
  let c1_i32_2851 : BitVec 32 := 1#32
  let v2681 : BitVec 32 := Scalar.muli v2680 c1_i32_2851
  let v2682 : BitVec 32 := Scalar.addi c0_i32_2852 v2681
  v2682.toNat
def k0_dev124 (d0 : Dev nD) : Nat :=
  let c0_i32_2859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2855 : BitVec 32 := 4#32
  let v2687 : BitVec 32 := Scalar.addi v2 c4_i32_2855
  let c32_i32_2856 : BitVec 32 := 32#32
  let v2688 : BitVec 32 := Scalar.remsi v2687 c32_i32_2856
  let c1_i32_2858 : BitVec 32 := 1#32
  let v2689 : BitVec 32 := Scalar.muli v2688 c1_i32_2858
  let v2690 : BitVec 32 := Scalar.addi c0_i32_2859 v2689
  v2690.toNat
def k0_dev125 (d0 : Dev nD) : Nat :=
  let c0_i32_2866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2862 : BitVec 32 := 5#32
  let v2695 : BitVec 32 := Scalar.addi v2 c5_i32_2862
  let c32_i32_2863 : BitVec 32 := 32#32
  let v2696 : BitVec 32 := Scalar.remsi v2695 c32_i32_2863
  let c1_i32_2865 : BitVec 32 := 1#32
  let v2697 : BitVec 32 := Scalar.muli v2696 c1_i32_2865
  let v2698 : BitVec 32 := Scalar.addi c0_i32_2866 v2697
  v2698.toNat
def k0_dev126 (d0 : Dev nD) : Nat :=
  let c0_i32_2872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v2703 : BitVec 32 := Scalar.addi v2 c6_i32
  let c32_i32_2869 : BitVec 32 := 32#32
  let v2704 : BitVec 32 := Scalar.remsi v2703 c32_i32_2869
  let c1_i32_2871 : BitVec 32 := 1#32
  let v2705 : BitVec 32 := Scalar.muli v2704 c1_i32_2871
  let v2706 : BitVec 32 := Scalar.addi c0_i32_2872 v2705
  v2706.toNat
def k0_dev127 (d0 : Dev nD) : Nat :=
  let c0_i32_2878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v2711 : BitVec 32 := Scalar.addi v2 c7_i32
  let c32_i32_2875 : BitVec 32 := 32#32
  let v2712 : BitVec 32 := Scalar.remsi v2711 c32_i32_2875
  let c1_i32_2877 : BitVec 32 := 1#32
  let v2713 : BitVec 32 := Scalar.muli v2712 c1_i32_2877
  let v2714 : BitVec 32 := Scalar.addi c0_i32_2878 v2713
  v2714.toNat
def k0_dev128 (d0 : Dev nD) : Nat :=
  let c0_i32_2884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v2719 : BitVec 32 := Scalar.addi v2 c8_i32
  let c32_i32_2881 : BitVec 32 := 32#32
  let v2720 : BitVec 32 := Scalar.remsi v2719 c32_i32_2881
  let c1_i32_2883 : BitVec 32 := 1#32
  let v2721 : BitVec 32 := Scalar.muli v2720 c1_i32_2883
  let v2722 : BitVec 32 := Scalar.addi c0_i32_2884 v2721
  v2722.toNat
def k0_dev129 (d0 : Dev nD) : Nat :=
  let c0_i32_2890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v2727 : BitVec 32 := Scalar.addi v2 c9_i32
  let c32_i32_2887 : BitVec 32 := 32#32
  let v2728 : BitVec 32 := Scalar.remsi v2727 c32_i32_2887
  let c1_i32_2889 : BitVec 32 := 1#32
  let v2729 : BitVec 32 := Scalar.muli v2728 c1_i32_2889
  let v2730 : BitVec 32 := Scalar.addi c0_i32_2890 v2729
  v2730.toNat
def k0_dev130 (d0 : Dev nD) : Nat :=
  let c0_i32_2896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v2735 : BitVec 32 := Scalar.addi v2 c10_i32
  let c32_i32_2893 : BitVec 32 := 32#32
  let v2736 : BitVec 32 := Scalar.remsi v2735 c32_i32_2893
  let c1_i32_2895 : BitVec 32 := 1#32
  let v2737 : BitVec 32 := Scalar.muli v2736 c1_i32_2895
  let v2738 : BitVec 32 := Scalar.addi c0_i32_2896 v2737
  v2738.toNat
def k0_dev131 (d0 : Dev nD) : Nat :=
  let c0_i32_2902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v2743 : BitVec 32 := Scalar.addi v2 c11_i32
  let c32_i32_2899 : BitVec 32 := 32#32
  let v2744 : BitVec 32 := Scalar.remsi v2743 c32_i32_2899
  let c1_i32_2901 : BitVec 32 := 1#32
  let v2745 : BitVec 32 := Scalar.muli v2744 c1_i32_2901
  let v2746 : BitVec 32 := Scalar.addi c0_i32_2902 v2745
  v2746.toNat
def k0_dev132 (d0 : Dev nD) : Nat :=
  let c0_i32_2908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v2751 : BitVec 32 := Scalar.addi v2 c12_i32
  let c32_i32_2905 : BitVec 32 := 32#32
  let v2752 : BitVec 32 := Scalar.remsi v2751 c32_i32_2905
  let c1_i32_2907 : BitVec 32 := 1#32
  let v2753 : BitVec 32 := Scalar.muli v2752 c1_i32_2907
  let v2754 : BitVec 32 := Scalar.addi c0_i32_2908 v2753
  v2754.toNat
def k0_dev133 (d0 : Dev nD) : Nat :=
  let c0_i32_2914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v2759 : BitVec 32 := Scalar.addi v2 c13_i32
  let c32_i32_2911 : BitVec 32 := 32#32
  let v2760 : BitVec 32 := Scalar.remsi v2759 c32_i32_2911
  let c1_i32_2913 : BitVec 32 := 1#32
  let v2761 : BitVec 32 := Scalar.muli v2760 c1_i32_2913
  let v2762 : BitVec 32 := Scalar.addi c0_i32_2914 v2761
  v2762.toNat
def k0_dev134 (d0 : Dev nD) : Nat :=
  let c0_i32_2920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v2767 : BitVec 32 := Scalar.addi v2 c14_i32
  let c32_i32_2917 : BitVec 32 := 32#32
  let v2768 : BitVec 32 := Scalar.remsi v2767 c32_i32_2917
  let c1_i32_2919 : BitVec 32 := 1#32
  let v2769 : BitVec 32 := Scalar.muli v2768 c1_i32_2919
  let v2770 : BitVec 32 := Scalar.addi c0_i32_2920 v2769
  v2770.toNat
def k0_dev135 (d0 : Dev nD) : Nat :=
  let c0_i32_2926 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v2775 : BitVec 32 := Scalar.addi v2 c15_i32
  let c32_i32_2923 : BitVec 32 := 32#32
  let v2776 : BitVec 32 := Scalar.remsi v2775 c32_i32_2923
  let c1_i32_2925 : BitVec 32 := 1#32
  let v2777 : BitVec 32 := Scalar.muli v2776 c1_i32_2925
  let v2778 : BitVec 32 := Scalar.addi c0_i32_2926 v2777
  v2778.toNat
def k0_dev136 (d0 : Dev nD) : Nat :=
  let c0_i32_2932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v2783 : BitVec 32 := Scalar.addi v2 c16_i32
  let c32_i32_2929 : BitVec 32 := 32#32
  let v2784 : BitVec 32 := Scalar.remsi v2783 c32_i32_2929
  let c1_i32_2931 : BitVec 32 := 1#32
  let v2785 : BitVec 32 := Scalar.muli v2784 c1_i32_2931
  let v2786 : BitVec 32 := Scalar.addi c0_i32_2932 v2785
  v2786.toNat
def k0_dev137 (d0 : Dev nD) : Nat :=
  let c0_i32_2938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v2791 : BitVec 32 := Scalar.addi v2 c17_i32
  let c32_i32_2935 : BitVec 32 := 32#32
  let v2792 : BitVec 32 := Scalar.remsi v2791 c32_i32_2935
  let c1_i32_2937 : BitVec 32 := 1#32
  let v2793 : BitVec 32 := Scalar.muli v2792 c1_i32_2937
  let v2794 : BitVec 32 := Scalar.addi c0_i32_2938 v2793
  v2794.toNat
def k0_dev138 (d0 : Dev nD) : Nat :=
  let c0_i32_2944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v2799 : BitVec 32 := Scalar.addi v2 c18_i32
  let c32_i32_2941 : BitVec 32 := 32#32
  let v2800 : BitVec 32 := Scalar.remsi v2799 c32_i32_2941
  let c1_i32_2943 : BitVec 32 := 1#32
  let v2801 : BitVec 32 := Scalar.muli v2800 c1_i32_2943
  let v2802 : BitVec 32 := Scalar.addi c0_i32_2944 v2801
  v2802.toNat
def k0_dev139 (d0 : Dev nD) : Nat :=
  let c0_i32_2950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v2807 : BitVec 32 := Scalar.addi v2 c19_i32
  let c32_i32_2947 : BitVec 32 := 32#32
  let v2808 : BitVec 32 := Scalar.remsi v2807 c32_i32_2947
  let c1_i32_2949 : BitVec 32 := 1#32
  let v2809 : BitVec 32 := Scalar.muli v2808 c1_i32_2949
  let v2810 : BitVec 32 := Scalar.addi c0_i32_2950 v2809
  v2810.toNat
def k0_dev140 (d0 : Dev nD) : Nat :=
  let c0_i32_2956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v2815 : BitVec 32 := Scalar.addi v2 c20_i32
  let c32_i32_2953 : BitVec 32 := 32#32
  let v2816 : BitVec 32 := Scalar.remsi v2815 c32_i32_2953
  let c1_i32_2955 : BitVec 32 := 1#32
  let v2817 : BitVec 32 := Scalar.muli v2816 c1_i32_2955
  let v2818 : BitVec 32 := Scalar.addi c0_i32_2956 v2817
  v2818.toNat
def k0_dev141 (d0 : Dev nD) : Nat :=
  let c0_i32_2962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v2823 : BitVec 32 := Scalar.addi v2 c21_i32
  let c32_i32_2959 : BitVec 32 := 32#32
  let v2824 : BitVec 32 := Scalar.remsi v2823 c32_i32_2959
  let c1_i32_2961 : BitVec 32 := 1#32
  let v2825 : BitVec 32 := Scalar.muli v2824 c1_i32_2961
  let v2826 : BitVec 32 := Scalar.addi c0_i32_2962 v2825
  v2826.toNat
def k0_dev142 (d0 : Dev nD) : Nat :=
  let c0_i32_2968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v2831 : BitVec 32 := Scalar.addi v2 c22_i32
  let c32_i32_2965 : BitVec 32 := 32#32
  let v2832 : BitVec 32 := Scalar.remsi v2831 c32_i32_2965
  let c1_i32_2967 : BitVec 32 := 1#32
  let v2833 : BitVec 32 := Scalar.muli v2832 c1_i32_2967
  let v2834 : BitVec 32 := Scalar.addi c0_i32_2968 v2833
  v2834.toNat
def k0_dev143 (d0 : Dev nD) : Nat :=
  let c0_i32_2974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v2839 : BitVec 32 := Scalar.addi v2 c23_i32
  let c32_i32_2971 : BitVec 32 := 32#32
  let v2840 : BitVec 32 := Scalar.remsi v2839 c32_i32_2971
  let c1_i32_2973 : BitVec 32 := 1#32
  let v2841 : BitVec 32 := Scalar.muli v2840 c1_i32_2973
  let v2842 : BitVec 32 := Scalar.addi c0_i32_2974 v2841
  v2842.toNat
def k0_dev144 (d0 : Dev nD) : Nat :=
  let c0_i32_2980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v2847 : BitVec 32 := Scalar.addi v2 c24_i32
  let c32_i32_2977 : BitVec 32 := 32#32
  let v2848 : BitVec 32 := Scalar.remsi v2847 c32_i32_2977
  let c1_i32_2979 : BitVec 32 := 1#32
  let v2849 : BitVec 32 := Scalar.muli v2848 c1_i32_2979
  let v2850 : BitVec 32 := Scalar.addi c0_i32_2980 v2849
  v2850.toNat
def k0_dev145 (d0 : Dev nD) : Nat :=
  let c0_i32_2986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v2855 : BitVec 32 := Scalar.addi v2 c25_i32
  let c32_i32_2983 : BitVec 32 := 32#32
  let v2856 : BitVec 32 := Scalar.remsi v2855 c32_i32_2983
  let c1_i32_2985 : BitVec 32 := 1#32
  let v2857 : BitVec 32 := Scalar.muli v2856 c1_i32_2985
  let v2858 : BitVec 32 := Scalar.addi c0_i32_2986 v2857
  v2858.toNat
def k0_dev146 (d0 : Dev nD) : Nat :=
  let c0_i32_2992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v2863 : BitVec 32 := Scalar.addi v2 c26_i32
  let c32_i32_2989 : BitVec 32 := 32#32
  let v2864 : BitVec 32 := Scalar.remsi v2863 c32_i32_2989
  let c1_i32_2991 : BitVec 32 := 1#32
  let v2865 : BitVec 32 := Scalar.muli v2864 c1_i32_2991
  let v2866 : BitVec 32 := Scalar.addi c0_i32_2992 v2865
  v2866.toNat
def k0_dev147 (d0 : Dev nD) : Nat :=
  let c0_i32_2998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v2871 : BitVec 32 := Scalar.addi v2 c27_i32
  let c32_i32_2995 : BitVec 32 := 32#32
  let v2872 : BitVec 32 := Scalar.remsi v2871 c32_i32_2995
  let c1_i32_2997 : BitVec 32 := 1#32
  let v2873 : BitVec 32 := Scalar.muli v2872 c1_i32_2997
  let v2874 : BitVec 32 := Scalar.addi c0_i32_2998 v2873
  v2874.toNat
def k0_dev148 (d0 : Dev nD) : Nat :=
  let c0_i32_3004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v2879 : BitVec 32 := Scalar.addi v2 c28_i32
  let c32_i32_3001 : BitVec 32 := 32#32
  let v2880 : BitVec 32 := Scalar.remsi v2879 c32_i32_3001
  let c1_i32_3003 : BitVec 32 := 1#32
  let v2881 : BitVec 32 := Scalar.muli v2880 c1_i32_3003
  let v2882 : BitVec 32 := Scalar.addi c0_i32_3004 v2881
  v2882.toNat
def k0_dev149 (d0 : Dev nD) : Nat :=
  let c0_i32_3010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v2887 : BitVec 32 := Scalar.addi v2 c29_i32
  let c32_i32_3007 : BitVec 32 := 32#32
  let v2888 : BitVec 32 := Scalar.remsi v2887 c32_i32_3007
  let c1_i32_3009 : BitVec 32 := 1#32
  let v2889 : BitVec 32 := Scalar.muli v2888 c1_i32_3009
  let v2890 : BitVec 32 := Scalar.addi c0_i32_3010 v2889
  v2890.toNat
def k0_dev150 (d0 : Dev nD) : Nat :=
  let c0_i32_3016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v2895 : BitVec 32 := Scalar.addi v2 c30_i32
  let c32_i32_3013 : BitVec 32 := 32#32
  let v2896 : BitVec 32 := Scalar.remsi v2895 c32_i32_3013
  let c1_i32_3015 : BitVec 32 := 1#32
  let v2897 : BitVec 32 := Scalar.muli v2896 c1_i32_3015
  let v2898 : BitVec 32 := Scalar.addi c0_i32_3016 v2897
  v2898.toNat
def k0_dev151 (d0 : Dev nD) : Nat :=
  let c0_i32_3022 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v2903 : BitVec 32 := Scalar.addi v2 c31_i32
  let c32_i32_3019 : BitVec 32 := 32#32
  let v2904 : BitVec 32 := Scalar.remsi v2903 c32_i32_3019
  let c1_i32_3021 : BitVec 32 := 1#32
  let v2905 : BitVec 32 := Scalar.muli v2904 c1_i32_3021
  let v2906 : BitVec 32 := Scalar.addi c0_i32_3022 v2905
  v2906.toNat
abbrev stage0_0 : Fin 1 → Memref sig .tc .smem S39 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Prog.lean ====
/-
The kernel body written with its loops: one definition for what a hop does in one direction and one
half, one for a block's product, one for each pass over the 31 peers. `body_eq` says the printed
body is this program; the later modules prove each definition once.
-/
module

public import proofs.«01_k».proof.Proof.Gen.KernelIdeal.Skeleton
public import proofs.«01_k».proof.Proof.Gen.KernelIdeal.Points
import Mathlib.Tactic.IntervalCases

@[expose] public section

noncomputable section

namespace Cert.KernelIdeal.Own

open Idealize.ShloMosaic Idealize.SL Idealize.SL.Sem
open Gen

variable {F : FTy → Type} [FloatOps F]

/-- Programs of this kernel's core that return nothing. -/
abbrev Pr (F : FTy → Type) := Prog (TpuEff nD τ sig (Elt F) Λ₀ .tc) PUnit

/-! ## The operands, by direction (`true`: to the successor) and half -/

/-- The chunk buffer of a direction: three slots of two halves. -/
abbrev cm (b : Bool) : Memref sig .tc .vmem S6x64x4096 .bf16 :=
  match b with
  | true => Memref.whole cc0_scratch1
  | false => Memref.whole cc0_scratch6

theorem cm_whole (b : Bool) : (cm b).IsWhole := by cases b <;> exact Memref.isWhole_whole _

/-- The semaphores of a direction's sends. -/
abbrev sendA (b : Bool) : DmaSems sig S6 :=
  match b with
  | true => cc0_scratch2
  | false => cc0_scratch7

/-- The semaphores of a direction's arrivals. -/
abbrev recvA (b : Bool) : DmaSems sig S6 :=
  match b with
  | true => cc0_scratch3
  | false => cc0_scratch8

/-- The credits of a direction and half. -/
abbrev credA (b : Bool) (u : Fin 2) : Sems sig S_ :=
  match b, u with
  | true, 0 => cc0_scratch4
  | true, 1 => cc0_scratch5
  | false, 0 => cc0_scratch9
  | false, 1 => cc0_scratch10

/-- Half `k` of the chunk buffer lies in it. -/
theorem inbC (k : ℕ) (hk : k < 6) : ∀ a, (![k, 0, 0] : Fin 3 → ℕ) a + S1x64x4096.size a ≤ S6x64x4096.size a := by
  interval_cases k <;> decide

/-- The rectangle of half `k` of a chunk buffer. -/
abbrev rectC (k : ℕ) (hk : k < 6) : Rect S6x64x4096 :=
  Rect.unit (s := S6x64x4096) ![k, 0, 0] S1x64x4096.size (inbC k hk)

/-- That rectangle covers whole words. -/
theorem wordsC (k : ℕ) (hk : k < 6) : (rectC k hk).WholeWords (EltTy.packing .bf16) := by
  interval_cases k
  · exact wordsbf16_S6x64x4096_S1x64x4096_0_0_0
  · exact wordsbf16_S6x64x4096_S1x64x4096_1_0_0
  · exact wordsbf16_S6x64x4096_S1x64x4096_2_0_0
  · exact wordsbf16_S6x64x4096_S1x64x4096_3_0_0
  · exact wordsbf16_S6x64x4096_S1x64x4096_4_0_0
  · exact wordsbf16_S6x64x4096_S1x64x4096_5_0_0

/-- Half `k` of direction `b`'s buffer, as the copies name it. -/
abbrev half (b : Bool) (k : ℕ) (hk : k < 6) : Memref sig .tc .vmem S64x4096 .bf16 :=
  ((cm b).slice (rectC k hk) (fun _ => rfl)).squeeze S64x4096 squeezes_S1x64x4096_S64x4096

theorem half_exact (b : Bool) (k : ℕ) (hk : k < 6) : (half b k hk).view.WordExact :=
  ((cm_whole b).wordExact_slice rfl _ (wordsC k hk)).reshape _ _

theorem inb6 (k : ℕ) (hk : k < 6) : ∀ a, (![k] : Fin 1 → ℕ) a + S1.size a ≤ S6.size a := by
  interval_cases k <;> decide

/-- Semaphore `k` of an array of six. -/
abbrev sem6 (A : DmaSems sig S6) (k : ℕ) (hk : k < 6) : DmaSem sig :=
  ((A.slice (Rect.unit (s := S6) ![k] S1.size (inb6 k hk))).squeeze S_ squeezes_S1_S_).sem

theorem inb31 (k : ℕ) (hk : k < 31) : ∀ a, (![k] : Fin 1 → ℕ) a + S1.size a ≤ S31.size a := by
  interval_cases k <;> decide

/-- Semaphore `k` of the sends of the maximum. -/
abbrev sem31 (k : ℕ) (hk : k < 31) : DmaSem sig :=
  ((cc0_scratch13.slice (Rect.unit (s := S31) ![k] S1.size (inb31 k hk))).squeeze S_ squeezes_S1_S_).sem

theorem inb39 (k : ℕ) (hk : k < 39) : ∀ a, (![k] : Fin 1 → ℕ) a + S1.size a ≤ S39.size a := by
  interval_cases k <;> decide

/-- Word `k` of the table. -/
abbrev tabAt (tb : Memref sig .tc .smem S39 .i32) (k : ℕ) (hk : k < 39) :
    Prog (TpuEff nD τ sig (Elt F) Λ₀ .tc) (Elt F .i32) :=
  smemLoad tb (Rect.unit (s := S39) ![k] S1.size (inb39 k hk)) numel1_S1 rfl

/-- Slot (of three) and half give the index into the chunk buffer. -/
abbrev slotOf (h : ℕ) (u : Fin 2) : ℕ := h % 3 * 2 + u.val

theorem slotOf_lt (h : ℕ) (u : Fin 2) : slotOf h u < 6 := by unfold slotOf; omega

/-- Half and slot give the index into a semaphore array. -/
abbrev semOf (h : ℕ) (u : Fin 2) : ℕ := u.val * 3 + h % 3

theorem semOf_lt (h : ℕ) (u : Fin 2) : semOf h u < 6 := by unfold semOf; omega

/-! ## What a block's product computes -/

/-- The rows of a half chunk times the weights, negative entries replaced with zero. -/
def yb (v : Vec F S1x64x4096 .bf16) (w : Vec F S4096x256 .bf16) : FVec F S64x256 .f32 :=
  k0_pay14 v w

/-- The running maximum with a block's entries. -/
def mstep (m : F .f32) (y : FVec F S64x256 .f32) : F .f32 :=
  Scalar.maximumf m (extractAt ![0, 0, 0] (shapeCast S1x1x1 (multiReduction .maximumf [1, 2] S1
    (shapeCast S1x64x256 y shapeCasts_S64x256_S1x64x256) 0xFF800000#32 reduces_S1x64x256_S1 (.inl rfl) rfl)
    shapeCasts_S1_S1x1x1) inpos_S1x1x1_p0_0_0)

/-- A table word names rows of the result. -/
abbrev chkRow (u : Fin 2) (w : Elt F .i32) : Prop :=
  match u with
  | 0 => k0_chk3 w
  | 1 => k0_chk4 w

abbrev chkRowDec (u : Fin 2) (w : Elt F .i32) : Decidable (chkRow (F := F) u w) :=
  match u with
  | 0 => k0_chk3.dec w
  | 1 => k0_chk4.dec w

/-- Where the block of the device a table word names begins in the result. -/
abbrev offRow (u : Fin 2) (w : Elt F .i32) : Fin 2 → ℕ :=
  match u with
  | 0 => k0_off1 w
  | 1 => k0_off2 w

theorem offRow_inb (u : Fin 2) (w : Elt F .i32) (h : chkRow (F := F) u w) :
    ∀ a, offRow (F := F) u w a + S64x256.size a ≤ S4096x256.size a :=
  match u, h with
  | 0, h => k0_off1_inb w h
  | 1, h => k0_off2_inb w h

section Body

variable (tb : Memref sig .tc .smem S39 .i32) (xm : Memref sig .tc .vmem S128x4096 .bf16)
  (wm : Memref sig .tc .vmem S4096x256 .bf16) (om : Memref sig .tc .vmem S4096x256 .f32)

/-- The product of half `u` of slot `h` of direction `b`'s buffer, stored at the rows of the
    device the table names at `i`; the running maximum goes on with it. -/
def gemm (b : Bool) (h : ℕ) (u : Fin 2) (i : ℕ) (hi : i < 39) (m : F .f32) (K : F .f32 → Pr F) : Pr F :=
  .op (.load (cm b) (rectC (slotOf h u) (slotOf_lt h u)).toLoadRect (View.loadsAt_vmem h_S1x64x4096)) fun v =>
  (tabAt tb i hi) >>= fun w =>
  .op (.assume (chkRow (F := F) u w) (chkRowDec u w)) fun hw =>
  .op (.load (Memref.whole cc0_scratch0) (Rect.unit (s := S4096x256) ![0, 0] S4096x256.size inb_S4096x256_S4096x256_0_0).toLoadRect (View.loadsAt_vmem h_S4096x256)) fun wv =>
  .op (.load om (Rect.unit (s := S4096x256) (offRow u w) S64x256.size (offRow_inb u w hw.down)).toLoadRect (View.loadsAt_vmem h_S64x256)) fun _ =>
  .op (.store om (Rect.unit (s := S4096x256) (offRow u w) S64x256.size (offRow_inb u w hw.down)) (yb v wv) Finset.univ (View.stores_vmem_bits_univ h_S64x256 rfl) (.inl rfl)) fun _ =>
  K (mstep m (yb v wv))

/-- Start the copy of hop `h`: slot `h` here to the next slot of the neighbour. -/
def start (nb : Bool → Dev nD) (b : Bool) (h : ℕ) (u : Fin 2) (K : Pr F) : Pr F :=
  .op (.enqueueDma (half b (slotOf h u) (slotOf_lt h u))
    (.remote (Dev.tc (nb b)) (half b (slotOf (h + 1) u) (slotOf_lt (h + 1) u)) (.dma (sem6 (sendA b) (semOf h u) (semOf_lt h u))))
    (.dma (sem6 (recvA b) (semOf (h + 1) u) (semOf_lt (h + 1) u)))
    (half_exact b _ _) (half_exact b _ _) ⟨⟨rfl, Or.inl rfl⟩, trivial⟩) fun _ => K

/-- Wait until the copy of hop `h` has left. -/
def waitSend (b : Bool) (h : ℕ) (u : Fin 2) (K : Pr F) : Pr F :=
  .op (.waitDma2 (sem6 (sendA b) (semOf h u) (semOf_lt h u)) (half b (slotOf (h + 1) u) (slotOf_lt (h + 1) u)) (half b (slotOf h u) (slotOf_lt h u))
    (half_exact b _ _) (half_exact b _ _)) fun _ => K

/-- Wait until the neighbour's copy of hop `h` has landed. -/
def waitRecv (b : Bool) (h : ℕ) (u : Fin 2) (K : Pr F) : Pr F :=
  .op (.waitDma2 (sem6 (recvA b) (semOf (h + 1) u) (semOf_lt (h + 1) u)) (half b (slotOf h u) (slotOf_lt h u)) (half b (slotOf (h + 1) u) (slotOf_lt (h + 1) u))
    (half_exact b _ _) (half_exact b _ _)) fun _ => K

/-- Wait for the neighbour's credit. -/
def waitCred (b : Bool) (u : Fin 2) (K : Pr F) : Pr F :=
  semWaitWord (credA b u).sem 1#32 >>= fun _ => K

/-- Give the neighbour behind the credit of a slot. -/
def sigCred (nb : Bool → Dev nD) (b : Bool) (u : Fin 2) (K : Pr F) : Pr F :=
  semSignalWord (nb (!b)) (credA b u).sem 1#32 >>= fun _ => K

/-- One direction of the middle hop `h`, from the wait for the send of the hop before. -/
def hopDir' (nb : Bool → Dev nD) (b : Bool) (h : ℕ) (u : Fin 2) (K : Pr F) : Pr F :=
  waitSend b h u <| sigCred nb b u <| waitRecv b h u <| start nb b (h + 1) u K

/-- One direction of hop `h + 1`: from the second on, first the credit. -/
def hopDir (nb : Bool → Dev nD) (b : Bool) (h : ℕ) (u : Fin 2) (K : Pr F) : Pr F :=
  match h with
  | 0 => hopDir' nb b 0 u K
  | h + 1 => waitCred b u <| hopDir' nb b (h + 1) u K

/-- Hop `h + 1` of half `u`: both directions, then both products. -/
def hopHalf (nb : Bool → Dev nD) (h : ℕ) (hh : h < 15) (u : Fin 2) (m : F .f32) (K : F .f32 → Pr F) : Pr F :=
  hopDir nb true h u <| hopDir nb false h u <|
  gemm tb om true (h + 1) u (7 + (h + 1)) (by omega) m fun m =>
  gemm tb om false (h + 1) u (24 + h) (by omega) m K

/-- Hops `h + 1`, `h + 2`, … (`n` of them), both halves of each. -/
def hops (nb : Bool → Dev nD) : (n h : ℕ) → (hh : h + n < 15) → F .f32 → (F .f32 → Pr F) → Pr F
  | 0, _, _, m, K => K m
  | n + 1, h, hh, m, K =>
    hopHalf tb om nb h (by omega) 0 m fun m =>
    hopHalf tb om nb h (by omega) 1 m fun m =>
    hops nb n (h + 1) (by omega) m K

/-- The last hop: each half goes on in one direction alone. -/
def lastHop (nb : Bool → Dev nD) (m : F .f32) (K : F .f32 → Pr F) : Pr F :=
  waitCred true 0 <| waitSend true 14 0 <| waitRecv true 14 0 <| start nb true 15 0 <|
  gemm tb om true 15 0 22 (by omega) m fun m =>
  waitCred true 1 <| waitSend true 14 1 <| waitRecv true 14 1 <|
  gemm tb om true 15 1 22 (by omega) m fun m =>
  waitCred false 0 <| waitSend false 14 0 <| waitRecv false 14 0 <|
  gemm tb om false 15 0 38 (by omega) m fun m =>
  waitCred false 1 <| waitSend false 14 1 <| waitRecv false 14 1 <| start nb false 15 1 <|
  gemm tb om false 15 1 38 (by omega) m fun m =>
  waitSend true 15 0 <| waitRecv true 15 0 <|
  gemm tb om true 16 0 23 (by omega) m fun m =>
  waitSend false 15 1 <| waitRecv false 15 1 <|
  gemm tb om false 16 1 23 (by omega) m K

/-! ## The exchange of the maxima -/

/-- The device `j + 1` places on, as the kernel computes it. -/
def peerN (d : Dev nD) (j : ℕ) : ℕ :=
  (Scalar.addi 0#32 (Scalar.muli (Scalar.remsi (Scalar.addi (Scalar.remsi (Scalar.divsi (Dev.word d) 1#32) 32#32)
    (BitVec.ofNat 32 (j + 1))) 32#32) 1#32)).toNat

theorem peerN_lt : ∀ (d : Dev nD) (j : ℕ), j < 31 → peerN d j < nD := by
  have h : ∀ (d : Fin 32) (j : Fin 31), peerN d j.val < 32 := by decide +kernel
  exact fun d j hj => h d ⟨j, hj⟩

/-- The place of device `d`'s maximum in every device's table of maxima. -/
abbrev mslot (d : Dev nD) : Memref sig .tc .vmem S8x128 .f32 :=
  ((Memref.whole cc0_scratch12).slice (Rect.unit (s := S32x8x128) (k0_off65 d) S1x8x128.size (k0_off65_inb d)) (fun _ => rfl)).squeeze
    S8x128 squeezes_S1x8x128_S8x128

theorem mslot_exact (d : Dev nD) : (mslot d).view.WordExact :=
  (View.wordExact_bits rfl).reshape _ _

theorem mx_exact : (Memref.whole cc0_scratch11).view.WordExact :=
  (Memref.isWhole_whole _).wordExact

/-- Send the maximum to the peers from the `j`-th on, `n` of them. -/
def mSends (d : Dev nD) : (n j : ℕ) → (hj : j + n ≤ 31) → Pr F → Pr F
  | 0, _, _, K => K
  | n + 1, j, hj, K =>
    .op (.enqueueDma (Memref.whole cc0_scratch11)
      (.remote (Dev.tc (⟨peerN d j, peerN_lt d j (by omega)⟩ : Dev nD)) (mslot d) (.dma (sem31 j (by omega))))
      (.dma cc0_scratch14.sem) mx_exact (mslot_exact d) ⟨⟨rfl, Or.inl rfl⟩, trivial⟩) fun _ =>
    mSends d n (j + 1) (by omega) K

/-- Wait for `n` arrivals. -/
def mRecvs (d : Dev nD) : (n : ℕ) → Pr F → Pr F
  | 0, K => K
  | n + 1, K =>
    .op (.waitDma2 cc0_scratch14.sem (Memref.whole cc0_scratch11) (mslot d) mx_exact (mslot_exact d)) fun _ =>
    mRecvs d n K

/-- Wait for the sends from the `j`-th on, `n` of them. -/
def mWaits (d : Dev nD) : (n j : ℕ) → (hj : j + n ≤ 31) → Pr F → Pr F
  | 0, _, _, K => K
  | n + 1, j, hj, K =>
    .op (.waitDma2 (sem31 j (by omega)) (mslot d) (Memref.whole cc0_scratch11) (mslot_exact d) mx_exact) fun _ =>
    mWaits d n (j + 1) (by omega) K

/-- The maximum and its quotient by 127, and the result's rewriting with it. -/
def finish (d : Dev nD) (m : F .f32) : Pr F :=
  .op (.load (Memref.whole cc0_scratch11) (Rect.unit (s := S8x128) ![0, 0] S8x128.size inb_S8x128_S8x128_0_0).toLoadRect (View.loadsAt_vmem h_S8x128)) fun _ =>
  .op (.store (Memref.whole cc0_scratch11) (Rect.unit (s := S8x128) ![0, 0] S8x128.size inb_S8x128_S8x128_0_0)
    (shapeCast S8x128 (broadcast S8x128 m) shapeCasts_S8x128_S8x128) Finset.univ (View.stores_vmem_bits_univ h_S8x128 rfl) (.inl rfl)) fun _ =>
  mSends d 31 0 (by omega) <| mRecvs d 31 <|
  .op (.load (Memref.whole cc0_scratch12) (Rect.unit (s := S32x8x128) ![0, 0, 0] S32x8x128.size inb_S32x8x128_S32x8x128_0_0_0).toLoadRect (View.loadsAt_vmem h_S32x8x128)) fun mv =>
  mWaits d 31 0 (by omega) <|
  .op (.load om (Rect.unit (s := S4096x256) ![0, 0] S4096x256.size inb_S4096x256_S4096x256_0_0).toLoadRect (View.loadsAt_vmem h_S4096x256)) fun y =>
  .op (.load om (Rect.unit (s := S4096x256) ![0, 0] S4096x256.size inb_S4096x256_S4096x256_0_0).toLoadRect (View.loadsAt_vmem h_S4096x256)) fun _ =>
  .op (.store om (Rect.unit (s := S4096x256) ![0, 0] S4096x256.size inb_S4096x256_S4096x256_0_0) (k0_pay1 (k0_pay147 (k0_pay146 m mv)) y) Finset.univ
    (View.stores_vmem_bits_univ h_S4096x256 rfl) (.inl rfl)) fun _ => .ret ⟨⟩

/-! ## The opening -/

/-- The two neighbours the table names. -/
abbrev nbs (v3 v4 : Elt F .i32) (h2 : k0_chk2 v3) (h1 : k0_chk1 v4) : Bool → Dev nD
  | true => ⟨k0_dev2 v3, k0_dev2_lt v3 h2⟩
  | false => ⟨k0_dev1 v4, k0_dev1_lt v4 h1⟩

theorem packedC (k : ℕ) (hk : k < 2) : (rectC k (by omega)).PackedRows (EltTy.packing .bf16) := by
  interval_cases k
  · exact packedbf16_S6x64x4096_S1x64x4096_0_0_0
  · exact packedbf16_S6x64x4096_S1x64x4096_1_0_0

/-- Put one half of the input into the first slot of a direction's buffer. -/
def fillC (b : Bool) (u : ℕ) (hu : u < 2) (pay : FVec F S1x64x4096 .bf16) (K : Pr F) : Pr F :=
  .op (.load (cm b) (rectC u (by omega)).toLoadRect (View.loadsAt_vmem h_S1x64x4096)) fun _ =>
  .op (.store (cm b) (rectC u (by omega)) pay Finset.univ
    (View.stores_vmem h_S1x64x4096 ((cm_whole b).storeExact_slice rfl _ (packedC u hu)) (fun _ => rfl)) (.inl rfl)) fun _ => K

/-- The body's work after the meeting of neighbours and the filling of the buffers. -/
def ring (d : Dev nD) (nb : Bool → Dev nD) : Pr F :=
  start nb true 0 0 <| start nb false 0 0 <| start nb true 0 1 <| start nb false 0 1 <|
  gemm tb om true 0 0 7 (by omega) (Scalar.ofBits .f32 0#32) fun m =>
  gemm tb om true 0 1 7 (by omega) m fun m =>
  hops tb om nb 14 0 (by omega) m fun m =>
  lastHop tb om nb m fun m =>
  finish om d m

/-- The fill of the buffers, and the ring. -/
def fill (d : Dev nD) (nb : Bool → Dev nD) : Pr F :=
  .op (.load (Memref.whole cc0_scratch12) (Rect.unit (s := S32x8x128) ![0, 0, 0] S32x8x128.size inb_S32x8x128_S32x8x128_0_0_0).toLoadRect (View.loadsAt_vmem h_S32x8x128)) fun _ =>
  .op (.store (Memref.whole cc0_scratch12) (Rect.unit (s := S32x8x128) ![0, 0, 0] S32x8x128.size inb_S32x8x128_S32x8x128_0_0_0) (k0_pay2 (F := F)) Finset.univ (View.stores_vmem_bits_univ h_S32x8x128 rfl) (.inl rfl)) fun _ =>
  .op (.load wm (Rect.unit (s := S4096x256) ![0, 0] S4096x256.size inb_S4096x256_S4096x256_0_0).toLoadRect (View.loadsAt_vmem h_S4096x256)) fun v14 =>
  .op (.load (Memref.whole cc0_scratch0) (Rect.unit (s := S4096x256) ![0, 0] S4096x256.size inb_S4096x256_S4096x256_0_0).toLoadRect (View.loadsAt_vmem h_S4096x256)) fun _ =>
  .op (.store (Memref.whole cc0_scratch0) (Rect.unit (s := S4096x256) ![0, 0] S4096x256.size inb_S4096x256_S4096x256_0_0) (k0_pay3 v14) Finset.univ
    (View.stores_vmem h_S4096x256 ((Memref.isWhole_whole _).storeExact_slice rfl _ packedbf16_S4096x256_S4096x256_0_0) (fun _ => rfl)) (.inl rfl)) fun _ =>
  .op (.load xm (Rect.unit (s := S128x4096) ![0, 0] S128x4096.size inb_S128x4096_S128x4096_0_0).toLoadRect (View.loadsAt_vmem h_S128x4096)) fun v19 =>
  fillC true 0 (by omega) (k0_pay6 v19) <| fillC false 0 (by omega) (k0_pay6 v19) <|
  fillC true 1 (by omega) (k0_pay9 (k0_pay4 v19)) <| fillC false 1 (by omega) (k0_pay9 (k0_pay4 v19)) <|
  ring tb om d nb

/-- The semaphore on which neighbours meet. -/
abbrev barA : Sems sig S_ := SemArray.scalar (sig.barrier 0 rfl)

/-- The whole body. -/
def body : Pr F :=
  .op .deviceId fun d =>
  tabAt tb 0 (by omega) >>= fun v3 =>
  .op (.assume (k0_chk2 v3) (k0_chk2.dec v3)) fun h2 =>
  tabAt tb 1 (by omega) >>= fun v4 =>
  .op (.assume (k0_chk1 v4) (k0_chk1.dec v4)) fun h1 =>
  semSignalWord (nbs v3 v4 h2.down h1.down false) barA.sem 1#32 >>= fun _ =>
  semSignalWord (nbs v3 v4 h2.down h1.down true) barA.sem 1#32 >>= fun _ =>
  semWaitWord barA.sem 2#32 >>= fun _ =>
  fill tb xm wm om d (nbs v3 v4 h2.down h1.down)

end Body

end Cert.KernelIdeal.Own

end
-- ==== Proof.Table.lean ====
/-
The ring of the 32 devices as the kernel's table of words gives it: a device's neighbours, the
device whose chunk a hop brings, and what the words name.
-/
module

public import proofs.«01_k».proof.Proof.Prog

@[expose] public section

noncomputable section

namespace Cert.KernelIdeal.Own

open Idealize.ShloMosaic Idealize.SL Idealize.SL.Sem
open Gen

/-- Word `k` of device `c`'s row of the table. -/
def tab (c : Dev nD) (k : ℕ) : BitVec 32 := lit0t (c.val * 39 + k)

theorem tab_lt : ∀ (c : Dev nD) (b : Bool), (tab c (if b then 0 else 1)).toNat < nD := by decide +kernel

/-- The neighbour of a direction: `true` the successor, `false` the predecessor. -/
def nbr (b : Bool) (c : Dev nD) : Dev nD := ⟨(tab c (if b then 0 else 1)).toNat, tab_lt c b⟩

theorem nbr_nbr' : ∀ (b : Bool) (c : Dev nD), nbr b (nbr (!b) c) = c := by decide +kernel

theorem nbr_nbr (b : Bool) (c : Dev nD) : nbr (!b) (nbr b c) = c := by
  have h := nbr_nbr' (!b) c
  rwa [Bool.not_not] at h

/-- A direction's neighbour map is a bijection. -/
def ringE (b : Bool) : Dev nD ≃ Dev nD := ⟨nbr b, nbr (!b), nbr_nbr b, nbr_nbr' b⟩

/-- The device `n` places against direction `b`: whose chunk slot `n` of that direction holds. -/
def orig (b : Bool) : ℕ → Dev nD → Dev nD
  | 0, c => c
  | n + 1, c => orig b n (nbr (!b) c)

theorem orig_succ (b : Bool) (n : ℕ) (c : Dev nD) : orig b (n + 1) c = orig b n (nbr (!b) c) := rfl

theorem orig_nbr (b : Bool) (n : ℕ) (c : Dev nD) : orig b (n + 1) (nbr b c) = orig b n c := by
  rw [orig_succ, nbr_nbr]

theorem tab_nb : ∀ (b : Bool) (c : Dev nD), tab c (if b then 0 else 1) = Dev.word (nbr b c) := by decide +kernel

/-- The word at `7 + n` names the `n`-th predecessor. -/
theorem tab_fwd : ∀ (n : Fin 17) (c : Dev nD), tab c (7 + n.val) = Dev.word (orig true n.val c) := by decide +kernel

/-- The word at `24 + n` names the successor number `n + 1`. -/
theorem tab_bwd : ∀ (n : Fin 15) (c : Dev nD), tab c (24 + n.val) = Dev.word (orig false (n.val + 1) c) := by decide +kernel

/-- Sixteen places on is sixteen places back. -/
theorem orig16 : ∀ c : Dev nD, orig true 16 c = orig false 16 c := by decide +kernel

/-- Every device is one of the sixteen before or the fifteen behind, or itself. -/
theorem orig_cover : ∀ c d : Dev nD, (∃ n : Fin 17, d = orig true n.val c) ∨ ∃ n : Fin 16, d = orig false n.val c := by decide +kernel

theorem chk2_nb : ∀ c : Dev nD, k0_chk2 (Dev.word c) := by decide +kernel
theorem chk1_nb : ∀ c : Dev nD, k0_chk1 (Dev.word c) := by decide +kernel
theorem dev2_word : ∀ c : Dev nD, k0_dev2 (Dev.word c) = c.val := by decide +kernel
theorem dev1_word : ∀ c : Dev nD, k0_dev1 (Dev.word c) = c.val := by decide +kernel

theorem chkRow_word {F : FTy → Type} : ∀ (u : Fin 2) (c : Dev nD), chkRow (F := F) u (Dev.word c) := by
  have h : ∀ c : Dev nD, k0_chk3 (Dev.word c) ∧ k0_chk4 (Dev.word c) := by decide +kernel
  intro u c
  match u with
  | 0 => exact (h c).1
  | 1 => exact (h c).2

/-- The block of device `c`'s half `u` begins at row `128 c + 64 u`. -/
theorem offRow_word {F : FTy → Type} : ∀ (u : Fin 2) (c : Dev nD), offRow (F := F) u (Dev.word c) = ![c.val * 128 + u.val * 64, 0] := by
  have h : ∀ c : Dev nD, k0_off1 (Dev.word c) = ![c.val * 128, 0] ∧ k0_off2 (Dev.word c) = ![c.val * 128 + 64, 0] := by decide +kernel
  intro u c
  match u with
  | 0 => exact (h c).1
  | 1 => exact (h c).2

/-- The neighbours the kernel computes from the table's words are the ring's. -/
theorem nbs_word {F : FTy → Type} (c : Dev nD) (h2 : k0_chk2 (tab c 0)) (h1 : k0_chk1 (tab c 1)) :
    nbs (F := F) (tab c 0) (tab c 1) h2 h1 = fun b => nbr b c := by
  funext b
  cases b
  · exact Fin.ext (by show k0_dev1 (tab c 1) = _; rw [show tab c 1 = _ from tab_nb false c, dev1_word])
  · exact Fin.ext (by show k0_dev2 (tab c 0) = _; rw [show tab c 0 = _ from tab_nb true c, dev2_word])

/-- The peer `j + 1` places on. -/
def peer (c : Dev nD) (j : ℕ) : Dev nD := ⟨(c.val + (j + 1)) % 32, Nat.mod_lt _ (by decide)⟩

theorem peerN_eq : ∀ (d : Dev nD) (j : ℕ), j < 31 → peerN d j = (peer d j).val := by
  have h : ∀ (d : Fin 32) (j : Fin 31), peerN d j.val = (d.val + (j.val + 1)) % 32 := by decide +kernel
  exact fun d j hj => h d ⟨j, hj⟩

/-- The device that has `c` as its peer `j`. -/
def peerInv (c : Dev nD) (j : ℕ) : Dev nD := ⟨(c.val + (31 - j)) % 32, Nat.mod_lt _ (by decide)⟩

theorem peer_peerInv (c : Dev nD) (j : ℕ) (hj : j < 31) : peer (peerInv c j) j = c := by
  apply Fin.ext
  have := c.isLt
  simp only [peer, peerInv, nD] at *
  omega

theorem peerInv_peer (c : Dev nD) (j : ℕ) (hj : j < 31) : peerInv (peer c j) j = c := by
  apply Fin.ext
  have := c.isLt
  simp only [peer, peerInv, nD] at *
  omega

theorem peer_ne (c : Dev nD) (j : ℕ) (hj : j < 31) : peer c j ≠ c := by
  intro h
  have := congrArg Fin.val h
  have := c.isLt
  simp only [peer, nD] at *
  omega

/-- Device `d`'s place in the table of maxima. -/
theorem off65_eq : ∀ d : Dev nD, k0_off65 d = ![d.val, 0, 0] := by decide +kernel

end Cert.KernelIdeal.Own

end
-- ==== Proof.Sched.lean ====
/-
The protocol between the devices: the semaphores' rounds, what each duty pays and hands over, the
order in which a device pays, and what follows for a wait.

- A hop's copy pays the sender's send cell (half of the source back) and the receiver's arrival cell
  (the filled slot, and the facts about the chunk's origin).
- A slot that has been sent on is released under a key of its own (Lib/Release.lean); the credit's
  payload is the list of releases so far.
- The table of maxima is released to the 31 other devices after it has been zeroed; that fact goes
  round the ring with the chunks.
-/
module

public import proofs.«01_k».proof.Proof.Table
public import Idealize.ShloMosaic.Lib.Release
public import Idealize.ShloMosaic.Lib.Pipeline.TalkSites

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Gen

set_option Elab.async false

variable {F : FTy → Type} [FloatOps F]

instance nonemptyElt (e : EltTy) : Nonempty (Elt F e) := by
  cases e <;> first | exact ⟨(FloatOps.ofBits _ 0 : F _)⟩ | exact ⟨(0 : BitVec _)⟩

/-- A slot's release key: the slot's device, and either direction, half and hop of the release, or
    the device that will write there (the table of maxima). -/
abbrev Key : Type := Dev nD × ((Bool × Fin 2 × Fin 14) ⊕ Dev nD)

/-- The protocol's own resources: the rounds, and the releases. -/
def UC : Type := URounds (GSem nD τ sig) ℕ × USlots Key

instance instUC : URA UC := inferInstanceAs (URA (URounds (GSem nD τ sig) ℕ × USlots Key))

abbrev UU : Type := UR sig nD τ × UC

/-- The rounds and the releases among the protocol's resources. -/
def inR : Emb (URounds (GSem nD τ sig) ℕ) UC := (Emb.inl : Emb (URounds (GSem nD τ sig) ℕ) (URounds (GSem nD τ sig) ℕ × USlots Key))
@[inherit_doc inR] def inS : Emb (USlots Key) UC := (Emb.inr : Emb (USlots Key) (URounds (GSem nD τ sig) ℕ × USlots Key))

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := inR.trans embR
abbrev ES : Emb (USlots Key) (MT nD τ sig ℕ (Elt F) ℕ UU ℕ) := inS.trans embR

/-! ## The cells -/

abbrev barCell (c : Dev nD) : GSem nD τ sig := ((c : Thread nD τ), .reg barA.sem)
abbrev sendSem (b : Bool) (u : Fin 2) (t : ℕ) : DmaSem sig := sem6 (sendA b) (semOf t u) (semOf_lt t u)
abbrev recvSem (b : Bool) (u : Fin 2) (t : ℕ) : DmaSem sig := sem6 (recvA b) (semOf (t + 1) u) (semOf_lt (t + 1) u)
/-- The send cell and the arrival cell of hop `t`. -/
abbrev sendCell (c : Dev nD) (b : Bool) (u : Fin 2) (t : ℕ) : GSem nD τ sig := ((c : Thread nD τ), .dma (sendSem b u t))
@[inherit_doc sendCell] abbrev recvCell (c : Dev nD) (b : Bool) (u : Fin 2) (t : ℕ) : GSem nD τ sig := ((c : Thread nD τ), .dma (recvSem b u t))
abbrev credCell (c : Dev nD) (b : Bool) (u : Fin 2) : GSem nD τ sig := ((c : Thread nD τ), .reg (credA b u).sem)
abbrev mrCell (c : Dev nD) : GSem nD τ sig := ((c : Thread nD τ), .dma cc0_scratch14.sem)
abbrev msCell (c : Dev nD) (j : ℕ) (hj : j < 31) : GSem nD τ sig := ((c : Thread nD τ), .dma (sem31 j hj))

/-- What a semaphore is for. -/
inductive CK
  | bar | send (b : Bool) (k : ℕ) | recv (b : Bool) (k : ℕ) | cred (b : Bool) (u : ℕ) | mr | ms (j : ℕ) | none
  deriving DecidableEq

/-- What a semaphore is for, by its number. -/
def kind : SemLoc sig → CK
  | .reg s => if s.val < 4 then .cred (decide (s.val < 2)) (s.val % 2) else .bar
  | .dma s =>
    if s.val < 4 then .none
    else if s.val < 10 then .send true (s.val - 4)
    else if s.val < 16 then .recv true (s.val - 10)
    else if s.val < 22 then .send false (s.val - 16)
    else if s.val < 28 then .recv false (s.val - 22)
    else if s.val < 59 then .ms (s.val - 28)
    else .mr

theorem kind_bar : kind (.reg barA.sem) = .bar := by decide +kernel
theorem kind_mr : kind (.dma cc0_scratch14.sem) = .mr := by decide +kernel
theorem kind_cred (b : Bool) (u : Fin 2) : kind (.reg (credA b u).sem) = .cred b u.val := by
  revert b u; decide +kernel
theorem kind_send6 : ∀ (b : Bool) (k : Fin 6), kind (.dma (sem6 (sendA b) k.val k.isLt)) = .send b k.val := by decide +kernel
theorem kind_recv6 : ∀ (b : Bool) (k : Fin 6), kind (.dma (sem6 (recvA b) k.val k.isLt)) = .recv b k.val := by decide +kernel
theorem kind_ms31 : ∀ j : Fin 31, kind (.dma (sem31 j.val j.isLt)) = .ms j.val := by decide +kernel
theorem kind_send (b : Bool) (u : Fin 2) (t : ℕ) : kind (.dma (sendSem b u t)) = .send b (semOf t u) :=
  kind_send6 b ⟨semOf t u, semOf_lt t u⟩
theorem kind_recv (b : Bool) (u : Fin 2) (t : ℕ) : kind (.dma (recvSem b u t)) = .recv b (semOf (t + 1) u) :=
  kind_recv6 b ⟨semOf (t + 1) u, semOf_lt (t + 1) u⟩
theorem kind_ms (j : ℕ) (hj : j < 31) : kind (.dma (sem31 j hj)) = .ms j := kind_ms31 ⟨j, hj⟩

/-- Hop numbers that are equal modulo three share their cells. -/
theorem sendSem_add3 (b : Bool) (u : Fin 2) (t : ℕ) : sendSem b u (t + 3) = sendSem b u t := by
  have h : semOf (t + 3) u = semOf t u := by unfold semOf; omega
  unfold sendSem; congr 4
theorem recvSem_add3 (b : Bool) (u : Fin 2) (t : ℕ) : recvSem b u (t + 3) = recvSem b u t := by
  have h : semOf (t + 3 + 1) u = semOf (t + 1) u := by unfold semOf; omega
  unfold recvSem; congr 4

/-- The hops of a direction's half: sixteen where the last device is reached this way. -/
def nh (b : Bool) (u : ℕ) : ℕ := if b = decide (u = 0) then 16 else 15

theorem nh_le (b : Bool) (u : ℕ) : nh b u ≤ 16 := by unfold nh; split <;> omega
theorem le_nh (b : Bool) (u : ℕ) : 15 ≤ nh b u := by unfold nh; split <;> omega

/-! ## Contents and the slots' assertions -/

/-- Half the share of a slot, lent to the copy that sends it; the other half. -/
abbrev qL : PosShare TreeShare := (fullShare : PosShare TreeShare).left
@[inherit_doc qL] abbrev qR : PosShare TreeShare := (fullShare : PosShare TreeShare).right

/-- Half `k` of device `c`'s chunk buffer of direction `b`, at share `q`, holding `x`. -/
def cPts (c : Dev nD) (b : Bool) (k : ℕ) (hk : k < 6) (q : PosShare TreeShare) (x : S64x4096.Idx → Elt F .bf16) : sProp 𝕄 :=
  (half b k hk).view.loc (c : Thread nD τ) ↦[(half b k hk).view.set]{q} (half b k hk).view.rep x

/-- The same at any contents, whole share. -/
def cAny (c : Dev nD) (b : Bool) (k : ℕ) (hk : k < 6) : sProp 𝕄 :=
  slot ((half b k hk).view.loc (c : Thread nD τ)) (half b k hk).view.set

/-- Device `w`'s place in device `c`'s table of maxima, holding `x`. -/
def mPts (c w : Dev nD) (x : S8x128.Idx → Elt F .f32) : sProp 𝕄 :=
  (mslot w).view.loc (c : Thread nD τ) ↦[(mslot w).view.set]{fullShare} (mslot w).view.rep x

/-- The same at any contents. -/
def mAny (c w : Dev nD) : sProp 𝕄 := slot ((mslot w).view.loc (c : Thread nD τ)) (mslot w).view.set

/-- Device `c`'s own maximum as it is sent, at share `q`. -/
def aPts (c : Dev nD) (q : PosShare TreeShare) (x : S8x128.Idx → Elt F .f32) : sProp 𝕄 :=
  (Memref.whole cc0_scratch11).view.loc (c : Thread nD τ) ↦[(Memref.whole cc0_scratch11).view.set]{q} (Memref.whole cc0_scratch11).view.rep x

/-- The share that remains after `j` sends, and what send `j` takes. -/
def shR : ℕ → PosShare TreeShare
  | 0 => fullShare
  | j + 1 => (shR j).right
@[inherit_doc shR] def shL (j : ℕ) : PosShare TreeShare := (shR j).left

/-- The slot a key releases. -/
def slotOfKey : Key → sProp 𝕄
  | (c, .inl (b, u, h)) => cAny c b (slotOf h.val u) (slotOf_lt h.val u)
  | (c, .inr w) => mAny c w

abbrev ckey (c : Dev nD) (b : Bool) (u : Fin 2) (h : ℕ) : Key := (c, .inl (b, u, Fin.ofNat 14 h))
abbrev mkey (c w : Dev nD) : Key := (c, .inr w)

instance slotOfKey_storable (k : Key) : Storable (upEmb : UEmb _ 𝕄) (slotOfKey (F := F) k) := by
  obtain ⟨c, (⟨b, u, h⟩ | w)⟩ := k
  · show Storable upEmb (cAny c b (slotOf h.val u) (slotOf_lt h.val u)); unfold cAny; infer_instance
  · show Storable upEmb (mAny c w); unfold mAny; infer_instance

variable (X : Dev nD → Fin 2 → S64x4096.Idx → Elt F .bf16) (Mv : Dev nD → S8x128.Idx → Elt F .f32)

/-! ## What the duties hand over -/

/-- The facts about device `r` that go round with its chunk: its table of maxima is open to every
    other device. -/
def mfacts (r : Dev nD) : sProp 𝕄 :=
  iprop((bigSep (Finset.univ.erase r) fun w : Dev nD => released ES (mkey r w) 1) ∗ reached ER (mrCell r) 0)

/-- From the neighbour in direction `b`: its slots for the first two hops, and that its arrival
    cells and the credit cells that this device raises are open. -/
def barPay (c : Dev nD) (b : Bool) : sProp 𝕄 :=
  iprop((bigSep Finset.univ fun u : Fin 2 => iprop(cAny (nbr b c) b (slotOf 1 u) (slotOf_lt 1 u) ∗ cAny (nbr b c) b (slotOf 2 u) (slotOf_lt 2 u)))
    ∗ bigSep Finset.univ fun u : Fin 2 => iprop(reached ER (recvCell (nbr b c) b u 0) 0 ∗ reached ER (recvCell (nbr b c) b u 1) 0
        ∗ reached ER (credCell (nbr b c) (!b) u) 0))

/-- One credit: the slot of hop `i` is released, and the arrival cell of hop `i + 2` has come to
    that hop's round. -/
def credFact (c : Dev nD) (b : Bool) (u : Fin 2) (i : ℕ) : sProp 𝕄 :=
  iprop(released ES (ckey c b u i) 1 ∗ reached ER (recvCell c b u (i + 2)) ((i + 2) / 3))

def credPay (c : Dev nD) (b : Bool) (u : Fin 2) (d : ℕ) : sProp 𝕄 :=
  bigSep (Finset.range (d + 1)) fun i => credFact (nbr b c) b u i

def sendPay (c : Dev nD) (b : Bool) (u : Fin 2) (t : ℕ) : sProp 𝕄 :=
  cPts c b (slotOf t u) (slotOf_lt t u) qL (X (orig b t c) u)

def recvPay (c : Dev nD) (b : Bool) (u : Fin 2) (t : ℕ) : sProp 𝕄 :=
  iprop(cPts c b (slotOf (t + 1) u) (slotOf_lt (t + 1) u) fullShare (X (orig b (t + 1) c) u) ∗ mfacts (orig b (t + 1) c))

/-- Bytes of a chunk half, as a copy credits them; of a maximum's slot. -/
abbrev NC : ℕ := (half true 0 (by omega)).view.dmaCredit
@[inherit_doc NC] abbrev NM : ℕ := (mslot 0).view.dmaCredit

theorem NC_pos : 0 < NC := View.dmaCredit_pos _ (by decide)
theorem NM_pos : 0 < NM := View.dmaCredit_pos _ (by decide)

theorem half_credit (b : Bool) (k : ℕ) (hk : k < 6) : (half b k hk).view.dmaCredit = NC := by cases b <;> rfl
theorem mslot_credit (w : Dev nD) : (mslot w).view.dmaCredit = NM := rfl

/-! ## The schedule -/

def duts (c : Dev nD) : CK → ℕ → Finset ℕ
  | .bar, r => if r = 0 then {0, 1} else ∅
  | .send b k, r => if 3 * r + k % 3 < nh b (k / 3) then {0} else ∅
  | .recv b k, r => if 3 * r + (k + 2) % 3 < nh b (k / 3) then {0} else ∅
  | .cred _ _, r => if r = 0 then Finset.range 14 else ∅
  | .mr, r => if r = 0 then (Finset.range 32).erase c.val else ∅
  | .ms _, r => if r = 0 then {0} else ∅
  | .none, _ => ∅

def amt : CK → ℕ
  | .bar => 1
  | .send _ _ => NC
  | .recv _ _ => NC
  | .cred _ _ => 1
  | .mr => NM
  | .ms _ => NM
  | .none => 1

def pays (c : Dev nD) : CK → ℕ → ℕ → sProp 𝕄
  | .bar, _, d => barPay c (decide (d = 1))
  | .send b k, r, _ => sendPay X c b (Fin.ofNat 2 (k / 3)) (3 * r + k % 3)
  | .recv b k, r, _ => recvPay X c b (Fin.ofNat 2 (k / 3)) (3 * r + (k + 2) % 3)
  | .cred b u, _, d => credPay c b (Fin.ofNat 2 u) d
  | .mr, _, d => mPts c (Fin.ofNat 32 d) (Mv (Fin.ofNat 32 d))
  | .ms j, _, _ => aPts c (shL j) (Mv c)
  | .none, _, _ => iprop(emp)

/-- The rounds of every cell. -/
def Rd : Schedule (GSem nD τ sig) ℕ 𝕄 where
  duties g r := if g.1.2 = .tc then duts g.1.1 (kind g.2) r else ∅
  unitless _ := False
  amount g _ _ := amt (kind g.2)
  payload g r d := pays X Mv g.1.1 (kind g.2) r d
  amount_pos g _ _ _ := by
    show 0 < amt (kind g.2)
    cases kind g.2 <;> first | exact Nat.one_pos | exact NC_pos | exact NM_pos

instance Rd_storable (g : GSem nD τ sig) (r d : ℕ) : Storable (upEmb : UEmb _ 𝕄) ((Rd X Mv).payload g r d) := by
  show Storable upEmb (pays X Mv g.1.1 (kind g.2) r d)
  cases kind g.2 <;> unfold pays <;>
    (try unfold barPay) <;> (try unfold sendPay) <;> (try unfold recvPay) <;> (try unfold credPay) <;>
    (try unfold credFact) <;> (try unfold mfacts) <;> (try unfold cPts) <;> (try unfold cAny) <;>
    (try unfold mPts) <;> (try unfold aPts) <;> infer_instance

section Look

variable (c : Dev nD) (b : Bool) (u : Fin 2)

theorem ofNat2 (u : Fin 2) (k : ℕ) (hk : k / 3 = u.val) : Fin.ofNat 2 (k / 3) = u := by
  rw [hk]; exact Fin.ofNat_val_eq_self _

theorem semOf_div (t : ℕ) (u : Fin 2) : semOf t u / 3 = u.val := by unfold semOf; omega
theorem semOf_mod (t : ℕ) (u : Fin 2) : semOf t u % 3 = t % 3 := by unfold semOf; omega
theorem hop_send (t : ℕ) (u : Fin 2) : 3 * (t / 3) + semOf t u % 3 = t := by unfold semOf; omega
theorem hop_recv (t : ℕ) (u : Fin 2) : 3 * (t / 3) + (semOf (t + 1) u + 2) % 3 = t := by unfold semOf; omega

theorem duties_tc (c : Dev nD) (sm : SemLoc sig) (r : ℕ) : (Rd X Mv).duties ((c : Thread nD τ), sm) r = duts c (kind sm) r := by
  show (if (c : Thread nD τ).2 = .tc then duts c (kind sm) r else ∅) = _
  exact if_pos rfl

theorem duties_bar : (Rd X Mv).duties (barCell c) 0 = {0, 1} := by
  refine (duties_tc X Mv c _ _).trans ?_
  rw [kind_bar]; rfl
theorem duties_send {t : ℕ} (ht : t < nh b u.val) : (Rd X Mv).duties (sendCell c b u t) (t / 3) = {0} := by
  refine (duties_tc X Mv c _ _).trans ?_
  rw [kind_send]
  show (if 3 * (t / 3) + semOf t u % 3 < nh b (semOf t u / 3) then ({0} : Finset ℕ) else ∅) = _
  rw [hop_send, semOf_div, if_pos ht]
theorem duties_recv {t : ℕ} (ht : t < nh b u.val) : (Rd X Mv).duties (recvCell c b u t) (t / 3) = {0} := by
  refine (duties_tc X Mv c _ _).trans ?_
  rw [kind_recv]
  show (if 3 * (t / 3) + (semOf (t + 1) u + 2) % 3 < nh b (semOf (t + 1) u / 3) then ({0} : Finset ℕ) else ∅) = _
  rw [hop_recv, semOf_div, if_pos ht]
theorem duties_cred : (Rd X Mv).duties (credCell c b u) 0 = Finset.range 14 := by
  refine (duties_tc X Mv c _ _).trans ?_
  rw [kind_cred]; rfl
theorem duties_mr : (Rd X Mv).duties (mrCell c) 0 = (Finset.range 32).erase c.val := by
  refine (duties_tc X Mv c _ _).trans ?_
  rw [kind_mr]; rfl
theorem duties_ms (j : ℕ) (hj : j < 31) : (Rd X Mv).duties (msCell c j hj) 0 = {0} := by
  refine (duties_tc X Mv c _ _).trans ?_
  rw [kind_ms]; rfl

/-- No cell has a duty after its last round. -/
theorem duties_later (c : Dev nD) (sm : SemLoc sig) (n : ℕ) (h : match kind sm with | .send b k => nh b (k / 3) ≤ 3 * n + k % 3 | .recv b k => nh b (k / 3) ≤ 3 * n + (k + 2) % 3 | .none => True | _ => 1 ≤ n) :
    ∀ r, n ≤ r → (Rd X Mv).duties ((c : Thread nD τ), sm) r = ∅ := by
  intro r hr
  rw [duties_tc]
  revert h
  cases kind sm <;> intro h <;> simp only [duts] at h ⊢ <;> first | rfl | exact if_neg (by omega)

theorem amount_bar (d : ℕ) : (Rd X Mv).amount (barCell c) 0 d = 1 := by
  show amt (kind (.reg barA.sem)) = _; rw [kind_bar]; rfl
theorem amount_send (t r d : ℕ) : (Rd X Mv).amount (sendCell c b u t) r d = NC := by
  show amt (kind (.dma (sendSem b u t))) = _; rw [kind_send]; rfl
theorem amount_recv (t r d : ℕ) : (Rd X Mv).amount (recvCell c b u t) r d = NC := by
  show amt (kind (.dma (recvSem b u t))) = _; rw [kind_recv]; rfl
theorem amount_cred (r d : ℕ) : (Rd X Mv).amount (credCell c b u) r d = 1 := by
  show amt (kind (.reg (credA b u).sem)) = _; rw [kind_cred]; rfl
theorem amount_mr (r d : ℕ) : (Rd X Mv).amount (mrCell c) r d = NM := by
  show amt (kind (.dma cc0_scratch14.sem)) = _; rw [kind_mr]; rfl
theorem amount_ms (j : ℕ) (hj : j < 31) (r d : ℕ) : (Rd X Mv).amount (msCell c j hj) r d = NM := by
  show amt (kind (.dma (sem31 j hj))) = _; rw [kind_ms]; rfl

theorem expect_bar : (Rd X Mv).expect (barCell c) 0 = 2 := by
  unfold Schedule.expect Schedule.amountOf; rw [duties_bar, Finset.sum_congr rfl fun d _ => amount_bar X Mv c d]; rfl
theorem expect_send {t : ℕ} (ht : t < nh b u.val) : (Rd X Mv).expect (sendCell c b u t) (t / 3) = NC := by
  unfold Schedule.expect Schedule.amountOf; rw [duties_send X Mv c b u ht, Finset.sum_singleton, amount_send]
theorem expect_recv {t : ℕ} (ht : t < nh b u.val) : (Rd X Mv).expect (recvCell c b u t) (t / 3) = NC := by
  unfold Schedule.expect Schedule.amountOf; rw [duties_recv X Mv c b u ht, Finset.sum_singleton, amount_recv]
theorem expect_cred : (Rd X Mv).expect (credCell c b u) 0 = 14 := by
  unfold Schedule.expect Schedule.amountOf; rw [duties_cred, Finset.sum_congr rfl fun d _ => amount_cred X Mv c b u 0 d]; rfl
theorem expect_mr : (Rd X Mv).expect (mrCell c) 0 = 31 * NM := by
  unfold Schedule.expect Schedule.amountOf
  rw [duties_mr, Finset.sum_congr rfl fun d _ => amount_mr X Mv c 0 d, Finset.sum_const, Finset.card_erase_of_mem (Finset.mem_range.mpr c.isLt), Finset.card_range]
  rfl
theorem expect_ms (j : ℕ) (hj : j < 31) : (Rd X Mv).expect (msCell c j hj) 0 = NM := by
  unfold Schedule.expect Schedule.amountOf; rw [duties_ms, Finset.sum_singleton, amount_ms]

theorem payload_bar (d : ℕ) : (Rd X Mv).payload (barCell c) 0 d = barPay c (decide (d = 1)) := by
  show pays X Mv c (kind (.reg barA.sem)) 0 d = _; rw [kind_bar]; rfl
theorem payload_send (t d : ℕ) : (Rd X Mv).payload (sendCell c b u t) (t / 3) d = sendPay X c b u t := by
  show pays X Mv c (kind (.dma (sendSem b u t))) (t / 3) d = _; rw [kind_send]
  show sendPay X c b (Fin.ofNat 2 (semOf t u / 3)) (3 * (t / 3) + semOf t u % 3) = _
  rw [hop_send, ofNat2 u _ (semOf_div t u)]
theorem payload_recv (t d : ℕ) : (Rd X Mv).payload (recvCell c b u t) (t / 3) d = recvPay X c b u t := by
  show pays X Mv c (kind (.dma (recvSem b u t))) (t / 3) d = _; rw [kind_recv]
  show recvPay X c b (Fin.ofNat 2 (semOf (t + 1) u / 3)) (3 * (t / 3) + (semOf (t + 1) u + 2) % 3) = _
  rw [hop_recv, ofNat2 u _ (semOf_div (t + 1) u)]
theorem payload_cred (r d : ℕ) : (Rd X Mv).payload (credCell c b u) r d = credPay c b u d := by
  show pays X Mv c (kind (.reg (credA b u).sem)) r d = _; rw [kind_cred]
  show credPay c b (Fin.ofNat 2 u.val) d = _
  rw [Fin.ofNat_val_eq_self]
theorem payload_mr (w : Dev nD) (r : ℕ) : (Rd X Mv).payload (mrCell c) r w.val = mPts c w (Mv w) := by
  show pays X Mv c (kind (.dma cc0_scratch14.sem)) r w.val = _; rw [kind_mr]
  show mPts c (Fin.ofNat 32 w.val) (Mv (Fin.ofNat 32 w.val)) = _
  rw [show Fin.ofNat 32 w.val = w from Fin.ofNat_val_eq_self _]
theorem payload_ms (j : ℕ) (hj : j < 31) (r d : ℕ) : (Rd X Mv).payload (msCell c j hj) r d = aPts c (shL j) (Mv c) := by
  show pays X Mv c (kind (.dma (sem31 j hj))) r d = _; rw [kind_ms]; rfl

end Look

end Cert.KernelIdeal.Own

end
-- ==== Proof.Owed.lean ====
/-
What a device owes, as one list in program order: the same list, read at the receiving side, is the
credit it holds from the launch. Indices are also levels: a copy or credit of the work before hop
`h + 1` has index `h + 3`, and a wait is always for something of lower index than all that is owed.
-/
module

public import proofs.«01_k».proof.Proof.Sched

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Idealize.ShloMosaic.SiteBlocks (L lv mem_L' mayWait_of)
open Gen

set_option Elab.async false

variable {F : FTy → Type} [FloatOps F]

local notation "𝕄" => MT nD τ sig ℕ (Elt F) ℕ UU ℕ

/-- One payment as every device makes it: whom it goes to, the semaphore, the index, the units. -/
structure Ev where
  dst : Dev nD ≃ Dev nD
  sm : SemLoc sig
  ix : ℕ
  n : ℕ

/-- The payment device `c` makes; the one it receives. -/
def Ev.out (c : Dev nD) (e : Ev) : Pay nD τ sig := ((((e.dst c : Dev nD) : Thread nD τ), e.sm), e.ix, e.n)
@[inherit_doc Ev.out] def Ev.inc (c : Dev nD) (e : Ev) : Pay nD τ sig := (((c : Thread nD τ), e.sm), e.ix, e.n)

/-- Device `c` owes the payments `E`. -/
def Owes (c : Dev nD) (E : List Ev) : sProp 𝕄 := iprop(∃ W, owes (c : Thread nD τ) (tallyL (E.map (Ev.out c))) W)

/-- Device `c` will be paid the payments `E`. -/
def Due (c : Dev nD) (E : List Ev) : sProp 𝕄 := cred (tallyL (E.map (Ev.inc c)))

theorem due_cons (c : Dev nD) (e : Ev) (E : List Ev) :
    (Due c (e :: E) : sProp 𝕄) ⊢ iprop(cred (tallyAt ((c : Thread nD τ), e.sm) e.ix e.n) ∗ Due c E) :=
  (cred_add _ _).1
theorem due_append (c : Dev nD) (E E' : List Ev) : (Due c (E ++ E') : sProp 𝕄) ⊢ iprop(Due c E ∗ Due c E') := by
  unfold Due; rw [List.map_append, TalkSites.tallyL_append]; exact (cred_add _ _).1

/-- Everything in `E` lies above index `i`. -/
def Above (i : ℕ) (E : List Ev) : Prop := ∀ e ∈ E, i < e.ix ∧ e.ix < 64

theorem Above.mono {i j : ℕ} {E : List Ev} (h : Above i E) (hj : j ≤ i) : Above j E := fun e he => ⟨lt_of_le_of_lt hj (h e he).1, (h e he).2⟩
theorem Above.cons {i : ℕ} {e : Ev} {E : List Ev} (h : Above i E) (he : i < e.ix ∧ e.ix < 64) : Above i (e :: E) := fun x hx => by
  rcases List.mem_cons.mp hx with rfl | hx
  · exact he
  · exact h x hx
theorem Above.nil (i : ℕ) : Above i [] := fun _ he => absurd he List.not_mem_nil
theorem Above.tail {i : ℕ} {e : Ev} {E : List Ev} (h : Above i (e :: E)) : Above i E := fun x hx => h x (List.mem_cons_of_mem _ hx)
theorem Above.append {i : ℕ} {E E' : List Ev} (h : Above i E) (h' : Above i E') : Above i (E ++ E') := fun x hx => by
  rcases List.mem_append.mp hx with hx | hx
  · exact h x hx
  · exact h' x hx

/-- A wait at an index below all that is owed may be made. -/
theorem mayWait_above {i : ℕ} (c : Dev nD) (sm : SemLoc sig) {E : List Ev} (h : Above i E) (hi : i < 64) :
    (levAts (L 64) lv : sProp 𝕄) ⊢ MayWait (c : Thread nD τ) sm i (tallyL (E.map (Ev.out c))) :=
  mayWait_of hi c sm _ fun g k hg => by
    obtain ⟨x, hx, rfl, rfl⟩ := TalkSites.tallyL_pos hg
    obtain ⟨e, he, rfl⟩ := List.mem_map.mp hx
    exact ⟨mem_L' rfl (h e he).2, (h e he).1⟩

/-! ## The payments in program order -/

/-- The device `j + 1` places on, as a bijection. -/
def peerE (j : ℕ) : Dev nD ≃ Dev nD where
  toFun c := peer c j
  invFun c := ⟨(c.val + (32 - (j + 1) % 32)) % 32, Nat.mod_lt _ (by decide)⟩
  left_inv c := by
    apply Fin.ext; have := c.isLt; simp only [peer, nD] at *; omega
  right_inv c := by
    apply Fin.ext; have := c.isLt; simp only [peer, nD] at *; omega

/-- A credit of direction `b` goes back to the neighbour behind. -/
def evCred (b : Bool) (u : Fin 2) (i : ℕ) : Ev := ⟨ringE (!b), .reg (credA b u).sem, i, 1⟩
/-- The copy of hop `t`. -/
def evCopy (b : Bool) (u : Fin 2) (t i : ℕ) : Ev := ⟨ringE b, .dma (recvSem b u t), i, NC⟩
def evBar (b : Bool) : Ev := ⟨ringE b, .reg barA.sem, 1, 1⟩
def evMax (j : ℕ) : Ev := ⟨peerE j, .dma cc0_scratch14.sem, 18, NM⟩

/-- The credit after hop `h`'s send and the copy of hop `h + 1`. -/
def evDir (b : Bool) (u : Fin 2) (h : ℕ) : List Ev := [evCred b u (h + 3), evCopy b u (h + 1) (h + 3)]
def evHalf (u : Fin 2) (h : ℕ) : List Ev := evDir true u h ++ evDir false u h
def evHops : (n h : ℕ) → List Ev
  | 0, _ => []
  | n + 1, h => evHalf 0 h ++ (evHalf 1 h ++ evHops n (h + 1))
def evLast : List Ev := [evCopy true 0 15 17, evCopy false 1 15 17]
def evMaxs : (n j : ℕ) → List Ev
  | 0, _ => []
  | n + 1, j => evMax j :: evMaxs n (j + 1)
def evStart : List Ev := [evCopy true 0 0 2, evCopy false 0 0 2, evCopy true 1 0 2, evCopy false 1 0 2]

def evRing : List Ev := evStart ++ (evHops 14 0 ++ (evLast ++ evMaxs 31 0))
/-- All a device owes at the launch. -/
def evAll : List Ev := evBar false :: evBar true :: evRing

theorem above_dir {i : ℕ} (b : Bool) (u : Fin 2) (h : ℕ) (hi : i < h + 3) (hh : h < 60) : Above i (evDir b u h) :=
  Above.cons (Above.cons (Above.nil _) ⟨hi, by show h + 3 < 64; omega⟩) ⟨hi, by show h + 3 < 64; omega⟩
theorem above_half {i : ℕ} (u : Fin 2) (h : ℕ) (hi : i < h + 3) (hh : h < 60) : Above i (evHalf u h) :=
  (above_dir true u h hi hh).append (above_dir false u h hi hh)
theorem above_hops {i : ℕ} : ∀ n h : ℕ, i < h + 3 → h + n < 60 → Above i (evHops n h)
  | 0, _, _, _ => Above.nil _
  | n + 1, h, hi, hh => (above_half 0 h hi (by omega)).append ((above_half 1 h hi (by omega)).append (above_hops n (h + 1) (by omega) (by omega)))
theorem above_maxs {i : ℕ} (hi : i < 18) : ∀ n j : ℕ, Above i (evMaxs n j)
  | 0, _ => Above.nil _
  | n + 1, j => (above_maxs hi n (j + 1)).cons ⟨hi, by show 18 < 64; omega⟩
theorem above_last {i : ℕ} (hi : i < 17) : Above i evLast :=
  ((Above.nil _).cons ⟨hi, by show 17 < 64; omega⟩).cons ⟨hi, by show 17 < 64; omega⟩

/-! ## The cells by name, and the invariants that every device holds -/

/-- The semaphores of the protocol on one device. -/
abbrev CI : Type := (Unit ⊕ (Bool × Fin 2)) ⊕ ((Bool × Fin 2 × Fin 3) ⊕ (Bool × Fin 2 × Fin 3)) ⊕ (Unit ⊕ Fin 31)

def smOf : CI → SemLoc sig
  | .inl (.inl _) => .reg barA.sem
  | .inl (.inr (b, u)) => .reg (credA b u).sem
  | .inr (.inl (.inl (b, u, j))) => .dma (sendSem b u j.val)
  | .inr (.inl (.inr (b, u, j))) => .dma (recvSem b u j.val)
  | .inr (.inr (.inl _)) => .dma cc0_scratch14.sem
  | .inr (.inr (.inr j)) => .dma (sem31 j.val j.isLt)

def cellAt (x : Dev nD × CI) : GSem nD τ sig := ((x.1 : Thread nD τ), smOf x.2)

theorem smOf_inj : Function.Injective smOf := by
  have h : Function.Injective fun x => kind (smOf x) := by
    rintro ((⟨⟩ | ⟨b, u⟩) | (⟨b, u, j⟩ | ⟨b, u, j⟩) | (⟨⟩ | j)) ((⟨⟩ | ⟨b', u'⟩) | (⟨b', u', j'⟩ | ⟨b', u', j'⟩) | (⟨⟩ | j')) h <;>
      simp only [smOf, kind_bar, kind_cred, kind_send, kind_recv, kind_mr, kind_ms] at h <;>
      first
        | rfl
        | (injection h with h1 h2
           subst h1
           have := u.isLt; have := u'.isLt
           first
             | (obtain rfl : u = u' := Fin.ext h2; rfl)
             | (unfold semOf at h2
                have := j.isLt; have := j'.isLt
                obtain rfl : u = u' := Fin.ext (by omega)
                obtain rfl : j = j' := Fin.ext (by omega)
                rfl))
        | (injection h with h1; obtain rfl : j = j' := Fin.ext h1; rfl)
        | exact CK.noConfusion h
  exact fun x y e => h (congrArg kind e)

theorem cellAt_inj : Function.Injective cellAt := fun x y e => by
  obtain ⟨c, i⟩ := x
  obtain ⟨d, j⟩ := y
  have h1 : c = d := congrArg (fun g : GSem nD τ sig => g.1.1) e
  have h2 : i = j := smOf_inj (congrArg (fun g : GSem nD τ sig => g.2) e)
  rw [h1, h2]

theorem sendSem_mod (b : Bool) (u : Fin 2) (t : ℕ) : sendSem b u (t % 3) = sendSem b u t := by
  have h : semOf (t % 3) u = semOf t u := by unfold semOf; omega
  unfold sendSem; congr 4
theorem recvSem_mod (b : Bool) (u : Fin 2) (t : ℕ) : recvSem b u (t % 3) = recvSem b u t := by
  have h : semOf (t % 3 + 1) u = semOf (t + 1) u := by unfold semOf; omega
  unfold recvSem; congr 4

def ciSend (b : Bool) (u : Fin 2) (t : ℕ) : CI := .inr (.inl (.inl (b, u, ⟨t % 3, by omega⟩)))
def ciRecv (b : Bool) (u : Fin 2) (t : ℕ) : CI := .inr (.inl (.inr (b, u, ⟨t % 3, by omega⟩)))
def ciCred (b : Bool) (u : Fin 2) : CI := .inl (.inr (b, u))
def ciBar : CI := .inl (.inl ())
def ciMr : CI := .inr (.inr (.inl ()))
def ciMs (j : ℕ) (hj : j < 31) : CI := .inr (.inr (.inr ⟨j, hj⟩))

theorem cellAt_send (c : Dev nD) (b : Bool) (u : Fin 2) (t : ℕ) : cellAt (c, ciSend b u t) = sendCell c b u t := by
  show ((c : Thread nD τ), SemLoc.dma (sendSem b u (t % 3))) = _; rw [sendSem_mod]
theorem cellAt_recv (c : Dev nD) (b : Bool) (u : Fin 2) (t : ℕ) : cellAt (c, ciRecv b u t) = recvCell c b u t := by
  show ((c : Thread nD τ), SemLoc.dma (recvSem b u (t % 3))) = _; rw [recvSem_mod]

variable (X : Dev nD → Fin 2 → S64x4096.Idx → Elt F .bf16) (Mv : Dev nD → S8x128.Idx → Elt F .f32)
  (κ : GSem nD τ sig → ℕ) (ιs : Key → ℕ)

instance : DecidableEq CI := instDecidableEqSum

/-- One summand kept, the rest dropped. -/
theorem bigSep_one {I : Type} [DecidableEq I] {s : Finset I} {i : I} (h : i ∈ s) {Φ : I → sProp 𝕄} : bigSep s Φ ⊢ Φ i := bigSep_elim h

/-- What every device knows throughout. -/
def Inv : sProp 𝕄 :=
  iprop((bigSep Finset.univ fun x : Dev nD × CI => cellInv ER (Rd X Mv) (κ (cellAt x)) (cellAt x))
    ∗ (bigSep Finset.univ fun k : Key => slotInv ES (ιs k) k (slotOfKey (F := F) k)) ∗ levAts (L 64) lv)

instance Inv_persistent : BI.Persistent (Inv X Mv κ ιs : sProp 𝕄) := by unfold Inv; infer_instance

theorem inv_cell (x : Dev nD × CI) : (Inv X Mv κ ιs : sProp 𝕄) ⊢ cellInv ER (Rd X Mv) (κ (cellAt x)) (cellAt x) := by
  refine BIBase.Entails.trans ?_ (bigSep_one (F := F) (Φ := fun x : Dev nD × CI => (cellInv ER (Rd X Mv) (κ (cellAt x)) (cellAt x) : sProp 𝕄)) (Finset.mem_univ x))
  unfold Inv
  iintro ⟨#H, -, -⟩
  iexact H
theorem inv_send (c : Dev nD) (b : Bool) (u : Fin 2) (t : ℕ) : (Inv X Mv κ ιs : sProp 𝕄) ⊢ cellInv ER (Rd X Mv) (κ (sendCell c b u t)) (sendCell c b u t) := by
  have h := inv_cell X Mv κ ιs (c, ciSend b u t); rwa [cellAt_send] at h
theorem inv_recv (c : Dev nD) (b : Bool) (u : Fin 2) (t : ℕ) : (Inv X Mv κ ιs : sProp 𝕄) ⊢ cellInv ER (Rd X Mv) (κ (recvCell c b u t)) (recvCell c b u t) := by
  have h := inv_cell X Mv κ ιs (c, ciRecv b u t); rwa [cellAt_recv] at h
theorem inv_cred (c : Dev nD) (b : Bool) (u : Fin 2) : (Inv X Mv κ ιs : sProp 𝕄) ⊢ cellInv ER (Rd X Mv) (κ (credCell c b u)) (credCell c b u) :=
  inv_cell X Mv κ ιs (c, ciCred b u)
theorem inv_bar (c : Dev nD) : (Inv X Mv κ ιs : sProp 𝕄) ⊢ cellInv ER (Rd X Mv) (κ (barCell c)) (barCell c) :=
  inv_cell X Mv κ ιs (c, ciBar)
theorem inv_mr (c : Dev nD) : (Inv X Mv κ ιs : sProp 𝕄) ⊢ cellInv ER (Rd X Mv) (κ (mrCell c)) (mrCell c) :=
  inv_cell X Mv κ ιs (c, ciMr)
theorem inv_ms (c : Dev nD) (j : ℕ) (hj : j < 31) : (Inv X Mv κ ιs : sProp 𝕄) ⊢ cellInv ER (Rd X Mv) (κ (msCell c j hj)) (msCell c j hj) :=
  inv_cell X Mv κ ιs (c, ciMs j hj)
theorem inv_slot (k : Key) : (Inv X Mv κ ιs : sProp 𝕄) ⊢ slotInv ES (ιs k) k (slotOfKey (F := F) k) := by
  refine BIBase.Entails.trans ?_ (bigSep_one (F := F) (Φ := fun k : Key => (slotInv ES (ιs k) k (slotOfKey (F := F) k) : sProp 𝕄)) (Finset.mem_univ k))
  unfold Inv
  iintro ⟨-, #H, -⟩
  iexact H
theorem inv_lev : (Inv X Mv κ ιs : sProp 𝕄) ⊢ levAts (L 64) lv := by
  unfold Inv
  iintro ⟨-, -, #H⟩
  iexact H

end Cert.KernelIdeal.Own

end
-- ==== Proof.Steps.lean ====
/-
One step of the protocol each: the wait for a send, for an arrival, for a credit; the credit itself;
the start of a hop's copy. Each is stated at a device `c` with what it owes as a list.
-/
module

public import proofs.«01_k».proof.Proof.Owed

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Idealize.ShloMosaic.SiteBlocks (L lv mem_L' mayWait_of)
open Gen

set_option Elab.async false

variable {F : FTy → Type} [FloatOps F]

local notation "𝕄" => MT nD τ sig ℕ (Elt F) ℕ UU ℕ

abbrev 𝒱₀ : Variants := Variants.none

/-- The weakest precondition of a program of device `c`'s core. -/
abbrev WP (c : Dev nD) (p : Pr F) (Q : PUnit → sProp 𝕄) : sProp 𝕄 :=
  wp frame (wpE (defs₀ (F := F)) 𝒱₀ (c : Thread nD τ) none) Set.univ p Q

variable (X : Dev nD → Fin 2 → S64x4096.Idx → Elt F .bf16) (Mv : Dev nD → S8x128.Idx → Elt F .f32)
  (κ : GSem nD τ sig → ℕ) (ιs : Key → ℕ)

/-- The send cell stands at hop `t`'s round; the arrival cell. -/
def SP (c : Dev nD) (b : Bool) (u : Fin 2) (t : ℕ) : sProp 𝕄 :=
  iprop(atPos ER (sendCell c b u t) (t / 3) ∅ 0 ∗ reached ER (sendCell c b u t) (t / 3))
@[inherit_doc SP] def RP (c : Dev nD) (b : Bool) (u : Fin 2) (t : ℕ) : sProp 𝕄 :=
  iprop(atPos ER (recvCell c b u t) (t / 3) ∅ 0 ∗ reached ER (recvCell c b u t) (t / 3))

theorem sendCell_add3 (c : Dev nD) (b : Bool) (u : Fin 2) (t : ℕ) : sendCell c b u (t + 3) = sendCell c b u t := by
  unfold sendCell; rw [sendSem_add3]
theorem recvCell_add3 (c : Dev nD) (b : Bool) (u : Fin 2) (t : ℕ) : recvCell c b u (t + 3) = recvCell c b u t := by
  unfold recvCell; rw [recvSem_add3]

theorem SP_next (c : Dev nD) (b : Bool) (u : Fin 2) (t : ℕ) :
    (SP c b u (t + 3) : sProp 𝕄) = iprop(atPos ER (sendCell c b u t) (t / 3 + 1) ∅ 0 ∗ reached ER (sendCell c b u t) (t / 3 + 1)) := by
  unfold SP; rw [sendCell_add3, show (t + 3) / 3 = t / 3 + 1 by omega]
theorem RP_next (c : Dev nD) (b : Bool) (u : Fin 2) (t : ℕ) :
    (RP c b u (t + 3) : sProp 𝕄) = iprop(atPos ER (recvCell c b u t) (t / 3 + 1) ∅ 0 ∗ reached ER (recvCell c b u t) (t / 3 + 1)) := by
  unfold RP; rw [recvCell_add3, show (t + 3) / 3 = t / 3 + 1 by omega]

theorem rest_send (c : Dev nD) (b : Bool) (u : Fin 2) {t : ℕ} (ht : t < nh b u.val) :
    (bigSep ((Rd X Mv).duties (sendCell c b u t) (t / 3) \ ∅) (fun d => (Rd X Mv).payload (sendCell c b u t) (t / 3) d) : sProp 𝕄) = sendPay X c b u t := by
  rw [Finset.sdiff_empty, duties_send X Mv c b u ht, bigSep_singleton, payload_send]
theorem rest_recv (c : Dev nD) (b : Bool) (u : Fin 2) {t : ℕ} (ht : t < nh b u.val) :
    (bigSep ((Rd X Mv).duties (recvCell c b u t) (t / 3) \ ∅) (fun d => (Rd X Mv).payload (recvCell c b u t) (t / 3) d) : sProp 𝕄) = recvPay X c b u t := by
  rw [Finset.sdiff_empty, duties_recv X Mv c b u ht, bigSep_singleton, payload_recv]

/-- Under the invariants, a wait at an index below all that is owed may be made. -/
theorem inv_mayWait {i : ℕ} (c : Dev nD) (sm : SemLoc sig) {E : List Ev} (h : Above i E) (hi : i < 64) :
    (Inv X Mv κ ιs : sProp 𝕄) ⊢ MayWait (c : Thread nD τ) sm i (tallyL (E.map (Ev.out c))) :=
  (@inv_lev F _ X Mv κ ιs).trans (mayWait_above (F := F) c sm h hi)

/-- Waiting for hop `t`'s send: the lent half of the source comes back. -/
theorem step_waitSend (c : Dev nD) (b : Bool) (u : Fin 2) (t : ℕ) (ht : t < nh b u.val) (E : List Ev) (hE : Above 0 E)
    (K : Pr F) (Q : PUnit → sProp 𝕄) :
    iprop(Inv X Mv κ ιs ∗ cred (tallyAt (sendCell c b u t) 0 NC) ∗ Owes c E ∗ SP c b u t)
      ⊢ iprop(((Owes c E ∗ SP c b u (t + 3) ∗ sendPay X c b u t) -∗ WP c K Q) -∗ WP c (waitSend b t u K) Q) := by
  rw [SP_next]
  unfold Owes SP
  iintro ⟨#HI, Hc, ⟨%W, HO⟩, ⟨Hat, -⟩⟩ Hk
  ihave #Hcell := (inv_send X Mv κ ιs c b u t) $$ HI
  ihave Hmw := (inv_mayWait X Mv κ ιs c (.dma (sendSem b u t)) hE (by omega)) $$ HI
  unfold waitSend
  iapply (Rounds.wp_wait_rest_token 𝒱₀ ER (Rd X Mv) (c : Thread nD τ) none (κ := κ (sendCell c b u t))
      (wpE_waitDma2_eq 𝒱₀ (c : Thread nD τ) none Set.univ) (Set.mem_univ _) 0 (W := W) (R := t / 3) (m := 0) (T := ∅)
      ((Nat.zero_add _).trans ((half_credit b _ _).trans (expect_send X Mv c b u ht).symm))) $$ [Hc HO Hat Hmw]
  · isplitr; · iexact Hcell
    isplitl [Hc]; · rw [half_credit]; iexact Hc
    isplitl [HO]; · iexact HO
    isplitl [Hmw]; · iexact Hmw
    iexact Hat
  iintro ⟨HO, Hat, #Hr, Hpay⟩
  ihave Hpay := (Entails.of_eq (rest_send X Mv c b u ht)) $$ Hpay
  iapply Hk
  isplitl [HO]; · iexists _; iexact HO
  isplitl [Hat]
  · isplitl [Hat]; · iexact Hat
    iexact Hr
  iexact Hpay

/-- Waiting for hop `t`'s arrival: the slot, filled, and the facts about the chunk's origin. -/
theorem step_waitRecv (c : Dev nD) (b : Bool) (u : Fin 2) (t i : ℕ) (ht : t < nh b u.val) (E : List Ev) (hE : Above i E) (hi : i < 64)
    (K : Pr F) (Q : PUnit → sProp 𝕄) :
    iprop(Inv X Mv κ ιs ∗ cred (tallyAt (recvCell c b u t) i NC) ∗ Owes c E ∗ RP c b u t)
      ⊢ iprop(((Owes c E ∗ RP c b u (t + 3) ∗ recvPay X c b u t) -∗ WP c K Q) -∗ WP c (waitRecv b t u K) Q) := by
  rw [RP_next]
  unfold Owes RP
  iintro ⟨#HI, Hc, ⟨%W, HO⟩, ⟨Hat, -⟩⟩ Hk
  ihave #Hcell := (inv_recv X Mv κ ιs c b u t) $$ HI
  ihave Hmw := (inv_mayWait X Mv κ ιs c (.dma (recvSem b u t)) hE hi) $$ HI
  unfold waitRecv
  iapply (Rounds.wp_wait_rest_token 𝒱₀ ER (Rd X Mv) (c : Thread nD τ) none (κ := κ (recvCell c b u t))
      (wpE_waitDma2_eq 𝒱₀ (c : Thread nD τ) none Set.univ) (Set.mem_univ _) i (W := W) (R := t / 3) (m := 0) (T := ∅)
      ((Nat.zero_add _).trans ((half_credit b _ _).trans (expect_recv X Mv c b u ht).symm))) $$ [Hc HO Hat Hmw]
  · isplitr; · iexact Hcell
    isplitl [Hc]; · rw [half_credit]; iexact Hc
    isplitl [HO]; · iexact HO
    isplitl [Hmw]; · iexact Hmw
    iexact Hat
  iintro ⟨HO, Hat, #Hr, Hpay⟩
  ihave Hpay := (Entails.of_eq (rest_recv X Mv c b u ht)) $$ Hpay
  iapply Hk
  isplitl [HO]; · iexists _; iexact HO
  isplitl [Hat]
  · isplitl [Hat]; · iexact Hat
    iexact Hr
  iexact Hpay

instance credFact_persistent (c : Dev nD) (b : Bool) (u : Fin 2) (i : ℕ) : BI.Persistent (credFact c b u i : sProp 𝕄) := by
  unfold credFact; infer_instance
instance credPay_persistent (c : Dev nD) (b : Bool) (u : Fin 2) (d : ℕ) : BI.Persistent (credPay c b u d : sProp 𝕄) := by
  unfold credPay; infer_instance
instance mfacts_persistent (r : Dev nD) : BI.Persistent (mfacts r : sProp 𝕄) := by
  unfold mfacts; infer_instance

/-- `k` credits taken, with what they said. -/
def CredSt (c : Dev nD) (b : Bool) (u : Fin 2) (k : ℕ) : sProp 𝕄 :=
  iprop(∃ T : Finset ℕ, ⌜T ⊆ Finset.range 14⌝ ∗ atPos ER (credCell c b u) 0 T k ∗ bigSep T fun d => credPay c b u d)

/-- A list of credits that reaches `k` holds the release of hop `k`. -/
theorem credPay_fact (c : Dev nD) (b : Bool) (u : Fin 2) {k d : ℕ} (h : k ≤ d) : (credPay c b u d : sProp 𝕄) ⊢ credFact (nbr b c) b u k := by
  unfold credPay
  exact bigSep_one (F := F) (Φ := fun i => credFact (nbr b c) b u i) (Finset.mem_range.mpr (by omega))

/-- Waiting for a credit: however the credits came, the releases up to the number waited for are known. -/
theorem step_waitCred (c : Dev nD) (b : Bool) (u : Fin 2) (k i : ℕ) (hk : k < 14) (E : List Ev) (hE : Above i E) (hi : i < 64)
    (K : Pr F) (Q : PUnit → sProp 𝕄) :
    iprop(Inv X Mv κ ιs ∗ cred (tallyAt (credCell c b u) i 1) ∗ Owes c E ∗ CredSt c b u k)
      ⊢ iprop(((Owes c E ∗ CredSt c b u (k + 1) ∗ credFact (nbr b c) b u k) -∗ WP c K Q) -∗ WP c (waitCred b u K) Q) := by
  rw [show (waitCred b u K : Pr F) = .op (.semWait (credA b u).sem 1) fun _ => K from rfl]
  unfold Owes CredSt
  iintro ⟨#HI, Hc, ⟨%W, HO⟩, ⟨%T, %hT, Hat, #HT⟩⟩ Hk
  ihave #Hcell := (inv_cred X Mv κ ιs c b u) $$ HI
  ihave Hmw := (inv_mayWait X Mv κ ιs c (.reg (credA b u).sem) hE hi) $$ HI
  iapply (Rounds.wp_wait 𝒱₀ ER (Rd X Mv) (c : Thread nD τ) none (κ := κ (credCell c b u)) (sm := .reg (credA b u).sem) (k' := 1)
      (wpE_semWait_eq 𝒱₀ (c : Thread nD τ) none Set.univ) (Set.mem_univ _) (cr := Finsupp.single i 1) (W := W) {(.reg (credA b u).sem, i)} (R := 0) (m := k) (T := T)
      (by rw [Util.total_single]) (image_single_subset (.reg (credA b u).sem) i 1)) $$ [Hc HO Hat Hmw]
  · isplitr; · iexact Hcell
    isplitl [Hc]; · iexact Hc
    isplitl [HO]; · iexact HO
    isplitl [Hmw]; · iexact Hmw
    iexact Hat
  iintro %S ⟨%hS, HO, Hat, Hpay⟩
  obtain ⟨h1, h2, h3⟩ := hS
  rw [duties_cred] at h2 h3
  have h4 : ∃ d ∈ S, k ≤ d := by
    by_contra hne
    push Not at hne
    have hsub : S ⊆ Finset.range k := fun d hd => Finset.mem_range.mpr (hne d hd)
    have hc1 := Finset.card_le_card hsub
    rw [expect_cred, Finset.card_sdiff_of_subset h2, Finset.card_range] at h3
    rw [Finset.card_range] at hc1
    omega
  obtain ⟨d, hd, hkd⟩ := h4
  have hall : iprop((bigSep T fun d => credPay c b u d) ∗ bigSep (S \ T) fun d => (Rd X Mv).payload (credCell c b u) 0 d)
      ⊢ (bigSep S fun d => credPay c b u d : sProp 𝕄) := by
    rw [bigSep_congr (s := S \ T) fun d _ => payload_cred X Mv c b u 0 d]
    exact Entails.of_eq ((bigSep_union (Finset.disjoint_sdiff)).symm.trans (by rw [Finset.union_sdiff_of_subset h1]))
  ihave #Hall := hall $$ [HT Hpay]
  · isplitr; · iexact HT
    iexact Hpay
  iapply Hk
  isplitl [HO]; · iexists _; iexact HO
  isplitl [Hat]
  · iexists S
    isplitr; · ipureintro; exact h2
    isplitl [Hat]; · iexact Hat
    iexact Hall
  ihave #Hd := (bigSep_one (F := F) (Φ := fun d => credPay c b u d) hd) $$ Hall
  iapply (credPay_fact c b u hkd) $$ Hd

/-- Giving a credit: the list of the releases so far. -/
theorem step_sigCred (c : Dev nD) (b : Bool) (u : Fin 2) (d i : ℕ) (hd : d < 14) (E : List Ev) (K : Pr F) (Q : PUnit → sProp 𝕄) :
    iprop(Inv X Mv κ ιs ∗ Owes c (evCred b u i :: E) ∗ dutyTok ER (credCell (nbr (!b) c) b u) 0 d
        ∗ (bigSep (Finset.range (d + 1)) fun i => credFact c b u i) ∗ reached ER (credCell (nbr (!b) c) b u) 0)
      ⊢ iprop((Owes c E -∗ WP c K Q) -∗ WP c (sigCred (fun b => nbr b c) b u K) Q) := by
  rw [show (sigCred (fun b => nbr b c) b u K : Pr F) = .op (.semSignal ((nbr (!b) c : Dev nD) : Thread nD τ) (credA b u).sem 1) fun _ => K from rfl]
  unfold Owes
  iintro ⟨#HI, ⟨%W, HO⟩, Ht, #Hp, #Hr⟩ Hk
  ihave #Hcell := (inv_cred X Mv κ ιs (nbr (!b) c) b u) $$ HI
  iapply (Rounds.wp_signal 𝒱₀ ER (Rd X Mv) (c : Thread nD τ) none (dst := ((nbr (!b) c : Dev nD) : Thread nD τ)) (sem := (credA b u).sem) (r := 0) (d := d)
      (κ := κ (credCell (nbr (!b) c) b u)) (by rw [duties_cred]; exact Finset.mem_range.mpr hd) (amount_cred X Mv (nbr (!b) c) b u 0 d)
      i (O₀ := tallyL ((evCred b u i :: E).map (Ev.out c))) (tallyL (E.map (Ev.out c))) (by rw [List.map_cons, tallyL, add_comm]; rfl) (W := W)) $$ [HO Ht]
  · isplitr; · iexact Hcell
    isplitl [HO]; · iexact HO
    isplitl [Ht]; · iexact Ht
    isplitr
    · rw [payload_cred]; unfold credPay; rw [nbr_nbr']; iexact Hp
    iexact Hr
  iintro HO
  iapply Hk
  iexists W; iexact HO

/-- A slot at whatever it holds, told by what it reads. -/
theorem cPts_of (c : Dev nD) (b : Bool) (k : ℕ) (hk : k < 6) (q : PosShare TreeShare) (g : Buf (Elt F) ((half b k hk).view.loc (c : Thread nD τ)))
    (x : S64x4096.Idx → Elt F .bf16) (h : (half b k hk).view.read (Elt F) g = x) :
    ((half b k hk).view.loc (c : Thread nD τ) ↦[(half b k hk).view.set]{q} g : sProp 𝕄) ⊢ cPts c b k hk q x := by
  subst h; unfold cPts
  exact Entails.of_eq (pointsTo_rep (c : Thread nD τ) (half b k hk) g q)

/-- Starting hop `t`: half the source's share and the neighbour's slot go to the copy. -/
theorem step_start (c : Dev nD) (b : Bool) (u : Fin 2) (t i : ℕ) (ht : t < nh b u.val) (E : List Ev) (K : Pr F) (Q : PUnit → sProp 𝕄) :
    iprop(Inv X Mv κ ιs ∗ cPts c b (slotOf t u) (slotOf_lt t u) qL (X (orig b t c) u) ∗ cAny (nbr b c) b (slotOf (t + 1) u) (slotOf_lt (t + 1) u)
        ∗ mfacts (orig b t c) ∗ Owes c (evCopy b u t i :: E) ∗ dutyTok ER (sendCell c b u t) (t / 3) 0 ∗ reached ER (sendCell c b u t) (t / 3)
        ∗ dutyTok ER (recvCell (nbr b c) b u t) (t / 3) 0 ∗ reached ER (recvCell (nbr b c) b u t) (t / 3))
      ⊢ iprop(((cred (tallyAt (sendCell c b u t) 0 NC) ∗ Owes c E) -∗ WP c K Q) -∗ WP c (start (fun b => nbr b c) b t u K) Q) := by
  unfold Owes cAny slot
  iintro ⟨#HI, Hsrc, ⟨%fd, Hdst⟩, #Hm, ⟨%W, HO⟩, Ht1, #Hr1, Ht2, #Hr2⟩ Hk
  ihave #Hcell1 := (inv_send X Mv κ ιs c b u t) $$ HI
  ihave #Hcell2 := (inv_recv X Mv κ ιs (nbr b c) b u t) $$ HI
  unfold start
  iapply (Rounds.wp_send_pointsTo_with 𝒱₀ ER (Rd X Mv) (c : Thread nD τ) none (c' := ((nbr b c : Dev nD) : Thread nD τ))
      (src := half b (slotOf t u) (slotOf_lt t u)) (dst := half b (slotOf (t + 1) u) (slotOf_lt (t + 1) u)) (sS := .dma (sendSem b u t)) (sem := .dma (recvSem b u t))
      (q := qL) (fs := (half b (slotOf t u) (slotOf_lt t u)).view.rep (X (orig b t c) u)) (fd := fd) (F := mfacts (orig b t c))
      (κ₁ := κ (sendCell c b u t)) (κ₂ := κ (recvCell (nbr b c) b u t)) (r₁ := t / 3) (r₂ := t / 3) (d₁ := 0) (d₂ := 0)
      (by rw [duties_send X Mv c b u ht]; exact Finset.mem_singleton_self _) (by rw [duties_recv X Mv (nbr b c) b u ht]; exact Finset.mem_singleton_self _)
      i 0 NC (half_credit b _ _) (amount_send X Mv c b u t _ _) (amount_recv X Mv (nbr b c) b u t _ _)
      (O₀ := tallyL ((evCopy b u t i :: E).map (Ev.out c))) (tallyL (E.map (Ev.out c))) (by rw [List.map_cons, tallyL, add_comm]; rfl) (W := W)
      (by rw [payload_send]; exact .rfl)
      (by
        rw [payload_recv]; unfold recvPay; rw [orig_nbr]
        exact sep_mono_left (cPts_of (nbr b c) b _ _ _ _ _ (by rw [View.read_write_univ, View.read_rep])))) $$ [Hsrc Hdst HO Ht1 Ht2]
  · isplitr; · iexact Hcell1
    isplitr; · iexact Hcell2
    isplitl [Hsrc]; · unfold cPts; iexact Hsrc
    isplitl [Hdst]
    · isplitl [Hdst]; · iexact Hdst
      iexact Hm
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

end Cert.KernelIdeal.Own

end
-- ==== Proof.Hop.lean ====
/-
One direction of one hop: the send of hop `h` comes back, its slot is released and the credit given,
the arrival of hop `h` is taken and sent on as hop `h + 1`.
-/
module

public import proofs.«01_k».proof.Proof.Steps

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Gen

set_option Elab.async false

variable {F : FTy → Type} [FloatOps F]

local notation "𝕄" => MT nD τ sig ℕ (Elt F) ℕ UU ℕ

variable (X : Dev nD → Fin 2 → S64x4096.Idx → Elt F .bf16) (Mv : Dev nD → S8x128.Idx → Elt F .f32)
  (κ : GSem nD τ sig → ℕ) (ιs : Key → ℕ)

theorem range_succ (Φ : ℕ → sProp 𝕄) (n : ℕ) : iprop(bigSep (Finset.range n) Φ ∗ Φ n) ⊢ bigSep (Finset.range (n + 1)) Φ := by
  refine BIBase.Entails.trans (sep_comm (PROP := sProp 𝕄)).1 (Entails.of_eq ?_)
  rw [Finset.range_add_one, bigSep_insert Finset.notMem_range_self]
  rfl

theorem cAny_congr (c : Dev nD) (b : Bool) {k k' : ℕ} (h : k = k') (hk : k < 6) (hk' : k' < 6) : (cAny c b k hk : sProp 𝕄) = cAny c b k' hk' := by
  subst h; rfl

/-- The slot of a hop's key. -/
theorem slotOfKey_ckey (c : Dev nD) (b : Bool) (u : Fin 2) {h t : ℕ} (hh : h < 14) (ht : t % 3 = h % 3) :
    (slotOfKey (F := F) (ckey c b u h)) = cAny c b (slotOf t u) (slotOf_lt t u) := by
  show (cAny c b (slotOf (h % 14) u) _ : sProp 𝕄) = _
  exact cAny_congr c b (by unfold slotOf; rw [Nat.mod_eq_of_lt hh, ht]) _ _

theorem cAny_excl (c : Dev nD) (b : Bool) (k : ℕ) (hk : k < 6) : iprop(cAny c b k hk ∗ cAny c b k hk) ⊢ (False : sProp 𝕄) := by
  unfold cAny
  exact Release.slot_slot_false (View.set_nonempty (by decide))

theorem cPts_halves (c : Dev nD) (b : Bool) (k : ℕ) (hk : k < 6) (x : S64x4096.Idx → Elt F .bf16) :
    (cPts c b k hk fullShare x : sProp 𝕄) ⊣⊢ iprop(cPts c b k hk qL x ∗ cPts c b k hk qR x) := by
  unfold cPts
  exact pointsTo_share (PosShare.mem_left_op_right fullShare)

theorem cPts_any (c : Dev nD) (b : Bool) (k : ℕ) (hk : k < 6) (x : S64x4096.Idx → Elt F .bf16) :
    (cPts c b k hk fullShare x : sProp 𝕄) ⊢ cAny c b k hk := by
  unfold cPts cAny slot
  iintro H; iexists _; iexact H

/-- The releases device `c` has made before hop `n`. -/
def facts (c : Dev nD) (b : Bool) (u : Fin 2) (n : ℕ) : sProp 𝕄 := bigSep (Finset.range n) fun i => credFact c b u i
/-- What is known of the devices whose chunks came by. -/
def mfs (c : Dev nD) (b : Bool) (n : ℕ) : sProp 𝕄 := bigSep (Finset.range (n + 1)) fun i => mfacts (orig b i c)

instance facts_persistent (c : Dev nD) (b : Bool) (u : Fin 2) (n : ℕ) : BI.Persistent (facts c b u n : sProp 𝕄) := by
  unfold facts; infer_instance
instance mfs_persistent (c : Dev nD) (b : Bool) (n : ℕ) : BI.Persistent (mfs c b n : sProp 𝕄) := by
  unfold mfs; infer_instance

theorem facts_succ (c : Dev nD) (b : Bool) (u : Fin 2) (n : ℕ) : iprop(facts c b u n ∗ credFact c b u n) ⊢ (facts c b u (n + 1) : sProp 𝕄) :=
  range_succ (F := F) (fun i => credFact c b u i) n
theorem mfs_succ (c : Dev nD) (b : Bool) (n : ℕ) : iprop(mfs c b n ∗ mfacts (orig b (n + 1) c)) ⊢ (mfs c b (n + 1) : sProp 𝕄) :=
  range_succ (F := F) (fun i => mfacts (orig b i c)) (n + 1)
theorem mfs_last (c : Dev nD) (b : Bool) (n : ℕ) : (mfs c b n : sProp 𝕄) ⊢ mfacts (orig b n c) :=
  bigSep_one (F := F) (Φ := fun i => mfacts (orig b i c)) (Finset.mem_range.mpr (Nat.lt_succ_self n))

/-- The positions of the send cells and of the arrival cells, the next hop being `h`. -/
def Pos3 (c : Dev nD) (b : Bool) (u : Fin 2) (s r : ℕ) : sProp 𝕄 :=
  iprop((SP c b u s ∗ SP c b u (s + 1) ∗ SP c b u (s + 2)) ∗ (RP c b u r ∗ RP c b u (r + 1) ∗ RP c b u (r + 2)))

/-- A direction's half with hop `h`'s copy under way. -/
def Core (c : Dev nD) (b : Bool) (u : Fin 2) (h : ℕ) : sProp 𝕄 :=
  iprop(cPts c b (slotOf h u) (slotOf_lt h u) qR (X (orig b h c) u) ∗ cred (tallyAt (sendCell c b u h) 0 NC)
    ∗ Pos3 c b u h h ∗ facts c b u h ∗ mfs c b h)

/-- What hop `h` uses up besides: the duties it pays, its slot's release count. -/
def Tk1 (c : Dev nD) (b : Bool) (u : Fin 2) (h : ℕ) : sProp 𝕄 :=
  iprop(dutyTok ER (credCell (nbr (!b) c) b u) 0 h ∗ readerAt ES (ckey c b u h) 0)
/-- The duties of hop `t`'s copy. -/
def Tk2 (c : Dev nD) (b : Bool) (u : Fin 2) (t : ℕ) : sProp 𝕄 :=
  iprop(dutyTok ER (sendCell c b u t) (t / 3) 0 ∗ dutyTok ER (recvCell (nbr b c) b u t) (t / 3) 0)

/-- From the wait for the send to the start of the next copy, the neighbour's slot in hand. -/
theorem hopDir'_spec (c : Dev nD) (b : Bool) (u : Fin 2) (h : ℕ) (hh : h < 14) (E : List Ev) (hE : Above (h + 2) E)
    (K : Pr F) (Q : PUnit → sProp 𝕄) :
    iprop(Inv X Mv κ ιs ∗ Core X c b u h ∗ Tk1 c b u h ∗ Tk2 c b u (h + 1) ∗ cAny (nbr b c) b (slotOf (h + 2) u) (slotOf_lt (h + 2) u)
        ∗ reached ER (recvCell (nbr b c) b u (h + 1)) ((h + 1) / 3) ∗ reached ER (credCell (nbr (!b) c) b u) 0
        ∗ cred (tallyAt (recvCell c b u h) (h + 2) NC) ∗ Owes c (evDir b u h ++ E))
      ⊢ iprop(((Core X c b u (h + 1) ∗ Owes c E) -∗ WP c K Q) -∗ WP c (hopDir' (fun b => nbr b c) b h u K) Q) := by
  have hn := le_nh b u.val
  have hE1 : Above (h + 2) (evCopy b u (h + 1) (h + 3) :: E) := hE.cons ⟨by show h + 2 < h + 3; omega, by show h + 3 < 64; omega⟩
  have hE2 : Above (h + 2) (evCred b u (h + 3) :: evCopy b u (h + 1) (h + 3) :: E) := hE1.cons ⟨by show h + 2 < h + 3; omega, by show h + 3 < 64; omega⟩
  unfold Core Tk1 Tk2 Pos3
  iintro ⟨#HI, ⟨Hc, Hcs, ⟨⟨Hs0, Hs1, Hs2⟩, ⟨Hr0, Hr1, Hr2⟩⟩, #Hf, #Hm⟩, ⟨Htc, Hrd⟩, ⟨Hts, Htr⟩, Hdst, #Hrr, #Hrc, Hcr, HO⟩ Hk
  unfold hopDir' evDir
  iapply (step_waitSend X Mv κ ιs c b u h (by omega) _ (hE2.mono (by omega)) _ Q) $$ [Hcs HO Hs0]
  · isplitr; · iexact HI
    isplitl [Hcs]; · iexact Hcs
    isplitl [HO]; · iexact HO
    iexact Hs0
  iintro ⟨HO, Hs3, Hpay⟩
  -- the slot is whole again: it is released
  ihave Hfull := (cPts_halves c b (slotOf h u) (slotOf_lt h u) (X (orig b h c) u)).2 $$ [Hpay Hc]
  · isplitl [Hpay]; · unfold sendPay; iexact Hpay
    iexact Hc
  ihave Hany := (cPts_any c b _ _ _) $$ Hfull
  ihave #Hsl := (inv_slot X Mv κ ιs (ckey c b u h)) $$ HI
  imod (Release.slot_release (ES (F := F)) (ι := ιs (ckey c b u h)) (k := ckey c b u h) (S := slotOfKey (ckey c b u h)) (Es := Set.univ) (Set.mem_univ _)
      (by rw [slotOfKey_ckey c b u hh rfl]; exact cAny_excl c b _ _) 0) $$ [Hrd Hany] with ⟨-, #Hrel⟩
  · isplitr; · iexact Hsl
    isplitl [Hrd]; · iexact Hrd
    rw [slotOfKey_ckey c b u hh rfl]; iexact Hany
  unfold RP
  icases Hr2 with ⟨Hr2, #Hr2r⟩
  ihave #Hf' := (facts_succ c b u h) $$ []
  · isplitr; · iexact Hf
    unfold credFact
    isplitr; · iexact Hrel
    iexact Hr2r
  iapply (step_sigCred X Mv κ ιs c b u h (h + 3) hh _ _ Q) $$ [HO Htc]
  · isplitr; · iexact HI
    isplitl [HO]; · iexact HO
    isplitl [Htc]; · iexact Htc
    isplitr; · unfold facts; iexact Hf'
    iexact Hrc
  iintro HO
  iapply (step_waitRecv X Mv κ ιs c b u h (h + 2) (by omega) _ hE1 (by omega) _ Q) $$ [Hcr HO Hr0]
  · isplitr; · iexact HI
    isplitl [Hcr]; · iexact Hcr
    isplitl [HO]; · iexact HO
    unfold RP; iexact Hr0
  iintro ⟨HO, Hr3, Hpay⟩
  unfold recvPay
  icases Hpay with ⟨Hc, #Hmf⟩
  ihave Hc2 := (cPts_halves c b (slotOf (h + 1) u) (slotOf_lt (h + 1) u) (X (orig b (h + 1) c) u)).1 $$ Hc
  icases Hc2 with ⟨HcL, HcR⟩
  unfold SP
  icases Hs1 with ⟨Hs1, #Hs1r⟩
  iapply (step_start X Mv κ ιs c b u (h + 1) (h + 3) (by omega) _ _ Q) $$ [HcL Hdst HO Hts Htr]
  · isplitr; · iexact HI
    isplitl [HcL]; · iexact HcL
    isplitl [Hdst]; · iexact Hdst
    isplitr; · iexact Hmf
    isplitl [HO]; · iexact HO
    isplitl [Hts]; · iexact Hts
    isplitr; · iexact Hs1r
    isplitl [Htr]; · iexact Htr
    iexact Hrr
  iintro ⟨Hcs, HO⟩
  iapply Hk
  isplitr [HO]
  · isplitl [HcR]; · iexact HcR
    isplitl [Hcs]; · iexact Hcs
    isplitl [Hs1 Hs2 Hs3 Hr1 Hr2 Hr3]
    · isplitl [Hs1 Hs2 Hs3]
      · isplitl [Hs1]; · isplitl [Hs1]; · iexact Hs1
                         iexact Hs1r
        isplitl [Hs2]; · iexact Hs2
        iexact Hs3
      isplitl [Hr1]; · iexact Hr1
      isplitl [Hr2]; · isplitl [Hr2]; · iexact Hr2
                       iexact Hr2r
      unfold RP; iexact Hr3
    isplitr; · iexact Hf'
    iapply (mfs_succ c b h)
    isplitr; · iexact Hm
    iexact Hmf
  iexact HO

/-- What a direction's half holds besides between hops: first the neighbour's slot, then the credits. -/
def Side (c : Dev nD) (b : Bool) (u : Fin 2) : ℕ → sProp 𝕄
  | 0 => iprop(CredSt c b u 0 ∗ cAny (nbr b c) b (slotOf 2 u) (slotOf_lt 2 u) ∗ reached ER (recvCell (nbr b c) b u 1) 0)
  | h + 1 => CredSt c b u h

/-- The right to the neighbour's slot of two hops before. -/
def Wt (c : Dev nD) (b : Bool) (u : Fin 2) : ℕ → sProp 𝕄
  | 0 => iprop(emp)
  | h + 1 => writeTok ES (ckey (nbr b c) b u h) 1

/-- What hop `h`'s direction will be paid. -/
def DueDir (c : Dev nD) (b : Bool) (u : Fin 2) : ℕ → sProp 𝕄
  | 0 => cred (tallyAt (recvCell c b u 0) 2 NC)
  | h + 1 => iprop(cred (tallyAt (credCell c b u) (h + 3) 1) ∗ cred (tallyAt (recvCell c b u (h + 1)) (h + 3) NC))

/-- All a direction's hop `h` uses up. -/
def Tk (c : Dev nD) (b : Bool) (u : Fin 2) (h : ℕ) : sProp 𝕄 := iprop(Tk1 c b u h ∗ Tk2 c b u (h + 1) ∗ Wt c b u h)

/-- A direction's half between the hops. -/
def DirSt (c : Dev nD) (b : Bool) (u : Fin 2) (h : ℕ) : sProp 𝕄 :=
  iprop(Core X c b u h ∗ Side c b u h ∗ reached ER (credCell (nbr (!b) c) b u) 0)

/-- The neighbour's slot of two hops before, once its release is known. -/
theorem take_slot (c : Dev nD) (b : Bool) (u : Fin 2) {h t : ℕ} (hh : h < 14) (ht : t % 3 = h % 3) :
    iprop(Inv X Mv κ ιs ∗ released ES (ckey c b u h) 1 ∗ writeTok ES (ckey c b u h) 1)
      ⊢ (|={Set.univ}=> cAny c b (slotOf t u) (slotOf_lt t u) : sProp 𝕄) := by
  iintro ⟨#HI, #Hr, Hw⟩
  ihave #Hsl := (inv_slot X Mv κ ιs (ckey c b u h)) $$ HI
  rw [← slotOfKey_ckey c b u hh ht]
  iapply (Release.slot_take (ES (F := F)) (ι := ιs (ckey c b u h)) (k := ckey c b u h) (S := slotOfKey (ckey c b u h)) (Es := Set.univ) (Set.mem_univ _) 1)
  isplitr; · iexact Hsl
  isplitr; · iexact Hr
  iexact Hw

/-- One direction of one hop. -/
theorem hopDir_spec (c : Dev nD) (b : Bool) (u : Fin 2) (h : ℕ) (hh : h < 14) (E : List Ev) (hE : Above (h + 2) E)
    (K : Pr F) (Q : PUnit → sProp 𝕄) :
    iprop(Inv X Mv κ ιs ∗ DirSt X c b u h ∗ Tk c b u h ∗ DueDir c b u h ∗ Owes c (evDir b u h ++ E))
      ⊢ iprop(((DirSt X c b u (h + 1) ∗ Owes c E) -∗ WP c K Q) -∗ WP c (hopDir (fun b => nbr b c) b h u K) Q) := by
  unfold DirSt Tk
  cases h with
  | zero =>
    unfold Side DueDir
    iintro ⟨#HI, ⟨Hcore, ⟨Hcr, Hslot, #Hrr⟩, #Hrc⟩, ⟨Ht1, Ht2, -⟩, Hdue, HO⟩ Hk
    unfold hopDir
    iapply (hopDir'_spec X Mv κ ιs c b u 0 hh E hE K Q) $$ [Hcore Hslot Ht1 Ht2 Hdue HO]
    · isplitr; · iexact HI
      isplitl [Hcore]; · iexact Hcore
      isplitl [Ht1]; · iexact Ht1
      isplitl [Ht2]; · iexact Ht2
      isplitl [Hslot]; · iexact Hslot
      isplitr; · iexact Hrr
      isplitr; · iexact Hrc
      isplitl [Hdue]; · iexact Hdue
      iexact HO
    iintro ⟨Hcore, HO⟩
    iapply Hk
    isplitr [HO]
    · isplitl [Hcore]; · iexact Hcore
      isplitl [Hcr]; · iexact Hcr
      iexact Hrc
    iexact HO
  | succ h =>
    unfold Side DueDir Wt
    iintro ⟨#HI, ⟨Hcore, Hcr, #Hrc⟩, ⟨Ht1, Ht2, Hw⟩, ⟨Hd1, Hd2⟩, HO⟩ Hk
    unfold hopDir
    have hE2 : Above (h + 3) (evDir b u (h + 1) ++ E) := (above_dir b u (h + 1) (by omega) (by omega)).append hE
    iapply (step_waitCred X Mv κ ιs c b u h (h + 3) (by omega) _ hE2 (by omega) _ Q) $$ [Hcr Hd1 HO]
    · isplitr; · iexact HI
      isplitl [Hd1]; · iexact Hd1
      isplitl [HO]; · iexact HO
      iexact Hcr
    iintro ⟨HO, Hcr, #Hfact⟩
    unfold credFact
    icases Hfact with ⟨#Hrel, #Hrr⟩
    imod (take_slot X Mv κ ιs (nbr b c) b u (h := h) (t := h + 1 + 2) (by omega) (by omega)) $$ [Hw] with Hslot
    · isplitr; · iexact HI
      isplitr; · iexact Hrel
      iexact Hw
    iapply (hopDir'_spec X Mv κ ιs c b u (h + 1) hh E hE K Q) $$ [Hcore Hslot Ht1 Ht2 Hd2 HO]
    · isplitr; · iexact HI
      isplitl [Hcore]; · iexact Hcore
      isplitl [Ht1]; · iexact Ht1
      isplitl [Ht2]; · iexact Ht2
      isplitl [Hslot]; · iexact Hslot
      isplitr; · iexact Hrr
      isplitr; · iexact Hrc
      isplitl [Hd2]; · iexact Hd2
      iexact HO
    iintro ⟨Hcore, HO⟩
    iapply Hk
    isplitr [HO]
    · isplitl [Hcore]; · iexact Hcore
      isplitl [Hcr]; · iexact Hcr
      iexact Hrc
    iexact HO

end Cert.KernelIdeal.Own

end
-- ==== Proof.Gemm.lean ====
/-
One block's product: what it reads, and how the result's buffer and the running maximum go on.
-/
module

public import proofs.«01_k».proof.Proof.Hop
public import Idealize.ShloMosaic.Lib.Pipeline.ValueKit.Geometry

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Gen

set_option Elab.async false

variable {F : FTy → Type} [FloatOps F]

local notation "𝕄" => MT nD τ sig ℕ (Elt F) ℕ UU ℕ

variable (tb : Memref sig .tc .smem S39 .i32) (om : Memref sig .tc .vmem S4096x256 .f32)

/-- What a view read in another shape holds, in its own shape. -/
theorem read_of_reshape {s s' : Shape} (v : View sig .tc .vmem s .bf16) (h : s'.numel = s.numel) (f : BufTy.Contents (Elt F) v.ref.ty) (x : s'.Idx → Elt F .bf16)
    (hx : (v.reshape s' h).read (Elt F) f = x) : v.read (Elt F) f = shapeCast (α := Elt F .bf16) s x h.symm := by
  funext j
  subst hx
  show _ = v.read (Elt F) f (Shape.reshapeEquiv h (Shape.reshapeEquiv h.symm j))
  rw [Shape.reshapeEquiv_reshapeEquiv, Shape.reshapeEquiv_self]

/-- A half as a copy names it, read as a load reads it. -/
theorem read_half (b : Bool) (k : ℕ) (hk : k < 6) (f : BufTy.Contents (Elt F) (cm b).view.ref.ty) (x : S64x4096.Idx → Elt F .bf16)
    (h : (half b k hk).view.read (Elt F) f = x) :
    ((cm b).access (rectC k hk)).read (Elt F) f = shapeCast (α := Elt F .bf16) S1x64x4096 x shapeCasts_S64x4096_S1x64x4096 :=
  read_of_reshape ((cm b).access (rectC k hk)) _ f x h

theorem half_set (b : Bool) (k : ℕ) (hk : k < 6) : ((cm b).access (rectC k hk)).set = (half b k hk).view.set :=
  (View.set_reshape _ _).symm

/-- Where the block of device `o`'s half `u` lies in the result. -/
def rectO (o : Dev nD) (u : Fin 2) : Rect S4096x256 :=
  Rect.unit (s := S4096x256) (offRow (F := F) u (Dev.word o)) S64x256.size (offRow_inb (F := F) u _ (chkRow_word u o))

theorem rectO_row (o : Dev nD) (u : Fin 2) (i : S64x256.Idx) : (((rectO (F := F) o u).emb i) 0).val = o.val * 128 + u.val * 64 + (i 0).val := by
  have h : (((rectO (F := F) o u).emb i) 0).val = offRow (F := F) u (Dev.word o) 0 + (i 0).val := ValueKit.rect_emb_unit_val (s := S4096x256) (offRow (F := F) u (Dev.word o)) S64x256.size (offRow_inb (F := F) u _ (chkRow_word u o)) i 0
  rw [h, offRow_word]; rfl

/-- The result's buffer with the blocks of `done` in place. -/
def OutSt (c : Dev nD) (Y : Dev nD → Fin 2 → FVec F S64x256 .f32) (done : Dev nD → Fin 2 → Prop) : sProp 𝕄 :=
  iprop(∃ f, (om.view.loc (c : Thread nD τ) ↦[om.view.set]{fullShare} f)
    ∗ ⌜∀ o u, done o u → ∀ i : S64x256.Idx, om.view.read (Elt F) f ((rectO (F := F) o u).emb i) = Y o u i⌝)

/-- Device `c`'s row of the table. -/
def TabSt (c : Dev nD) : sProp 𝕄 :=
  iprop(∃ f, (tb.view.loc (c : Thread nD τ) ↦[tb.view.set]{fullShare} f)
    ∗ ⌜∀ (k : ℕ) (hk : k < 39) (x : S1.Idx), (tb.access (Rect.unit (s := S39) ![k] S1.size (inb39 k hk))).read (Elt F) f x = tab c k⌝)

/-- The weights in place. -/
def WtSt (c : Dev nD) (wv : Vec F S4096x256 .bf16) : sProp 𝕄 :=
  iprop(∃ f, ((Memref.whole cc0_scratch0).view.loc (c : Thread nD τ) ↦[(Memref.whole cc0_scratch0).view.set]{fullShare} f)
    ∗ ⌜((Memref.whole cc0_scratch0).access (Rect.unit (s := S4096x256) ![0, 0] S4096x256.size inb_S4096x256_S4096x256_0_0)).read (Elt F) f = wv⌝)

/-- Storing a block puts it in place and leaves the others. -/
theorem out_store (f : BufTy.Contents (Elt F) om.view.ref.ty) (Y : Dev nD → Fin 2 → FVec F S64x256 .f32) (done : Dev nD → Fin 2 → Prop)
    (hf : ∀ o u, done o u → ∀ i : S64x256.Idx, om.view.read (Elt F) f ((rectO (F := F) o u).emb i) = Y o u i) (o : Dev nD) (u : Fin 2) :
    ∀ o' u', (done o' u' ∨ (o' = o ∧ u' = u)) → ∀ i : S64x256.Idx,
      om.view.read (Elt F) ((om.access (rectO (F := F) o u)).write (Elt F) f (Y o u) Finset.univ) ((rectO (F := F) o' u').emb i) = Y o' u' i := by
  intro o' u' h i
  by_cases he : o' = o ∧ u' = u
  · obtain ⟨rfl, rfl⟩ := he
    exact View.read_slice_write_emb (Val := Elt F) (v := om.view) (rectO (F := F) o' u') f (Y o' u') (Finset.mem_univ i)
  · have hd : done o' u' := h.resolve_right he
    refine (View.read_slice_write_of_not_mem (Val := Elt F) (v := om.view) (rectO (F := F) o u) f (Y o u) Finset.univ ?_).trans (hf o' u' hd i)
    intro hm
    obtain ⟨j, -, hj⟩ := Finset.mem_map.mp hm
    have hr := congrArg (fun z : S4096x256.Idx => (z 0).val) hj
    have h1 := rectO_row (F := F) o u j
    have h2 := rectO_row (F := F) o' u' i
    have hj0 : (j 0).val < 64 := (j 0).isLt
    have hi0 : (i 0).val < 64 := (i 0).isLt
    have := u.isLt
    have := u'.isLt
    have hr' : o.val * 128 + u.val * 64 + (j 0).val = o'.val * 128 + u'.val * 64 + (i 0).val := by rw [← h1, ← h2]; exact hr
    exact he ⟨Fin.ext (by omega), Fin.ext (by omega)⟩

/-- A check that holds is passed. -/
theorem step_assume (c : Dev nD) {P : Prop} {d : Decidable P} (h : P) {k : PLift P → Pr F} {Q : PUnit → sProp 𝕄} :
    WP c (k ⟨h⟩) Q ⊢ WP c (.op (.assume P d) k) Q :=
  Entails.of_eq (wp_assume_of 𝒱₀ (c : Thread nD τ) none Set.univ h).symm

/-- Loading a word of the table. -/
theorem step_tab (c : Dev nD) (i : ℕ) (hi : i < 39) (k : Elt F .i32 → Pr F) (Q : PUnit → sProp 𝕄) :
    TabSt tb c ⊢ iprop((TabSt tb c -∗ WP c (k (tab c i)) Q) -∗ WP c (tabAt tb i hi >>= k) Q) := by
  unfold TabSt
  iintro ⟨%ft, Ht, %hft⟩ Hk
  rw [show (tabAt (F := F) tb i hi >>= k : Pr F) = smemLoadElt tb (Rect.unit (s := S39) ![i] S1.size (inb39 i hi)) (View.loads_smem_one rfl numel1_S1) (Shape.Idx.first (numel1_S1.symm ▸ Nat.one_pos)) k from rfl]
  iapply (wp_smemLoadElt 𝒱₀ (c : Thread nD τ) none Set.univ (m := tb) (r := Rect.unit (s := S39) ![i] S1.size (inb39 i hi)) (S := tb.view.set) (View.set_slice_subset _ _)) $$ Ht
  iintro Ht
  rw [hft i hi]
  iapply Hk
  iexists ft
  isplitl [Ht]; · iexact Ht
  ipureintro; exact hft

/-- One block's product, its chunk half read at any share. -/
theorem gemm_spec (c : Dev nD) (b : Bool) (h : ℕ) (u : Fin 2) (i : ℕ) (hi : i < 39) (o : Dev nD) (ho : tab c i = Dev.word o) (q : PosShare TreeShare)
    (x : S64x4096.Idx → Elt F .bf16) (wv : Vec F S4096x256 .bf16) (Y : Dev nD → Fin 2 → FVec F S64x256 .f32)
    (hY : Y o u = yb (shapeCast (α := Elt F .bf16) S1x64x4096 x shapeCasts_S64x4096_S1x64x4096) wv) (done : Dev nD → Fin 2 → Prop)
    (m : F .f32) (K : F .f32 → Pr F) (Q : PUnit → sProp 𝕄) :
    iprop(TabSt tb c ∗ WtSt c wv ∗ OutSt om c Y done ∗ cPts c b (slotOf h u) (slotOf_lt h u) q x)
      ⊢ iprop(((TabSt tb c ∗ WtSt c wv ∗ OutSt om c Y (fun o' u' => done o' u' ∨ (o' = o ∧ u' = u)) ∗ cPts c b (slotOf h u) (slotOf_lt h u) q x)
          -∗ WP c (K (mstep m (Y o u))) Q) -∗ WP c (gemm tb om b h u i hi m K) Q) := by
  unfold WtSt OutSt cPts
  iintro ⟨Ht, ⟨%fw, Hw, %hfw⟩, ⟨%fo, Ho, %hfo⟩, Hc⟩ Hk
  unfold gemm
  iapply (wp_load_rect 𝒱₀ (c : Thread nD τ) none Set.univ (m := cm b) (r := rectC (slotOf h u) (slotOf_lt h u)) (S := (half b (slotOf h u) (slotOf_lt h u)).view.set) (subset_of_eq (half_set b _ _))) $$ Hc
  iintro Hc
  rw [read_half (F := F) b _ (slotOf_lt h u) _ x (View.read_rep _ _)]
  iapply (step_tab tb c i hi) $$ Ht
  iintro Ht
  rw [ho]
  iapply (step_assume c (chkRow_word (F := F) u o))
  iapply (wp_load_rect 𝒱₀ (c : Thread nD τ) none Set.univ (m := Memref.whole cc0_scratch0) (r := Rect.unit (s := S4096x256) ![0, 0] S4096x256.size inb_S4096x256_S4096x256_0_0) (S := (Memref.whole cc0_scratch0).view.set) (View.set_slice_subset _ _)) $$ Hw
  iintro Hw
  rw [hfw]
  iapply (wp_load_rect 𝒱₀ (c : Thread nD τ) none Set.univ (m := om) (r := rectO (F := F) o u) (S := om.view.set) (View.set_slice_subset _ _)) $$ Ho
  iintro Ho
  iapply (wp_store 𝒱₀ (c : Thread nD τ) none Set.univ (m := om) (r := rectO (F := F) o u) (S := om.view.set) (View.set_slice_subset _ _)) $$ Ho
  iintro Ho
  rw [← hY]
  iapply Hk
  isplitl [Ht]; · iexact Ht
  isplitl [Hw]
  · iexists fw
    isplitl [Hw]; · iexact Hw
    ipureintro; exact hfw
  isplitl [Ho]
  · iexists _
    isplitl [Ho]; · iexact Ho
    ipureintro
    exact out_store om fo Y done hfo o u
  iexact Hc

end Cert.KernelIdeal.Own

end
-- ==== Proof.Hops.lean ====
/-
The middle hops: one half of one hop, and all of them by induction. What has been computed is told by
the list of the blocks so far, which the result's buffer and the running maximum both follow.
-/
module

public import proofs.«01_k».proof.Proof.Gemm

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Gen

set_option Elab.async false

variable {F : FTy → Type} [FloatOps F]

local notation "𝕄" => MT nD τ sig ℕ (Elt F) ℕ UU ℕ

variable (X : Dev nD → Fin 2 → S64x4096.Idx → Elt F .bf16) (Mv : Dev nD → S8x128.Idx → Elt F .f32)
  (κ : GSem nD τ sig → ℕ) (ιs : Key → ℕ)
variable (tb : Memref sig .tc .smem S39 .i32) (om : Memref sig .tc .vmem S4096x256 .f32) (wv : Vec F S4096x256 .bf16)

/-- The block of device `o`'s half `u` under the weights `wv`. -/
def Yb (o : Dev nD) (u : Fin 2) : FVec F S64x256 .f32 :=
  yb (shapeCast (α := Elt F .bf16) S1x64x4096 (X o u) shapeCasts_S64x4096_S1x64x4096) wv

/-- The running maximum after the blocks of `l`, from zero. -/
def Ml (l : List (Dev nD × Fin 2)) : F .f32 := l.foldl (fun m p => mstep m (Yb X wv p.1 p.2)) (Scalar.ofBits .f32 0#32)

theorem Ml_snoc (l : List (Dev nD × Fin 2)) (p : Dev nD × Fin 2) : Ml X wv (l ++ [p]) = mstep (Ml X wv l) (Yb X wv p.1 p.2) := by
  unfold Ml; rw [List.foldl_append]; rfl

/-- The products' operands and result after the blocks of `l`. -/
def GS (c : Dev nD) (l : List (Dev nD × Fin 2)) : sProp 𝕄 :=
  iprop(TabSt tb c ∗ WtSt c wv ∗ OutSt om c (Yb X wv) fun o u => (o, u) ∈ l)

theorem OutSt_mono (c : Dev nD) (Y : Dev nD → Fin 2 → FVec F S64x256 .f32) {d d' : Dev nD → Fin 2 → Prop} (h : ∀ o u, d' o u → d o u) :
    OutSt om c Y d ⊢ (OutSt om c Y d' : sProp 𝕄) := by
  unfold OutSt
  iintro ⟨%f, H, %hf⟩
  iexists f
  isplitl [H]; · iexact H
  ipureintro; exact fun o u hd => hf o u (h o u hd)

/-- A block's product, in terms of the list of blocks. -/
theorem gemm_list (c : Dev nD) (b : Bool) (h : ℕ) (u : Fin 2) (i : ℕ) (hi : i < 39) (o : Dev nD) (ho : tab c i = Dev.word o) (q : PosShare TreeShare)
    (l : List (Dev nD × Fin 2)) (K : F .f32 → Pr F) (Q : PUnit → sProp 𝕄) :
    iprop(GS X tb om wv c l ∗ cPts c b (slotOf h u) (slotOf_lt h u) q (X o u))
      ⊢ iprop(((GS X tb om wv c (l ++ [(o, u)]) ∗ cPts c b (slotOf h u) (slotOf_lt h u) q (X o u)) -∗ WP c (K (Ml X wv (l ++ [(o, u)]))) Q)
          -∗ WP c (gemm tb om b h u i hi (Ml X wv l) K) Q) := by
  unfold GS
  iintro ⟨⟨Ht, Hw, Ho⟩, Hc⟩ Hk
  iapply (gemm_spec tb om c b h u i hi o ho q (X o u) wv (Yb X wv) rfl _ _ K Q) $$ [Ht Hw Ho Hc]
  · isplitl [Ht]; · iexact Ht
    isplitl [Hw]; · iexact Hw
    isplitl [Ho]; · iexact Ho
    iexact Hc
  iintro ⟨Ht, Hw, Ho, Hc⟩
  rw [Ml_snoc]
  iapply Hk
  isplitr [Hc]
  · isplitl [Ht]; · iexact Ht
    isplitl [Hw]; · iexact Hw
    iapply (OutSt_mono om c (Yb X wv) (d := fun o' u' => (o', u') ∈ l ∨ (o' = o ∧ u' = u)) (by
      intro o' u' hm
      rcases List.mem_append.mp hm with hm | hm
      · exact .inl hm
      · exact .inr (Prod.mk.inj (List.mem_singleton.mp hm))))
    iexact Ho
  iexact Hc

/-- The product of the chunk that direction `b` holds at hop `h`. -/
theorem gemm_dir (c : Dev nD) (b : Bool) (h : ℕ) (u : Fin 2) (i : ℕ) (hi : i < 39) (ho : tab c i = Dev.word (orig b h c))
    (l : List (Dev nD × Fin 2)) (K : F .f32 → Pr F) (Q : PUnit → sProp 𝕄) :
    iprop(GS X tb om wv c l ∗ DirSt X c b u h)
      ⊢ iprop(((GS X tb om wv c (l ++ [(orig b h c, u)]) ∗ DirSt X c b u h) -∗ WP c (K (Ml X wv (l ++ [(orig b h c, u)]))) Q)
          -∗ WP c (gemm tb om b h u i hi (Ml X wv l) K) Q) := by
  unfold DirSt Core
  iintro ⟨HG, ⟨Hc, Hcore⟩, Hrest⟩ Hk
  iapply (gemm_list X tb om wv c b h u i hi _ ho qR l K Q) $$ [HG Hc]
  · isplitl [HG]; · iexact HG
    iexact Hc
  iintro ⟨HG, Hc⟩
  iapply Hk
  isplitl [HG]; · iexact HG
  isplitr [Hrest]
  · isplitl [Hc]; · iexact Hc
    iexact Hcore
  iexact Hrest

/-- The blocks that half `u` of hop `h` adds. -/
def seqHalf (c : Dev nD) (h : ℕ) (u : Fin 2) : List (Dev nD × Fin 2) := [(orig true h c, u), (orig false h c, u)]
/-- The blocks of `n` hops from `h + 1` on. -/
def seqHops (c : Dev nD) : (n h : ℕ) → List (Dev nD × Fin 2)
  | 0, _ => []
  | n + 1, h => seqHalf c (h + 1) 0 ++ (seqHalf c (h + 1) 1 ++ seqHops c n (h + 1))

/-- Both directions of half `u`. -/
def Dir2 (c : Dev nD) (u : Fin 2) (h : ℕ) : sProp 𝕄 := iprop(DirSt X c true u h ∗ DirSt X c false u h)
def Tk2d (c : Dev nD) (u : Fin 2) (h : ℕ) : sProp 𝕄 := iprop(Tk c true u h ∗ Tk c false u h)
def Due2 (c : Dev nD) (u : Fin 2) (h : ℕ) : sProp 𝕄 := iprop(DueDir c true u h ∗ DueDir c false u h)

/-- One half of one hop. -/
theorem hopHalf_spec (c : Dev nD) (u : Fin 2) (h : ℕ) (hh : h < 14) (E : List Ev) (hE : Above (h + 2) E)
    (l : List (Dev nD × Fin 2)) (K : F .f32 → Pr F) (Q : PUnit → sProp 𝕄) :
    iprop(Inv X Mv κ ιs ∗ Dir2 X c u h ∗ Tk2d c u h ∗ Due2 c u h ∗ Owes c (evHalf u h ++ E) ∗ GS X tb om wv c l)
      ⊢ iprop(((Dir2 X c u (h + 1) ∗ Owes c E ∗ GS X tb om wv c (l ++ seqHalf c (h + 1) u)) -∗ WP c (K (Ml X wv (l ++ seqHalf c (h + 1) u))) Q)
          -∗ WP c (hopHalf tb om (fun b => nbr b c) h (by omega) u (Ml X wv l) K) Q) := by
  unfold Dir2 Tk2d Due2 evHalf hopHalf
  rw [List.append_assoc, show l ++ seqHalf c (h + 1) u = (l ++ [(orig true (h + 1) c, u)]) ++ [(orig false (h + 1) c, u)] by rw [List.append_assoc]; rfl]
  iintro ⟨#HI, ⟨HD1, HD2⟩, ⟨Ht1, Ht2⟩, ⟨Hd1, Hd2⟩, HO, HG⟩ Hk
  iapply (hopDir_spec X Mv κ ιs c true u h hh (evDir false u h ++ E) ((above_dir false u h (by omega) (by omega)).append hE) _ Q) $$ [HD1 Ht1 Hd1 HO]
  · isplitr; · iexact HI
    isplitl [HD1]; · iexact HD1
    isplitl [Ht1]; · iexact Ht1
    isplitl [Hd1]; · iexact Hd1
    iexact HO
  iintro ⟨HD1, HO⟩
  iapply (hopDir_spec X Mv κ ιs c false u h hh E hE _ Q) $$ [HD2 Ht2 Hd2 HO]
  · isplitr; · iexact HI
    isplitl [HD2]; · iexact HD2
    isplitl [Ht2]; · iexact Ht2
    isplitl [Hd2]; · iexact Hd2
    iexact HO
  iintro ⟨HD2, HO⟩
  iapply (gemm_dir X tb om wv c true (h + 1) u (7 + (h + 1)) _ (tab_fwd ⟨h + 1, by omega⟩ c) l _ Q) $$ [HG HD1]
  · isplitl [HG]; · iexact HG
    iexact HD1
  iintro ⟨HG, HD1⟩
  iapply (gemm_dir X tb om wv c false (h + 1) u (24 + h) _ (tab_bwd ⟨h, by omega⟩ c) _ _ Q) $$ [HG HD2]
  · isplitl [HG]; · iexact HG
    iexact HD2
  iintro ⟨HG, HD2⟩
  iapply Hk
  isplitr [HO HG]
  · isplitl [HD1]; · iexact HD1
    iexact HD2
  isplitl [HO]; · iexact HO
  iexact HG

/-- What `n` hops from `h + 1` on use up. -/
def TkHops (c : Dev nD) : (n h : ℕ) → sProp 𝕄
  | 0, _ => iprop(emp)
  | n + 1, h => iprop(Tk2d c 0 h ∗ Tk2d c 1 h ∗ TkHops c n (h + 1))
/-- What they are paid. -/
def DueHops (c : Dev nD) : (n h : ℕ) → sProp 𝕄
  | 0, _ => iprop(emp)
  | n + 1, h => iprop(Due2 c 0 h ∗ Due2 c 1 h ∗ DueHops c n (h + 1))

/-- The middle hops. -/
theorem hops_spec (c : Dev nD) (E : List Ev) (hE : Above 16 E) (K : F .f32 → Pr F) (Q : PUnit → sProp 𝕄) :
    ∀ (n h : ℕ) (hh : h + n < 15) (l : List (Dev nD × Fin 2)),
    iprop(Inv X Mv κ ιs ∗ Dir2 X c 0 h ∗ Dir2 X c 1 h ∗ TkHops c n h ∗ DueHops c n h ∗ Owes c (evHops n h ++ E) ∗ GS X tb om wv c l)
      ⊢ iprop(((Dir2 X c 0 (h + n) ∗ Dir2 X c 1 (h + n) ∗ Owes c E ∗ GS X tb om wv c (l ++ seqHops c n h)) -∗ WP c (K (Ml X wv (l ++ seqHops c n h))) Q)
          -∗ WP c (hops tb om (fun b => nbr b c) n h hh (Ml X wv l) K) Q)
  | 0, h, hh, l => by
    unfold hops seqHops evHops
    rw [List.append_nil, List.nil_append]
    iintro ⟨-, HA, HB, -, -, HO, HG⟩ Hk
    iapply Hk
    isplitl [HA]; · iexact HA
    isplitl [HB]; · iexact HB
    isplitl [HO]; · iexact HO
    iexact HG
  | n + 1, h, hh, l => by
    have hEn : Above (h + 2) (evHops n (h + 1) ++ E) := (above_hops n (h + 1) (by omega) (by omega)).append (hE.mono (by omega))
    unfold hops TkHops DueHops evHops seqHops
    rw [List.append_assoc, List.append_assoc, ← List.append_assoc l, ← List.append_assoc (l ++ _)]
    iintro ⟨#HI, HA, HB, ⟨Ht0, Ht1, Ht⟩, ⟨Hd0, Hd1, Hd⟩, HO, HG⟩ Hk
    iapply (hopHalf_spec X Mv κ ιs tb om wv c 0 h (by omega) (evHalf 1 h ++ (evHops n (h + 1) ++ E)) ((above_half 1 h (by omega) (by omega)).append hEn) l _ Q) $$ [HA Ht0 Hd0 HO HG]
    · isplitr; · iexact HI
      isplitl [HA]; · iexact HA
      isplitl [Ht0]; · iexact Ht0
      isplitl [Hd0]; · iexact Hd0
      isplitl [HO]; · iexact HO
      iexact HG
    iintro ⟨HA, HO, HG⟩
    iapply (hopHalf_spec X Mv κ ιs tb om wv c 1 h (by omega) (evHops n (h + 1) ++ E) hEn _ _ Q) $$ [HB Ht1 Hd1 HO HG]
    · isplitr; · iexact HI
      isplitl [HB]; · iexact HB
      isplitl [Ht1]; · iexact Ht1
      isplitl [Hd1]; · iexact Hd1
      isplitl [HO]; · iexact HO
      iexact HG
    iintro ⟨HB, HO, HG⟩
    rw [show h + (n + 1) = (h + 1) + n by omega]
    iapply (hops_spec c E hE K Q n (h + 1) _ _) $$ [HA HB Ht Hd HO HG]
    · isplitr; · iexact HI
      isplitl [HA]; · iexact HA
      isplitl [HB]; · iexact HB
      isplitl [Ht]; · iexact Ht
      isplitl [Hd]; · iexact Hd
      isplitl [HO]; · iexact HO
      iexact HG
    iexact Hk

theorem due_dir (c : Dev nD) (b : Bool) (u : Fin 2) (h : ℕ) : (Due c (evDir b u h) : sProp 𝕄) ⊢ DueDir c b u (h + 1) := by
  unfold evDir DueDir
  iintro H
  ihave H := (due_cons c _ _) $$ H
  icases H with ⟨Ha, H⟩
  ihave H := (due_cons c _ _) $$ H
  icases H with ⟨Hb, -⟩
  isplitl [Ha]; · iexact Ha
  iexact Hb

theorem due_half (c : Dev nD) (u : Fin 2) (h : ℕ) : (Due c (evHalf u h) : sProp 𝕄) ⊢ Due2 c u (h + 1) := by
  unfold evHalf Due2
  iintro H
  ihave H := (due_append c _ _) $$ H
  icases H with ⟨Ha, Hb⟩
  isplitl [Ha]
  · iapply (due_dir c true u h) $$ Ha
  iapply (due_dir c false u h) $$ Hb

/-- The payments of the hops, received: each hop's of the next. -/
theorem due_hops (c : Dev nD) : ∀ n h : ℕ, (Due c (evHops n h) : sProp 𝕄) ⊢ DueHops c n (h + 1)
  | 0, h => by unfold DueHops; iintro -; iempintro
  | n + 1, h => by
    unfold evHops DueHops
    iintro H
    ihave H := (due_append c _ _) $$ H
    icases H with ⟨H0, H⟩
    ihave H := (due_append c _ _) $$ H
    icases H with ⟨H1, H⟩
    isplitl [H0]
    · iapply (due_half c 0 h) $$ H0
    isplitl [H1]
    · iapply (due_half c 1 h) $$ H1
    iapply (due_hops c n (h + 1)) $$ H

/-- The last hop's part of the payments split off. -/
theorem due_last (c : Dev nD) : ∀ n h : ℕ, (DueHops c (n + 1) h : sProp 𝕄) ⊢ iprop(DueHops c n h ∗ Due2 c 0 (h + n) ∗ Due2 c 1 (h + n))
  | 0, h => by
    rw [show (DueHops c (0 + 1) h : sProp 𝕄) = iprop(Due2 c 0 h ∗ Due2 c 1 h ∗ emp) from rfl, show (DueHops c 0 h : sProp 𝕄) = iprop(emp) from rfl]
    iintro ⟨H0, H1, -⟩
    isplitr; · iempintro
    isplitl [H0]; · iexact H0
    iexact H1
  | n + 1, h => by
    rw [show (DueHops c (n + 1 + 1) h : sProp 𝕄) = iprop(Due2 c 0 h ∗ Due2 c 1 h ∗ DueHops c (n + 1) (h + 1)) from rfl,
      show (DueHops c (n + 1) h : sProp 𝕄) = iprop(Due2 c 0 h ∗ Due2 c 1 h ∗ DueHops c n (h + 1)) from rfl]
    iintro ⟨H0, H1, H⟩
    ihave H := (due_last c n (h + 1)) $$ H
    rw [show h + 1 + n = h + (n + 1) by omega]
    icases H with ⟨H, Ha, Hb⟩
    isplitl [H0 H1 H]
    · isplitl [H0]; · iexact H0
      isplitl [H1]; · iexact H1
      iexact H
    isplitl [Ha]; · iexact Ha
    iexact Hb

end Cert.KernelIdeal.Own

end
-- ==== Proof.Last.lean ====
/-
The last hop: the fourteenth credit closes its round, each half goes on in one direction alone, and
every slot comes back to its owner.
-/
module

public import proofs.«01_k».proof.Proof.Hops

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Gen

set_option Elab.async false

variable {F : FTy → Type} [FloatOps F]

local notation "𝕄" => MT nD τ sig ℕ (Elt F) ℕ UU ℕ

variable (X : Dev nD → Fin 2 → S64x4096.Idx → Elt F .bf16) (Mv : Dev nD → S8x128.Idx → Elt F .f32)
  (κ : GSem nD τ sig → ℕ) (ιs : Key → ℕ)
variable (tb : Memref sig .tc .smem S39 .i32) (om : Memref sig .tc .vmem S4096x256 .f32) (wv : Vec F S4096x256 .bf16)

/-- The last credit completes its round; it told of the release of the last hop's slot. -/
theorem step_waitCredLast (c : Dev nD) (b : Bool) (u : Fin 2) (i : ℕ) (E : List Ev) (hE : Above i E) (hi : i < 64)
    (K : Pr F) (Q : PUnit → sProp 𝕄) :
    iprop(Inv X Mv κ ιs ∗ cred (tallyAt (credCell c b u) i 1) ∗ Owes c E ∗ CredSt c b u 13)
      ⊢ iprop(((Owes c E ∗ atPos ER (credCell c b u) 1 ∅ 0 ∗ credFact (nbr b c) b u 13) -∗ WP c K Q) -∗ WP c (waitCred b u K) Q) := by
  rw [show (waitCred b u K : Pr F) = .op (.semWait (credA b u).sem 1) fun _ => K from rfl]
  unfold Owes CredSt
  iintro ⟨#HI, Hc, ⟨%W, HO⟩, ⟨%T, %hT, Hat, #HT⟩⟩ Hk
  ihave #Hcell := (inv_cred X Mv κ ιs c b u) $$ HI
  ihave Hmw := (inv_mayWait X Mv κ ιs c (.reg (credA b u).sem) hE hi) $$ HI
  iapply (Rounds.wp_wait_rest_token 𝒱₀ ER (Rd X Mv) (c : Thread nD τ) none (κ := κ (credCell c b u)) (sm := .reg (credA b u).sem)
      (wpE_semWait_eq 𝒱₀ (c : Thread nD τ) none Set.univ) (Set.mem_univ _) i (W := W) (R := 0) (m := 13) (T := T)
      (by rw [expect_cred])) $$ [Hc HO Hat Hmw]
  · isplitr; · iexact Hcell
    isplitl [Hc]; · iexact Hc
    isplitl [HO]; · iexact HO
    isplitl [Hmw]; · iexact Hmw
    iexact Hat
  iintro ⟨HO, Hat, -, Hpay⟩
  have hall : iprop((bigSep T fun d => credPay c b u d) ∗ bigSep ((Rd X Mv).duties (credCell c b u) 0 \ T) fun d => (Rd X Mv).payload (credCell c b u) 0 d)
      ⊢ (bigSep (Finset.range 14) fun d => credPay c b u d : sProp 𝕄) := by
    rw [duties_cred, bigSep_congr (s := Finset.range 14 \ T) fun d _ => payload_cred X Mv c b u 0 d]
    exact Entails.of_eq ((bigSep_union (Finset.disjoint_sdiff)).symm.trans (by rw [Finset.union_sdiff_of_subset hT]))
  ihave #Hall := hall $$ [HT Hpay]
  · isplitr; · iexact HT
    iexact Hpay
  iapply Hk
  isplitl [HO]; · iexists _; iexact HO
  isplitl [Hat]; · iexact Hat
  ihave #Hd := (bigSep_one (F := F) (i := 13) (Φ := fun d => credPay c b u d) (Finset.mem_range.mpr (by omega))) $$ Hall
  iapply (credPay_fact c b u (le_refl 13)) $$ Hd

/-- A direction's half once the arrival of hop 14 has been taken. -/
def L1 (c : Dev nD) (b : Bool) (u : Fin 2) : sProp 𝕄 :=
  iprop(cAny c b (slotOf 14 u) (slotOf_lt 14 u) ∗ Pos3 c b u 15 15 ∗ atPos ER (credCell c b u) 1 ∅ 0
    ∗ mfs c b 15 ∗ credFact (nbr b c) b u 13 ∗ credFact c b u 13)

/-- The credit, the send and the arrival of hop 14. -/
theorem last1_spec (c : Dev nD) (b : Bool) (u : Fin 2) (E : List Ev) (hE : Above 16 E) (K : Pr F) (Q : PUnit → sProp 𝕄) :
    iprop(Inv X Mv κ ιs ∗ DirSt X c b u 14 ∗ DueDir c b u 14 ∗ Owes c E)
      ⊢ iprop(((cPts c b (slotOf 15 u) (slotOf_lt 15 u) fullShare (X (orig b 15 c) u) ∗ L1 c b u ∗ Owes c E) -∗ WP c K Q)
        -∗ WP c (waitCred b u <| waitSend b 14 u <| waitRecv b 14 u K) Q) := by
  have hn := le_nh b u.val
  unfold L1 DirSt Core Pos3
  rw [show (Side c b u 14 : sProp 𝕄) = CredSt c b u 13 from rfl,
    show (DueDir c b u 14 : sProp 𝕄) = iprop(cred (tallyAt (credCell c b u) 16 1) ∗ cred (tallyAt (recvCell c b u 14) 16 NC)) from rfl]
  iintro ⟨#HI, ⟨⟨Hc, Hcs, ⟨⟨Hs0, Hs1, Hs2⟩, ⟨Hr0, Hr1, Hr2⟩⟩, #Hf, #Hm⟩, Hcr, -⟩, ⟨Hd1, Hd2⟩, HO⟩ Hk
  iapply (step_waitCredLast X Mv κ ιs c b u 16 E hE (by omega) _ Q) $$ [Hcr Hd1 HO]
  · isplitr; · iexact HI
    isplitl [Hd1]; · iexact Hd1
    isplitl [HO]; · iexact HO
    iexact Hcr
  iintro ⟨HO, Hat, #Hfact⟩
  iapply (step_waitSend X Mv κ ιs c b u 14 (by omega) E (hE.mono (by omega)) _ Q) $$ [Hcs HO Hs0]
  · isplitr; · iexact HI
    isplitl [Hcs]; · iexact Hcs
    isplitl [HO]; · iexact HO
    iexact Hs0
  iintro ⟨HO, Hs3, Hpay⟩
  ihave Hfull := (cPts_halves c b (slotOf 14 u) (slotOf_lt 14 u) (X (orig b 14 c) u)).2 $$ [Hpay Hc]
  · isplitl [Hpay]; · unfold sendPay; iexact Hpay
    iexact Hc
  ihave Hany := (cPts_any c b _ _ _) $$ Hfull
  iapply (step_waitRecv X Mv κ ιs c b u 14 16 (by omega) E hE (by omega) _ Q) $$ [Hd2 HO Hr0]
  · isplitr; · iexact HI
    isplitl [Hd2]; · iexact Hd2
    isplitl [HO]; · iexact HO
    iexact Hr0
  iintro ⟨HO, Hr3, Hpay⟩
  unfold recvPay
  icases Hpay with ⟨Hc, #Hmf⟩
  iapply Hk
  isplitl [Hc]; · iexact Hc
  isplitr [HO]
  · isplitl [Hany]; · iexact Hany
    isplitl [Hs1 Hs2 Hs3 Hr1 Hr2 Hr3]
    · isplitl [Hs1 Hs2 Hs3]
      · isplitl [Hs1]; · iexact Hs1
        isplitl [Hs2]; · iexact Hs2
        iexact Hs3
      isplitl [Hr1]; · iexact Hr1
      isplitl [Hr2]; · iexact Hr2
      iexact Hr3
    isplitl [Hat]; · iexact Hat
    isplitr
    · iapply (mfs_succ c b 14)
      isplitr; · iexact Hm
      iexact Hmf
    isplitr; · iexact Hfact
    unfold facts
    iapply (bigSep_one (F := F) (i := 13) (Φ := fun i => credFact c b u i) (Finset.mem_range.mpr (by omega))) $$ Hf
  iexact HO

/-- A direction's half at the end: all slots back, every cell past its last round. -/
def FinSt (c : Dev nD) (b : Bool) (u : Fin 2) : sProp 𝕄 :=
  iprop((cAny c b (slotOf 14 u) (slotOf_lt 14 u) ∗ cAny c b (slotOf 15 u) (slotOf_lt 15 u) ∗ cAny c b (slotOf 16 u) (slotOf_lt 16 u))
    ∗ Pos3 c b u (nh b u.val) (nh b u.val) ∗ atPos ER (credCell c b u) 1 ∅ 0 ∗ mfs c b (nh b u.val))

/-- Where the half goes no further, its owner takes the slot of hop 13 back itself. -/
theorem last_own (c : Dev nD) (b : Bool) (u : Fin 2) (hn : nh b u.val = 15) (x : S64x4096.Idx → Elt F .bf16) :
    iprop(Inv X Mv κ ιs ∗ cPts c b (slotOf 15 u) (slotOf_lt 15 u) fullShare x ∗ L1 c b u ∗ writeTok ES (ckey c b u 13) 1)
      ⊢ (|={Set.univ}=> FinSt c b u : sProp 𝕄) := by
  unfold L1 FinSt
  rw [hn]
  iintro ⟨#HI, Hc, ⟨Hany, Hpos, Hat, #Hm, -, #Hf⟩, Hw⟩
  unfold credFact
  icases Hf with ⟨#Hrel, -⟩
  imod (take_slot X Mv κ ιs c b u (h := 13) (t := 16) (by omega) (by omega)) $$ [Hw] with Hslot
  · isplitr; · iexact HI
    isplitr; · iexact Hrel
    iexact Hw
  ihave Hc := (cPts_any c b _ _ _) $$ Hc
  imodintro
  isplitl [Hany Hc Hslot]
  · isplitl [Hany]; · iexact Hany
    isplitl [Hc]; · iexact Hc
    iexact Hslot
  isplitl [Hpos]; · iexact Hpos
  isplitl [Hat]; · iexact Hat
  iexact Hm

/-- The half's last copy under way. -/
def L2 (c : Dev nD) (b : Bool) (u : Fin 2) : sProp 𝕄 := iprop(L1 c b u ∗ cred (tallyAt (sendCell c b u 15) 0 NC))

/-- Where the half goes on: the sixteenth copy starts. -/
theorem last2_spec (c : Dev nD) (b : Bool) (u : Fin 2) (hn : nh b u.val = 16) (E : List Ev) (K : Pr F) (Q : PUnit → sProp 𝕄) :
    iprop(Inv X Mv κ ιs ∗ cPts c b (slotOf 15 u) (slotOf_lt 15 u) fullShare (X (orig b 15 c) u) ∗ L1 c b u ∗ writeTok ES (ckey (nbr b c) b u 13) 1
        ∗ Tk2 c b u 15 ∗ Owes c (evCopy b u 15 17 :: E))
      ⊢ iprop(((cPts c b (slotOf 15 u) (slotOf_lt 15 u) qR (X (orig b 15 c) u) ∗ L2 c b u ∗ Owes c E) -∗ WP c K Q)
        -∗ WP c (start (fun b => nbr b c) b 15 u K) Q) := by
  unfold L2 L1 Tk2 Pos3 credFact
  iintro ⟨#HI, Hc, ⟨Hany, ⟨⟨Hs0, Hs1, Hs2⟩, Hr⟩, Hat, #Hm, ⟨#Hrel, #Hrr⟩, #Hf⟩, Hw, ⟨Hts, Htr⟩, HO⟩ Hk
  imod (take_slot X Mv κ ιs (nbr b c) b u (h := 13) (t := 15 + 1) (by omega) (by omega)) $$ [Hw] with Hslot
  · isplitr; · iexact HI
    isplitr; · iexact Hrel
    iexact Hw
  ihave Hc2 := (cPts_halves c b (slotOf 15 u) (slotOf_lt 15 u) (X (orig b 15 c) u)).1 $$ Hc
  icases Hc2 with ⟨HcL, HcR⟩
  unfold SP
  icases Hs0 with ⟨Hs0, #Hs0r⟩
  ihave #Hm15 := (mfs_last c b 15) $$ Hm
  iapply (step_start X Mv κ ιs c b u 15 17 (by omega) _ _ Q) $$ [HcL Hslot HO Hts Htr]
  · isplitr; · iexact HI
    isplitl [HcL]; · iexact HcL
    isplitl [Hslot]; · iexact Hslot
    isplitr; · iexact Hm15
    isplitl [HO]; · iexact HO
    isplitl [Hts]; · iexact Hts
    isplitr; · iexact Hs0r
    isplitl [Htr]; · iexact Htr
    iexact Hrr
  iintro ⟨Hcs, HO⟩
  iapply Hk
  isplitl [HcR]; · iexact HcR
  isplitr [HO]
  · isplitr [Hcs]
    · isplitl [Hany]; · iexact Hany
      isplitl [Hs0 Hs1 Hs2 Hr]
      · isplitl [Hs0 Hs1 Hs2]
        · isplitl [Hs0]; · isplitl [Hs0]; · iexact Hs0
                           iexact Hs0r
          isplitl [Hs1]; · iexact Hs1
          iexact Hs2
        iexact Hr
      isplitl [Hat]; · iexact Hat
      isplitr; · iexact Hm
      isplitr
      · isplitr; · iexact Hrel
        iexact Hrr
      iexact Hf
    iexact Hcs
  iexact HO

/-- The send and the arrival of the sixteenth copy. -/
theorem last3_spec (c : Dev nD) (b : Bool) (u : Fin 2) (hn : nh b u.val = 16) (E : List Ev) (hE : Above 17 E) (K : Pr F) (Q : PUnit → sProp 𝕄) :
    iprop(Inv X Mv κ ιs ∗ cPts c b (slotOf 15 u) (slotOf_lt 15 u) qR (X (orig b 15 c) u) ∗ L2 c b u ∗ cred (tallyAt (recvCell c b u 15) 17 NC) ∗ Owes c E)
      ⊢ iprop(((cPts c b (slotOf 16 u) (slotOf_lt 16 u) fullShare (X (orig b 16 c) u)
          ∗ (cPts c b (slotOf 16 u) (slotOf_lt 16 u) fullShare (X (orig b 16 c) u) -∗ FinSt c b u) ∗ Owes c E) -∗ WP c K Q)
        -∗ WP c (waitSend b 15 u <| waitRecv b 15 u K) Q) := by
  unfold L2 L1 FinSt
  rw [hn]
  unfold Pos3
  iintro ⟨#HI, Hc, ⟨⟨Hany, ⟨⟨Hs0, Hs1, Hs2⟩, ⟨Hr0, Hr1, Hr2⟩⟩, Hat, #Hm, -, -⟩, Hcs⟩, Hd, HO⟩ Hk
  iapply (step_waitSend X Mv κ ιs c b u 15 (by omega) E (hE.mono (by omega)) _ Q) $$ [Hcs HO Hs0]
  · isplitr; · iexact HI
    isplitl [Hcs]; · iexact Hcs
    isplitl [HO]; · iexact HO
    iexact Hs0
  iintro ⟨HO, Hs3, Hpay⟩
  ihave Hfull := (cPts_halves c b (slotOf 15 u) (slotOf_lt 15 u) (X (orig b 15 c) u)).2 $$ [Hpay Hc]
  · isplitl [Hpay]; · unfold sendPay; iexact Hpay
    iexact Hc
  ihave Hany2 := (cPts_any c b _ _ _) $$ Hfull
  iapply (step_waitRecv X Mv κ ιs c b u 15 17 (by omega) E hE (by omega) _ Q) $$ [Hd HO Hr0]
  · isplitr; · iexact HI
    isplitl [Hd]; · iexact Hd
    isplitl [HO]; · iexact HO
    iexact Hr0
  iintro ⟨HO, Hr3, Hpay⟩
  unfold recvPay
  icases Hpay with ⟨Hc, #Hmf⟩
  iapply Hk
  isplitl [Hc]; · iexact Hc
  isplitr [HO]
  · iintro Hc
    ihave Hc := (cPts_any c b _ _ _) $$ Hc
    isplitl [Hany Hany2 Hc]
    · isplitl [Hany]; · iexact Hany
      isplitl [Hany2]; · iexact Hany2
      iexact Hc
    isplitl [Hs1 Hs2 Hs3 Hr1 Hr2 Hr3]
    · isplitl [Hs1 Hs2 Hs3]
      · isplitl [Hs1]; · iexact Hs1
        isplitl [Hs2]; · iexact Hs2
        iexact Hs3
      isplitl [Hr1]; · iexact Hr1
      isplitl [Hr2]; · iexact Hr2
      iexact Hr3
    isplitl [Hat]; · iexact Hat
    iapply (mfs_succ c b 15)
    isplitr; · iexact Hm
    iexact Hmf
  iexact HO

/-- The blocks that the last hop adds. -/
def seqLast (c : Dev nD) : List (Dev nD × Fin 2) :=
  [(orig true 15 c, 0), (orig true 15 c, 1), (orig false 15 c, 0), (orig false 15 c, 1), (orig true 16 c, 0), (orig false 16 c, 1)]

/-- What the last hop uses up. -/
def TkLast (c : Dev nD) : sProp 𝕄 :=
  iprop((writeTok ES (ckey (nbr true c) true 0 13) 1 ∗ Tk2 c true 0 15) ∗ (writeTok ES (ckey (nbr false c) false 1 13) 1 ∗ Tk2 c false 1 15)
    ∗ writeTok ES (ckey c true 1 13) 1 ∗ writeTok ES (ckey c false 0 13) 1)
/-- What it is paid besides. -/
def DueLast (c : Dev nD) : sProp 𝕄 := iprop(cred (tallyAt (recvCell c true 0 15) 17 NC) ∗ cred (tallyAt (recvCell c false 1 15) 17 NC))
/-- All four halves at the end. -/
def FinAll (c : Dev nD) : sProp 𝕄 := iprop(FinSt c true 0 ∗ FinSt c true 1 ∗ FinSt c false 0 ∗ FinSt c false 1)

/-- The last hop. -/
theorem lastHop_spec (c : Dev nD) (E : List Ev) (hE : Above 17 E) (l : List (Dev nD × Fin 2)) (K : F .f32 → Pr F) (Q : PUnit → sProp 𝕄) :
    iprop(Inv X Mv κ ιs ∗ Dir2 X c 0 14 ∗ Dir2 X c 1 14 ∗ Due2 c 0 14 ∗ Due2 c 1 14 ∗ TkLast c ∗ DueLast c ∗ Owes c (evLast ++ E) ∗ GS X tb om wv c l)
      ⊢ iprop(((FinAll c ∗ Owes c E ∗ GS X tb om wv c (l ++ seqLast c)) -∗ WP c (K (Ml X wv (l ++ seqLast c))) Q)
          -∗ WP c (lastHop tb om (fun b => nbr b c) (Ml X wv l) K) Q) := by
  have hE1 : Above 16 (evCopy false 1 15 17 :: E) := (hE.mono (by omega)).cons ⟨by decide, by decide⟩
  have hE2 : Above 16 (evCopy true 0 15 17 :: evCopy false 1 15 17 :: E) := hE1.cons ⟨by decide, by decide⟩
  unfold Dir2 Due2 TkLast DueLast FinAll lastHop
  rw [show evLast ++ E = evCopy true 0 15 17 :: evCopy false 1 15 17 :: E from rfl,
    show l ++ seqLast c = (((((l ++ [(orig true 15 c, 0)]) ++ [(orig true 15 c, 1)]) ++ [(orig false 15 c, 0)]) ++ [(orig false 15 c, 1)])
      ++ [(orig true 16 c, 0)]) ++ [(orig false 16 c, 1)] by simp [seqLast]]
  iintro ⟨#HI, ⟨HA1, HA2⟩, ⟨HB1, HB2⟩, ⟨HdA1, HdA2⟩, ⟨HdB1, HdB2⟩, ⟨⟨HwA, HtA⟩, ⟨HwB, HtB⟩, HoA, HoB⟩, ⟨HlA, HlB⟩, HO, HG⟩ Hk
  -- to the successor, first half
  iapply (last1_spec X Mv κ ιs c true 0 _ hE2 _ Q) $$ [HA1 HdA1 HO]
  · isplitr; · iexact HI
    isplitl [HA1]; · iexact HA1
    isplitl [HdA1]; · iexact HdA1
    iexact HO
  iintro ⟨Hc, HL, HO⟩
  iapply (last2_spec X Mv κ ιs c true 0 rfl _ _ Q) $$ [Hc HL HwA HtA HO]
  · isplitr; · iexact HI
    isplitl [Hc]; · iexact Hc
    isplitl [HL]; · iexact HL
    isplitl [HwA]; · iexact HwA
    isplitl [HtA]; · iexact HtA
    iexact HO
  iintro ⟨HcA, HLA, HO⟩
  iapply (gemm_list X tb om wv c true 15 0 22 _ (orig true 15 c) (tab_fwd 15 c) qR _ _ Q) $$ [HG HcA]
  · isplitl [HG]; · iexact HG
    iexact HcA
  iintro ⟨HG, HcA⟩
  -- to the successor, second half
  iapply (last1_spec X Mv κ ιs c true 1 _ hE1 _ Q) $$ [HB1 HdB1 HO]
  · isplitr; · iexact HI
    isplitl [HB1]; · iexact HB1
    isplitl [HdB1]; · iexact HdB1
    iexact HO
  iintro ⟨Hc, HL, HO⟩
  iapply (gemm_list X tb om wv c true 15 1 22 _ (orig true 15 c) (tab_fwd 15 c) fullShare _ _ Q) $$ [HG Hc]
  · isplitl [HG]; · iexact HG
    iexact Hc
  iintro ⟨HG, Hc⟩
  imod (last_own X Mv κ ιs c true 1 rfl _) $$ [Hc HL HoA] with HF2
  · isplitr; · iexact HI
    isplitl [Hc]; · iexact Hc
    isplitl [HL]; · iexact HL
    iexact HoA
  -- to the predecessor, first half
  iapply (last1_spec X Mv κ ιs c false 0 _ hE1 _ Q) $$ [HA2 HdA2 HO]
  · isplitr; · iexact HI
    isplitl [HA2]; · iexact HA2
    isplitl [HdA2]; · iexact HdA2
    iexact HO
  iintro ⟨Hc, HL, HO⟩
  iapply (gemm_list X tb om wv c false 15 0 38 _ (orig false 15 c) (tab_bwd 14 c) fullShare _ _ Q) $$ [HG Hc]
  · isplitl [HG]; · iexact HG
    iexact Hc
  iintro ⟨HG, Hc⟩
  imod (last_own X Mv κ ιs c false 0 rfl _) $$ [Hc HL HoB] with HF3
  · isplitr; · iexact HI
    isplitl [Hc]; · iexact Hc
    isplitl [HL]; · iexact HL
    iexact HoB
  -- to the predecessor, second half
  iapply (last1_spec X Mv κ ιs c false 1 _ hE1 _ Q) $$ [HB2 HdB2 HO]
  · isplitr; · iexact HI
    isplitl [HB2]; · iexact HB2
    isplitl [HdB2]; · iexact HdB2
    iexact HO
  iintro ⟨Hc, HL, HO⟩
  iapply (last2_spec X Mv κ ιs c false 1 rfl _ _ Q) $$ [Hc HL HwB HtB HO]
  · isplitr; · iexact HI
    isplitl [Hc]; · iexact Hc
    isplitl [HL]; · iexact HL
    isplitl [HwB]; · iexact HwB
    isplitl [HtB]; · iexact HtB
    iexact HO
  iintro ⟨HcB, HLB, HO⟩
  iapply (gemm_list X tb om wv c false 15 1 38 _ (orig false 15 c) (tab_bwd 14 c) qR _ _ Q) $$ [HG HcB]
  · isplitl [HG]; · iexact HG
    iexact HcB
  iintro ⟨HG, HcB⟩
  -- the sixteenth arrivals
  iapply (last3_spec X Mv κ ιs c true 0 rfl _ hE _ Q) $$ [HcA HLA HlA HO]
  · isplitr; · iexact HI
    isplitl [HcA]; · iexact HcA
    isplitl [HLA]; · iexact HLA
    isplitl [HlA]; · iexact HlA
    iexact HO
  iintro ⟨Hc, HF1, HO⟩
  iapply (gemm_list X tb om wv c true 16 0 23 _ (orig true 16 c) (tab_fwd 16 c) fullShare _ _ Q) $$ [HG Hc]
  · isplitl [HG]; · iexact HG
    iexact Hc
  iintro ⟨HG, Hc⟩
  ihave HF1 := HF1 $$ Hc
  iapply (last3_spec X Mv κ ιs c false 1 rfl _ hE _ Q) $$ [HcB HLB HlB HO]
  · isplitr; · iexact HI
    isplitl [HcB]; · iexact HcB
    isplitl [HLB]; · iexact HLB
    isplitl [HlB]; · iexact HlB
    iexact HO
  iintro ⟨Hc, HF4, HO⟩
  iapply (gemm_list X tb om wv c false 16 1 23 _ (orig false 16 c) ((tab_fwd 16 c).trans (congrArg Dev.word (orig16 c))) fullShare _ _ Q) $$ [HG Hc]
  · isplitl [HG]; · iexact HG
    iexact Hc
  iintro ⟨HG, Hc⟩
  ihave HF4 := HF4 $$ Hc
  iapply Hk
  isplitl [HF1 HF2 HF3 HF4]
  · isplitl [HF1]; · iexact HF1
    isplitl [HF2]; · iexact HF2
    isplitl [HF3]; · iexact HF3
    iexact HF4
  isplitl [HO]; · iexact HO
  iexact HG

end Cert.KernelIdeal.Own

end
-- ==== Proof.Bufs.lean ====
/-
The two chunk buffers as their six halves, the table of maxima as its thirty-two places.
-/
module

public import proofs.«01_k».proof.Proof.Last

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (USlots slot slotInv readerAt released writeTok)
open Gen

set_option Elab.async false

variable {F : FTy → Type} [FloatOps F]

local notation "𝕄" => MT nD τ sig ℕ (Elt F) ℕ UU ℕ

/-- Entailments summand by summand. -/
theorem bigSep_each {I : Type} [DecidableEq I] {s : Finset I} {Φ Ψ : I → sProp 𝕄} (h : ∀ i ∈ s, iprop(Φ i) ⊢ iprop(Ψ i)) : iprop(bigSep s Φ) ⊢ iprop(bigSep s Ψ) := bigSep_mono h

/-- Disjoint pieces at any contents are their union at any contents. -/
theorem slot_join {T : Type} [DecidableEq T] (ℓ : Loc nD τ sig) (S : Finset T) (K : T → Finset (Idx ℓ))
    (h : ∀ t ∈ S, ∀ t' ∈ S, t ≠ t' → Disjoint (K t) (K t')) (f₀ : Buf (Elt F) ℓ) :
    (bigSep S fun t => slot ℓ (K t)) ⊢ (slot ℓ (S.biUnion K) : sProp 𝕄) := by
  induction S using Finset.induction_on with
  | empty =>
    unfold slot
    iintro -
    iexists f₀
    rw [Finset.biUnion_empty, pointsTo_empty]
    iempintro
  | insert t S ht ih =>
    have hd : Disjoint (K t) (S.biUnion K) := by
      rw [Finset.disjoint_biUnion_right]
      exact fun t' ht' => h t (Finset.mem_insert_self _ _) t' (Finset.mem_insert_of_mem ht') fun e => ht (e ▸ ht')
    have ih' := ih fun a ha b hb => h a (Finset.mem_insert_of_mem ha) b (Finset.mem_insert_of_mem hb)
    refine BIBase.Entails.trans (Entails.of_eq (by rw [bigSep_insert ht]; rfl)) (BIBase.Entails.trans (sep_mono_right ih') ?_)
    rw [Finset.biUnion_insert]
    unfold slot
    iintro ⟨⟨%f, H⟩, ⟨%g, H'⟩⟩
    ihave H := (pointsTo_join (f := f) (g := g) hd) $$ [H H']
    · isplitl [H]; · iexact H
      iexact H'
    iexists _
    iexact H

/-- A union at any contents is its disjoint pieces at any contents. -/
theorem slot_cut {T : Type} [DecidableEq T] (ℓ : Loc nD τ sig) (S : Finset T) (K : T → Finset (Idx ℓ))
    (h : ∀ t ∈ S, ∀ t' ∈ S, t ≠ t' → Disjoint (K t) (K t')) :
    (slot ℓ (S.biUnion K) : sProp 𝕄) ⊢ bigSep S fun t => slot ℓ (K t) := by
  have hm : ∀ f : Buf (Elt F) ℓ, iprop(bigSep S fun t => (ℓ ↦[K t]{fullShare} f : sProp 𝕄)) ⊢ iprop(bigSep S fun t => slot ℓ (K t)) := fun f =>
    bigSep_each fun t _ => by unfold slot; iintro H; iexists f; iexact H
  rw [show (slot ℓ (S.biUnion K) : sProp 𝕄) = iprop(∃ f, ℓ ↦[S.biUnion K]{fullShare} f) from rfl]
  exact exists_elim fun f => BIBase.Entails.trans (Entails.of_eq (pointsTo_biUnion S K h)) (hm f)

/-! ## The chunk buffers -/

theorem half_mem (b : Bool) (k : ℕ) (hk : k < 6) (x : (half b k hk).view.ty.Idx) :
    x ∈ (half b k hk).view.set ↔ ((show S6x64x4096.Idx from by cases b <;> exact x) 0).val = k := by
  have h : ∀ y : S6x64x4096.Idx, y ∈ (rectC k hk).set ↔ (y 0).val = k := fun y => by
    rw [Rect.mem_set_unit]
    constructor
    · intro h
      have h0 := h 0
      have h1 : k ≤ (y 0).val ∧ (y 0).val < k + 1 := h0
      omega
    · intro h a
      match a with
      | 0 => exact ⟨le_of_eq h.symm, by show (y 0).val < k + 1; omega⟩
      | 1 => exact ⟨Nat.zero_le _, by have h1 : (y 1).val < 64 := (y 1).isLt; show (y 1).val < 0 + 64; omega⟩
      | 2 => exact ⟨Nat.zero_le _, by have h1 : (y 2).val < 4096 := (y 2).isLt; show (y 2).val < 0 + 4096; omega⟩
  rw [← half_set]
  cases b
  · rw [show ((cm false).access (rectC k hk)).set = (rectC k hk).set from View.set_slice_whole _ _]; exact h x
  · rw [show ((cm true).access (rectC k hk)).set = (rectC k hk).set from View.set_slice_whole _ _]; exact h x

theorem half_disj (b : Bool) (k k' : Fin 6) (h : k ≠ k') : Disjoint (half b k.val k.isLt).view.set (half b k'.val k'.isLt).view.set := by
  rw [Finset.disjoint_left]
  intro x hx hx'
  exact h (Fin.ext (((half_mem b _ k.isLt x).mp hx).symm.trans ((half_mem b _ k'.isLt x).mp hx')))

theorem half_cover (b : Bool) : (Finset.univ.biUnion fun k : Fin 6 => (half b k.val k.isLt).view.set) = (cm b).view.set := by
  apply Finset.Subset.antisymm
  · rw [Finset.biUnion_subset]
    exact fun k _ => (half_set b _ k.isLt) ▸ View.set_slice_subset _ _
  · intro x _
    rw [Finset.mem_biUnion]
    cases b
    · exact ⟨⟨((show S6x64x4096.Idx from x) 0).val, ((show S6x64x4096.Idx from x) 0).isLt⟩, Finset.mem_univ _, (half_mem false ((show S6x64x4096.Idx from x) 0).val ((show S6x64x4096.Idx from x) 0).isLt x).mpr rfl⟩
    · exact ⟨⟨((show S6x64x4096.Idx from x) 0).val, ((show S6x64x4096.Idx from x) 0).isLt⟩, Finset.mem_univ _, (half_mem true ((show S6x64x4096.Idx from x) 0).val ((show S6x64x4096.Idx from x) 0).isLt x).mpr rfl⟩

/-- Direction `b`'s chunk buffer, at any contents. -/
def cmAny (c : Dev nD) (b : Bool) : sProp 𝕄 := slot ((cm b).view.loc (c : Thread nD τ)) (cm b).view.set

theorem cm_cut (c : Dev nD) (b : Bool) : (cmAny c b : sProp 𝕄) ⊢ bigSep Finset.univ fun k : Fin 6 => cAny c b k.val k.isLt := by
  unfold cmAny cAny
  rw [← half_cover b]
  exact slot_cut ((cm b).view.loc (c : Thread nD τ)) Finset.univ (fun k : Fin 6 => (half b k.val k.isLt).view.set) fun k _ k' _ h => half_disj b k k' h

theorem cm_join (c : Dev nD) (b : Bool) : (bigSep Finset.univ fun k : Fin 6 => cAny c b k.val k.isLt) ⊢ (cmAny c b : sProp 𝕄) := by
  unfold cmAny cAny
  rw [← half_cover b]
  exact slot_join ((cm b).view.loc (c : Thread nD τ)) Finset.univ (fun k : Fin 6 => (half b k.val k.isLt).view.set) (fun k _ k' _ h => half_disj b k k' h)
    (fun _ => Classical.arbitrary _)

/-! ## The table of maxima -/

theorem mslot_mem (w : Dev nD) (x : S32x8x128.Idx) : x ∈ (mslot w).view.set ↔ x 0 = w := by
  rw [show (mslot w).view.set = (Rect.unit (s := S32x8x128) (k0_off65 w) S1x8x128.size (k0_off65_inb w)).set from
    (View.set_reshape _ _).trans (View.set_slice_whole _ _), Rect.mem_set_unit, off65_eq]
  constructor
  · intro h
    have h0 : w.val ≤ (x 0).val ∧ (x 0).val < w.val + 1 := h 0
    exact Fin.ext (by omega)
  · rintro h a
    match a with
    | 0 => subst h; exact ⟨le_refl _, Nat.lt_succ_self _⟩
    | 1 => exact ⟨Nat.zero_le _, by have h1 : (x 1).val < 8 := (x 1).isLt; show (x 1).val < 0 + 8; omega⟩
    | 2 => exact ⟨Nat.zero_le _, by have h1 : (x 2).val < 128 := (x 2).isLt; show (x 2).val < 0 + 128; omega⟩

theorem mslot_disj (w w' : Dev nD) (h : w ≠ w') : Disjoint (mslot w).view.set (mslot w').view.set := by
  rw [Finset.disjoint_left]
  intro x hx hx'
  exact h (((mslot_mem w x).mp hx).symm.trans ((mslot_mem w' x).mp hx'))

theorem mslot_cover : (Finset.univ.biUnion fun w : Dev nD => (mslot w).view.set) = (Memref.whole cc0_scratch12).view.set := by
  apply Finset.Subset.antisymm
  · intro x _; exact (Finset.ext_iff.mp (View.set_whole cc0_scratch12) x).mpr (Finset.mem_univ _)
  · intro x _
    rw [Finset.mem_biUnion]
    exact ⟨(show S32x8x128.Idx from x) 0, Finset.mem_univ _, (mslot_mem _ x).mpr rfl⟩

theorem mslot_row (w : Dev nD) (i : S8x128.Idx) : (show S32x8x128.Idx from (mslot w).view.emb i) 0 = w :=
  (mslot_mem w _).mp (View.emb_mem_set _ i)

end Cert.KernelIdeal.Own

end
-- ==== Proof.Maxes.lean ====
/-
The exchange of the maxima: the sends to the 31 peers, the arrivals, the sends' completion.
-/
module

public import proofs.«01_k».proof.Proof.Bufs

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Gen

set_option Elab.async false

variable {F : FTy → Type} [FloatOps F]

local notation "𝕄" => MT nD τ sig ℕ (Elt F) ℕ UU ℕ

variable (X : Dev nD → Fin 2 → S64x4096.Idx → Elt F .bf16) (Mv : Dev nD → S8x128.Idx → Elt F .f32)
  (κ : GSem nD τ sig → ℕ) (ιs : Key → ℕ)

/-- `Φ j ∗ Φ (j + 1) ∗ …`, `n` of them. -/
def seqSep (Φ : ℕ → sProp 𝕄) : (n j : ℕ) → sProp 𝕄
  | 0, _ => iprop(emp)
  | n + 1, j => iprop(Φ j ∗ seqSep Φ n (j + 1))

/-- The cell of send `j`, for every number `j`. -/
abbrev msL (c : Dev nD) (j : ℕ) : GSem nD τ sig := msCell c (j % 31) (Nat.mod_lt _ (by decide))

theorem msL_eq (c : Dev nD) (j : ℕ) (hj : j < 31) : msL c j = msCell c j hj := by
  have h : j % 31 = j := Nat.mod_eq_of_lt hj
  unfold msL msCell; congr 4

/-- What send `j` uses up. -/
def TkM (c : Dev nD) (j : ℕ) : sProp 𝕄 :=
  iprop(writeTok ES (mkey (peer c j) c) 1 ∗ (dutyTok ER (msL c j) 0 0 ∗ reached ER (msL c j) 0) ∗ dutyTok ER (mrCell (peer c j)) 0 c.val)
/-- The send cell's position before its round. -/
def PosM (c : Dev nD) (j : ℕ) : sProp 𝕄 := atPos ER (msL c j) 0 ∅ 0
/-- And after. -/
def PosM1 (c : Dev nD) (j : ℕ) : sProp 𝕄 := atPos ER (msL c j) 1 ∅ 0
/-- The wait's credit. -/
def CrM (c : Dev nD) (j : ℕ) : sProp 𝕄 := cred (tallyAt (msL c j) 0 NM)

/-- Every device has opened its table of maxima, as the chunks told. -/
def AllM (c : Dev nD) : sProp 𝕄 := iprop(mfs c true 16 ∗ mfs c false 16)

instance AllM_persistent (c : Dev nD) : BI.Persistent (AllM c : sProp 𝕄) := by unfold AllM; infer_instance

theorem mfs_one (c : Dev nD) (b : Bool) {n i : ℕ} (h : i ≤ n) : (mfs c b n : sProp 𝕄) ⊢ mfacts (orig b i c) :=
  bigSep_one (F := F) (Φ := fun i => mfacts (orig b i c)) (Finset.mem_range.mpr (Nat.lt_succ_of_le h))

theorem allM_one (c r : Dev nD) : (AllM c : sProp 𝕄) ⊢ mfacts r := by
  unfold AllM
  iintro ⟨#H1, #H2⟩
  rcases orig_cover c r with ⟨n, rfl⟩ | ⟨n, rfl⟩
  · iapply (mfs_one c true (n := 16) (i := n.val) (by omega)) $$ H1
  · iapply (mfs_one c false (n := 16) (i := n.val) (by omega)) $$ H2

theorem mPts_of (c w : Dev nD) (g : Buf (Elt F) ((mslot w).view.loc (c : Thread nD τ))) (x : S8x128.Idx → Elt F .f32)
    (h : (mslot w).view.read (Elt F) g = x) :
    ((mslot w).view.loc (c : Thread nD τ) ↦[(mslot w).view.set]{fullShare} g : sProp 𝕄) ⊢ mPts c w x := by
  subst h; unfold mPts
  exact Entails.of_eq (pointsTo_rep (c : Thread nD τ) (mslot w) g fullShare)

theorem aPts_share (c : Dev nD) (j : ℕ) (x : S8x128.Idx → Elt F .f32) :
    (aPts c (shR j) x : sProp 𝕄) ⊣⊢ iprop(aPts c (shL j) x ∗ aPts c (shR (j + 1)) x) := by
  unfold aPts
  exact pointsTo_share (PosShare.mem_left_op_right (shR j))

theorem whole11_credit : (Memref.whole cc0_scratch11).view.dmaCredit = NM := rfl

theorem mkey_open (r w : Dev nD) : (slotOfKey (F := F) (mkey r w)) ⊢ iprop(∃ f, (mslot w).view.loc (r : Thread nD τ) ↦[(mslot w).view.set]{fullShare} f) := by
  rw [show (slotOfKey (F := F) (mkey r w)) = iprop(∃ f, (mslot w).view.loc (r : Thread nD τ) ↦[(mslot w).view.set]{fullShare} f) from rfl]

theorem rest_ms (c : Dev nD) (j : ℕ) (hj : j < 31) :
    (bigSep ((Rd X Mv).duties (msCell c j hj) 0 \ ∅) (fun d => (Rd X Mv).payload (msCell c j hj) 0 d) : sProp 𝕄) = aPts c (shL j) (Mv c) := by
  rw [Finset.sdiff_empty, duties_ms, bigSep_singleton, payload_ms]

/-- One send of the maximum. -/
theorem step_mSend (c : Dev nD) (j : ℕ) (hj : j < 31) (E : List Ev) (K : Pr F) (Q : PUnit → sProp 𝕄) :
    iprop(Inv X Mv κ ιs ∗ AllM c ∗ aPts c (shR j) (Mv c) ∗ TkM c j ∗ Owes c (evMax j :: E))
      ⊢ iprop(((aPts c (shR (j + 1)) (Mv c) ∗ CrM c j ∗ Owes c E) -∗ WP c K Q)
        -∗ WP c (.op (.enqueueDma (Memref.whole cc0_scratch11)
            (.remote (Dev.tc (⟨peerN c j, peerN_lt c j hj⟩ : Dev nD)) (mslot c) (.dma (sem31 j hj)))
            (.dma cc0_scratch14.sem) mx_exact (mslot_exact c) ⟨⟨rfl, Or.inl rfl⟩, trivial⟩) fun _ => K) Q) := by
  have hp : (⟨peerN c j, peerN_lt c j hj⟩ : Dev nD) = peer c j := Fin.ext (peerN_eq c j hj)
  have hne : c ∈ Finset.univ.erase (peer c j) := Finset.mem_erase.mpr ⟨(peer_ne c j hj).symm, Finset.mem_univ _⟩
  rw [hp]
  unfold TkM CrM Owes
  rw [msL_eq c j hj]
  iintro ⟨#HI, #HM, Ha, ⟨Hw, ⟨Ht1, #Hr1⟩, Ht2⟩, ⟨%W, HO⟩⟩ Hk
  ihave #Hmf := (allM_one c (peer c j)) $$ HM
  unfold mfacts
  icases Hmf with ⟨#Hrels, #Hr2⟩
  ihave #Hrel := (bigSep_one (F := F) (Φ := fun w : Dev nD => released ES (mkey (peer c j) w) 1) hne) $$ Hrels
  ihave #Hsl := (inv_slot X Mv κ ιs (mkey (peer c j) c)) $$ HI
  imod (Release.slot_take (ES (F := F)) (ι := ιs (mkey (peer c j) c)) (k := mkey (peer c j) c) (S := slotOfKey (mkey (peer c j) c)) (Es := Set.univ) (Set.mem_univ _) 1) $$ [Hw] with Hdst
  · isplitr; · iexact Hsl
    isplitr; · iexact Hrel
    iexact Hw
  ihave Hdst := (mkey_open (peer c j) c) $$ Hdst
  icases Hdst with ⟨%fd, Hdst⟩
  ihave Ha := (aPts_share c j (Mv c)).1 $$ Ha
  icases Ha with ⟨HaL, HaR⟩
  ihave #Hcell1 := (inv_ms X Mv κ ιs c j hj) $$ HI
  ihave #Hcell2 := (inv_mr X Mv κ ιs (peer c j)) $$ HI
  iapply (Rounds.wp_send_pointsTo 𝒱₀ ER (Rd X Mv) (c : Thread nD τ) none (c' := ((peer c j : Dev nD) : Thread nD τ))
      (src := Memref.whole cc0_scratch11) (dst := mslot c) (sS := .dma (sem31 j hj)) (sem := .dma cc0_scratch14.sem)
      (q := shL j) (fs := (Memref.whole cc0_scratch11).view.rep (Mv c)) (fd := fd)
      (κ₁ := κ (msCell c j hj)) (κ₂ := κ (mrCell (peer c j))) (r₁ := 0) (r₂ := 0) (d₁ := 0) (d₂ := c.val)
      (by rw [duties_ms X Mv c j hj]; exact Finset.mem_singleton_self _)
      (by rw [duties_mr X Mv (peer c j)]; exact Finset.mem_erase.mpr ⟨fun h => peer_ne c j hj (Fin.ext h.symm), Finset.mem_range.mpr c.isLt⟩)
      18 0 NM (mslot_credit c) (amount_ms X Mv c j hj _ _) (amount_mr X Mv (peer c j) _ _)
      (O₀ := tallyL ((evMax j :: E).map (Ev.out c))) (tallyL (E.map (Ev.out c))) (by rw [List.map_cons, tallyL, add_comm]; rfl) (W := W)
      (by rw [payload_ms]; exact .rfl)
      (by
        rw [payload_mr]
        exact mPts_of (peer c j) c _ _ (by rw [View.read_write_univ, View.read_rep]))) $$ [HaL Hdst HO Ht1 Ht2]
  · isplitr; · iexact Hcell1
    isplitr; · iexact Hcell2
    isplitl [HaL]; · unfold aPts; iexact HaL
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply Hk
  isplitl [HaR]; · iexact HaR
  isplitl [Hc]; · iexact Hc
  iexists W; iexact HO

/-- All sends. -/
theorem mSends_spec (c : Dev nD) (E : List Ev) (K : Pr F) (Q : PUnit → sProp 𝕄) : ∀ (n j : ℕ) (hj : j + n ≤ 31),
    iprop(Inv X Mv κ ιs ∗ AllM c ∗ aPts c (shR j) (Mv c) ∗ seqSep (TkM c) n j ∗ Owes c (evMaxs n j ++ E))
      ⊢ iprop(((aPts c (shR (j + n)) (Mv c) ∗ seqSep (CrM c) n j ∗ Owes c E) -∗ WP c K Q) -∗ WP c (mSends c n j hj K) Q)
  | 0, j, hj => by
    unfold seqSep evMaxs mSends
    iintro ⟨-, -, Ha, -, HO⟩ Hk
    iapply Hk
    isplitl [Ha]; · iexact Ha
    isplitr; · iempintro
    iexact HO
  | n + 1, j, hj => by
    unfold seqSep evMaxs mSends
    iintro ⟨#HI, #HM, Ha, ⟨Ht, Hts⟩, HO⟩ Hk
    iapply (step_mSend X Mv κ ιs c j _ (evMaxs n (j + 1) ++ E) _ Q) $$ [Ha Ht HO]
    · isplitr; · iexact HI
      isplitr; · iexact HM
      isplitl [Ha]; · iexact Ha
      isplitl [Ht]; · iexact Ht
      iexact HO
    iintro ⟨Ha, Hc, HO⟩
    iapply (mSends_spec c E K Q n (j + 1) _) $$ [Ha Hts HO]
    · isplitr; · iexact HI
      isplitr; · iexact HM
      isplitl [Ha]; · iexact Ha
      isplitl [Hts]; · iexact Hts
      iexact HO
    rw [show j + 1 + n = j + (n + 1) by omega]
    iintro ⟨Ha, Hcs, HO⟩
    iapply Hk
    isplitl [Ha]; · iexact Ha
    isplitl [Hc Hcs]
    · isplitl [Hc]; · iexact Hc
      iexact Hcs
    iexact HO

/-- `k` maxima have been waited for. -/
def MrSt (c : Dev nD) (k : ℕ) : sProp 𝕄 :=
  iprop(∃ T : Finset ℕ, ⌜T ⊆ (Finset.range 32).erase c.val⌝ ∗ atPos ER (mrCell c) 0 T (k * NM)
    ∗ bigSep T fun d => (Rd X Mv).payload (mrCell c) 0 d)
/-- All have come. -/
def MrFin (c : Dev nD) : sProp 𝕄 :=
  iprop(atPos ER (mrCell c) 1 ∅ 0 ∗ bigSep ((Finset.range 32).erase c.val) fun d => (Rd X Mv).payload (mrCell c) 0 d)

theorem join_pay (Φ : ℕ → sProp 𝕄) {T S : Finset ℕ} (h : T ⊆ S) : iprop(bigSep T Φ ∗ bigSep (S \ T) Φ) ⊢ iprop(bigSep S Φ) :=
  Entails.of_eq ((bigSep_union (Finset.disjoint_sdiff)).symm.trans (by rw [Finset.union_sdiff_of_subset h]))

/-- All arrivals. -/
theorem mRecvs_spec (c : Dev nD) (K : Pr F) (Q : PUnit → sProp 𝕄) : ∀ (n k j : ℕ), k + n = 30 →
    iprop(Inv X Mv κ ιs ∗ MrSt X Mv c k ∗ Due c (evMaxs (n + 1) j) ∗ Owes c [])
      ⊢ iprop(((MrFin X Mv c ∗ Owes c []) -∗ WP c K Q) -∗ WP c (mRecvs c (n + 1) K) Q)
  | 0, k, j, hk => by
    obtain rfl : k = 30 := hk
    rw [show evMaxs (0 + 1) j = [evMax j] from rfl]
    unfold MrSt MrFin Owes
    rw [show (mRecvs (F := F) c (0 + 1) K) = .op (.waitDma2 cc0_scratch14.sem (Memref.whole cc0_scratch11) (mslot c) mx_exact (mslot_exact c)) fun _ => K from rfl]
    iintro ⟨#HI, ⟨%T, %hT, Hat, HT⟩, Hd, ⟨%W, HO⟩⟩ Hk
    ihave Hd := (due_cons c _ _) $$ Hd
    icases Hd with ⟨Hc, -⟩
    ihave #Hcell := (inv_mr X Mv κ ιs c) $$ HI
    ihave Hmw := (inv_mayWait X Mv κ ιs c (.dma cc0_scratch14.sem) (Above.nil 18) (by omega)) $$ HI
    iapply (Rounds.wp_wait_rest_token 𝒱₀ ER (Rd X Mv) (c : Thread nD τ) none (κ := κ (mrCell c))
        (wpE_waitDma2_eq 𝒱₀ (c : Thread nD τ) none Set.univ) (Set.mem_univ _) 18 (W := W) (R := 0) (m := 30 * NM) (T := T)
        (by rw [expect_mr, mslot_credit]; omega)) $$ [Hc HO Hat Hmw]
    · isplitr; · iexact Hcell
      isplitl [Hc]; · rw [mslot_credit]; iexact Hc
      isplitl [HO]; · iexact HO
      isplitl [Hmw]; · iexact Hmw
      iexact Hat
    iintro ⟨HO, Hat, -, Hpay⟩
    rw [duties_mr]
    iapply Hk
    isplitr [HO]
    · isplitl [Hat]; · iexact Hat
      iapply (join_pay (F := F) (fun d => (Rd X Mv).payload (mrCell c) 0 d) hT)
      isplitl [HT]; · iexact HT
      iexact Hpay
    iexists _; iexact HO
  | n + 1, k, j, hk => by
    rw [show (mRecvs (F := F) c (n + 1 + 1) K) = .op (.waitDma2 cc0_scratch14.sem (Memref.whole cc0_scratch11) (mslot c) mx_exact (mslot_exact c)) fun _ => mRecvs c (n + 1) K from rfl,
      show evMaxs (n + 1 + 1) j = evMax j :: evMaxs (n + 1) (j + 1) from rfl]
    unfold MrSt Owes
    iintro ⟨#HI, ⟨%T, %hT, Hat, HT⟩, Hd, ⟨%W, HO⟩⟩ Hk
    ihave Hd := (due_cons c _ _) $$ Hd
    icases Hd with ⟨Hc, Hd⟩
    ihave #Hcell := (inv_mr X Mv κ ιs c) $$ HI
    ihave Hmw := (inv_mayWait X Mv κ ιs c (.dma cc0_scratch14.sem) (Above.nil 18) (by omega)) $$ HI
    iapply (Rounds.wp_wait 𝒱₀ ER (Rd X Mv) (c : Thread nD τ) none (κ := κ (mrCell c)) (sm := .dma cc0_scratch14.sem)
        (wpE_waitDma2_eq 𝒱₀ (c : Thread nD τ) none Set.univ) (Set.mem_univ _) (cr := Finsupp.single 18 NM) (W := W) {(.dma cc0_scratch14.sem, 18)} (R := 0) (m := k * NM) (T := T)
        (by rw [Util.total_single, mslot_credit]) (image_single_subset (.dma cc0_scratch14.sem) 18 NM)) $$ [Hc HO Hat Hmw]
    · isplitr; · iexact Hcell
      isplitl [Hc]; · iexact Hc
      isplitl [HO]; · iexact HO
      isplitl [Hmw]; · iexact Hmw
      iexact Hat
    iintro %S ⟨%hS, HO, Hat, Hpay⟩
    obtain ⟨h1, h2, -⟩ := hS
    rw [duties_mr] at h2
    rw [mslot_credit, ← Nat.succ_mul]
    ihave HT := (join_pay (F := F) (fun d => (Rd X Mv).payload (mrCell c) 0 d) h1) $$ [HT Hpay]
    · isplitl [HT]; · iexact HT
      iexact Hpay
    iapply (mRecvs_spec c K Q n (k + 1) (j + 1) (by omega)) $$ [Hat HT Hd HO]
    · isplitr; · iexact HI
      isplitl [Hat HT]
      · unfold MrSt
        iexists S
        isplitr; · ipureintro; exact h2
        isplitl [Hat]; · iexact Hat
        iexact HT
      isplitl [Hd]; · iexact Hd
      unfold Owes
      iexists _; iexact HO
    unfold Owes
    iexact Hk

/-- All sends have left: the source comes back whole. -/
theorem mWaits_spec (c : Dev nD) (K : Pr F) (Q : PUnit → sProp 𝕄) : ∀ (n j : ℕ) (hj : j + n ≤ 31),
    iprop(Inv X Mv κ ιs ∗ seqSep (CrM c) n j ∗ seqSep (PosM c) n j ∗ Owes c [])
      ⊢ iprop((((aPts c (shR (j + n)) (Mv c) -∗ aPts c (shR j) (Mv c)) ∗ seqSep (PosM1 c) n j ∗ Owes c []) -∗ WP c K Q) -∗ WP c (mWaits c n j hj K) Q)
  | 0, j, hj => by
    unfold seqSep mWaits
    iintro ⟨-, -, -, HO⟩ Hk
    iapply Hk
    isplitr; · iintro H; iexact H
    isplitr; · iempintro
    iexact HO
  | n + 1, j, hj => by
    unfold seqSep mWaits
    iintro ⟨#HI, ⟨Hc, Hcs⟩, ⟨Hat, Hps⟩, HO⟩ Hk
    unfold CrM PosM Owes
    icases HO with ⟨%W, HO⟩
    rw [msL_eq c j (by omega)]
    ihave #Hcell := (inv_ms X Mv κ ιs c j (by omega)) $$ HI
    ihave Hmw := (inv_mayWait X Mv κ ιs c (.dma (sem31 j (by omega))) (Above.nil 0) (by omega)) $$ HI
    iapply (Rounds.wp_wait_rest_token 𝒱₀ ER (Rd X Mv) (c : Thread nD τ) none (κ := κ (msCell c j (by omega)))
        (wpE_waitDma2_eq 𝒱₀ (c : Thread nD τ) none Set.univ) (Set.mem_univ _) 0 (W := W) (R := 0) (m := 0) (T := ∅)
        ((Nat.zero_add _).trans (whole11_credit.trans (expect_ms X Mv c j _).symm))) $$ [Hc HO Hat Hmw]
    · isplitr; · iexact Hcell
      isplitl [Hc]; · rw [whole11_credit]; iexact Hc
      isplitl [HO]; · iexact HO
      isplitl [Hmw]; · iexact Hmw
      iexact Hat
    iintro ⟨HO, Hat, -, Hpay⟩
    ihave Hpay := (Entails.of_eq (rest_ms X Mv c j _)) $$ Hpay
    iapply (mWaits_spec c K Q n (j + 1) _) $$ [Hcs Hps HO]
    · isplitr; · iexact HI
      isplitl [Hcs]; · unfold CrM; iexact Hcs
      isplitl [Hps]; · unfold PosM; iexact Hps
      unfold Owes; iexists _; iexact HO
    iintro ⟨Hw, Hp1, HO⟩
    rw [show j + 1 + n = j + (n + 1) by omega]
    iapply Hk
    isplitl [Hw Hpay]
    · iintro H
      ihave H := Hw $$ H
      iapply (aPts_share c j (Mv c)).2
      isplitl [Hpay]; · iexact Hpay
      iexact H
    isplitl [Hat Hp1]
    · isplitl [Hat]; · unfold PosM1; rw [msL_eq c j (by omega)]; iexact Hat
      iexact Hp1
    unfold Owes; iexact HO

end Cert.KernelIdeal.Own

end
-- ==== Proof.Finish.lean ====
/-
The end of the kernel: the exchange of the maxima, the scale, the rewriting of the result.
-/
module

public import proofs.«01_k».proof.Proof.Maxes
public import Idealize.ShloMosaic.Lib.ValueIdxCore

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Gen

set_option Elab.async false

variable {F : FTy → Type} [FloatOps F]

local notation "𝕄" => MT nD τ sig ℕ (Elt F) ℕ UU ℕ

variable (om : Memref sig .tc .vmem S4096x256 .f32) (wv : Vec F S4096x256 .bf16)
variable (X : Dev nD → Fin 2 → S64x4096.Idx → Elt F .bf16) (mx : Dev nD → F .f32)
  (κ : GSem nD τ sig → ℕ) (ιs : Key → ℕ)

/-- What each device sends: its maximum, everywhere in a slot. -/
abbrev spread (mx : Dev nD → F .f32) : Dev nD → S8x128.Idx → Elt F .f32 := fun w _ => mx w

/-- The zero the table starts with. -/
def z0 : F .f32 := Scalar.ofBits .f32 0x00000000#32

/-- Device `c`'s table of maxima when all have come: its own place is still zero. -/
def mvec (c : Dev nD) : S32x8x128.Idx → Elt F .f32 := fun x => if (show Dev nD from x 0) = c then z0 else mx (show Dev nD from x 0)

theorem mslot_read (c w : Dev nD) :
    (mslot w).view.read (Elt F) (show Buf (Elt F) ((mslot w).view.loc (c : Thread nD τ)) from mvec mx c) = fun _ => if w = c then z0 else mx w := by
  funext i
  show mvec mx c ((mslot w).view.emb i) = _
  unfold mvec
  rw [show (show Dev nD from ((mslot w).view.emb i) 0) = w from mslot_row w i]

/-- One place of the full table. -/
theorem mPts_mvec (c w : Dev nD) : (mPts c w (fun _ => if w = c then z0 else mx w) : sProp 𝕄)
    = ((mslot w).view.loc (c : Thread nD τ) ↦[(mslot w).view.set]{fullShare} (show Buf (Elt F) ((mslot w).view.loc (c : Thread nD τ)) from mvec mx c)) := by
  unfold mPts
  rw [← mslot_read mx c w]
  exact (pointsTo_rep (c : Thread nD τ) (mslot w) _ fullShare).symm

theorem erase_map (c : Dev nD) : (Finset.range 32).erase c.val = (Finset.univ.erase c).map (Fin.valEmbedding : Fin 32 ↪ ℕ) := by
  ext d
  simp only [Finset.mem_erase, Finset.mem_range, Finset.mem_map, Finset.mem_univ, and_true, Fin.valEmbedding_apply]
  constructor
  · exact fun h => ⟨⟨d, h.2⟩, fun e => h.1 (congrArg Fin.val e), rfl⟩
  · rintro ⟨a, ha, rfl⟩
    exact ⟨fun e => ha (Fin.ext e), a.isLt⟩

/-- The table of maxima, whole, holding `f`. -/
def tblPts (c : Dev nD) (f : S32x8x128.Idx → Elt F .f32) : sProp 𝕄 :=
  (Memref.whole cc0_scratch12).view.loc (c : Thread nD τ) ↦[(Memref.whole cc0_scratch12).view.set]{fullShare} f

/-- The arrived maxima and the device's own zero are the full table. -/
theorem table_join (c : Dev nD) :
    iprop(mPts c c (fun _ => z0) ∗ bigSep ((Finset.range 32).erase c.val) fun d => (Rd X (spread mx)).payload (mrCell c) 0 d)
      ⊢ (tblPts c (mvec mx c) : sProp 𝕄) := by
  have h1 : (bigSep ((Finset.range 32).erase c.val) (fun d => (Rd X (spread mx)).payload (mrCell c) 0 d) : sProp 𝕄)
      = bigSep (Finset.univ.erase c) fun w : Dev nD => ((mslot w).view.loc (c : Thread nD τ) ↦[(mslot w).view.set]{fullShare} (show Buf (Elt F) ((mslot w).view.loc (c : Thread nD τ)) from mvec mx c)) := by
    rw [erase_map, bigSep_map]
    refine bigSep_congr fun w hw => ?_
    refine (payload_mr X (spread mx) c w 0).trans ?_
    rw [← mPts_mvec mx c w]
    rw [if_neg (Finset.ne_of_mem_erase hw)]
  have h2 : (mPts c c (fun _ => z0) : sProp 𝕄) = ((mslot c).view.loc (c : Thread nD τ) ↦[(mslot c).view.set]{fullShare} (show Buf (Elt F) ((mslot c).view.loc (c : Thread nD τ)) from mvec mx c)) := by
    rw [← mPts_mvec mx c c, if_pos rfl]
  rw [h1, h2]
  refine Entails.of_eq ?_
  have h3 := bigSep_insert (M := 𝕄) (Finset.notMem_erase c Finset.univ) (Φ := fun w : Dev nD => ((mslot w).view.loc (c : Thread nD τ) ↦[(mslot w).view.set]{fullShare} (show Buf (Elt F) ((mslot w).view.loc (c : Thread nD τ)) from mvec mx c)))
  rw [Finset.insert_erase (Finset.mem_univ c)] at h3
  refine h3.symm.trans ?_
  unfold tblPts
  rw [← mslot_cover]
  exact (pointsTo_biUnion (ℓ := (Memref.whole cc0_scratch12).view.loc (c : Thread nD τ)) Finset.univ (fun w : Dev nD => (mslot w).view.set) fun w _ w' _ h => mslot_disj w w' h).symm

/-! ## The whole result -/

theorem rectO_col (o : Dev nD) (u : Fin 2) (i : S64x256.Idx) : (((rectO (F := F) o u).emb i) 1).val = (i 1).val := by
  have h : (((rectO (F := F) o u).emb i) 1).val = offRow (F := F) u (Dev.word o) 1 + (i 1).val := ValueKit.rect_emb_unit_val (s := S4096x256) (offRow (F := F) u (Dev.word o)) S64x256.size (offRow_inb (F := F) u _ (chkRow_word u o)) i 1
  rw [h, offRow_word]; exact Nat.zero_add _

/-- The whole product before the scale: row `x 0` lies in half `x 0 % 128 / 64` of device `x 0 / 128`. -/
def yAll (x : S4096x256.Idx) : F .f32 :=
  Yb X wv ⟨(x 0).val / 128, by have h : (x 0).val < 4096 := (x 0).isLt; show _ < 32; omega⟩ ⟨(x 0).val % 128 / 64, by omega⟩
    (ValueIdx.ix2 ⟨(x 0).val % 64, Nat.mod_lt _ (by decide)⟩ (x 1))

/-- With every block in place the result's buffer holds the product. -/
theorem out_full (f : BufTy.Contents (Elt F) om.view.ref.ty)
    (hf : ∀ o u, ∀ i : S64x256.Idx, om.view.read (Elt F) f ((rectO (F := F) o u).emb i) = Yb X wv o u i) : om.view.read (Elt F) f = yAll wv X := by
  funext x
  unfold yAll
  rw [← hf]
  congr 1
  have h0 : (x 0).val < 4096 := (x 0).isLt
  funext a
  apply Fin.ext
  match a with
  | 0 =>
    refine Eq.trans ?_ (rectO_row (F := F) _ _ _).symm
    show (x 0).val = (x 0).val / 128 * 128 + (x 0).val % 128 / 64 * 64 + (x 0).val % 64
    omega
  | 1 =>
    refine Eq.trans ?_ (rectO_col (F := F) _ _ _).symm
    rfl

theorem om_whole_emb (j : S4096x256.Idx) : (Rect.unit (s := S4096x256) ![0, 0] S4096x256.size inb_S4096x256_S4096x256_0_0).emb j = j := by
  funext a
  apply Fin.ext
  refine (ValueKit.rect_emb_unit_val (s := S4096x256) ![0, 0] S4096x256.size inb_S4096x256_S4096x256_0_0 j a).trans ?_
  match a with
  | 0 => exact Nat.zero_add _
  | 1 => exact Nat.zero_add _

theorem om_load (f : BufTy.Contents (Elt F) om.view.ref.ty) :
    (om.access (Rect.unit (s := S4096x256) ![0, 0] S4096x256.size inb_S4096x256_S4096x256_0_0)).read (Elt F) f = om.view.read (Elt F) f := by
  funext j
  exact congrArg (om.view.read (Elt F) f) (om_whole_emb j)

theorem om_stored (f : BufTy.Contents (Elt F) om.view.ref.ty) (w : S4096x256.Idx → Elt F .f32) :
    om.view.read (Elt F) ((om.access (Rect.unit (s := S4096x256) ![0, 0] S4096x256.size inb_S4096x256_S4096x256_0_0)).write (Elt F) f w Finset.univ) = w := by
  funext j
  have h := View.read_slice_write_emb (Val := Elt F) (v := om.view) (Rect.unit (s := S4096x256) ![0, 0] S4096x256.size inb_S4096x256_S4096x256_0_0) f w (x := j) (Finset.mem_univ j)
  rw [om_whole_emb] at h
  exact h

/-- The result's buffer holds `v`. -/
def OutIs (c : Dev nD) (v : S4096x256.Idx → F .f32) : sProp 𝕄 :=
  iprop(∃ f, (om.view.loc (c : Thread nD τ) ↦[om.view.set]{fullShare} f) ∗ ⌜om.view.read (Elt F) f = v⌝)

/-- What the kernel leaves in the result: the product quantised by the maximum of all maxima. -/
def outV (c : Dev nD) : S4096x256.Idx → F .f32 := k0_pay1 (k0_pay147 (k0_pay146 (mx c) (mvec mx c))) (yAll wv X)

/-- The buffer of the device's own maximum, at any contents. -/
def ownAny (c : Dev nD) : sProp 𝕄 := slot ((Memref.whole cc0_scratch11).view.loc (c : Thread nD τ)) (Memref.whole cc0_scratch11).view.set

theorem hz2 : (![0, 0] : Fin 2 → ℕ) = fun _ => 0 := by funext a; match a with | 0 => rfl | 1 => rfl
theorem hz3 : (![0, 0, 0] : Fin 3 → ℕ) = fun _ => 0 := by funext a; match a with | 0 => rfl | 1 => rfl | 2 => rfl

/-- The stored maximum is what the sends read. -/
theorem own_stored (c : Dev nD) (m : F .f32) (f : Buf (Elt F) ((Memref.whole cc0_scratch11).view.loc (c : Thread nD τ))) :
    ((Memref.whole cc0_scratch11).view.loc (c : Thread nD τ) ↦[(Memref.whole cc0_scratch11).view.set]{fullShare}
        (((Memref.whole cc0_scratch11).access (Rect.unit (s := S8x128) ![0, 0] S8x128.size inb_S8x128_S8x128_0_0)).write (Elt F) f
          (shapeCast S8x128 (broadcast S8x128 m) shapeCasts_S8x128_S8x128) Finset.univ) : sProp 𝕄)
      ⊢ aPts c (shR 0) (fun _ => m) := by
  rw [show ((Memref.whole cc0_scratch11).access (Rect.unit (s := S8x128) ![0, 0] S8x128.size inb_S8x128_S8x128_0_0)).write (Elt F) f
      (shapeCast S8x128 (broadcast S8x128 m) shapeCasts_S8x128_S8x128) Finset.univ = shapeCast S8x128 (broadcast S8x128 m) shapeCasts_S8x128_S8x128
    from Memref.write_access_unit_zero_univ (Elt F) cc0_scratch11 hz2 inb_S8x128_S8x128_0_0 f (shapeCast S8x128 (broadcast S8x128 m) shapeCasts_S8x128_S8x128)]
  unfold aPts
  refine BIBase.Entails.trans (Entails.of_eq (pointsTo_rep (c : Thread nD τ) (Memref.whole cc0_scratch11) _ fullShare)) ?_
  exact .rfl

/-- The end: from the device's maximum and the blocks in place to the quantised result. -/
theorem finish_spec (c : Dev nD) (l : List (Dev nD × Fin 2)) (hl : ∀ o u, (o, u) ∈ l) (Q : PUnit → sProp 𝕄) :
    iprop(Inv X (spread mx) κ ιs ∗ AllM c ∗ ownAny c ∗ mPts c c (fun _ => z0) ∗ MrSt X (spread mx) c 0 ∗ seqSep (TkM c) 31 0 ∗ seqSep (PosM c) 31 0
        ∗ Due c (evMaxs 31 0) ∗ Owes c (evMaxs 31 0) ∗ OutSt om c (Yb X wv) fun o u => (o, u) ∈ l)
      ⊢ iprop(((ownAny c ∗ tblPts c (mvec mx c) ∗ atPos ER (mrCell c) 1 ∅ 0 ∗ seqSep (PosM1 c) 31 0 ∗ Owes c [] ∗ OutIs om c (outV wv X mx c)) -∗ |={Set.univ}=> Q ⟨⟩)
          -∗ WP c (finish om c (mx c)) Q) := by
  unfold OutSt OutIs
  iintro ⟨#HI, #HM, Hown, Hz, Hmr, Ht, Hp, Hd, HO, ⟨%f, Ho, %hf⟩⟩ Hk
  unfold ownAny slot
  icases Hown with ⟨%fa, Hown⟩
  unfold finish
  iapply (wp_load_rect 𝒱₀ (c : Thread nD τ) none Set.univ (m := Memref.whole cc0_scratch11) (r := Rect.unit (s := S8x128) ![0, 0] S8x128.size inb_S8x128_S8x128_0_0) (S := (Memref.whole cc0_scratch11).view.set) (View.set_slice_subset _ _)) $$ Hown
  iintro Hown
  iapply (wp_store 𝒱₀ (c : Thread nD τ) none Set.univ (m := Memref.whole cc0_scratch11) (r := Rect.unit (s := S8x128) ![0, 0] S8x128.size inb_S8x128_S8x128_0_0) (S := (Memref.whole cc0_scratch11).view.set) (View.set_slice_subset _ _)) $$ Hown
  iintro Hown
  ihave Ha := (own_stored c (mx c) fa) $$ Hown
  iapply (mSends_spec X (spread mx) κ ιs c [] _ Q 31 0 _) $$ [Ha Ht HO]
  · isplitr; · iexact HI
    isplitr; · iexact HM
    isplitl [Ha]; · iexact Ha
    isplitl [Ht]; · iexact Ht
    rw [List.append_nil]; iexact HO
  iintro ⟨Ha, Hcr, HO⟩
  iapply (mRecvs_spec X (spread mx) κ ιs c _ Q 30 0 0 rfl) $$ [Hmr Hd HO]
  · isplitr; · iexact HI
    isplitl [Hmr]; · iexact Hmr
    isplitl [Hd]; · iexact Hd
    iexact HO
  unfold MrFin
  iintro ⟨⟨Hat, Hpay⟩, HO⟩
  ihave Htb := (table_join X mx c) $$ [Hz Hpay]
  · isplitl [Hz]; · iexact Hz
    iexact Hpay
  unfold tblPts
  iapply (wp_load_rect 𝒱₀ (c : Thread nD τ) none Set.univ (m := Memref.whole cc0_scratch12) (r := Rect.unit (s := S32x8x128) ![0, 0, 0] S32x8x128.size inb_S32x8x128_S32x8x128_0_0_0) (S := (Memref.whole cc0_scratch12).view.set) (View.set_slice_subset _ _)) $$ Htb
  iintro Htb
  rw [show ((Memref.whole cc0_scratch12).access (Rect.unit (s := S32x8x128) ![0, 0, 0] S32x8x128.size inb_S32x8x128_S32x8x128_0_0_0)).read (Elt F) (mvec mx c) = mvec mx c
    from Memref.read_access_unit_zero (Elt F) cc0_scratch12 hz3 inb_S32x8x128_S32x8x128_0_0_0 (mvec mx c)]
  iapply (mWaits_spec X (spread mx) κ ιs c _ Q 31 0 _) $$ [Hcr Hp HO]
  · isplitr; · iexact HI
    isplitl [Hcr]; · iexact Hcr
    isplitl [Hp]; · iexact Hp
    iexact HO
  iintro ⟨Hw, Hp, HO⟩
  ihave Ha := Hw $$ Ha
  iapply (wp_load_rect 𝒱₀ (c : Thread nD τ) none Set.univ (m := om) (r := Rect.unit (s := S4096x256) ![0, 0] S4096x256.size inb_S4096x256_S4096x256_0_0) (S := om.view.set) (View.set_slice_subset _ _)) $$ Ho
  iintro Ho
  rw [om_load, out_full om wv X f (fun o u => hf o u (hl o u))]
  iapply (wp_load_rect 𝒱₀ (c : Thread nD τ) none Set.univ (m := om) (r := Rect.unit (s := S4096x256) ![0, 0] S4096x256.size inb_S4096x256_S4096x256_0_0) (S := om.view.set) (View.set_slice_subset _ _)) $$ Ho
  iintro Ho
  iapply (wp_store 𝒱₀ (c : Thread nD τ) none Set.univ (m := om) (r := Rect.unit (s := S4096x256) ![0, 0] S4096x256.size inb_S4096x256_S4096x256_0_0) (S := om.view.set) (View.set_slice_subset _ _)) $$ Ho
  iintro Ho
  rw [wp_ret]
  iapply Hk
  isplitl [Ha]
  · unfold aPts; iexists _; iexact Ha
  isplitl [Htb]; · iexact Htb
  isplitl [Hat]; · iexact Hat
  isplitl [Hp]; · iexact Hp
  isplitl [HO]; · iexact HO
  iexists _
  isplitl [Ho]; · iexact Ho
  ipureintro
  exact om_stored om f _

end Cert.KernelIdeal.Own

end
-- ==== Proof.Ring.lean ====
/-
The ring: the four first copies, the middle hops, the last hop and the end.
-/
module

public import proofs.«01_k».proof.Proof.Finish

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Gen

set_option Elab.async false

variable {F : FTy → Type} [FloatOps F]

local notation "𝕄" => MT nD τ sig ℕ (Elt F) ℕ UU ℕ

variable (X : Dev nD → Fin 2 → S64x4096.Idx → Elt F .bf16) (mx : Dev nD → F .f32)
  (κ : GSem nD τ sig → ℕ) (ιs : Key → ℕ)
variable (tb : Memref sig .tc .smem S39 .i32) (om : Memref sig .tc .vmem S4096x256 .f32) (wv : Vec F S4096x256 .bf16)

/-! ## The order of the blocks -/

/-- All blocks in the order in which device `c` computes them. -/
def seqAll (c : Dev nD) : List (Dev nD × Fin 2) :=
  (([] ++ [(orig true 0 c, (0 : Fin 2))]) ++ [(orig true 0 c, (1 : Fin 2))] ++ seqHops c 14 0) ++ seqLast c

theorem mem_seqHops (c : Dev nD) (b : Bool) (u : Fin 2) : ∀ n h k : ℕ, h < k → k ≤ h + n → (orig b k c, u) ∈ seqHops c n h
  | 0, h, k, h1, h2 => absurd h2 (by omega)
  | n + 1, h, k, h1, h2 => by
    unfold seqHops
    by_cases hk : k = h + 1
    · subst hk
      have hm : (orig b (h + 1) c, u) ∈ seqHalf c (h + 1) u := by
        unfold seqHalf
        cases b
        · exact List.mem_cons_of_mem _ (List.mem_singleton_self _)
        · exact List.mem_cons_self
      match u, hm with
      | 0, hm => exact List.mem_append_left _ hm
      | 1, hm => exact List.mem_append_right _ (List.mem_append_left _ hm)
    · exact List.mem_append_right _ (List.mem_append_right _ (mem_seqHops c b u n (h + 1) k (by omega) (by omega)))

/-- Every device's two halves are among them. -/
theorem mem_seqAll (c o : Dev nD) (u : Fin 2) : (o, u) ∈ seqAll c := by
  unfold seqAll
  have h0 : (c, u) ∈ (([] ++ [(orig true 0 c, (0 : Fin 2))]) ++ [(orig true 0 c, (1 : Fin 2))] ++ seqHops c 14 0) ++ seqLast c := by
    refine List.mem_append_left _ (List.mem_append_left _ ?_)
    match u with
    | 0 => exact List.mem_cons_self
    | 1 => exact List.mem_cons_of_mem _ (List.mem_singleton_self _)
  have h1 : ∀ (b : Bool) (k : ℕ), 0 < k → k ≤ 14 → (orig b k c, u) ∈ (([] ++ [(orig true 0 c, (0 : Fin 2))]) ++ [(orig true 0 c, (1 : Fin 2))] ++ seqHops c 14 0) ++ seqLast c :=
    fun b k hk hk' => List.mem_append_left _ (List.mem_append_right _ (mem_seqHops c b u 14 0 k hk (by omega)))
  have h15 : ∀ b : Bool, (orig b 15 c, u) ∈ seqLast c := by
    intro b
    unfold seqLast
    match b, u with
    | true, 0 => exact List.mem_cons_self
    | true, 1 => exact List.mem_cons_of_mem _ List.mem_cons_self
    | false, 0 => exact List.mem_cons_of_mem _ (List.mem_cons_of_mem _ List.mem_cons_self)
    | false, 1 => exact List.mem_cons_of_mem _ (List.mem_cons_of_mem _ (List.mem_cons_of_mem _ List.mem_cons_self))
  have h16 : (orig true 16 c, u) ∈ seqLast c := by
    unfold seqLast
    match u with
    | 0 => exact List.mem_cons_of_mem _ (List.mem_cons_of_mem _ (List.mem_cons_of_mem _ (List.mem_cons_of_mem _ List.mem_cons_self)))
    | 1 => rw [orig16 c]; exact List.mem_cons_of_mem _ (List.mem_cons_of_mem _ (List.mem_cons_of_mem _ (List.mem_cons_of_mem _ (List.mem_cons_of_mem _ List.mem_cons_self))))
  have hb : ∀ (b : Bool) (k : ℕ), k ≤ 15 → (orig b k c, u) ∈ (([] ++ [(orig true 0 c, (0 : Fin 2))]) ++ [(orig true 0 c, (1 : Fin 2))] ++ seqHops c 14 0) ++ seqLast c := by
    intro b k hk
    by_cases hk0 : k = 0
    · subst hk0; exact h0
    · by_cases hk15 : k = 15
      · subst hk15; exact List.mem_append_right _ (h15 b)
      · exact h1 b k (by omega) (by omega)
  rcases orig_cover c o with ⟨n, rfl⟩ | ⟨n, rfl⟩
  · by_cases hn : n.val = 16
    · rw [hn]; exact List.mem_append_right _ h16
    · exact hb true n.val (by omega)
  · exact hb false n.val (by omega)

/-! ## The first copies -/

/-- What the neighbour in direction `b` lends at the meeting, half by half. -/
def NbS (c : Dev nD) (b : Bool) (u : Fin 2) : sProp 𝕄 :=
  iprop(cAny (nbr b c) b (slotOf 1 u) (slotOf_lt 1 u) ∗ cAny (nbr b c) b (slotOf 2 u) (slotOf_lt 2 u))
/-- And the open cells it tells of. -/
def NbF (c : Dev nD) (b : Bool) (u : Fin 2) : sProp 𝕄 :=
  iprop(reached ER (recvCell (nbr b c) b u 0) 0 ∗ reached ER (recvCell (nbr b c) b u 1) 0 ∗ reached ER (credCell (nbr b c) (!b) u) 0)

instance NbF_persistent (c : Dev nD) (b : Bool) (u : Fin 2) : BI.Persistent (NbF c b u : sProp 𝕄) := by unfold NbF; infer_instance

theorem barPay_split (c : Dev nD) (b : Bool) : (barPay c b : sProp 𝕄) = iprop((NbS c b 0 ∗ NbS c b 1) ∗ (NbF c b 0 ∗ NbF c b 1)) := by
  unfold barPay
  rw [bigSep_univ_two, bigSep_univ_two]
  rfl

/-- What a direction's half starts from besides. -/
def StTk (c : Dev nD) (b : Bool) (u : Fin 2) : sProp 𝕄 :=
  iprop(Pos3 c b u 0 0 ∗ atPos ER (credCell c b u) 0 ∅ 0 ∗ Tk2 c b u 0)

/-- The first copy of a direction's half. -/
theorem start0_spec (c : Dev nD) (b : Bool) (u : Fin 2) (E : List Ev) (K : Pr F) (Q : PUnit → sProp 𝕄) :
    iprop(Inv X (spread mx) κ ιs ∗ cPts c b (slotOf 0 u) (slotOf_lt 0 u) fullShare (X c u) ∗ NbS c b u ∗ NbF c b u ∗ mfacts c
        ∗ reached ER (credCell (nbr (!b) c) b u) 0 ∗ StTk c b u ∗ Owes c (evCopy b u 0 2 :: E))
      ⊢ iprop(((DirSt X c b u 0 ∗ Owes c E) -∗ WP c K Q) -∗ WP c (start (fun b => nbr b c) b 0 u K) Q) := by
  have hm : (mfs c b 0 : sProp 𝕄) = mfacts c := by
    unfold mfs; rw [show Finset.range (0 + 1) = {0} from rfl, bigSep_singleton]; rfl
  have hf : (facts c b u 0 : sProp 𝕄) = iprop(emp) := by
    unfold facts; rw [Finset.range_zero, bigSep_empty]; rfl
  unfold NbS NbF StTk DirSt Core Side CredSt Pos3 Tk2
  rw [hm, hf]
  iintro ⟨#HI, Hc, ⟨Hd1, Hd2⟩, ⟨#Hr0, #Hr1, -⟩, #Hm, #Hcr, ⟨⟨⟨Hs0, Hs1, Hs2⟩, Hr⟩, Hat, ⟨Ht1, Ht2⟩⟩, HO⟩ Hk
  ihave Hc := (cPts_halves c b _ _ _).1 $$ Hc
  icases Hc with ⟨HcL, HcR⟩
  unfold SP
  icases Hs0 with ⟨Hs0, #Hs0r⟩
  iapply (step_start X (spread mx) κ ιs c b u 0 2 (Nat.lt_of_lt_of_le (by decide) (le_nh b u.val)) E K Q) $$ [HcL Hd1 HO Ht1 Ht2]
  · isplitr; · iexact HI
    isplitl [HcL]; · iexact HcL
    isplitl [Hd1]; · iexact Hd1
    isplitr; · iexact Hm
    isplitl [HO]; · iexact HO
    isplitl [Ht1]; · iexact Ht1
    isplitr; · iexact Hs0r
    isplitl [Ht2]; · iexact Ht2
    iexact Hr0
  iintro ⟨Hcd, HO⟩
  iapply Hk
  isplitr [HO]
  · isplitl [HcR Hcd Hs0 Hs1 Hs2 Hr]
    · isplitl [HcR]; · iexact HcR
      isplitl [Hcd]; · iexact Hcd
      isplitl [Hs0 Hs1 Hs2 Hr]
      · isplitl [Hs0 Hs1 Hs2]
        · isplitl [Hs0]
          · isplitl [Hs0]; · iexact Hs0
            iexact Hs0r
          isplitl [Hs1]; · iexact Hs1
          iexact Hs2
        iexact Hr
      isplitr; · iempintro
      iexact Hm
    isplitl [Hat Hd2]
    · isplitl [Hat]
      · iexists ∅
        isplitr; · ipureintro; exact Finset.empty_subset _
        isplitl [Hat]; · iexact Hat
        rw [bigSep_empty]; iempintro
      isplitl [Hd2]; · iexact Hd2
      iexact Hr1
    iexact Hcr
  iexact HO

/-- All a device holds when its buffers are filled, neighbours met. -/
def RingPre (c : Dev nD) : sProp 𝕄 :=
  iprop((cPts c true (slotOf 0 0) (slotOf_lt 0 0) fullShare (X c 0) ∗ cPts c false (slotOf 0 0) (slotOf_lt 0 0) fullShare (X c 0)
      ∗ cPts c true (slotOf 0 1) (slotOf_lt 0 1) fullShare (X c 1) ∗ cPts c false (slotOf 0 1) (slotOf_lt 0 1) fullShare (X c 1))
    ∗ mfacts c ∗ (barPay c true ∗ barPay c false) ∗ (StTk c true 0 ∗ StTk c false 0 ∗ StTk c true 1 ∗ StTk c false 1)
    ∗ (TkHops c 14 0 ∗ TkLast c ∗ seqSep (TkM c) 31 0 ∗ seqSep (PosM c) 31 0)
    ∗ (atPos ER (mrCell c) 0 ∅ 0 ∗ mPts c c (fun _ => z0) ∗ ownAny c) ∗ Due c evRing ∗ Owes c evRing
    ∗ TabSt tb c ∗ WtSt c wv ∗ slot (om.view.loc (c : Thread nD τ)) om.view.set)

/-- All it holds at the end. -/
def RingPost (c : Dev nD) : sProp 𝕄 :=
  iprop(FinAll c ∗ (ownAny c ∗ tblPts c (mvec mx c) ∗ atPos ER (mrCell c) 1 ∅ 0 ∗ seqSep (PosM1 c) 31 0) ∗ Owes c []
    ∗ TabSt tb c ∗ WtSt c wv ∗ OutIs om c (outV wv X mx c))

theorem MrSt_zero (c : Dev nD) : (atPos ER (mrCell c) 0 ∅ 0 : sProp 𝕄) ⊢ MrSt X (spread mx) c 0 := by
  unfold MrSt
  iintro H
  iexists ∅
  isplitr; · ipureintro; exact Finset.empty_subset _
  isplitl [H]; · rw [Nat.zero_mul]; iexact H
  rw [bigSep_empty]; iempintro

theorem due_start (c : Dev nD) : (Due c evStart : sProp 𝕄) ⊢ iprop(Due2 c 0 0 ∗ Due2 c 1 0) := by
  unfold evStart Due2 DueDir
  iintro H
  ihave H := (due_cons c _ _) $$ H
  icases H with ⟨H1, H⟩
  ihave H := (due_cons c _ _) $$ H
  icases H with ⟨H2, H⟩
  ihave H := (due_cons c _ _) $$ H
  icases H with ⟨H3, H⟩
  ihave H := (due_cons c _ _) $$ H
  icases H with ⟨H4, -⟩
  isplitl [H1 H2]
  · isplitl [H1]; · iexact H1
    iexact H2
  isplitl [H3]; · iexact H3
  iexact H4

theorem due_evLast (c : Dev nD) : (Due c evLast : sProp 𝕄) ⊢ DueLast c := by
  unfold evLast DueLast
  iintro H
  ihave H := (due_cons c _ _) $$ H
  icases H with ⟨H1, H⟩
  ihave H := (due_cons c _ _) $$ H
  icases H with ⟨H2, -⟩
  isplitl [H1]; · iexact H1
  iexact H2

/-- What a device will be paid in the ring, part by part. -/
theorem due_ring (c : Dev nD) : (Due c evRing : sProp 𝕄)
    ⊢ iprop(DueHops c 14 0 ∗ (Due2 c 0 14 ∗ Due2 c 1 14) ∗ DueLast c ∗ Due c (evMaxs 31 0)) := by
  unfold evRing
  iintro H
  ihave H := (due_append c _ _) $$ H
  icases H with ⟨H0, H⟩
  ihave H := (due_append c _ _) $$ H
  icases H with ⟨H1, H⟩
  ihave H := (due_append c _ _) $$ H
  icases H with ⟨H2, H⟩
  ihave H0 := (due_start c) $$ H0
  icases H0 with ⟨Ha, Hb⟩
  ihave H1 := (due_hops c 14 0) $$ H1
  ihave Hall := (due_last c 14 0) $$ [Ha Hb H1]
  · rw [show (DueHops c (14 + 1) 0 : sProp 𝕄) = iprop(Due2 c 0 0 ∗ Due2 c 1 0 ∗ DueHops c 14 (0 + 1)) from rfl]
    isplitl [Ha]; · iexact Ha
    isplitl [Hb]; · iexact Hb
    iexact H1
  icases Hall with ⟨Hh, Hx⟩
  isplitl [Hh]; · iexact Hh
  isplitl [Hx]; · iexact Hx
  isplitl [H2]
  · iapply (due_evLast c) $$ H2
  iexact H

theorem allM_of_fin (c : Dev nD) : (FinAll c : sProp 𝕄) ⊢ AllM c := by
  unfold FinAll FinSt AllM
  rw [show nh true (0 : Fin 2).val = 16 from rfl, show nh false (1 : Fin 2).val = 16 from rfl]
  iintro ⟨⟨-, -, -, #H1⟩, -, -, ⟨-, -, -, #H2⟩⟩
  isplitr; · iexact H1
  iexact H2

/-- The whole ring. -/
theorem ring_spec (c : Dev nD) (hmx : mx c = Ml X wv (seqAll c)) (Q : PUnit → sProp 𝕄) :
    iprop(Inv X (spread mx) κ ιs ∗ RingPre X tb om wv c)
      ⊢ iprop((RingPost X mx tb om wv c -∗ |={Set.univ}=> Q ⟨⟩) -∗ WP c (ring tb om c (fun b => nbr b c)) Q) := by
  have habove : Above 16 (evLast ++ evMaxs 31 0) := (above_last (by decide)).append (above_maxs (by decide) 31 0)
  unfold RingPre RingPost ring
  rw [barPay_split c true, barPay_split c false]
  iintro ⟨#HI, ⟨Hc1, Hc2, Hc3, Hc4⟩, #Hm, ⟨⟨⟨Hn1, Hn3⟩, #Hf1, #Hf3⟩, ⟨⟨Hn2, Hn4⟩, #Hf2, #Hf4⟩⟩, ⟨Hs1, Hs2, Hs3, Hs4⟩, ⟨Hth, Htl, Htm, Hpm⟩, ⟨Hmr, Hz, Hown⟩, Hdue, HO, Htab, Hwt, Hom⟩ Hk
  ihave Hdue := (due_ring c) $$ Hdue
  icases Hdue with ⟨Hdh, ⟨Hd0, Hd1⟩, Hdl, Hdm⟩
  rw [show evRing = evCopy true 0 0 2 :: evCopy false 0 0 2 :: evCopy true 1 0 2 :: evCopy false 1 0 2 :: (evHops 14 0 ++ (evLast ++ evMaxs 31 0)) from rfl]
  ihave #Hr1 : iprop(reached ER (credCell (nbr false c) true 0) 0) $$ []
  · unfold NbF; icases Hf2 with ⟨-, -, #H⟩; iexact H
  ihave #Hr2 : iprop(reached ER (credCell (nbr true c) false 0) 0) $$ []
  · unfold NbF; icases Hf1 with ⟨-, -, #H⟩; iexact H
  ihave #Hr3 : iprop(reached ER (credCell (nbr false c) true 1) 0) $$ []
  · unfold NbF; icases Hf4 with ⟨-, -, #H⟩; iexact H
  ihave #Hr4 : iprop(reached ER (credCell (nbr true c) false 1) 0) $$ []
  · unfold NbF; icases Hf3 with ⟨-, -, #H⟩; iexact H
  iapply (start0_spec X mx κ ιs c true 0 _ _ Q) $$ [Hc1 Hn1 Hs1 HO]
  · isplitr; · iexact HI
    isplitl [Hc1]; · iexact Hc1
    isplitl [Hn1]; · iexact Hn1
    isplitr; · iexact Hf1
    isplitr; · iexact Hm
    isplitr; · iexact Hr1
    isplitl [Hs1]; · iexact Hs1
    iexact HO
  iintro ⟨HD1, HO⟩
  iapply (start0_spec X mx κ ιs c false 0 _ _ Q) $$ [Hc2 Hn2 Hs2 HO]
  · isplitr; · iexact HI
    isplitl [Hc2]; · iexact Hc2
    isplitl [Hn2]; · iexact Hn2
    isplitr; · iexact Hf2
    isplitr; · iexact Hm
    isplitr; · iexact Hr2
    isplitl [Hs2]; · iexact Hs2
    iexact HO
  iintro ⟨HD2, HO⟩
  iapply (start0_spec X mx κ ιs c true 1 _ _ Q) $$ [Hc3 Hn3 Hs3 HO]
  · isplitr; · iexact HI
    isplitl [Hc3]; · iexact Hc3
    isplitl [Hn3]; · iexact Hn3
    isplitr; · iexact Hf3
    isplitr; · iexact Hm
    isplitr; · iexact Hr3
    isplitl [Hs3]; · iexact Hs3
    iexact HO
  iintro ⟨HD3, HO⟩
  iapply (start0_spec X mx κ ιs c false 1 _ _ Q) $$ [Hc4 Hn4 Hs4 HO]
  · isplitr; · iexact HI
    isplitl [Hc4]; · iexact Hc4
    isplitl [Hn4]; · iexact Hn4
    isplitr; · iexact Hf4
    isplitr; · iexact Hm
    isplitr; · iexact Hr4
    isplitl [Hs4]; · iexact Hs4
    iexact HO
  iintro ⟨HD4, HO⟩
  rw [show (Scalar.ofBits .f32 0#32 : F .f32) = Ml X wv [] from rfl]
  iapply (gemm_dir X tb om wv c true 0 0 7 _ (tab_fwd 0 c) [] _ Q) $$ [Htab Hwt Hom HD1]
  · isplitr [HD1]
    · unfold GS OutSt slot
      isplitl [Htab]; · iexact Htab
      isplitl [Hwt]; · iexact Hwt
      icases Hom with ⟨%f, Hom⟩
      iexists f
      isplitl [Hom]; · iexact Hom
      ipureintro
      exact fun o u h => absurd h List.not_mem_nil
    iexact HD1
  iintro ⟨HG, HD1⟩
  iapply (gemm_dir X tb om wv c true 0 1 7 _ (tab_fwd 0 c) _ _ Q) $$ [HG HD3]
  · isplitl [HG]; · iexact HG
    iexact HD3
  iintro ⟨HG, HD3⟩
  iapply (hops_spec X (spread mx) κ ιs tb om wv c (evLast ++ evMaxs 31 0) habove _ Q 14 0 _ _) $$ [HD1 HD2 HD3 HD4 Hth Hdh HO HG]
  · isplitr; · iexact HI
    unfold Dir2
    isplitl [HD1 HD2]
    · isplitl [HD1]; · iexact HD1
      iexact HD2
    isplitl [HD3 HD4]
    · isplitl [HD3]; · iexact HD3
      iexact HD4
    isplitl [Hth]; · iexact Hth
    isplitl [Hdh]; · iexact Hdh
    isplitl [HO]; · iexact HO
    iexact HG
  iintro ⟨HD0, HD1, HO, HG⟩
  iapply (lastHop_spec X (spread mx) κ ιs tb om wv c (evMaxs 31 0) (above_maxs (by decide) 31 0) _ _ Q) $$ [HD0 HD1 Hd0 Hd1 Htl Hdl HO HG]
  · isplitr; · iexact HI
    isplitl [HD0]; · iexact HD0
    isplitl [HD1]; · iexact HD1
    isplitl [Hd0]; · iexact Hd0
    isplitl [Hd1]; · iexact Hd1
    isplitl [Htl]; · iexact Htl
    isplitl [Hdl]; · iexact Hdl
    isplitl [HO]; · iexact HO
    iexact HG
  iintro ⟨Hfin, HO, HG⟩
  ihave #HM := (allM_of_fin c) $$ Hfin
  unfold GS
  icases HG with ⟨Htab, Hwt, Hout⟩
  rw [show Ml X wv ((([] ++ [(orig true 0 c, (0 : Fin 2))]) ++ [(orig true 0 c, (1 : Fin 2))] ++ seqHops c 14 0) ++ seqLast c) = mx c from hmx.symm]
  iapply (finish_spec om wv X mx κ ιs c (seqAll c) (mem_seqAll c) Q) $$ [Hown Hz Hmr Htm Hpm Hdm HO Hout]
  · isplitr; · iexact HI
    isplitr; · iexact HM
    isplitl [Hown]; · iexact Hown
    isplitl [Hz]; · iexact Hz
    isplitl [Hmr]; · iapply (MrSt_zero X mx c) $$ Hmr
    isplitl [Htm]; · iexact Htm
    isplitl [Hpm]; · iexact Hpm
    isplitl [Hdm]; · iexact Hdm
    isplitl [HO]; · iexact HO
    iexact Hout
  iintro ⟨Ha, Ht, Hat, Hp, HO, Ho⟩
  iapply Hk
  isplitl [Hfin]; · iexact Hfin
  isplitl [Ha Ht Hat Hp]
  · isplitl [Ha]; · iexact Ha
    isplitl [Ht]; · iexact Ht
    isplitl [Hat]; · iexact Hat
    iexact Hp
  isplitl [HO]; · iexact HO
  isplitl [Htab]; · iexact Htab
  isplitl [Hwt]; · iexact Hwt
  iexact Ho

end Cert.KernelIdeal.Own

end
-- ==== Proof.Fill.lean ====
/-
The filling of the buffers: the table of maxima is zeroed and opened, the weights and the chunk's
two halves are put in place.
-/
module

public import proofs.«01_k».proof.Proof.Ring

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Gen

set_option Elab.async false

variable {F : FTy → Type} [FloatOps F]

local notation "𝕄" => MT nD τ sig ℕ (Elt F) ℕ UU ℕ

variable (X : Dev nD → Fin 2 → S64x4096.Idx → Elt F .bf16) (mx : Dev nD → F .f32)
  (κ : GSem nD τ sig → ℕ) (ιs : Key → ℕ)
variable (tb : Memref sig .tc .smem S39 .i32) (om : Memref sig .tc .vmem S4096x256 .f32) (wv : Vec F S4096x256 .bf16)

/-- A window's block of the weights in place. -/
def WmSt (wm : Memref sig .tc .vmem S4096x256 .bf16) (c : Dev nD) (w : Vec F S4096x256 .bf16) : sProp 𝕄 :=
  iprop(∃ f, (wm.view.loc (c : Thread nD τ) ↦[wm.view.set]{fullShare} f)
    ∗ ⌜(wm.access (Rect.unit (s := S4096x256) ![0, 0] S4096x256.size inb_S4096x256_S4096x256_0_0)).read (Elt F) f = w⌝)

/-- A window's block of the input in place. -/
def XmSt (xm : Memref sig .tc .vmem S128x4096 .bf16) (c : Dev nD) (x : Vec F S128x4096 .bf16) : sProp 𝕄 :=
  iprop(∃ f, (xm.view.loc (c : Thread nD τ) ↦[xm.view.set]{fullShare} f)
    ∗ ⌜(xm.access (Rect.unit (s := S128x4096) ![0, 0] S128x4096.size inb_S128x4096_S128x4096_0_0)).read (Elt F) f = x⌝)

/-- What is stored through a view in its own shape, read in the other shape. -/
theorem read_of_stored {s s' : Shape} (v : View sig .tc .vmem s .bf16) (h : s'.numel = s.numel) (f : BufTy.Contents (Elt F) v.ref.ty) (y : s'.Idx → Elt F .bf16) :
    (v.reshape s' h).read (Elt F) (v.write (Elt F) f (shapeCast (α := Elt F .bf16) s y h.symm) Finset.univ) = y := by
  funext x
  show v.read (Elt F) (v.write (Elt F) f (shapeCast (α := Elt F .bf16) s y h.symm) Finset.univ) (Shape.reshapeEquiv h x) = y x
  rw [View.read_write_univ]
  show y (Shape.reshapeEquiv h.symm (Shape.reshapeEquiv h x)) = y x
  rw [Shape.reshapeEquiv_reshapeEquiv, Shape.reshapeEquiv_self]

theorem stored_half (b : Bool) (k : ℕ) (hk : k < 6) (f : BufTy.Contents (Elt F) (cm b).view.ref.ty) (y : S64x4096.Idx → Elt F .bf16) :
    (half b k hk).view.read (Elt F) (((cm b).access (rectC k hk)).write (Elt F) f (shapeCast (α := Elt F .bf16) S1x64x4096 y shapeCasts_S64x4096_S1x64x4096) Finset.univ) = y :=
  read_of_stored ((cm b).access (rectC k hk)) _ f y

theorem cPts_stored (c : Dev nD) (b : Bool) (k : ℕ) (hk : k < 6) (f : Buf (Elt F) (((cm b).access (rectC k hk)).loc (c : Thread nD τ))) (y : S64x4096.Idx → Elt F .bf16) :
    (((cm b).access (rectC k hk)).loc (c : Thread nD τ) ↦[(half b k hk).view.set]{fullShare}
        ((cm b).access (rectC k hk)).write (Elt F) f (shapeCast (α := Elt F .bf16) S1x64x4096 y shapeCasts_S64x4096_S1x64x4096) Finset.univ : sProp 𝕄)
      ⊢ cPts c b k hk fullShare y :=
  cPts_of c b k hk fullShare _ y (stored_half b k hk f y)

/-- One half of the chunk put into a buffer. -/
theorem fillC_spec (c : Dev nD) (b : Bool) (k : ℕ) (hk : k < 2) (hk6 : k < 6) (y : S64x4096.Idx → Elt F .bf16) (K : Pr F) (Q : PUnit → sProp 𝕄) :
    (cAny c b k hk6 : sProp 𝕄) ⊢ iprop((cPts c b k hk6 fullShare y -∗ WP c K Q)
      -∗ WP c (fillC b k hk (shapeCast (α := Elt F .bf16) S1x64x4096 y shapeCasts_S64x4096_S1x64x4096) K) Q) := by
  unfold cAny slot
  iintro ⟨%f, H⟩ Hk
  unfold fillC
  iapply (wp_load_rect 𝒱₀ (c : Thread nD τ) none Set.univ (m := cm b) (r := rectC k hk6) (S := (half b k hk6).view.set) (subset_of_eq (half_set b _ _))) $$ H
  iintro H
  iapply (wp_store 𝒱₀ (c : Thread nD τ) none Set.univ (m := cm b) (r := rectC k hk6) (S := (half b k hk6).view.set) (subset_of_eq (half_set b _ _))) $$ H
  iintro H
  iapply Hk
  iapply (cPts_stored c b k hk6 f y) $$ H

theorem mPts_any (c w : Dev nD) (x : S8x128.Idx → Elt F .f32) : (mPts c w x : sProp 𝕄) ⊢ mAny c w := by
  unfold mPts mAny slot
  iintro H; iexists _; iexact H

theorem mslot_zero (c w : Dev nD) :
    ((mslot w).view.loc (c : Thread nD τ) ↦[(mslot w).view.set]{fullShare} (show Buf (Elt F) ((mslot w).view.loc (c : Thread nD τ)) from k0_pay2 (F := F)) : sProp 𝕄)
      = mPts c w (fun _ => z0) := by
  unfold mPts
  exact pointsTo_rep (c : Thread nD τ) (mslot w) _ fullShare

/-- The zeroed table, place by place. -/
theorem table_cut (c : Dev nD) : (tblPts c (k0_pay2 (F := F)) : sProp 𝕄)
    ⊢ iprop(mPts c c (fun _ => z0) ∗ bigSep (Finset.univ.erase c) fun w : Dev nD => mAny c w) := by
  have h1 : (tblPts c (k0_pay2 (F := F)) : sProp 𝕄) = bigSep Finset.univ fun w : Dev nD => mPts c w (fun _ => z0) := by
    unfold tblPts
    rw [← mslot_cover]
    refine (pointsTo_biUnion (ℓ := (Memref.whole cc0_scratch12).view.loc (c : Thread nD τ)) Finset.univ (fun w : Dev nD => (mslot w).view.set) fun w _ w' _ h => mslot_disj w w' h).trans ?_
    exact bigSep_congr fun w _ => mslot_zero c w
  have h2 := bigSep_insert (M := 𝕄) (Finset.notMem_erase c Finset.univ) (Φ := fun w : Dev nD => (mPts c w (fun _ => z0) : sProp 𝕄))
  rw [Finset.insert_erase (Finset.mem_univ c)] at h2
  refine BIBase.Entails.trans (Entails.of_eq (h1.trans h2)) ?_
  exact sep_mono_right (bigSep_each fun w _ => mPts_any c w _)

theorem mAny_excl (c w : Dev nD) : iprop(mAny c w ∗ mAny c w) ⊢ (False : sProp 𝕄) := by
  unfold mAny
  exact Release.slot_slot_false (View.set_nonempty (by decide))

/-- One place of the table is opened to its writer. -/
theorem open_one (c w : Dev nD) :
    iprop(Inv X (spread mx) κ ιs ∗ (readerAt ES (mkey c w) 0 ∗ mAny c w)) ⊢ (|={Set.univ}=> released ES (mkey c w) 1 : sProp 𝕄) := by
  iintro ⟨#HI, Hrd, Hm⟩
  ihave #Hsl := (inv_slot X (spread mx) κ ιs (mkey c w)) $$ HI
  imod (Release.slot_release (ES (F := F)) (ι := ιs (mkey c w)) (k := mkey c w) (S := slotOfKey (mkey c w)) (Es := Set.univ) (Set.mem_univ _) (mAny_excl c w) 0) $$ [Hrd Hm] with ⟨-, #Hrel⟩
  · isplitr; · iexact Hsl
    isplitl [Hrd]; · iexact Hrd
    rw [show (slotOfKey (F := F) (mkey c w)) = mAny c w from rfl]
    iexact Hm
  imodintro
  iexact Hrel

/-- All places but its own. -/
theorem open_all (c : Dev nD) :
    iprop(Inv X (spread mx) κ ιs ∗ bigSep (Finset.univ.erase c) fun w : Dev nD => iprop(readerAt ES (mkey c w) 0 ∗ mAny c w))
      ⊢ (|={Set.univ}=> bigSep (Finset.univ.erase c) fun w : Dev nD => released ES (mkey c w) 1 : sProp 𝕄) :=
  BIBase.Entails.trans (bigSep_with_persistent (Ψ := fun w : Dev nD => iprop(|={Set.univ}=> released ES (mkey c w) 1)) fun w _ => open_one X mx κ ιs c w) (bigSep_fupd _ _)

/-- What the filling needs. -/
def FillPre (c : Dev nD) (tb : Memref sig .tc .smem S39 .i32) (xm : Memref sig .tc .vmem S128x4096 .bf16)
    (wm : Memref sig .tc .vmem S4096x256 .bf16) (om : Memref sig .tc .vmem S4096x256 .f32) (xv : Vec F S128x4096 .bf16) (w : Vec F S4096x256 .bf16) : sProp 𝕄 :=
  iprop((cAny c true 0 (by omega) ∗ cAny c false 0 (by omega) ∗ cAny c true 1 (by omega) ∗ cAny c false 1 (by omega))
    ∗ (slot ((Memref.whole cc0_scratch12).view.loc (c : Thread nD τ)) (Memref.whole cc0_scratch12).view.set
      ∗ (bigSep (Finset.univ.erase c) fun w : Dev nD => readerAt ES (mkey c w) 0) ∗ reached ER (mrCell c) 0)
    ∗ (barPay c true ∗ barPay c false) ∗ (StTk c true 0 ∗ StTk c false 0 ∗ StTk c true 1 ∗ StTk c false 1)
    ∗ (TkHops c 14 0 ∗ TkLast c ∗ seqSep (TkM c) 31 0 ∗ seqSep (PosM c) 31 0)
    ∗ (atPos ER (mrCell c) 0 ∅ 0 ∗ ownAny c) ∗ Due c evRing ∗ Owes c evRing
    ∗ TabSt tb c ∗ slot ((Memref.whole cc0_scratch0).view.loc (c : Thread nD τ)) (Memref.whole cc0_scratch0).view.set
    ∗ slot (om.view.loc (c : Thread nD τ)) om.view.set ∗ XmSt xm c xv ∗ WmSt wm c w)

/-- The filling, and the ring after it. -/
theorem fill_spec (c : Dev nD) (xm : Memref sig .tc .vmem S128x4096 .bf16) (wm : Memref sig .tc .vmem S4096x256 .bf16)
    (xv : Vec F S128x4096 .bf16) (w : Vec F S4096x256 .bf16) (hw : wv = k0_pay3 w)
    (hX0 : X c 0 = k0_pay5 xv) (hX1 : X c 1 = k0_pay8 (k0_pay4 xv)) (hmx : mx c = Ml X wv (seqAll c)) (Q : PUnit → sProp 𝕄) :
    iprop(Inv X (spread mx) κ ιs ∗ FillPre c tb xm wm om xv w)
      ⊢ iprop(((RingPost X mx tb om wv c ∗ XmSt xm c xv ∗ WmSt wm c w) -∗ |={Set.univ}=> Q ⟨⟩) -∗ WP c (fill tb xm wm om c (fun b => nbr b c)) Q) := by
  unfold FillPre fill
  iintro ⟨#HI, ⟨Hc1, Hc2, Hc3, Hc4⟩, ⟨Htbl, Hrd, #Hmr⟩, Hbar, Hst, Htk, ⟨Hat, Hown⟩, Hdue, HO, Htab, Hs0, Hom, Hxm, Hwm⟩ Hk
  unfold slot
  icases Htbl with ⟨%f12, Htbl⟩
  icases Hs0 with ⟨%f0, Hs0⟩
  unfold XmSt WmSt
  icases Hxm with ⟨%fx, Hxm, %hfx⟩
  icases Hwm with ⟨%fw, Hwm, %hfw⟩
  iapply (wp_load_rect 𝒱₀ (c : Thread nD τ) none Set.univ (m := Memref.whole cc0_scratch12) (r := Rect.unit (s := S32x8x128) ![0, 0, 0] S32x8x128.size inb_S32x8x128_S32x8x128_0_0_0) (S := (Memref.whole cc0_scratch12).view.set) (View.set_slice_subset _ _)) $$ Htbl
  iintro Htbl
  iapply (wp_store 𝒱₀ (c : Thread nD τ) none Set.univ (m := Memref.whole cc0_scratch12) (r := Rect.unit (s := S32x8x128) ![0, 0, 0] S32x8x128.size inb_S32x8x128_S32x8x128_0_0_0) (S := (Memref.whole cc0_scratch12).view.set) (View.set_slice_subset _ _)) $$ Htbl
  iintro Htbl
  rw [show ((Memref.whole cc0_scratch12).access (Rect.unit (s := S32x8x128) ![0, 0, 0] S32x8x128.size inb_S32x8x128_S32x8x128_0_0_0)).write (Elt F) f12 (k0_pay2 (F := F)) Finset.univ = k0_pay2 (F := F)
    from Memref.write_access_unit_zero_univ (Elt F) cc0_scratch12 hz3 inb_S32x8x128_S32x8x128_0_0_0 f12 (k0_pay2 (F := F))]
  ihave Htbl := (table_cut (F := F) c) $$ [Htbl]
  · unfold tblPts; iexact Htbl
  icases Htbl with ⟨Hz, Htbl⟩
  imod (open_all X mx κ ιs c) $$ [Hrd Htbl] with #Hrel
  · isplitr; · iexact HI
    rw [bigSep_sep']
    isplitl [Hrd]; · iexact Hrd
    iexact Htbl
  iapply (wp_load_rect 𝒱₀ (c : Thread nD τ) none Set.univ (m := wm) (r := Rect.unit (s := S4096x256) ![0, 0] S4096x256.size inb_S4096x256_S4096x256_0_0) (S := wm.view.set) (View.set_slice_subset _ _)) $$ Hwm
  iintro Hwm
  rw [hfw]
  iapply (wp_load_rect 𝒱₀ (c : Thread nD τ) none Set.univ (m := Memref.whole cc0_scratch0) (r := Rect.unit (s := S4096x256) ![0, 0] S4096x256.size inb_S4096x256_S4096x256_0_0) (S := (Memref.whole cc0_scratch0).view.set) (View.set_slice_subset _ _)) $$ Hs0
  iintro Hs0
  iapply (wp_store 𝒱₀ (c : Thread nD τ) none Set.univ (m := Memref.whole cc0_scratch0) (r := Rect.unit (s := S4096x256) ![0, 0] S4096x256.size inb_S4096x256_S4096x256_0_0) (S := (Memref.whole cc0_scratch0).view.set) (View.set_slice_subset _ _)) $$ Hs0
  iintro Hs0
  iapply (wp_load_rect 𝒱₀ (c : Thread nD τ) none Set.univ (m := xm) (r := Rect.unit (s := S128x4096) ![0, 0] S128x4096.size inb_S128x4096_S128x4096_0_0) (S := xm.view.set) (View.set_slice_subset _ _)) $$ Hxm
  iintro Hxm
  rw [hfx]
  rw [show (k0_pay6 xv : FVec F S1x64x4096 .bf16) = shapeCast (α := Elt F .bf16) S1x64x4096 (X c 0) shapeCasts_S64x4096_S1x64x4096 by rw [hX0]; rfl,
    show (k0_pay9 (k0_pay4 xv) : FVec F S1x64x4096 .bf16) = shapeCast (α := Elt F .bf16) S1x64x4096 (X c 1) shapeCasts_S64x4096_S1x64x4096 by rw [hX1]; rfl]
  iapply (fillC_spec c true 0 _ _ (X c 0) _ Q) $$ Hc1
  iintro Hc1
  iapply (fillC_spec c false 0 _ _ (X c 0) _ Q) $$ Hc2
  iintro Hc2
  iapply (fillC_spec c true 1 _ _ (X c 1) _ Q) $$ Hc3
  iintro Hc3
  iapply (fillC_spec c false 1 _ _ (X c 1) _ Q) $$ Hc4
  iintro Hc4
  iapply (ring_spec X mx κ ιs tb om wv c hmx Q) $$ [Hc1 Hc2 Hc3 Hc4 Hz Hbar Hst Htk Hat Hown Hdue HO Htab Hs0 Hom]
  · isplitr; · iexact HI
    unfold RingPre
    isplitl [Hc1 Hc2 Hc3 Hc4]
    · isplitl [Hc1]; · iexact Hc1
      isplitl [Hc2]; · iexact Hc2
      isplitl [Hc3]; · iexact Hc3
      iexact Hc4
    isplitr
    · unfold mfacts
      isplitr; · iexact Hrel
      iexact Hmr
    isplitl [Hbar]; · iexact Hbar
    isplitl [Hst]; · iexact Hst
    isplitl [Htk]; · iexact Htk
    isplitl [Hat Hz Hown]
    · isplitl [Hat]; · iexact Hat
      isplitl [Hz]; · iexact Hz
      iexact Hown
    isplitl [Hdue]; · iexact Hdue
    isplitl [HO]; · iexact HO
    isplitl [Htab]; · iexact Htab
    isplitl [Hs0]
    · unfold WtSt
      iexists _
      isplitl [Hs0]; · iexact Hs0
      ipureintro
      rw [View.read_write_univ, hw]
    unfold slot
    iexact Hom
  iintro Hpost
  iapply Hk
  isplitl [Hpost]; · iexact Hpost
  isplitl [Hxm]
  · iexists fx
    isplitl [Hxm]; · iexact Hxm
    ipureintro; exact hfx
  iexists fw
  isplitl [Hwm]; · iexact Hwm
  ipureintro; exact hfw

end Cert.KernelIdeal.Own

end
-- ==== Proof.Meet.lean ====
/-
The meeting of the neighbours before the first copy, and with it the whole body.
-/
module

public import proofs.«01_k».proof.Proof.Fill

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Gen

set_option Elab.async false

variable {F : FTy → Type} [FloatOps F]

local notation "𝕄" => MT nD τ sig ℕ (Elt F) ℕ UU ℕ

variable (X : Dev nD → Fin 2 → S64x4096.Idx → Elt F .bf16) (mx : Dev nD → F .f32)
  (κ : GSem nD τ sig → ℕ) (ιs : Key → ℕ)
variable (tb : Memref sig .tc .smem S39 .i32) (om : Memref sig .tc .vmem S4096x256 .f32) (wv : Vec F S4096x256 .bf16)

/-- A half's cells as they are opened. -/
def OpenSt (c : Dev nD) (b : Bool) (u : Fin 2) : sProp 𝕄 :=
  iprop(Pos3 c b u 0 0 ∗ atPos ER (credCell c b u) 0 ∅ 0 ∗ reached ER (credCell c b u) 0)

/-- What a device tells its neighbour of a half's cells. -/
def OwnF (c : Dev nD) (b : Bool) (u : Fin 2) : sProp 𝕄 :=
  iprop(reached ER (recvCell c b u 0) 0 ∗ reached ER (recvCell c b u 1) 0 ∗ reached ER (credCell c (!b) u) 0)

instance OwnF_persistent (c : Dev nD) (b : Bool) (u : Fin 2) : BI.Persistent (OwnF c b u : sProp 𝕄) := by unfold OwnF; infer_instance

/-- Opened cells are known to be open. -/
theorem open_facts (c : Dev nD) (b : Bool) (u : Fin 2) : (OpenSt c b u : sProp 𝕄)
    ⊢ iprop(reached ER (recvCell c b u 0) 0 ∗ reached ER (recvCell c b u 1) 0 ∗ reached ER (credCell c b u) 0) := by
  unfold OpenSt Pos3 RP
  iintro ⟨⟨-, ⟨-, #H1⟩, ⟨-, #H2⟩, -⟩, -, #H3⟩
  isplitr; · iexact H1
  isplitr; · iexact H2
  iexact H3

/-- What a device hands the neighbour behind: two slots of each half, and its cells. -/
def NbOwn (c : Dev nD) (b : Bool) (u : Fin 2) : sProp 𝕄 :=
  iprop(cAny c b (slotOf 1 u) (slotOf_lt 1 u) ∗ cAny c b (slotOf 2 u) (slotOf_lt 2 u))

theorem barPay_own (c : Dev nD) (b : Bool) :
    iprop((NbOwn c b 0 ∗ NbOwn c b 1) ∗ (OwnF c b 0 ∗ OwnF c b 1)) ⊢ (barPay (nbr (!b) c) b : sProp 𝕄) := by
  rw [barPay_split]
  unfold NbS NbF NbOwn OwnF
  rw [nbr_nbr']

/-- The six slots of a chunk buffer. -/
theorem cm_six (c : Dev nD) (b : Bool) : (cmAny c b : sProp 𝕄)
    ⊢ iprop((cAny c b 0 (by omega) ∗ cAny c b 1 (by omega)) ∗ NbOwn c b 0 ∗ NbOwn c b 1) := by
  refine BIBase.Entails.trans (cm_cut c b) ?_
  rw [show (Finset.univ : Finset (Fin 6)) = {0, 1, 2, 3, 4, 5} from by decide,
    bigSep_insert (M := 𝕄) (by decide), bigSep_insert (M := 𝕄) (by decide), bigSep_insert (M := 𝕄) (by decide),
    bigSep_insert (M := 𝕄) (by decide), bigSep_insert (M := 𝕄) (by decide), bigSep_singleton]
  unfold NbOwn
  show iprop(cAny c b 0 (by omega) ∗ cAny c b 1 (by omega) ∗ cAny c b (slotOf 1 0) (slotOf_lt 1 0) ∗ cAny c b (slotOf 1 1) (slotOf_lt 1 1)
    ∗ cAny c b (slotOf 2 0) (slotOf_lt 2 0) ∗ cAny c b (slotOf 2 1) (slotOf_lt 2 1)) ⊢ _
  iintro ⟨H0, H1, H2, H3, H4, H5⟩
  isplitl [H0 H1]
  · isplitl [H0]; · iexact H0
    iexact H1
  isplitl [H2 H4]
  · isplitl [H2]; · iexact H2
    iexact H4
  isplitl [H3]; · iexact H3
  iexact H5

/-- The duty that direction `b`'s signal pays. -/
def barDuty (b : Bool) : ℕ := if b then 0 else 1

theorem barDuty_pay (b : Bool) : decide (barDuty b = 1) = !b := by cases b <;> rfl

/-- Telling a neighbour: slots and cells go over. -/
theorem step_sigBar (c : Dev nD) (b : Bool) (E : List Ev) (K : PUnit → Pr F) (Q : PUnit → sProp 𝕄) :
    iprop(Inv X (spread mx) κ ιs ∗ Owes c (evBar b :: E) ∗ dutyTok ER (barCell (nbr b c)) 0 (barDuty b)
        ∗ reached ER (barCell (nbr b c)) 0 ∗ barPay (nbr b c) (!b))
      ⊢ iprop((Owes c E -∗ WP c (K ⟨⟩) Q) -∗ WP c (semSignalWord (nbr b c) barA.sem 1#32 >>= K) Q) := by
  rw [show (semSignalWord (nbr b c) barA.sem 1#32 >>= K : Pr F) = .op (.semSignal ((nbr b c : Dev nD) : Thread nD τ) barA.sem 1) K from rfl]
  unfold Owes
  iintro ⟨#HI, ⟨%W, HO⟩, Ht, #Hr, Hp⟩ Hk
  ihave #Hcell := (inv_bar X (spread mx) κ ιs (nbr b c)) $$ HI
  iapply (Rounds.wp_signal 𝒱₀ ER (Rd X (spread mx)) (c : Thread nD τ) none (dst := ((nbr b c : Dev nD) : Thread nD τ)) (sem := barA.sem) (r := 0) (d := barDuty b)
      (κ := κ (barCell (nbr b c))) (by rw [duties_bar]; cases b <;> decide) (amount_bar X (spread mx) (nbr b c) (barDuty b))
      1 (O₀ := tallyL ((evBar b :: E).map (Ev.out c))) (tallyL (E.map (Ev.out c))) (by rw [List.map_cons, tallyL, add_comm]; rfl) (W := W)) $$ [HO Ht Hp]
  · isplitr; · iexact Hcell
    isplitl [HO]; · iexact HO
    isplitl [Ht]; · iexact Ht
    isplitl [Hp]
    · rw [payload_bar, barDuty_pay]; iexact Hp
    iexact Hr
  iintro HO
  iapply Hk
  iexists W; iexact HO

theorem rest_bar (c : Dev nD) :
    (bigSep ((Rd X (spread mx)).duties (barCell c) 0 \ ∅) (fun d => (Rd X (spread mx)).payload (barCell c) 0 d) : sProp 𝕄) = iprop(barPay c false ∗ barPay c true) := by
  rw [Finset.sdiff_empty, duties_bar, bigSep_insert (M := 𝕄) (by decide), bigSep_singleton, payload_bar, payload_bar]
  rfl

/-- Waiting for both neighbours. -/
theorem step_waitBar (c : Dev nD) (E : List Ev) (hE : Above 1 E) (K : PUnit → Pr F) (Q : PUnit → sProp 𝕄) :
    iprop(Inv X (spread mx) κ ιs ∗ cred (tallyAt (barCell c) 1 2) ∗ Owes c E ∗ atPos ER (barCell c) 0 ∅ 0)
      ⊢ iprop(((Owes c E ∗ atPos ER (barCell c) 1 ∅ 0 ∗ barPay c false ∗ barPay c true) -∗ WP c (K ⟨⟩) Q)
          -∗ WP c (semWaitWord barA.sem 2#32 >>= K) Q) := by
  rw [show (semWaitWord barA.sem 2#32 >>= K : Pr F) = .op (.semWait barA.sem 2) K from rfl]
  unfold Owes
  iintro ⟨#HI, Hc, ⟨%W, HO⟩, Hat⟩ Hk
  ihave #Hcell := (inv_bar X (spread mx) κ ιs c) $$ HI
  ihave Hmw := (inv_mayWait X (spread mx) κ ιs c (.reg barA.sem) hE (by omega)) $$ HI
  iapply (Rounds.wp_wait_rest_token 𝒱₀ ER (Rd X (spread mx)) (c : Thread nD τ) none (κ := κ (barCell c)) (sm := .reg barA.sem) (k' := 2)
      (wpE_semWait_eq 𝒱₀ (c : Thread nD τ) none Set.univ) (Set.mem_univ _) 1 (W := W) (R := 0) (m := 0) (T := ∅)
      ((Nat.zero_add _).trans (expect_bar X (spread mx) c).symm)) $$ [Hc HO Hat Hmw]
  · isplitr; · iexact Hcell
    isplitl [Hc]; · iexact Hc
    isplitl [HO]; · iexact HO
    isplitl [Hmw]; · iexact Hmw
    iexact Hat
  iintro ⟨HO, Hat, -, Hpay⟩
  ihave Hpay := (Entails.of_eq (rest_bar X mx c)) $$ Hpay
  iapply Hk
  isplitl [HO]; · iexists _; iexact HO
  isplitl [Hat]; · iexact Hat
  iexact Hpay

/-- The two signals' credits are the wait's. -/
theorem due_bar (c : Dev nD) : (Due c evAll : sProp 𝕄) ⊢ iprop(cred (tallyAt (barCell c) 1 2) ∗ Due c evRing) := by
  unfold evAll
  iintro H
  ihave H := (due_cons c _ _) $$ H
  icases H with ⟨H1, H⟩
  ihave H := (due_cons c _ _) $$ H
  icases H with ⟨H2, H⟩
  isplitl [H1 H2]
  · rw [show (tallyAt (barCell c) 1 2 : CellTallies nD τ sig ℕ) = tallyAt (barCell c) 1 1 + tallyAt (barCell c) 1 1 from (tallyAt_add (barCell c) 1 1 1).symm]
    iapply (cred_add _ _).2
    isplitl [H1]; · iexact H1
    iexact H2
  iexact H

theorem above_start {i : ℕ} (hi : i < 2) : Above i evStart :=
  ((((Above.nil _).cons ⟨hi, by show 2 < 64; omega⟩).cons ⟨hi, by show 2 < 64; omega⟩).cons ⟨hi, by show 2 < 64; omega⟩).cons ⟨hi, by show 2 < 64; omega⟩

theorem above_ring {i : ℕ} (hi : i < 2) : Above i evRing :=
  (above_start hi).append ((above_hops 14 0 (by omega) (by omega)).append ((above_last (by omega)).append (above_maxs (by omega) 31 0)))

/-- All a device holds at the start of the body. -/
def BodyPre (c : Dev nD) (tb : Memref sig .tc .smem S39 .i32) (xm : Memref sig .tc .vmem S128x4096 .bf16)
    (wm : Memref sig .tc .vmem S4096x256 .bf16) (om : Memref sig .tc .vmem S4096x256 .f32) (xv : Vec F S128x4096 .bf16) (w : Vec F S4096x256 .bf16) : sProp 𝕄 :=
  iprop((cmAny c true ∗ cmAny c false)
    ∗ (slot ((Memref.whole cc0_scratch12).view.loc (c : Thread nD τ)) (Memref.whole cc0_scratch12).view.set
      ∗ (bigSep (Finset.univ.erase c) fun w : Dev nD => readerAt ES (mkey c w) 0) ∗ reached ER (mrCell c) 0)
    ∗ (OpenSt c true 0 ∗ OpenSt c false 0 ∗ OpenSt c true 1 ∗ OpenSt c false 1)
    ∗ (Tk2 c true 0 0 ∗ Tk2 c false 0 0 ∗ Tk2 c true 1 0 ∗ Tk2 c false 1 0)
    ∗ (TkHops c 14 0 ∗ TkLast c ∗ seqSep (TkM c) 31 0 ∗ seqSep (PosM c) 31 0)
    ∗ (atPos ER (barCell c) 0 ∅ 0 ∗ (dutyTok ER (barCell (nbr false c)) 0 1 ∗ reached ER (barCell (nbr false c)) 0)
      ∗ (dutyTok ER (barCell (nbr true c)) 0 0 ∗ reached ER (barCell (nbr true c)) 0))
    ∗ (atPos ER (mrCell c) 0 ∅ 0 ∗ ownAny c) ∗ Due c evAll ∗ Owes c evAll
    ∗ TabSt tb c ∗ slot ((Memref.whole cc0_scratch0).view.loc (c : Thread nD τ)) (Memref.whole cc0_scratch0).view.set
    ∗ slot (om.view.loc (c : Thread nD τ)) om.view.set ∗ XmSt xm c xv ∗ WmSt wm c w)

theorem stTk_of (c : Dev nD) (b : Bool) (u : Fin 2) : iprop(OpenSt c b u ∗ Tk2 c b u 0) ⊢ (StTk c b u : sProp 𝕄) := by
  unfold OpenSt StTk
  iintro ⟨⟨H1, H2, -⟩, H3⟩
  isplitl [H1]; · iexact H1
  isplitl [H2]; · iexact H2
  iexact H3

/-- A device reads its own number. -/
theorem step_deviceId (c : Dev nD) (k : Dev nD → Pr F) (Q : PUnit → sProp 𝕄) : WP c (k c) Q ⊢ WP c (.op .deviceId k) Q :=
  Entails.of_eq (wp_deviceId (defs := defs₀ (F := F)) 𝒱₀ (c : Thread nD τ) none Set.univ).symm

/-- The body. -/
theorem body_spec (c : Dev nD) (xm : Memref sig .tc .vmem S128x4096 .bf16) (wm : Memref sig .tc .vmem S4096x256 .bf16)
    (xv : Vec F S128x4096 .bf16) (w : Vec F S4096x256 .bf16) (hw : wv = k0_pay3 w)
    (hX0 : X c 0 = k0_pay5 xv) (hX1 : X c 1 = k0_pay8 (k0_pay4 xv)) (hmx : mx c = Ml X wv (seqAll c)) (Q : PUnit → sProp 𝕄) :
    iprop(Inv X (spread mx) κ ιs ∗ BodyPre c tb xm wm om xv w)
      ⊢ iprop(((RingPost X mx tb om wv c ∗ XmSt xm c xv ∗ WmSt wm c w ∗ atPos ER (barCell c) 1 ∅ 0) -∗ |={Set.univ}=> Q ⟨⟩)
          -∗ WP c (body tb xm wm om) Q) := by
  unfold BodyPre body
  iintro ⟨#HI, ⟨Hct, Hcf⟩, ⟨Hs12, Hrd, #Hmr⟩, ⟨Ho1, Ho2, Ho3, Ho4⟩, ⟨Ht1, Ht2, Ht3, Ht4⟩, Htk, ⟨Hbar, ⟨Hd1, #Hb1⟩, ⟨Hd2, #Hb2⟩⟩, Hmo, Hdue, HO, Htab, Hs0, Hom, Hxm, Hwm⟩ Hk
  iapply (step_deviceId c _ Q)
  iapply (step_tab tb c 0 _ _ Q) $$ Htab
  iintro Htab
  iapply (step_assume c (by rw [show tab c 0 = _ from tab_nb true c]; exact chk2_nb _))
  iapply (step_tab tb c 1 _ _ Q) $$ Htab
  iintro Htab
  iapply (step_assume c (by rw [show tab c 1 = _ from tab_nb false c]; exact chk1_nb _))
  rw [nbs_word]
  ihave #Hf1 := (open_facts c true 0) $$ Ho1
  ihave #Hf2 := (open_facts c false 0) $$ Ho2
  ihave #Hf3 := (open_facts c true 1) $$ Ho3
  ihave #Hf4 := (open_facts c false 1) $$ Ho4
  icases Hf1 with ⟨#Hf1a, #Hf1b, #Hf1c⟩
  icases Hf2 with ⟨#Hf2a, #Hf2b, #Hf2c⟩
  icases Hf3 with ⟨#Hf3a, #Hf3b, #Hf3c⟩
  icases Hf4 with ⟨#Hf4a, #Hf4b, #Hf4c⟩
  ihave Hct := (cm_six c true) $$ Hct
  icases Hct with ⟨⟨Hct0, Hct1⟩, Hct2⟩
  ihave Hcf := (cm_six c false) $$ Hcf
  icases Hcf with ⟨⟨Hcf0, Hcf1⟩, Hcf2⟩
  ihave Hdue := (due_bar c) $$ Hdue
  icases Hdue with ⟨Hcr, Hdue⟩
  iapply (step_sigBar X mx κ ιs c false (evBar true :: evRing) _ Q) $$ [HO Hd1 Hct2]
  · isplitr; · iexact HI
    isplitl [HO]; · iexact HO
    isplitl [Hd1]; · iexact Hd1
    isplitr; · iexact Hb1
    iapply (barPay_own c true)
    isplitl [Hct2]; · iexact Hct2
    unfold OwnF
    isplitr
    · isplitr; · iexact Hf1a
      isplitr; · iexact Hf1b
      iexact Hf2c
    isplitr; · iexact Hf3a
    isplitr; · iexact Hf3b
    iexact Hf4c
  iintro HO
  iapply (step_sigBar X mx κ ιs c true evRing _ Q) $$ [HO Hd2 Hcf2]
  · isplitr; · iexact HI
    isplitl [HO]; · iexact HO
    isplitl [Hd2]; · iexact Hd2
    isplitr; · iexact Hb2
    iapply (barPay_own c false)
    isplitl [Hcf2]; · iexact Hcf2
    unfold OwnF
    isplitr
    · isplitr; · iexact Hf2a
      isplitr; · iexact Hf2b
      iexact Hf1c
    isplitr; · iexact Hf4a
    isplitr; · iexact Hf4b
    iexact Hf3c
  iintro HO
  iapply (step_waitBar X mx κ ιs c evRing (above_ring (by omega)) _ Q) $$ [Hcr HO Hbar]
  · isplitr; · iexact HI
    isplitl [Hcr]; · iexact Hcr
    isplitl [HO]; · iexact HO
    iexact Hbar
  iintro ⟨HO, Hbar, Hbf, Hbt⟩
  iapply (fill_spec X mx κ ιs tb om wv c xm wm xv w hw hX0 hX1 hmx Q) $$ [Hct0 Hct1 Hcf0 Hcf1 Hs12 Hrd Ho1 Ho2 Ho3 Ho4 Ht1 Ht2 Ht3 Ht4 Htk Hmo Hdue HO Htab Hs0 Hom Hxm Hwm Hbf Hbt]
  · isplitr; · iexact HI
    unfold FillPre
    isplitl [Hct0 Hct1 Hcf0 Hcf1]
    · isplitl [Hct0]; · iexact Hct0
      isplitl [Hcf0]; · iexact Hcf0
      isplitl [Hct1]; · iexact Hct1
      iexact Hcf1
    isplitl [Hs12 Hrd]
    · isplitl [Hs12]; · iexact Hs12
      isplitl [Hrd]; · iexact Hrd
      iexact Hmr
    isplitl [Hbf Hbt]
    · isplitl [Hbt]; · iexact Hbt
      iexact Hbf
    isplitl [Ho1 Ho2 Ho3 Ho4 Ht1 Ht2 Ht3 Ht4]
    · isplitl [Ho1 Ht1]
      · iapply (stTk_of c true 0)
        isplitl [Ho1]; · iexact Ho1
        iexact Ht1
      isplitl [Ho2 Ht2]
      · iapply (stTk_of c false 0)
        isplitl [Ho2]; · iexact Ho2
        iexact Ht2
      isplitl [Ho3 Ht3]
      · iapply (stTk_of c true 1)
        isplitl [Ho3]; · iexact Ho3
        iexact Ht3
      iapply (stTk_of c false 1)
      isplitl [Ho4]; · iexact Ho4
      iexact Ht4
    isplitl [Htk]; · iexact Htk
    isplitl [Hmo]; · iexact Hmo
    isplitl [Hdue]; · iexact Hdue
    isplitl [HO]; · iexact HO
    isplitl [Htab]; · iexact Htab
    isplitl [Hs0]; · iexact Hs0
    isplitl [Hom]; · iexact Hom
    isplitl [Hxm]; · iexact Hxm
    iexact Hwm
  iintro ⟨HP, Hxm, Hwm⟩
  iapply Hk
  isplitl [HP]; · iexact HP
  isplitl [Hxm]; · iexact Hxm
  isplitl [Hwm]; · iexact Hwm
  iexact Hbar

end Cert.KernelIdeal.Own

end
-- ==== Proof.Seq.lean ====
/-
Families over a range of numbers, laid out one after the other.
-/
module

public import proofs.«01_k».proof.Proof.Meet

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Gen

set_option Elab.async false

variable {F : FTy → Type} [FloatOps F]

local notation "𝕄" => MT nD τ sig ℕ (Elt F) ℕ UU ℕ

/-- A family over `Fin n`, counted from `j`, is the row from `j`. -/
theorem seqSep_fin (Φ : ℕ → sProp 𝕄) : ∀ n j : ℕ, (bigSep Finset.univ fun i : Fin n => Φ (j + i.val)) = seqSep Φ n j
  | 0, _ => by rw [Finset.univ_eq_empty, bigSep_empty]; rfl
  | n + 1, j => by
    refine (show (bigSep (M := 𝕄) Finset.univ fun i : Fin (n + 1) => Φ (j + i.val)) = iprop(Φ (j + 0) ∗ bigSep Finset.univ fun i : Fin n => Φ (j + (i.val + 1))) from ?_).trans ?_
    · rw [Fin.univ_succ, Finset.cons_eq_insert, bigSep_insert (M := 𝕄) (by simp), bigSep_map]; rfl
    show iprop(Φ (j + 0) ∗ bigSep Finset.univ fun i : Fin n => Φ (j + (i.val + 1))) = iprop(Φ j ∗ seqSep Φ n (j + 1))
    rw [← seqSep_fin Φ n (j + 1), Nat.add_zero]
    congr 2
    funext i
    rw [show j + (i.val + 1) = j + 1 + i.val from by omega]

/-- The same from zero. -/
theorem seqSep_fin0 (Φ : ℕ → sProp 𝕄) (n : ℕ) : (bigSep Finset.univ fun i : Fin n => Φ i.val) = seqSep Φ n 0 := by
  rw [← seqSep_fin]; simp only [Nat.zero_add]

/-- Two rows side by side are one row of pairs. -/
theorem seqSep_sep (Φ Ψ : ℕ → sProp 𝕄) : ∀ n j : ℕ, iprop(seqSep Φ n j ∗ seqSep Ψ n j) ⊢ seqSep (fun i => iprop(Φ i ∗ Ψ i)) n j
  | 0, _ => by iintro -; iempintro
  | n + 1, j => by
    show iprop((Φ j ∗ seqSep Φ n (j + 1)) ∗ (Ψ j ∗ seqSep Ψ n (j + 1))) ⊢ iprop((Φ j ∗ Ψ j) ∗ seqSep (fun i => iprop(Φ i ∗ Ψ i)) n (j + 1))
    iintro ⟨⟨Ha, Hb⟩, Hc, Hd⟩
    isplitl [Ha Hc]
    · isplitl [Ha]; · iexact Ha
      iexact Hc
    iapply (seqSep_sep Φ Ψ n (j + 1))
    isplitl [Hb]; · iexact Hb
    iexact Hd

/-- A row of pairs is two rows. -/
theorem seqSep_unsep (Φ Ψ : ℕ → sProp 𝕄) : ∀ n j : ℕ, seqSep (fun i => iprop(Φ i ∗ Ψ i)) n j ⊢ iprop(seqSep Φ n j ∗ seqSep Ψ n j)
  | 0, _ => by iintro -; isplitl <;> iempintro
  | n + 1, j => by
    show iprop((Φ j ∗ Ψ j) ∗ seqSep (fun i => iprop(Φ i ∗ Ψ i)) n (j + 1)) ⊢ iprop((Φ j ∗ seqSep Φ n (j + 1)) ∗ (Ψ j ∗ seqSep Ψ n (j + 1)))
    iintro ⟨⟨Ha, Hc⟩, H⟩
    ihave H := (seqSep_unsep Φ Ψ n (j + 1)) $$ H
    icases H with ⟨Hb, Hd⟩
    isplitl [Ha Hb]
    · isplitl [Ha]; · iexact Ha
      iexact Hb
    isplitl [Hc]; · iexact Hc
    iexact Hd

/-- A row's members replaced one by one. -/
theorem seqSep_mono (Φ Ψ : ℕ → sProp 𝕄) (h : ∀ i, Φ i ⊢ Ψ i) : ∀ n j : ℕ, seqSep Φ n j ⊢ seqSep Ψ n j
  | 0, _ => .rfl
  | n + 1, j => BIClass.sep_mono (h j) (seqSep_mono Φ Ψ h n (j + 1))

/-- The same, only for the members there are. -/
theorem seqSep_mono_lt (Φ Ψ : ℕ → sProp 𝕄) : ∀ n j : ℕ, (∀ i, j ≤ i → i < j + n → (Φ i ⊢ Ψ i)) → (seqSep Φ n j ⊢ seqSep Ψ n j)
  | 0, _, _ => .rfl
  | n + 1, j, h => BIClass.sep_mono (h j le_rfl (by omega)) (seqSep_mono_lt Φ Ψ n (j + 1) fun i hi hn => h i (by omega) (by omega))

/-- A row from `j + 1` is the shifted row from `j`. -/
theorem seqSep_shift (Φ : ℕ → sProp 𝕄) : ∀ n j : ℕ, seqSep Φ n (j + 1) = seqSep (fun i => Φ (i + 1)) n j
  | 0, _ => rfl
  | n + 1, j => by
    show iprop(Φ (j + 1) ∗ seqSep Φ n (j + 1 + 1)) = iprop(Φ (j + 1) ∗ seqSep (fun i => Φ (i + 1)) n (j + 1))
    rw [seqSep_shift Φ n (j + 1)]

/-- The last of a row. -/
theorem seqSep_snoc (Φ : ℕ → sProp 𝕄) : ∀ n j : ℕ, seqSep Φ (n + 1) j ⊢ iprop(seqSep Φ n j ∗ Φ (j + n))
  | 0, j => by
    show iprop(Φ j ∗ emp) ⊢ iprop(emp ∗ Φ (j + 0))
    iintro ⟨H, -⟩
    isplitr; · iempintro
    iexact H
  | n + 1, j => by
    show iprop(Φ j ∗ seqSep Φ (n + 1) (j + 1)) ⊢ iprop((Φ j ∗ seqSep Φ n (j + 1)) ∗ Φ (j + (n + 1)))
    rw [show j + (n + 1) = j + 1 + n from by omega]
    iintro ⟨Ha, H⟩
    ihave H := (seqSep_snoc Φ n (j + 1)) $$ H
    icases H with ⟨Hb, Hc⟩
    isplitl [Ha Hb]
    · isplitl [Ha]; · iexact Ha
      iexact Hb
    iexact Hc

/-- A row of updates is an update to the row. -/
theorem seqSep_fupd (Φ : ℕ → sProp 𝕄) : ∀ n j : ℕ, seqSep (fun i => iprop(|={Set.univ}=> Φ i)) n j ⊢ (|={Set.univ}=> seqSep Φ n j : sProp 𝕄)
  | 0, _ => fupd_intro
  | n + 1, j => by
    show iprop((|={Set.univ}=> Φ j) ∗ seqSep (fun i => iprop(|={Set.univ}=> Φ i)) n (j + 1)) ⊢ iprop(|={Set.univ}=> (Φ j ∗ seqSep Φ n (j + 1)))
    iintro ⟨>Ha, H⟩
    ihave H := (seqSep_fupd Φ n (j + 1)) $$ H
    imod H with H
    imodintro
    isplitl [Ha]; · iexact Ha
    iexact H

/-- Something known at each member of a row. -/
theorem seqSep_with (Φ Ψ : ℕ → sProp 𝕄) (R : sProp 𝕄) [BI.Persistent R] (h : ∀ i, iprop(R ∗ Φ i) ⊢ Ψ i) : ∀ n j : ℕ, iprop(R ∗ seqSep Φ n j) ⊢ seqSep Ψ n j
  | 0, _ => by iintro -; iempintro
  | n + 1, j => by
    show iprop(R ∗ (Φ j ∗ seqSep Φ n (j + 1))) ⊢ iprop(Ψ j ∗ seqSep Ψ n (j + 1))
    iintro ⟨#HR, Ha, H⟩
    isplitl [Ha]
    · iapply (h j)
      isplitr; · iexact HR
      iexact Ha
    iapply (seqSep_with Φ Ψ R h n (j + 1))
    isplitr; · iexact HR
    iexact H

end Cert.KernelIdeal.Own

end
-- ==== Proof.Cells.lean ====
/-
A device's own cells, opened as the kernel begins and closed as it ends.
-/
module

public import proofs.«01_k».proof.Proof.Seq

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Gen

set_option Elab.async false

variable {F : FTy → Type} [FloatOps F]

local notation "𝕄" => MT nD τ sig ℕ (Elt F) ℕ UU ℕ

variable (X : Dev nD → Fin 2 → S64x4096.Idx → Elt F .bf16) (mx : Dev nD → F .f32)
  (κ : GSem nD τ sig → ℕ) (ιs : Key → ℕ)

/-- The semaphores that are open only while the kernel runs: seven for each direction and half, one
    for the maxima that arrive and one for each maximum sent. -/
abbrev OI : Type := ((Bool × Fin 2) × Fin 7) ⊕ (Unit ⊕ Fin 31)

/-- Their places among all the cells: three send cells, three arrival cells, the credits. -/
def oi7 (b : Bool) (u : Fin 2) (k : Fin 7) : CI :=
  if h : k.val < 3 then .inr (.inl (.inl (b, u, ⟨k.val, h⟩)))
  else if h : k.val - 3 < 3 then .inr (.inl (.inr (b, u, ⟨k.val - 3, h⟩)))
  else .inl (.inr (b, u))
def oi : OI → CI
  | .inl ((b, u), k) => oi7 b u k
  | .inr (.inl x) => .inr (.inr (.inl x))
  | .inr (.inr j) => .inr (.inr (.inr j))
def osem (k : OI) : SemLoc sig := smOf (oi k)

theorem oi7_inj : ∀ (b : Bool) (u : Fin 2) (k : Fin 7) (b' : Bool) (u' : Fin 2) (k' : Fin 7), oi7 b u k = oi7 b' u' k' → b = b' ∧ u = u' ∧ k = k' := by
  decide +kernel

theorem oi_inj : Function.Injective oi := by
  have h7 : ∀ (b : Bool) (u : Fin 2) (k : Fin 7) (x : Unit ⊕ Fin 31), oi7 b u k ≠ .inr (.inr x) := by
    intro b u k x h
    unfold oi7 at h
    split at h
    · injection h with h; nomatch h
    split at h
    · injection h with h; nomatch h
    · nomatch h
  rintro (⟨⟨b, u⟩, k⟩ | (x | j)) (⟨⟨b', u'⟩, k'⟩ | (x' | j')) h
  · obtain ⟨rfl, rfl, rfl⟩ := oi7_inj _ _ _ _ _ _ h; rfl
  · exact absurd h (h7 _ _ _ _)
  · exact absurd h (h7 _ _ _ _)
  · exact absurd h.symm (h7 _ _ _ _)
  · rfl
  · injection h with h; injection h with h; nomatch h
  · exact absurd h.symm (h7 _ _ _ _)
  · injection h with h; injection h with h; nomatch h
  · injection h with h; injection h with h; injection h with h; rw [h]

/-- One direction's half of a family over a device's cells. -/
def Seven (Φ : GSem nD τ sig → sProp 𝕄) (c : Dev nD) (b : Bool) (u : Fin 2) : sProp 𝕄 :=
  iprop((Φ (sendCell c b u 0) ∗ Φ (sendCell c b u 1) ∗ Φ (sendCell c b u 2))
    ∗ (Φ (recvCell c b u 0) ∗ Φ (recvCell c b u 1) ∗ Φ (recvCell c b u 2)) ∗ Φ (credCell c b u))

theorem seven_eq (Φ : GSem nD τ sig → sProp 𝕄) (c : Dev nD) (b : Bool) (u : Fin 2) :
    (bigSep Finset.univ fun k : Fin 7 => Φ (cellAt (c, oi7 b u k))) = Seven Φ c b u := by
  rw [show (Finset.univ : Finset (Fin 7)) = {0, 1, 2, 3, 4, 5, 6} from by decide,
    bigSep_insert (M := 𝕄) (by decide), bigSep_insert (M := 𝕄) (by decide), bigSep_insert (M := 𝕄) (by decide),
    bigSep_insert (M := 𝕄) (by decide), bigSep_insert (M := 𝕄) (by decide), bigSep_insert (M := 𝕄) (by decide), bigSep_singleton]
  show iprop(Φ (sendCell c b u 0) ∗ Φ (sendCell c b u 1) ∗ Φ (sendCell c b u 2)
    ∗ Φ (recvCell c b u 0) ∗ Φ (recvCell c b u 1) ∗ Φ (recvCell c b u 2) ∗ Φ (credCell c b u)) = _
  unfold Seven
  refine BI.Entails.antisymm ?_ ?_
  · show (_ : sProp 𝕄) ⊢ _
    iintro ⟨H0, H1, H2, H3, H4, H5, H6⟩
    isplitl [H0 H1 H2]
    · isplitl [H0]; · iexact H0
      isplitl [H1]; · iexact H1
      iexact H2
    isplitl [H3 H4 H5]
    · isplitl [H3]; · iexact H3
      isplitl [H4]; · iexact H4
      iexact H5
    iexact H6
  · show (_ : sProp 𝕄) ⊢ _
    iintro ⟨⟨H0, H1, H2⟩, ⟨H3, H4, H5⟩, H6⟩
    isplitl [H0]; · iexact H0
    isplitl [H1]; · iexact H1
    isplitl [H2]; · iexact H2
    isplitl [H3]; · iexact H3
    isplitl [H4]; · iexact H4
    isplitl [H5]; · iexact H5
    iexact H6

/-- A family over the four directions' halves. -/
theorem four_eq (Φ : Bool → Fin 2 → sProp 𝕄) :
    (bigSep Finset.univ fun x : Bool × Fin 2 => Φ x.1 x.2) = iprop(Φ true 0 ∗ Φ false 0 ∗ Φ true 1 ∗ Φ false 1) := by
  rw [show (Finset.univ : Finset (Bool × Fin 2)) = {(true, 0), (false, 0), (true, 1), (false, 1)} from by decide,
    bigSep_insert (M := 𝕄) (by decide), bigSep_insert (M := 𝕄) (by decide), bigSep_insert (M := 𝕄) (by decide), bigSep_singleton]
  rfl

/-- A family over a device's own cells, laid out. -/
def Laid (Φ : GSem nD τ sig → sProp 𝕄) (c : Dev nD) : sProp 𝕄 :=
  iprop((Seven Φ c true 0 ∗ Seven Φ c false 0 ∗ Seven Φ c true 1 ∗ Seven Φ c false 1)
    ∗ Φ (mrCell c) ∗ seqSep (fun j => Φ (msL c j)) 31 0)

theorem laid_eq (Φ : GSem nD τ sig → sProp 𝕄) (c : Dev nD) :
    (bigSep Finset.univ fun k : OI => Φ (cellAt (c, oi k))) = Laid Φ c := by
  rw [bigSep_univ_sum, bigSep_univ_prod, bigSep_univ_sum]
  have h1 : (bigSep Finset.univ fun a : Bool × Fin 2 => bigSep Finset.univ fun k : Fin 7 => Φ (cellAt (c, oi (.inl (a, k)))))
      = iprop(Seven Φ c true 0 ∗ Seven Φ c false 0 ∗ Seven Φ c true 1 ∗ Seven Φ c false 1) :=
    (bigSep_congr fun a _ => seven_eq Φ c a.1 a.2).trans (four_eq (Seven Φ c))
  have h2 : (bigSep Finset.univ fun a : Unit => Φ (cellAt (c, oi (.inr (.inl a))))) = Φ (mrCell c) := by
    rw [show (Finset.univ : Finset Unit) = {()} from by decide, bigSep_singleton]; rfl
  have h3 : (bigSep Finset.univ fun j : Fin 31 => Φ (cellAt (c, oi (.inr (.inr j))))) = seqSep (fun j => Φ (msL c j)) 31 0 := by
    rw [← seqSep_fin0]
    refine bigSep_congr fun j _ => ?_
    show Φ (((c : Thread nD τ), .dma (sem31 j.val j.isLt))) = Φ (((c : Thread nD τ), .dma (sem31 (j.val % 31) _)))
    congr 4
    exact (Nat.mod_eq_of_lt j.isLt).symm
  rw [h1, h2, h3]
  rfl

/-! ## Opening -/

/-- A cell as it is opened. -/
def At0 (g : GSem nD τ sig) : sProp 𝕄 := iprop(atPos ER g 0 ∅ 0 ∗ reached ER g 0)

/-- One cell opened. -/
theorem open_cellAt (c : Dev nD) (i : CI) :
    iprop(Inv X (spread mx) κ ιs ∗ (openTok ER (cellAt (c, i)) ∗ semVal (cellAt (c, i)) 0))
      ⊢ (|={Set.univ}=> At0 (cellAt (c, i)) : sProp 𝕄) := by
  iintro ⟨#HI, Ho, Hs⟩
  ihave #Hc := (inv_cell X (spread mx) κ ιs (c, i)) $$ HI
  iapply (Rounds.cell_open ER (Rd X (spread mx)) (g := cellAt (c, i)) (Set.mem_univ (κ (cellAt (c, i)))))
  isplitr; · iexact Hc
  isplitl [Ho]; · iexact Ho
  iexact Hs

/-- The device's cells, as its tokens and its counters at zero open them. -/
theorem open_cells (c : Dev nD) :
    iprop(Inv X (spread mx) κ ιs ∗ (bigSep Finset.univ fun k : OI => (openTok ER (cellAt (c, oi k)) : sProp 𝕄))
        ∗ bigSep Finset.univ fun k : OI => (semVal (cellAt (c, oi k)) 0 : sProp 𝕄))
      ⊢ (|={Set.univ}=> Laid At0 c : sProp 𝕄) := by
  rw [← laid_eq (F := F)]
  have h : ∀ k ∈ (Finset.univ : Finset OI), iprop(Inv X (spread mx) κ ιs ∗ (openTok ER (cellAt (c, oi k)) ∗ semVal (cellAt (c, oi k)) 0))
      ⊢ (|={Set.univ}=> At0 (cellAt (c, oi k)) : sProp 𝕄) := fun k _ => open_cellAt X mx κ ιs c (oi k)
  iintro ⟨#HI, Ho, Hs⟩
  ihave H := (Entails.of_eq (bigSep_sep' Finset.univ (fun k : OI => (openTok ER (cellAt (c, oi k)) : sProp 𝕄)) fun k : OI => semVal (cellAt (c, oi k)) 0).symm) $$ [Ho Hs]
  · isplitl [Ho]; · iexact Ho
    iexact Hs
  ihave H := (bigSep_with_persistent (Ψ := fun k : OI => iprop(|={Set.univ}=> (At0 (cellAt (c, oi k)) : sProp 𝕄))) h) $$ [H]
  · isplitr; · iexact HI
    iexact H
  iapply (bigSep_fupd Finset.univ fun k : OI => (At0 (cellAt (c, oi k)) : sProp 𝕄)) $$ H

/-- A direction's half as it is opened. -/
theorem open_half (c : Dev nD) (b : Bool) (u : Fin 2) : (Seven At0 c b u : sProp 𝕄) ⊢ OpenSt c b u := by
  unfold Seven OpenSt Pos3 SP RP At0
  simp only [Nat.zero_add, Nat.reduceDiv]
  iintro ⟨⟨S0, S1, S2⟩, ⟨R0, R1, R2⟩, Hc⟩
  isplitr [Hc]
  · isplitl [S0 S1 S2]
    · isplitl [S0]; · iexact S0
      isplitl [S1]; · iexact S1
      iexact S2
    isplitl [R0]; · iexact R0
    isplitl [R1]; · iexact R1
    iexact R2
  iexact Hc

/-! ## Closing -/

/-- A cell past its last round is closed. -/
theorem close_cell (c : Dev nD) (i : CI) (n : ℕ)
    (h : ∀ r, n ≤ r → (Rd X (spread mx)).duties (cellAt (c, i)) r = ∅) :
    iprop(Inv X (spread mx) κ ιs ∗ atPos ER (cellAt (c, i)) n ∅ 0) ⊢ (|={Set.univ}=> semVal (cellAt (c, i)) 0 : sProp 𝕄) := by
  iintro ⟨#HI, Ha⟩
  ihave #Hc := (inv_cell X (spread mx) κ ιs (c, i)) $$ HI
  iapply (Rounds.cell_close ER (Rd X (spread mx)) (Set.mem_univ (κ (cellAt (c, i)))) id h)
  isplitr; · iexact Hc
  iexact Ha

theorem close_send (c : Dev nD) (b : Bool) (u : Fin 2) (t : ℕ) (ht : nh b u.val ≤ t) :
    iprop(Inv X (spread mx) κ ιs ∗ SP c b u t) ⊢ (|={Set.univ}=> semVal (sendCell c b u t) 0 : sProp 𝕄) := by
  unfold SP
  rw [← cellAt_send]
  iintro ⟨#HI, Ha, -⟩
  iapply (close_cell X mx κ ιs c (ciSend b u t) (t / 3) (by
    rw [cellAt_send]
    refine duties_later X (spread mx) c _ _ ?_
    rw [kind_send]
    show nh b (semOf t u / 3) ≤ 3 * (t / 3) + semOf t u % 3
    rw [hop_send, semOf_div]; exact ht))
  isplitr; · iexact HI
  iexact Ha

theorem close_recv (c : Dev nD) (b : Bool) (u : Fin 2) (t : ℕ) (ht : nh b u.val ≤ t) :
    iprop(Inv X (spread mx) κ ιs ∗ RP c b u t) ⊢ (|={Set.univ}=> semVal (recvCell c b u t) 0 : sProp 𝕄) := by
  unfold RP
  rw [← cellAt_recv]
  iintro ⟨#HI, Ha, -⟩
  iapply (close_cell X mx κ ιs c (ciRecv b u t) (t / 3) (by
    rw [cellAt_recv]
    refine duties_later X (spread mx) c _ _ ?_
    rw [kind_recv]
    show nh b (semOf (t + 1) u / 3) ≤ 3 * (t / 3) + (semOf (t + 1) u + 2) % 3
    rw [hop_recv, semOf_div]; exact ht))
  isplitr; · iexact HI
  iexact Ha

theorem close_cred (c : Dev nD) (b : Bool) (u : Fin 2) :
    iprop(Inv X (spread mx) κ ιs ∗ atPos ER (credCell c b u) 1 ∅ 0) ⊢ (|={Set.univ}=> semVal (credCell c b u) 0 : sProp 𝕄) :=
  close_cell X mx κ ιs c (ciCred b u) 1 (duties_later X (spread mx) c _ _ (by rw [show kind (smOf (c, ciCred b u).2) = _ from kind_cred b u]))
theorem close_mr (c : Dev nD) :
    iprop(Inv X (spread mx) κ ιs ∗ atPos ER (mrCell c) 1 ∅ 0) ⊢ (|={Set.univ}=> semVal (mrCell c) 0 : sProp 𝕄) :=
  close_cell X mx κ ιs c ciMr 1 (duties_later X (spread mx) c _ _ (by rw [show kind (smOf (c, ciMr).2) = _ from kind_mr]))
theorem close_bar (c : Dev nD) :
    iprop(Inv X (spread mx) κ ιs ∗ atPos ER (barCell c) 1 ∅ 0) ⊢ (|={Set.univ}=> semVal (barCell c) 0 : sProp 𝕄) :=
  close_cell X mx κ ιs c ciBar 1 (duties_later X (spread mx) c _ _ (by rw [show kind (smOf (c, ciBar).2) = _ from kind_bar]))
theorem close_ms (c : Dev nD) (j : ℕ) :
    iprop(Inv X (spread mx) κ ιs ∗ PosM1 c j) ⊢ (|={Set.univ}=> semVal (msL c j) 0 : sProp 𝕄) :=
  close_cell X mx κ ιs c (ciMs (j % 31) (Nat.mod_lt _ (by decide))) 1 (duties_later X (spread mx) c _ _ (by rw [show kind (smOf (c, ciMs (j % 31) (Nat.mod_lt _ (by decide))).2) = _ from kind_ms _ _]))

/-- The three send cells and the three arrival cells of a half that has gone all its hops. -/
theorem close_pos (c : Dev nD) (b : Bool) (u : Fin 2) :
    iprop(Inv X (spread mx) κ ιs ∗ Pos3 c b u (nh b u.val) (nh b u.val))
      ⊢ (|={Set.univ}=> ((semVal (sendCell c b u 0) 0 ∗ semVal (sendCell c b u 1) 0 ∗ semVal (sendCell c b u 2) 0)
          ∗ (semVal (recvCell c b u 0) 0 ∗ semVal (recvCell c b u 1) 0 ∗ semVal (recvCell c b u 2) 0)) : sProp 𝕄) := by
  have hs : ∀ t, sendCell c b u (t % 3) = sendCell c b u t := fun t => by unfold sendCell; rw [sendSem_mod]
  have hr : ∀ t, recvCell c b u (t % 3) = recvCell c b u t := fun t => by unfold recvCell; rw [recvSem_mod]
  have hc : nh b u.val = 16 ∨ nh b u.val = 15 := by unfold nh; split; exacts [.inl rfl, .inr rfl]
  unfold Pos3
  iintro ⟨#HI, ⟨S0, S1, S2⟩, R0, R1, R2⟩
  ihave S0 := (close_send X mx κ ιs c b u (nh b u.val) le_rfl) $$ [S0]
  · isplitr; · iexact HI
    iexact S0
  imod S0 with S0
  ihave S1 := (close_send X mx κ ιs c b u (nh b u.val + 1) (by omega)) $$ [S1]
  · isplitr; · iexact HI
    iexact S1
  imod S1 with S1
  ihave S2 := (close_send X mx κ ιs c b u (nh b u.val + 2) (by omega)) $$ [S2]
  · isplitr; · iexact HI
    iexact S2
  imod S2 with S2
  ihave R0 := (close_recv X mx κ ιs c b u (nh b u.val) le_rfl) $$ [R0]
  · isplitr; · iexact HI
    iexact R0
  imod R0 with R0
  ihave R1 := (close_recv X mx κ ιs c b u (nh b u.val + 1) (by omega)) $$ [R1]
  · isplitr; · iexact HI
    iexact R1
  imod R1 with R1
  ihave R2 := (close_recv X mx κ ιs c b u (nh b u.val + 2) (by omega)) $$ [R2]
  · isplitr; · iexact HI
    iexact R2
  imod R2 with R2
  imodintro
  rw [← hs (nh b u.val), ← hs (nh b u.val + 1), ← hs (nh b u.val + 2), ← hr (nh b u.val), ← hr (nh b u.val + 1), ← hr (nh b u.val + 2)]
  rcases hc with hc | hc <;> rw [hc]
  · isplitl [S0 S1 S2]
    · isplitl [S2]; · iexact S2
      isplitl [S0]; · iexact S0
      iexact S1
    isplitl [R2]; · iexact R2
    isplitl [R0]; · iexact R0
    iexact R1
  · isplitl [S0 S1 S2]
    · isplitl [S0]; · iexact S0
      isplitl [S1]; · iexact S1
      iexact S2
    isplitl [R0]; · iexact R0
    isplitl [R1]; · iexact R1
    iexact R2

/-- The three slots of a half at the end. -/
def Slots3 (c : Dev nD) (b : Bool) (u : Fin 2) : sProp 𝕄 :=
  iprop(cAny c b (slotOf 14 u) (slotOf_lt 14 u) ∗ cAny c b (slotOf 15 u) (slotOf_lt 15 u) ∗ cAny c b (slotOf 16 u) (slotOf_lt 16 u))

/-- A half at the end: its slots, and its seven counters at zero. -/
theorem close_half (c : Dev nD) (b : Bool) (u : Fin 2) :
    iprop(Inv X (spread mx) κ ιs ∗ FinSt c b u) ⊢ (|={Set.univ}=> (Slots3 c b u ∗ Seven (fun g => semVal g 0) c b u) : sProp 𝕄) := by
  unfold FinSt Slots3 Seven
  iintro ⟨#HI, Hsl, Hp, Hc, -⟩
  ihave Hp := (close_pos X mx κ ιs c b u) $$ [Hp]
  · isplitr; · iexact HI
    iexact Hp
  imod Hp with ⟨HS, HR⟩
  ihave Hc := (close_cred X mx κ ιs c b u) $$ [Hc]
  · isplitr; · iexact HI
    iexact Hc
  imod Hc with Hc
  imodintro
  isplitl [Hsl]; · iexact Hsl
  isplitl [HS]; · iexact HS
  isplitl [HR]; · iexact HR
  iexact Hc

/-- The slots of both halves are the chunk buffer. -/
theorem slots_join (c : Dev nD) (b : Bool) : iprop(Slots3 c b 0 ∗ Slots3 c b 1) ⊢ (cmAny c b : sProp 𝕄) := by
  refine BIBase.Entails.trans ?_ (cm_join c b)
  rw [show (Finset.univ : Finset (Fin 6)) = {0, 1, 2, 3, 4, 5} from by decide,
    bigSep_insert (M := 𝕄) (by decide), bigSep_insert (M := 𝕄) (by decide), bigSep_insert (M := 𝕄) (by decide),
    bigSep_insert (M := 𝕄) (by decide), bigSep_insert (M := 𝕄) (by decide), bigSep_singleton]
  show _ ⊢ iprop(cAny c b 0 (by omega) ∗ cAny c b 1 (by omega) ∗ cAny c b 2 (by omega) ∗ cAny c b 3 (by omega) ∗ cAny c b 4 (by omega) ∗ cAny c b 5 (by omega))
  unfold Slots3
  show iprop((cAny c b 4 (by omega) ∗ cAny c b 0 (by omega) ∗ cAny c b 2 (by omega)) ∗ (cAny c b 5 (by omega) ∗ cAny c b 1 (by omega) ∗ cAny c b 3 (by omega))) ⊢ _
  iintro ⟨⟨H4, H0, H2⟩, H5, H1, H3⟩
  isplitl [H0]; · iexact H0
  isplitl [H1]; · iexact H1
  isplitl [H2]; · iexact H2
  isplitl [H3]; · iexact H3
  isplitl [H4]; · iexact H4
  iexact H5

/-- Everything of the protocol at the end: the chunk buffers whole, every counter at zero. -/
theorem close_all (c : Dev nD) :
    iprop(Inv X (spread mx) κ ιs ∗ FinAll c ∗ atPos ER (mrCell c) 1 ∅ 0 ∗ seqSep (PosM1 c) 31 0 ∗ atPos ER (barCell c) 1 ∅ 0)
      ⊢ (|={Set.univ}=> ((cmAny c true ∗ cmAny c false) ∗ (bigSep Finset.univ fun k : OI => (semVal (cellAt (c, oi k)) 0 : sProp 𝕄))
          ∗ semVal (barCell c) 0) : sProp 𝕄) := by
  rw [laid_eq (fun g => semVal g 0)]
  unfold FinAll Laid
  iintro ⟨#HI, ⟨F1, F2, F3, F4⟩, Hm, Hs, Hb⟩
  ihave F1 := (close_half X mx κ ιs c true 0) $$ [F1]
  · isplitr; · iexact HI
    iexact F1
  imod F1 with ⟨A1, F1⟩
  ihave F2 := (close_half X mx κ ιs c true 1) $$ [F2]
  · isplitr; · iexact HI
    iexact F2
  imod F2 with ⟨A2, F2⟩
  ihave F3 := (close_half X mx κ ιs c false 0) $$ [F3]
  · isplitr; · iexact HI
    iexact F3
  imod F3 with ⟨A3, F3⟩
  ihave F4 := (close_half X mx κ ιs c false 1) $$ [F4]
  · isplitr; · iexact HI
    iexact F4
  imod F4 with ⟨A4, F4⟩
  ihave Hm := (close_mr X mx κ ιs c) $$ [Hm]
  · isplitr; · iexact HI
    iexact Hm
  imod Hm with Hm
  ihave Hb := (close_bar X mx κ ιs c) $$ [Hb]
  · isplitr; · iexact HI
    iexact Hb
  imod Hb with Hb
  ihave Hs := (seqSep_with (PosM1 c) (fun j => iprop(|={Set.univ}=> (semVal (msL c j) 0 : sProp 𝕄))) (Inv X (spread mx) κ ιs) (close_ms X mx κ ιs c) 31 0) $$ [Hs]
  · isplitr; · iexact HI
    iexact Hs
  ihave Hs := (seqSep_fupd (fun j => (semVal (msL c j) 0 : sProp 𝕄)) 31 0) $$ Hs
  imod Hs with Hs
  imodintro
  isplitl [A1 A2 A3 A4]
  · isplitl [A1 A2]
    · iapply (slots_join c true)
      isplitl [A1]; · iexact A1
      iexact A2
    · iapply (slots_join c false)
      isplitl [A3]; · iexact A3
      iexact A4
  isplitr [Hb]
  · isplitl [F1 F2 F3 F4]
    · isplitl [F1]; · iexact F1
      isplitl [F3]; · iexact F3
      isplitl [F2]; · iexact F2
      iexact F4
    isplitl [Hm]; · iexact Hm
    iexact Hs
  iexact Hb

end Cert.KernelIdeal.Own

end
-- ==== Proof.Deal.lean ====
/-
The tokens of the launch, dealt to the devices that use them.
-/
module

public import proofs.«01_k».proof.Proof.Cells

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Gen

set_option Elab.async false

variable {F : FTy → Type} [FloatOps F]

local notation "𝕄" => MT nD τ sig ℕ (Elt F) ℕ UU ℕ

/-! ## The duties, by the device that pays them -/

/-- The duties a device pays: the two signals, the credits, the sends' and the arrivals' copies, the
    maxima's arrivals and sends. -/
abbrev Tok : Type := Bool ⊕ (((Bool × Fin 2) × Fin 14) ⊕ ((((Bool × Fin 2) × Fin 16) ⊕ ((Bool × Fin 2) × Fin 16)) ⊕ (Fin 31 ⊕ Fin 31)))

def tokOf : Dev nD × Tok → GSem nD τ sig × ℕ × ℕ
  | (c, .inl b) => (barCell (nbr b c), 0, barDuty b)
  | (c, .inr (.inl ((b, u), h))) => (credCell (nbr (!b) c) b u, 0, h.val)
  | (c, .inr (.inr (.inl (.inl ((b, u), t))))) => (sendCell c b u t.val, t.val / 3, 0)
  | (c, .inr (.inr (.inl (.inr ((b, u), t))))) => (recvCell (nbr b c) b u t.val, t.val / 3, 0)
  | (c, .inr (.inr (.inr (.inl j)))) => (mrCell (peer c j.val), 0, c.val)
  | (c, .inr (.inr (.inr (.inr j)))) => (msL c j.val, 0, 0)

theorem barDuty_inj {b b' : Bool} (h : barDuty b = barDuty b') : b = b' := by
  cases b <;> cases b' <;> first | rfl | exact absurd h (by decide)

theorem nbr_inj (b : Bool) {c c' : Dev nD} (h : nbr b c = nbr b c') : c = c' := (ringE b).injective h

theorem peer_inj (c : Dev nD) {j j' : ℕ} (hj : j < 32) (hj' : j' < 32) (h : peer c j = peer c j') : j = j' := by
  have h := congrArg Fin.val h
  have := c.isLt
  simp only [peer, nD] at h this
  omega

theorem tokOf_inj : Function.Injective tokOf := by
  rintro ⟨c, x⟩ ⟨c', x'⟩ h
  have h1 := congrArg (fun t : GSem nD τ sig × ℕ × ℕ => t.1.1.1) h
  have h2 := congrArg (fun t : GSem nD τ sig × ℕ × ℕ => kind t.1.2) h
  have h3 := congrArg (fun t : GSem nD τ sig × ℕ × ℕ => t.2.1) h
  have h4 := congrArg (fun t : GSem nD τ sig × ℕ × ℕ => t.2.2) h
  clear h
  obtain (b | ⟨⟨b, u⟩, k⟩ | (⟨⟨b, u⟩, t⟩ | ⟨⟨b, u⟩, t⟩) | j | j) := x <;>
    obtain (b' | ⟨⟨b', u'⟩, k'⟩ | (⟨⟨b', u'⟩, t'⟩ | ⟨⟨b', u'⟩, t'⟩) | j' | j') := x' <;>
    simp only [tokOf, kind_bar, kind_cred, kind_send, kind_recv, kind_mr, kind_ms] at h2 <;>
    first
      | exact CK.noConfusion h2
      | skip
  · obtain rfl := barDuty_inj h4
    obtain rfl := nbr_inj b h1
    rfl
  · injection h2 with e1 e2
    subst e1
    obtain rfl : u = u' := Fin.ext e2
    obtain rfl := nbr_inj (!b) h1
    obtain rfl : k = k' := Fin.ext h4
    rfl
  · injection h2 with e1 e2
    subst e1
    obtain rfl : c = c' := h1
    have h3 : t.val / 3 = t'.val / 3 := h3
    unfold semOf at e2
    have := u.isLt; have := u'.isLt
    obtain rfl : u = u' := Fin.ext (by omega)
    obtain rfl : t = t' := Fin.ext (by omega)
    rfl
  · injection h2 with e1 e2
    subst e1
    obtain rfl := nbr_inj b h1
    have h3 : t.val / 3 = t'.val / 3 := h3
    unfold semOf at e2
    have := u.isLt; have := u'.isLt
    obtain rfl : u = u' := Fin.ext (by omega)
    obtain rfl : t = t' := Fin.ext (by omega)
    rfl
  · obtain rfl : c = c' := Fin.ext h4
    have := j.isLt; have := j'.isLt
    obtain rfl : j = j' := Fin.ext (peer_inj c (by omega) (by omega) h1)
    rfl
  · injection h2 with e1
    obtain rfl : c = c' := h1
    have := j.isLt; have := j'.isLt
    obtain rfl : j = j' := Fin.ext (by omega)
    rfl

/-- All duty tokens of the launch. -/
def allToks : Finset (GSem nD τ sig × ℕ × ℕ) := Finset.univ.map ⟨tokOf, tokOf_inj⟩

/-- They are each device's own. -/
theorem allToks_eq : (bigSep allToks fun x => (dutyTok ER x.1 x.2.1 x.2.2 : sProp 𝕄))
    = bigSep Finset.univ fun c : Dev nD => bigSep Finset.univ fun k : Tok => dutyTok ER (tokOf (c, k)).1 (tokOf (c, k)).2.1 (tokOf (c, k)).2.2 := by
  unfold allToks
  rw [bigSep_map, bigSep_univ_prod]; rfl

/-! ## The releases, by the device that uses them -/

/-- Who writes a released chunk slot: the neighbour behind, but the owner itself where the half goes
    no further. -/
def wr (b : Bool) (u : Fin 2) (h : ℕ) : Dev nD ≃ Dev nD := if h = 13 ∧ nh b u.val = 15 then Equiv.refl _ else ringE b

/-- The key that a device writes under its own name. -/
def kE : Key ≃ Key where
  toFun x := match x with
    | (c, .inl (b, u, h)) => (wr b u h.val c, .inl (b, u, h))
    | (c, .inr w) => (w, .inr c)
  invFun x := match x with
    | (c, .inl (b, u, h)) => ((wr b u h.val).symm c, .inl (b, u, h))
    | (c, .inr w) => (w, .inr c)
  left_inv := by
    rintro ⟨c, (⟨b, u, h⟩ | w)⟩
    · show ((wr b u h.val).symm (wr b u h.val c), _) = _
      rw [Equiv.symm_apply_apply]
    · rfl
  right_inv := by
    rintro ⟨c, (⟨b, u, h⟩ | w)⟩
    · show (wr b u h.val ((wr b u h.val).symm c), _) = _
      rw [Equiv.apply_symm_apply]
    · rfl

/-- One token per member. -/
theorem prod_one {K : Type} [DecidableEq K] (s : Finset K) : s ×ˢ Finset.range 1 = s.map ⟨fun k : K => (k, 0), fun a b h => congrArg Prod.fst h⟩ := by
  ext ⟨k, n⟩
  refine ⟨fun h => ?_, fun h => ?_⟩
  · obtain ⟨h1, h2⟩ := Finset.mem_product.mp h
    have h0 : n = 0 := Nat.lt_one_iff.mp (Finset.mem_range.mp h2)
    exact Finset.mem_map.mpr ⟨k, h1, by rw [h0]; rfl⟩
  · obtain ⟨k', h1, h'⟩ := Finset.mem_map.mp h
    have h0 : 0 = n := congrArg Prod.snd h'
    have h2 : k' = k := congrArg Prod.fst h'
    exact Finset.mem_product.mpr ⟨h2 ▸ h1, Finset.mem_range.mpr (by omega)⟩

theorem writeToks_eq : (bigSep (Finset.univ ×ˢ Finset.range 1) fun x : Key × ℕ => (writeTok ES x.1 (x.2 + 1) : sProp 𝕄))
    = bigSep Finset.univ fun c : Dev nD => bigSep Finset.univ fun k : (Bool × Fin 2 × Fin 14) ⊕ Dev nD => writeTok ES (kE (c, k)) 1 := by
  rw [prod_one, bigSep_map]
  show (bigSep Finset.univ fun k : Key => (writeTok ES k 1 : sProp 𝕄)) = _
  rw [bigSep_univ_equiv kE, bigSep_univ_prod]

theorem readers_eq : (bigSep Finset.univ fun k : Key => (readerAt ES k 0 : sProp 𝕄))
    = bigSep Finset.univ fun c : Dev nD => bigSep Finset.univ fun k : (Bool × Fin 2 × Fin 14) ⊕ Dev nD => readerAt ES (c, k) 0 := by
  rw [bigSep_univ_prod]

/-! ## Rows -/

theorem rows (Φ : Bool → Fin 2 → ℕ → sProp 𝕄) (n : ℕ) :
    (bigSep Finset.univ fun x : (Bool × Fin 2) × Fin n => Φ x.1.1 x.1.2 x.2.val)
      = iprop(seqSep (Φ true 0) n 0 ∗ seqSep (Φ false 0) n 0 ∗ seqSep (Φ true 1) n 0 ∗ seqSep (Φ false 1) n 0) := by
  rw [bigSep_univ_prod]
  exact (bigSep_congr fun a _ => seqSep_fin0 (Φ a.1 a.2) n).trans (four_eq fun b u => seqSep (Φ b u) n 0)

theorem rows3 (Φ : Bool → Fin 2 → ℕ → sProp 𝕄) (n : ℕ) :
    (bigSep Finset.univ fun x : Bool × Fin 2 × Fin n => Φ x.1 x.2.1 x.2.2.val)
      = iprop(seqSep (Φ true 0) n 0 ∗ seqSep (Φ false 0) n 0 ∗ seqSep (Φ true 1) n 0 ∗ seqSep (Φ false 1) n 0) := by
  rw [bigSep_univ_equiv (Equiv.prodAssoc Bool (Fin 2) (Fin n))]
  exact rows Φ n

/-- The four halves' rows are the hops'. -/
theorem hops_of (c : Dev nD) : ∀ n h : ℕ,
    iprop(seqSep (Tk c true 0) n h ∗ seqSep (Tk c false 0) n h ∗ seqSep (Tk c true 1) n h ∗ seqSep (Tk c false 1) n h) ⊢ (TkHops c n h : sProp 𝕄)
  | 0, _ => by iintro -; iempintro
  | n + 1, h => by
    show iprop((Tk c true 0 h ∗ seqSep (Tk c true 0) n (h + 1)) ∗ (Tk c false 0 h ∗ seqSep (Tk c false 0) n (h + 1))
      ∗ (Tk c true 1 h ∗ seqSep (Tk c true 1) n (h + 1)) ∗ (Tk c false 1 h ∗ seqSep (Tk c false 1) n (h + 1)))
      ⊢ iprop((Tk c true 0 h ∗ Tk c false 0 h) ∗ (Tk c true 1 h ∗ Tk c false 1 h) ∗ TkHops c n (h + 1))
    iintro ⟨⟨A1, B1⟩, ⟨A2, B2⟩, ⟨A3, B3⟩, A4, B4⟩
    isplitl [A1 A2]
    · isplitl [A1]; · iexact A1
      iexact A2
    isplitl [A3 A4]
    · isplitl [A3]; · iexact A3
      iexact A4
    iapply (hops_of c n (h + 1))
    isplitl [B1]; · iexact B1
    isplitl [B2]; · iexact B2
    isplitl [B3]; · iexact B3
    iexact B4

/-! ## One half -/

/-- The tokens of a half's hops, in rows. -/
def Rows (c : Dev nD) (b : Bool) (u : Fin 2) : sProp 𝕄 :=
  iprop(seqSep (fun h => dutyTok ER (credCell (nbr (!b) c) b u) 0 h) 14 0
    ∗ seqSep (fun t => dutyTok ER (sendCell c b u t) (t / 3) 0) 16 0
    ∗ seqSep (fun t => dutyTok ER (recvCell (nbr b c) b u t) (t / 3) 0) 16 0
    ∗ seqSep (fun h => readerAt ES (ckey c b u h) 0) 14 0
    ∗ seqSep (fun h => writeTok ES (ckey (wr b u h c) b u h) 1) 14 0)

theorem half_rows (c : Dev nD) (b : Bool) (u : Fin 2) : (Rows c b u : sProp 𝕄)
    ⊢ iprop(Tk2 c b u 0 ∗ seqSep (Tk c b u) 14 0 ∗ Tk2 c b u 15 ∗ writeTok ES (ckey (wr b u 13 c) b u 13) 1) := by
  unfold Rows
  iintro ⟨Hc, Hs, Hr, Hrd, Hw⟩
  ihave H1 := (seqSep_sep (fun h => dutyTok ER (credCell (nbr (!b) c) b u) 0 h) (fun h => readerAt ES (ckey c b u h) 0) 14 0) $$ [Hc Hrd]
  · isplitl [Hc]; · iexact Hc
    iexact Hrd
  ihave H2 := (seqSep_sep (fun t => dutyTok ER (sendCell c b u t) (t / 3) 0) (fun t => dutyTok ER (recvCell (nbr b c) b u t) (t / 3) 0) 16 0) $$ [Hs Hr]
  · isplitl [Hs]; · iexact Hs
    iexact Hr
  ihave H2 := (show seqSep (fun t => iprop(dutyTok ER (sendCell c b u t) (t / 3) 0 ∗ dutyTok ER (recvCell (nbr b c) b u t) (t / 3) 0)) 16 0
    ⊢ (iprop(Tk2 c b u 0 ∗ seqSep (Tk2 c b u) 15 1) : sProp 𝕄) from .rfl) $$ H2
  icases H2 with ⟨H20, H2⟩
  ihave H2 := (seqSep_snoc (Tk2 c b u) 14 1) $$ H2
  icases H2 with ⟨H2, H2L⟩
  ihave H2 := (Entails.of_eq (seqSep_shift (Tk2 c b u) 14 0)) $$ H2
  ihave Hw := (seqSep_snoc (fun h => writeTok ES (ckey (wr b u h c) b u h) 1) 13 0) $$ Hw
  icases Hw with ⟨Hw, HwL⟩
  ihave Hw := (seqSep_mono_lt (fun h => writeTok ES (ckey (wr b u h c) b u h) 1) (fun h => Wt (F := F) c b u (h + 1)) 13 0 (fun i _ hi => by
    show _ ⊢ writeTok ES (ckey (nbr b c) b u i) 1
    rw [wr, if_neg (fun h => by omega)]
    exact .rfl)) $$ Hw
  ihave Hw := (Entails.of_eq (seqSep_shift (Wt (F := F) c b u) 13 0).symm) $$ Hw
  ihave Hw := (show (iprop(emp ∗ seqSep (Wt c b u) 13 1) : sProp 𝕄) ⊢ seqSep (Wt c b u) 14 0 from .rfl) $$ [Hw]
  · isplitr; · iempintro
    iexact Hw
  ihave H2 := (seqSep_sep (fun h => Tk2 (F := F) c b u (h + 1)) (Wt c b u) 14 0) $$ [H2 Hw]
  · isplitl [H2]; · iexact H2
    iexact Hw
  ihave H := (seqSep_sep (Tk1 (F := F) c b u) (fun h => iprop(Tk2 c b u (h + 1) ∗ Wt c b u h)) 14 0) $$ [H1 H2]
  · isplitl [H1]; · iexact H1
    iexact H2
  isplitl [H20]; · iexact H20
  isplitl [H]; · iexact H
  isplitl [H2L]; · iexact H2L
  iexact HwL

/-! ## A device's share -/

/-- A device's tokens, as the launch makes them. -/
def DealIn (c : Dev nD) : sProp 𝕄 :=
  iprop((bigSep Finset.univ fun k : Tok => dutyTok ER (tokOf (c, k)).1 (tokOf (c, k)).2.1 (tokOf (c, k)).2.2)
    ∗ (bigSep Finset.univ fun k : (Bool × Fin 2 × Fin 14) ⊕ Dev nD => readerAt ES (c, k) 0)
    ∗ bigSep Finset.univ fun k : (Bool × Fin 2 × Fin 14) ⊕ Dev nD => writeTok ES (kE (c, k)) 1)

/-- The tokens of the maximum's copy `j`. -/
def TkM0 (c : Dev nD) (j : ℕ) : sProp 𝕄 :=
  iprop(writeTok ES (mkey (peer c j) c) 1 ∗ dutyTok ER (msL c j) 0 0 ∗ dutyTok ER (mrCell (peer c j)) 0 c.val)

/-- The same tokens, as the kernel uses them. -/
def DealOut (c : Dev nD) : sProp 𝕄 :=
  iprop((Tk2 c true 0 0 ∗ Tk2 c false 0 0 ∗ Tk2 c true 1 0 ∗ Tk2 c false 1 0)
    ∗ TkHops c 14 0 ∗ TkLast c ∗ seqSep (TkM0 c) 31 0
    ∗ (dutyTok ER (barCell (nbr false c)) 0 1 ∗ dutyTok ER (barCell (nbr true c)) 0 0)
    ∗ bigSep (Finset.univ.erase c) fun w => readerAt ES (mkey c w) 0)

theorem ofNat14 (h : Fin 14) : (Fin.ofNat 14 h.val) = h := Fin.ofNat_val_eq_self _

theorem duty_rows (c : Dev nD) : (bigSep Finset.univ fun k : Tok => (dutyTok ER (tokOf (c, k)).1 (tokOf (c, k)).2.1 (tokOf (c, k)).2.2 : sProp 𝕄))
    ⊢ iprop((dutyTok ER (barCell (nbr false c)) 0 1 ∗ dutyTok ER (barCell (nbr true c)) 0 0)
      ∗ (bigSep Finset.univ fun x : (Bool × Fin 2) × Fin 14 => dutyTok ER (credCell (nbr (!x.1.1) c) x.1.1 x.1.2) 0 x.2.val)
      ∗ ((bigSep Finset.univ fun x : (Bool × Fin 2) × Fin 16 => dutyTok ER (sendCell c x.1.1 x.1.2 x.2.val) (x.2.val / 3) 0)
        ∗ (bigSep Finset.univ fun x : (Bool × Fin 2) × Fin 16 => dutyTok ER (recvCell (nbr x.1.1 c) x.1.1 x.1.2 x.2.val) (x.2.val / 3) 0))
      ∗ (bigSep Finset.univ fun j : Fin 31 => dutyTok ER (mrCell (peer c j.val)) 0 c.val)
      ∗ (bigSep Finset.univ fun j : Fin 31 => dutyTok ER (msL c j.val) 0 0)) := by
  rw [bigSep_univ_sum, bigSep_univ_sum, bigSep_univ_sum, bigSep_univ_sum, bigSep_univ_sum,
    show (Finset.univ : Finset Bool) = {false, true} from by decide, bigSep_insert (M := 𝕄) (by decide), bigSep_singleton]
  exact .rfl

theorem key_rows (c : Dev nD) (Φ : Key → sProp 𝕄) (Ψ : Bool → Fin 2 → ℕ → sProp 𝕄)
    (h : ∀ b u (k : Fin 14), Φ (c, .inl (b, u, k)) = Ψ b u k.val) :
    (bigSep Finset.univ fun k : (Bool × Fin 2 × Fin 14) ⊕ Dev nD => Φ (c, k))
      = iprop((seqSep (Ψ true 0) 14 0 ∗ seqSep (Ψ false 0) 14 0 ∗ seqSep (Ψ true 1) 14 0 ∗ seqSep (Ψ false 1) 14 0)
        ∗ bigSep Finset.univ fun w : Dev nD => Φ (c, .inr w)) := by
  rw [bigSep_univ_sum, ← rows3 Ψ 14]
  have : (bigSep Finset.univ fun a : Bool × Fin 2 × Fin 14 => Φ (c, .inl a)) = bigSep Finset.univ fun x : Bool × Fin 2 × Fin 14 => Ψ x.1 x.2.1 x.2.2.val :=
    bigSep_congr fun a _ => h a.1 a.2.1 a.2.2
  rw [this]
  rfl

/-- The devices from `c` on. -/
def rot (c : Dev nD) : Fin 32 ≃ Dev nD where
  toFun j := peer c j.val
  invFun w := ⟨(w.val + 63 - c.val) % 32, Nat.mod_lt _ (by decide)⟩
  left_inv j := by
    apply Fin.ext; have := c.isLt; have := j.isLt; simp only [peer, nD] at *; omega
  right_inv w := by
    apply Fin.ext; have := c.isLt; have := w.isLt; simp only [peer, nD] at *; omega

/-- A family over the devices, from `c` on, without `c` itself. -/
theorem peers_row (c : Dev nD) (Φ : Dev nD → sProp 𝕄) : bigSep Finset.univ Φ ⊢ seqSep (fun j => Φ (peer c j)) 31 0 := by
  rw [bigSep_univ_equiv (rot c)]
  show (bigSep Finset.univ fun j : Fin 32 => Φ (peer c j.val)) ⊢ _
  rw [seqSep_fin0 (fun j => Φ (peer c j)) 32]
  refine BIBase.Entails.trans (seqSep_snoc (fun j => Φ (peer c j)) 31 0) ?_
  iintro ⟨H, -⟩
  iexact H

/-- A family without one member. -/
theorem drop_one (c : Dev nD) (Φ : Dev nD → sProp 𝕄) : bigSep Finset.univ Φ ⊢ bigSep (Finset.univ.erase c) Φ := by
  rw [bigSep_erase (M := 𝕄) (Finset.mem_univ c)]
  show iprop(Φ c ∗ bigSep (Finset.univ.erase c) Φ) ⊢ _
  iintro ⟨-, H⟩
  iexact H

theorem deal_dev (c : Dev nD) : (DealIn c : sProp 𝕄) ⊢ DealOut c := by
  unfold DealIn
  rw [key_rows c (fun k => readerAt ES k 0) (fun b u h => readerAt ES (ckey c b u h) 0) (fun b u k => by show _ = readerAt ES (c, .inl (b, u, Fin.ofNat 14 k.val)) 0; rw [ofNat14]),
    key_rows c (fun k => writeTok ES (kE k) 1) (fun b u h => writeTok ES (ckey (wr b u h c) b u h) 1)
      (fun b u k => by show _ = writeTok ES (wr b u k.val c, .inl (b, u, Fin.ofNat 14 k.val)) 1; rw [ofNat14]; rfl)]
  iintro ⟨Hd, ⟨⟨R1, R2, R3, R4⟩, HR⟩, ⟨W1, W2, W3, W4⟩, HW⟩
  ihave Hd := (duty_rows c) $$ Hd
  icases Hd with ⟨Hbar, Hc, ⟨Hs, Hr⟩, Hmr, Hms⟩
  ihave Hc := (Entails.of_eq (rows (F := F) (fun b u h => dutyTok ER (credCell (nbr (!b) c) b u) 0 h) 14)) $$ Hc
  icases Hc with ⟨C1, C2, C3, C4⟩
  ihave Hs := (Entails.of_eq (rows (fun b u t => dutyTok ER (sendCell c b u t) (t / 3) 0) 16)) $$ Hs
  icases Hs with ⟨S1, S2, S3, S4⟩
  ihave Hr := (Entails.of_eq (rows (fun b u t => dutyTok ER (recvCell (nbr b c) b u t) (t / 3) 0) 16)) $$ Hr
  icases Hr with ⟨V1, V2, V3, V4⟩
  ihave H1 := (half_rows c true 0) $$ [C1 S1 V1 R1 W1]
  · unfold Rows
    isplitl [C1]; · iexact C1
    isplitl [S1]; · iexact S1
    isplitl [V1]; · iexact V1
    isplitl [R1]; · iexact R1
    iexact W1
  ihave H2 := (half_rows c false 0) $$ [C2 S2 V2 R2 W2]
  · unfold Rows
    isplitl [C2]; · iexact C2
    isplitl [S2]; · iexact S2
    isplitl [V2]; · iexact V2
    isplitl [R2]; · iexact R2
    iexact W2
  ihave H3 := (half_rows c true 1) $$ [C3 S3 V3 R3 W3]
  · unfold Rows
    isplitl [C3]; · iexact C3
    isplitl [S3]; · iexact S3
    isplitl [V3]; · iexact V3
    isplitl [R3]; · iexact R3
    iexact W3
  ihave H4 := (half_rows c false 1) $$ [C4 S4 V4 R4 W4]
  · unfold Rows
    isplitl [C4]; · iexact C4
    isplitl [S4]; · iexact S4
    isplitl [V4]; · iexact V4
    isplitl [R4]; · iexact R4
    iexact W4
  icases H1 with ⟨T1, H1, L1, M1⟩
  icases H2 with ⟨T2, H2, -, M2⟩
  icases H3 with ⟨T3, H3, -, M3⟩
  icases H4 with ⟨T4, H4, L4, M4⟩
  ihave HW := (peers_row c (fun w : Dev nD => writeTok ES (kE (c, .inr w)) 1)) $$ HW
  ihave Hmr := (Entails.of_eq (seqSep_fin0 (fun j => dutyTok ER (mrCell (peer c j)) 0 c.val) 31)) $$ Hmr
  ihave Hms := (Entails.of_eq (seqSep_fin0 (fun j => dutyTok ER (msL c j) 0 0) 31)) $$ Hms
  ihave Hm := (seqSep_sep (fun j => dutyTok ER (msL c j) 0 0) (fun j => dutyTok ER (mrCell (peer c j)) 0 c.val) 31 0) $$ [Hmr Hms]
  · isplitl [Hms]; · iexact Hms
    iexact Hmr
  ihave Hm := (seqSep_sep (fun j => writeTok ES (kE (c, .inr (peer c j))) 1) (fun j => iprop(dutyTok ER (msL c j) 0 0 ∗ dutyTok ER (mrCell (peer c j)) 0 c.val)) 31 0) $$ [HW Hm]
  · isplitl [HW]; · iexact HW
    iexact Hm
  unfold DealOut
  isplitl [T1 T2 T3 T4]
  · isplitl [T1]; · iexact T1
    isplitl [T2]; · iexact T2
    isplitl [T3]; · iexact T3
    iexact T4
  isplitl [H1 H2 H3 H4]
  · iapply (hops_of c 14 0)
    isplitl [H1]; · iexact H1
    isplitl [H2]; · iexact H2
    isplitl [H3]; · iexact H3
    iexact H4
  isplitl [L1 L4 M1 M2 M3 M4]
  · unfold TkLast
    isplitl [M1 L1]
    · isplitl [M1]; · iexact M1
      iexact L1
    isplitl [M4 L4]
    · isplitl [M4]; · iexact M4
      iexact L4
    isplitl [M3]; · iexact M3
    iexact M2
  isplitl [Hm]; · iexact Hm
  isplitl [Hbar]; · iexact Hbar
  iapply (drop_one c fun w : Dev nD => readerAt ES (c, .inr w) 0) $$ HR

end Cert.KernelIdeal.Own

end
-- ==== Proof.Open.lean ====
/-
What a device holds when its kernel begins: the cells opened, the tokens dealt, the credits.
-/
module

public import proofs.«01_k».proof.Proof.Deal
public import proofs.«01_k».proof.Proof.Meet

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Idealize.ShloMosaic.SiteBlocks (L lv)
open Gen

set_option Elab.async false

variable {F : FTy → Type} [FloatOps F]

local notation "𝕄" => MT nD τ sig ℕ (Elt F) ℕ UU ℕ

variable (X : Dev nD → Fin 2 → S64x4096.Idx → Elt F .bf16) (mx : Dev nD → F .f32)

/-! ## The launch's credits -/

/-- What a device owes at launch. -/
def O₀ (c : Dev nD) : CellTallies nD τ sig ℕ := tallyL (evAll.map (Ev.out c))

/-- What the devices owe each other is what each is due. -/
theorem launch_due (c : Dev nD) : ∀ E : List Ev, (Pipeline.launchCred (fun d => tallyL (E.map (Ev.out d))) c : sProp 𝕄) ⊢ Due c E
  | [] => by
    refine (Entails.of_eq (Pipeline.launchCred_zero c)).trans ?_
    unfold Due
    show (iprop(emp) : sProp 𝕄) ⊢ cred 0
    rw [cred_zero]
  | e :: E => by
    show (Pipeline.launchCred (fun d => (Ev.out d e).tally + tallyL (E.map (Ev.out d))) c : sProp 𝕄) ⊢ _
    rw [Pipeline.launchCred_add]
    refine BIBase.Entails.trans ?_ (cred_add ((Ev.inc c e).tally) (tallyL (E.map (Ev.inc c)))).2
    exact BIClass.sep_mono (Pipeline.launchCred_tallyAt e.sm e.dst e.dst.symm (fun c => e.dst.apply_symm_apply c) (fun c => e.dst.symm_apply_apply c) e.ix e.n c) (launch_due c E)

/-! ## From the launch to the kernel's beginning -/

/-- What the launch keeps for a device. -/
def Kept (c : Dev nD) : sProp 𝕄 :=
  iprop((∃ κ ιs, Inv X (spread mx) κ ιs
      ∗ (atPos ER (barCell c) 0 ∅ 0 ∗ reached ER (barCell (nbr false c)) 0 ∗ reached ER (barCell (nbr true c)) 0)
      ∗ (bigSep Finset.univ fun k : OI => openTok ER (cellAt (c, oi k))) ∗ DealOut c)
    ∗ Due c evAll)

/-- What a device begins with beside its buffers. -/
def Begin (c : Dev nD) : sProp 𝕄 :=
  iprop(((bigSep (Finset.univ.erase c) fun w => readerAt ES (mkey c w) 0) ∗ reached ER (mrCell c) 0)
    ∗ (OpenSt c true 0 ∗ OpenSt c false 0 ∗ OpenSt c true 1 ∗ OpenSt c false 1)
    ∗ (Tk2 c true 0 0 ∗ Tk2 c false 0 0 ∗ Tk2 c true 1 0 ∗ Tk2 c false 1 0)
    ∗ (TkHops c 14 0 ∗ TkLast c ∗ seqSep (TkM c) 31 0 ∗ seqSep (PosM c) 31 0)
    ∗ (atPos ER (barCell c) 0 ∅ 0 ∗ (dutyTok ER (barCell (nbr false c)) 0 1 ∗ reached ER (barCell (nbr false c)) 0)
       ∗ (dutyTok ER (barCell (nbr true c)) 0 0 ∗ reached ER (barCell (nbr true c)) 0))
    ∗ atPos ER (mrCell c) 0 ∅ 0 ∗ Due c evAll)

/-- The same, with what every device knows. -/
def Xk (c : Dev nD) : sProp 𝕄 := iprop(∃ κ ιs, Inv X (spread mx) κ ιs ∗ Begin c)

/-- The maxima's tokens, their sends' cells opened. -/
theorem maxes_open (c : Dev nD) : iprop(seqSep (TkM0 c) 31 0 ∗ seqSep (fun j => At0 (msL c j)) 31 0)
    ⊢ (iprop(seqSep (TkM c) 31 0 ∗ seqSep (PosM c) 31 0) : sProp 𝕄) := by
  refine (seqSep_sep _ _ 31 0).trans (BIBase.Entails.trans (seqSep_mono _ (fun j => iprop(TkM c j ∗ PosM c j)) (fun j => ?_) 31 0) (seqSep_unsep _ _ 31 0))
  unfold TkM0 At0 TkM PosM
  iintro ⟨⟨H1, H2, H3⟩, H4, H5⟩
  isplitr [H4]
  · isplitl [H1]; · iexact H1
    isplitr [H3]
    · isplitl [H2]; · iexact H2
      iexact H5
    iexact H3
  iexact H4

/-- The kernel's own counters, by the cells' names. -/
theorem ownSems_eq (c : Dev nD) : (Pipeline.ownSems0 osem c : sProp 𝕄) = bigSep Finset.univ fun k : OI => semVal (cellAt (c, oi k)) 0 := rfl

/-- A device opens its cells. -/
theorem hopen (c : Dev nD) : iprop(Kept X mx c ∗ Pipeline.ownSems0 osem c ∗ levAts (L 64) lv) ⊢ (|={Set.univ}=> Xk X mx c : sProp 𝕄) := by
  rw [ownSems_eq]
  unfold Kept
  iintro ⟨⟨⟨%κ, %ιs, #HI, ⟨Hb, Hb0, Hb1⟩, Ho, Hd⟩, Hdue⟩, Hs, -⟩
  imod (open_cells X mx κ ιs c) $$ [Ho Hs] with HL
  · isplitr; · iexact HI
    isplitl [Ho]; · iexact Ho
    iexact Hs
  unfold Laid DealOut
  icases HL with ⟨⟨S1, S2, S3, S4⟩, Hm, Hms⟩
  icases Hd with ⟨HT, Hh, Hl, Hk, ⟨Hd1, Hd0⟩, HR⟩
  ihave HM := (maxes_open c) $$ [Hk Hms]
  · isplitl [Hk]; · iexact Hk
    iexact Hms
  icases HM with ⟨HM, HP⟩
  unfold Xk Begin
  imodintro
  iexists κ
  iexists ιs
  isplitr; · iexact HI
  ihave Hm := (show (At0 (mrCell c) : sProp 𝕄) ⊢ iprop(atPos ER (mrCell c) 0 ∅ 0 ∗ reached ER (mrCell c) 0) from .rfl) $$ Hm
  icases Hm with ⟨Hm, Hmr⟩
  isplitl [HR Hmr]
  · isplitl [HR]; · iexact HR
    iexact Hmr
  isplitl [S1 S2 S3 S4]
  · isplitl [S1]; · iapply (open_half c true 0); iexact S1
    isplitl [S2]; · iapply (open_half c false 0); iexact S2
    isplitl [S3]; · iapply (open_half c true 1); iexact S3
    iapply (open_half c false 1); iexact S4
  isplitl [HT]; · iexact HT
  isplitl [Hh Hl HM HP]
  · isplitl [Hh]; · iexact Hh
    isplitl [Hl]; · iexact Hl
    isplitl [HM]; · iexact HM
    iexact HP
  isplitl [Hb Hd1 Hb0 Hd0 Hb1]
  · isplitl [Hb]; · iexact Hb
    isplitl [Hd1 Hb0]
    · isplitl [Hd1]; · iexact Hd1
      iexact Hb0
    isplitl [Hd0]; · iexact Hd0
    iexact Hb1
  isplitl [Hm]; · iexact Hm
  iexact Hdue

end Cert.KernelIdeal.Own

end
-- ==== Proof.Start.lean ====
/-
The launch: every cell's invariant allocated, every token dealt to the device that uses it.
-/
module

public import proofs.«01_k».proof.Proof.Open
public import proofs.«01_k».proof.Proof.Gen.KernelIdeal.Regions

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Idealize.ShloMosaic.SiteBlocks (L lv)
open Gen

set_option Elab.async false

variable {F : FTy → Type} [FloatOps F]

local notation "𝕄" => MT nD τ sig ℕ (Elt F) ℕ UU ℕ

variable (X : Dev nD → Fin 2 → S64x4096.Idx → Elt F .bf16) (mx : Dev nD → F .f32)

/-! ## The cells -/

def barEmb : Dev nD ↪ GSem nD τ sig := ⟨fun c => cellAt (c, ciBar), fun c c' h => congrArg Prod.fst (cellAt_inj (a₁ := (c, ciBar)) (a₂ := (c', ciBar)) h)⟩
def ownEmb : Dev nD × OI ↪ GSem nD τ sig :=
  ⟨fun x => cellAt (x.1, oi x.2), fun x y h => by
    have e : (x.1, oi x.2) = (y.1, oi y.2) := cellAt_inj h
    have e1 := congrArg Prod.fst e
    have e2 := congrArg Prod.snd e
    exact Prod.ext e1 (oi_inj e2)⟩
def cellEmb : Dev nD × CI ↪ GSem nD τ sig := ⟨cellAt, cellAt_inj⟩

/-- The barrier's cells, which exist at launch. -/
def barCells : Finset (GSem nD τ sig) := Finset.univ.map barEmb
/-- The kernel's own cells, opened when it begins. -/
def ownCells : Finset (GSem nD τ sig) := Finset.univ.map ownEmb

theorem oi_ne_bar : ∀ k : OI, oi k ≠ ciBar := by decide +kernel
theorem oi_cover : ∀ i : CI, i = ciBar ∨ ∃ k : OI, oi k = i := by decide +kernel

theorem cells_disj : Disjoint barCells ownCells := by
  rw [Finset.disjoint_left]
  intro g h₁ h₂
  obtain ⟨c, -, rfl⟩ := Finset.mem_map.mp h₁
  obtain ⟨x, -, h⟩ := Finset.mem_map.mp h₂
  exact oi_ne_bar x.2 (congrArg Prod.snd (cellAt_inj (a₁ := (x.1, oi x.2)) (a₂ := (c, ciBar)) h))

/-- They are all the cells. -/
theorem cells_union : barCells ∪ ownCells = Finset.univ.map cellEmb := by
  ext g
  constructor
  · intro h
    rcases Finset.mem_union.mp h with h | h
    · obtain ⟨c, -, rfl⟩ := Finset.mem_map.mp h
      exact Finset.mem_map.mpr ⟨(c, ciBar), Finset.mem_univ _, rfl⟩
    · obtain ⟨x, -, rfl⟩ := Finset.mem_map.mp h
      exact Finset.mem_map.mpr ⟨(x.1, oi x.2), Finset.mem_univ _, rfl⟩
  · intro h
    obtain ⟨⟨c, i⟩, -, rfl⟩ := Finset.mem_map.mp h
    rcases oi_cover i with rfl | ⟨k, rfl⟩
    · exact Finset.mem_union_left _ (Finset.mem_map.mpr ⟨c, Finset.mem_univ _, rfl⟩)
    · exact Finset.mem_union_right _ (Finset.mem_map.mpr ⟨(c, k), Finset.mem_univ _, rfl⟩)

/-- The protocol's part of the launch. -/
def launchUC : URounds (GSem nD τ sig) ℕ × USlots Key := (Rounds.launchOf barCells ownCells allToks, Release.initSlots Finset.univ 1)

/-- The launch element: the staging copies', and the protocol's. -/
def u₀ : UU := (Rounds.initOf (Pipeline.cells cfgs cellOf_inj) (Pipeline.launchToks cfgs cellOf_inj), launchUC)

theorem split_UC : (BI.own (embR (launchUC : UC)) : sProp 𝕄)
    ⊢ iprop(BI.own (ER (Rounds.launchOf barCells ownCells allToks)) ∗ BI.own (ES (Release.initSlots Finset.univ 1))) :=
  own_pair_emb embR (Rounds.launchOf barCells ownCells allToks) (Release.initSlots Finset.univ 1)

/-! ## The ghost state of the launch -/

/-- What every device knows at launch. -/
def Known (κ : GSem nD τ sig → ℕ) (ιs : Key → ℕ) : sProp 𝕄 :=
  iprop(Inv X (spread mx) κ ιs ∗ bigSep Finset.univ fun c : Dev nD => reached ER (barCell c) 0)

instance Known_persistent (κ : GSem nD τ sig → ℕ) (ιs : Key → ℕ) : BI.Persistent (Known X mx κ ιs : sProp 𝕄) := by unfold Known; infer_instance

/-- What one device is dealt. -/
def Dealt (c : Dev nD) : sProp 𝕄 :=
  iprop(atPos ER (barCell c) 0 ∅ 0 ∗ (bigSep Finset.univ fun k : OI => openTok ER (cellAt (c, oi k))) ∗ DealIn c)

/-- What the launch keeps for a device beside the credits. -/
def Kept0 (c : Dev nD) : sProp 𝕄 :=
  iprop(∃ κ ιs, Inv X (spread mx) κ ιs
      ∗ (atPos ER (barCell c) 0 ∅ 0 ∗ reached ER (barCell (nbr false c)) 0 ∗ reached ER (barCell (nbr true c)) 0)
      ∗ (bigSep Finset.univ fun k : OI => openTok ER (cellAt (c, oi k))) ∗ DealOut c)

theorem kept_intro (κ : GSem nD τ sig → ℕ) (ιs : Key → ℕ) (c : Dev nD) : iprop(Known X mx κ ιs ∗ Dealt c) ⊢ (Kept0 X mx c : sProp 𝕄) := by
  unfold Known Dealt Kept0
  iintro ⟨⟨#HI, #HR⟩, Hb, Ho, Hd⟩
  iexists κ
  iexists ιs
  isplitr; · iexact HI
  isplitl [Hb]
  · isplitl [Hb]; · iexact Hb
    isplitr
    · iapply (bigSep_one (F := F) (Φ := fun c : Dev nD => (reached ER (barCell c) 0 : sProp 𝕄)) (Finset.mem_univ (nbr false c))); iexact HR
    · iapply (bigSep_one (F := F) (Φ := fun c : Dev nD => (reached ER (barCell c) 0 : sProp 𝕄)) (Finset.mem_univ (nbr true c))); iexact HR
  isplitl [Ho]; · iexact Ho
  iapply (deal_dev c); iexact Hd

/-- Three rows of the devices are one row of triples. -/
theorem triples (A B C : Dev nD → sProp 𝕄) :
    iprop(bigSep Finset.univ A ∗ bigSep Finset.univ B ∗ bigSep Finset.univ C) ⊢ bigSep Finset.univ fun c => iprop(A c ∗ B c ∗ C c) :=
  Entails.of_eq (by rw [bigSep_sep', bigSep_sep'])

theorem cells_inv (κ : GSem nD τ sig → ℕ) :
    (bigSep (barCells ∪ ownCells) fun g => (cellInv ER (Rd X (spread mx)) (κ g) g : sProp 𝕄))
      = bigSep Finset.univ fun x : Dev nD × CI => cellInv ER (Rd X (spread mx)) (κ (cellAt x)) (cellAt x) := by
  rw [cells_union, bigSep_map]; rfl
theorem bars_eq (Φ : GSem nD τ sig → sProp 𝕄) : bigSep barCells Φ = bigSep Finset.univ fun c : Dev nD => Φ (barCell c) := by
  unfold barCells; rw [bigSep_map]; rfl
theorem opens_eq : (bigSep ownCells fun g => (openTok ER g : sProp 𝕄))
    = bigSep Finset.univ fun c : Dev nD => bigSep Finset.univ fun k : OI => openTok ER (cellAt (c, oi k)) := by
  unfold ownCells; rw [bigSep_map, bigSep_univ_prod]; rfl

/-- The launch makes what it keeps for every device. -/
theorem launch_kept :
    iprop((bigSep Finset.univ fun c : Dev nD => (semVal (barCell c) 0 : sProp 𝕄)) ∗ BI.own (embR (launchUC : UC)) ∗ levAts (L 64) lv)
      ⊢ (|={Set.univ}=> bigSep Finset.univ (Kept0 X mx) : sProp 𝕄) := by
  iintro ⟨Hv, Hu, #HL⟩
  ihave Hu := split_UC $$ Hu
  icases Hu with ⟨HR, HS⟩
  ihave Hv := (Entails.of_eq (bars_eq (F := F) fun g => semVal g 0).symm) $$ Hv
  imod (Rounds.fund_launch ER (Rd X (spread mx)) cells_disj (fun g _ h => h) allToks) $$ [Hv HR] with ⟨%κ, -, #Hinv, #Hr, Hat, Hopen, Htok⟩
  · isplitl [Hv]; · iexact Hv
    iexact HR
  imod (Release.slots_init ES Finset.univ 1 (slotOfKey (F := F))) $$ HS with ⟨%ιs, -, #Hsl, Hrd, Hwt⟩
  imodintro
  iapply (bigSep_with_persistent (R := Known X mx κ ιs) (Φ := Dealt) fun c _ => kept_intro X mx κ ιs c)
  isplitr
  · unfold Known Inv
    isplitr
    · isplitr; · iapply (Entails.of_eq (cells_inv X mx κ)); iexact Hinv
      isplitr; · iexact Hsl
      iexact HL
    · iapply (Entails.of_eq (bars_eq (F := F) fun g => reached ER g 0)); iexact Hr
  unfold Dealt
  iapply (triples (F := F) _ _ _)
  isplitl [Hat]; · iapply (Entails.of_eq (bars_eq (F := F) fun g => atPos ER g 0 ∅ 0)); iexact Hat
  isplitl [Hopen]; · iapply (Entails.of_eq (opens_eq (F := F))); iexact Hopen
  unfold DealIn
  iapply (triples (F := F) _ _ _)
  isplitl [Htok]; · iapply (Entails.of_eq (allToks_eq (F := F))); iexact Htok
  isplitl [Hrd]; · iapply (Entails.of_eq (readers_eq (F := F))); iexact Hrd
  iapply (Entails.of_eq (writeToks_eq (F := F))); iexact Hwt

/-! ## The launch's first state -/

/-- The launch element's protocol part, parked on one device. -/
def G (c : Dev nD) : sProp 𝕄 := if c = 0 then BI.own (embR (launchUC : UC)) else iprop(emp)

theorem G_eq : bigSep Finset.univ (G (F := F)) = BI.own (embR (launchUC : UC)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem bar_sems (c : Dev nD) : (unscopedSems0 c : sProp 𝕄) = semVal (barCell c) 0 := by
  unfold unscopedSems0
  rw [show (Finset.univ.filter fun sm : SemLoc sig => ¬ sm.isScoped .tc = true) = {smOf ciBar} from by decide +kernel, bigSep_singleton]
  rfl

/-- What a device carries beside its buffers into the kernel. -/
def E0 (c : Dev nD) : sProp 𝕄 :=
  iprop((∃ r, prngReg c r) ∗ Kept X mx c ∗ ∃ W, owes (c : Thread nD τ) (O₀ c) W)

theorem first_state (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts (L 64) lv)
      ⊢ (|={Set.univ}=> bigSep Finset.univ (E0 X mx) : sProp 𝕄) := by
  have h1 : (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(semVal (barCell c) 0 ∗ G c ∗ (Due c evAll ∗ prngReg c (ρ c) ∗ owes (c : Thread nD τ) (O₀ c) ∅)) : sProp 𝕄) :=
    bigSep_mono fun c _ => by
      rw [bar_sems]
      show (_ : sProp 𝕄) ⊢ _
      iintro ⟨Hs, Ho, Hc, Hp, HG⟩
      isplitl [Hs]; · iexact Hs
      isplitl [HG]; · iexact HG
      isplitl [Hc]; · iapply (launch_due c evAll); iexact Hc
      isplitl [Hp]; · iexact Hp
      iexact Ho
  iintro ⟨H, HL⟩
  ihave H := h1 $$ H
  ihave H := (Entails.of_eq (bigSep_sep' Finset.univ (fun c : Dev nD => (semVal (barCell c) 0 : sProp 𝕄)) _)) $$ H
  icases H with ⟨Hs, H⟩
  ihave H := (Entails.of_eq (bigSep_sep' Finset.univ (G (F := F)) _)) $$ H
  icases H with ⟨HG, H⟩
  ihave HG := (show (bigSep Finset.univ (G (F := F)) : sProp 𝕄) ⊢ BI.own (embR (launchUC : UC)) from Entails.of_eq (G_eq (F := F))) $$ HG
  imod (launch_kept X mx) $$ [Hs HG HL] with HK
  · isplitl [Hs]; · iexact Hs
    isplitl [HG]; · iexact HG
    iexact HL
  imodintro
  have h2 : bigSep Finset.univ (fun c : Dev nD => iprop(Kept0 X mx c ∗ (Due c evAll ∗ prngReg c (ρ c) ∗ owes (c : Thread nD τ) (O₀ c) ∅)))
      ⊢ (bigSep Finset.univ (E0 X mx) : sProp 𝕄) :=
    bigSep_mono fun c _ => by
      show iprop(Kept0 X mx c ∗ (Due c evAll ∗ prngReg c (ρ c) ∗ owes (c : Thread nD τ) (O₀ c) ∅))
        ⊢ iprop((∃ r, prngReg c r) ∗ (Kept0 X mx c ∗ Due c evAll) ∗ ∃ W, owes (c : Thread nD τ) (O₀ c) W)
      iintro ⟨HK, HD, Hp, Ho⟩
      isplitl [Hp]; · iexists (ρ c); iexact Hp
      isplitr [Ho]
      · isplitl [HK]
        · iexact HK
        iexact HD
      iexists ∅; iexact Ho
  iapply h2
  iapply (Entails.of_eq (bigSep_sep' Finset.univ (Kept0 X mx) _).symm)
  isplitl [HK]; · iexact HK
  iexact H

end Cert.KernelIdeal.Own

end
-- ==== Proof.Stage.lean ====
/-
The staging buffers, as the pipeline holds them and as the kernel reads them.
-/
module

public import proofs.«01_k».proof.Proof.Meet
public import proofs.«01_k».proof.Proof.Gen.KernelIdeal.Regions

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Idealize.ShloMosaic.SiteBlocks (L lv)
open Gen

set_option Elab.async false

variable {F : FTy → Type} [FloatOps F]

local notation "𝕄" => MT nD τ sig ℕ (Elt F) ℕ UU ℕ

/-- A device's row of the table. -/
def rowV (c : Dev nD) : S39.Idx → Elt F .i32 := fun i => tab c (i 0).val

/-- A word read off a row. -/
theorem word_read (tb : Memref sig .tc .smem S39 .i32) (f : BufTy.Contents (Elt F) tb.view.ref.ty) (k : ℕ) (hk : k < 39) (x : S1.Idx) :
    (tb.access (Rect.unit (s := S39) ![k] S1.size (inb39 k hk))).read (Elt F) f x = tb.view.read (Elt F) f (fun a => match a with | 0 => ⟨k, hk⟩) := by
  show tb.view.read (Elt F) f ((Rect.unit (s := S39) ![k] S1.size (inb39 k hk)).emb x) = _
  congr 1
  funext a
  match a with
  | 0 =>
    apply Fin.ext
    have h : (x 0).val < 1 := (x 0).isLt
    show k + 1 * (x 0).val = k
    omega

theorem tab_of (tb : Memref sig .tc .smem S39 .i32) (c : Dev nD) : (owns (c : Thread nD τ) tb fullShare (rowV c) : sProp 𝕄) ⊢ TabSt tb c := by
  unfold owns TabSt
  iintro ⟨%f, %hf, H⟩
  iexists f
  isplitl [H]; · iexact H
  ipureintro
  intro k hk x
  rw [word_read tb f k hk, hf]; rfl

theorem of_tab (tb : Memref sig .tc .smem S39 .i32) (c : Dev nD) : (TabSt tb c : sProp 𝕄) ⊢ owns (c : Thread nD τ) tb fullShare (rowV c) := by
  unfold owns TabSt
  iintro ⟨%f, H, %hf⟩
  iexists f
  isplitr [H]
  · ipureintro
    funext i
    have h := hf (i 0).val (i 0).isLt (Shape.Idx.first (by decide))
    rw [word_read] at h
    refine Eq.trans (congrArg _ ?_) h
    funext a
    match a with
    | 0 => rfl
  iexact H

/-- A whole block read through its rectangle. -/
theorem block_read {sp : Space} {s : Shape} {e : EltTy} (m : Memref sig .tc sp s e) {off : Fin s.rank → ℕ} (h0 : off = fun _ => 0)
    (inb : ∀ a, off a + s.size a ≤ s.size a) (f : BufTy.Contents (Elt F) m.view.ref.ty) :
    (m.access (Rect.unit (s := s) off s.size inb)).read (Elt F) f = m.view.read (Elt F) f := by
  subst h0
  funext x
  show m.view.read (Elt F) f ((Rect.unit (s := s) (fun _ => 0) s.size inb).emb x) = _
  congr 1
  funext a
  apply Fin.ext
  show 0 + 1 * (x a).val = (x a).val
  omega

theorem xm_of (xm : Memref sig .tc .vmem S128x4096 .bf16) (c : Dev nD) (x : Vec F S128x4096 .bf16) :
    (owns (c : Thread nD τ) xm fullShare x : sProp 𝕄) ⊢ XmSt xm c x := by
  unfold owns XmSt
  iintro ⟨%f, %hf, H⟩
  iexists f
  isplitl [H]; · iexact H
  ipureintro
  rw [block_read xm hz2]; exact hf

theorem of_xm (xm : Memref sig .tc .vmem S128x4096 .bf16) (c : Dev nD) (x : Vec F S128x4096 .bf16) :
    (XmSt xm c x : sProp 𝕄) ⊢ owns (c : Thread nD τ) xm fullShare x := by
  unfold owns XmSt
  iintro ⟨%f, H, %hf⟩
  iexists f
  isplitr [H]
  · ipureintro
    rw [block_read xm hz2] at hf; exact hf
  iexact H

theorem wm_of (wm : Memref sig .tc .vmem S4096x256 .bf16) (c : Dev nD) (w : Vec F S4096x256 .bf16) :
    (owns (c : Thread nD τ) wm fullShare w : sProp 𝕄) ⊢ WmSt wm c w := by
  unfold owns WmSt
  iintro ⟨%f, %hf, H⟩
  iexists f
  isplitl [H]; · iexact H
  ipureintro
  rw [block_read wm hz2]; exact hf

theorem of_wm (wm : Memref sig .tc .vmem S4096x256 .bf16) (c : Dev nD) (w : Vec F S4096x256 .bf16) :
    (WmSt wm c w : sProp 𝕄) ⊢ owns (c : Thread nD τ) wm fullShare w := by
  unfold owns WmSt
  iintro ⟨%f, H, %hf⟩
  iexists f
  isplitr [H]
  · ipureintro
    rw [block_read wm hz2] at hf; exact hf
  iexact H

theorem om_of (om : Memref sig .tc .vmem S4096x256 .f32) (c : Dev nD) (v : S4096x256.Idx → F .f32) :
    (owns (c : Thread nD τ) om fullShare v : sProp 𝕄) ⊢ slot (om.view.loc (c : Thread nD τ)) om.view.set := by
  unfold owns slot
  iintro ⟨%f, -, H⟩
  iexists f
  iexact H

theorem of_om (om : Memref sig .tc .vmem S4096x256 .f32) (c : Dev nD) (v : S4096x256.Idx → F .f32) :
    (OutIs om c v : sProp 𝕄) ⊢ owns (c : Thread nD τ) om fullShare v := by
  unfold owns OutIs
  iintro ⟨%f, H, %hf⟩
  iexists f
  isplitr [H]
  · ipureintro; exact hf
  iexact H

/-! ## The scratch buffers -/

/-- A whole buffer at some contents is its slot. -/
theorem whole_slot (c : Dev nD) (b : Ref sig .tc) :
    (iprop(∃ f : Buf (Elt F) ((c : Thread nD τ).loc b), ((c : Thread nD τ).loc b) ↦{fullShare} f) : sProp 𝕄)
      = slot ((Memref.whole b).view.loc (c : Thread nD τ)) (Memref.whole b).view.set := by
  unfold slot
  rw [show (Memref.whole b).view.set = Finset.univ from View.set_whole _]

/-- The scratch buffers, as the kernel uses them. -/
def Scratch (c : Dev nD) : sProp 𝕄 :=
  iprop(slot ((Memref.whole cc0_scratch0).view.loc (c : Thread nD τ)) (Memref.whole cc0_scratch0).view.set
    ∗ cmAny c true ∗ cmAny c false ∗ ownAny c
    ∗ slot ((Memref.whole cc0_scratch12).view.loc (c : Thread nD τ)) (Memref.whole cc0_scratch12).view.set)

theorem scratch_eq (c : Dev nD) : (Pipeline.scopedRest spec0 c : sProp 𝕄) = Scratch c := by
  rw [scopedRest0_eq, whole_slot, whole_slot, whole_slot, whole_slot, whole_slot]
  rfl

end Cert.KernelIdeal.Own

end
-- ==== Proof.Region.lean ====
/-
The kernel's region: what its windows hold, what it owes, and its body run from the launch's state.
-/
module

public import proofs.«01_k».proof.Proof.Start
public import proofs.«01_k».proof.Proof.Stage
public import Idealize.ShloMosaic.Lib.Pipeline.RegionTalk

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Idealize.ShloMosaic.SiteBlocks (L lv)
open Gen

set_option Elab.async false

variable {F : FTy → Type} [FloatOps F]

local notation "𝕄" => MT nD τ sig ℕ (Elt F) ℕ UU ℕ

variable (m : (ℓ : Loc nD τ sig) → Buf (Elt F) ℓ)

/-! ## The values -/

/-- The device's block of the input. -/
def xV (c : Dev nD) : Vec F S128x4096 .bf16 := V1 m c main_arg0
/-- The device's weights. -/
def wV (c : Dev nD) : Vec F S4096x256 .bf16 := V1 m c main_arg1
/-- The weights as the products read them. -/
def wtV (c : Dev nD) : Vec F S4096x256 .bf16 := k0_pay3 (wV m c)
/-- The halves of the devices' blocks, as they go around. -/
def X (c : Dev nD) (u : Fin 2) : S64x4096.Idx → Elt F .bf16 := match u with
  | 0 => k0_pay5 (xV m c)
  | 1 => k0_pay8 (k0_pay4 (xV m c))
/-- The device's maximum. -/
def mxV (c : Dev nD) : F .f32 := Ml (X m) (wtV m c) (seqAll c)
/-- The device's result. -/
def resV (c : Dev nD) : S4096x256.Idx → F .f32 := outV (wtV m c) (X m) (mxV m) c

/-! ## The region's data -/

/-- What the region begins with. -/
def Φ₀ (c : Dev nD) : sProp 𝕄 := iprop(Pipeline.scopedRest spec0 c ∗ (∃ r, prngReg c r) ∗ Xk (X m) (mxV m) c)
/-- What it ends with. -/
def Φ₁ (c : Dev nD) : sProp 𝕄 := iprop(Pipeline.scopedRest spec0 c ∗ (∃ r, prngReg c r) ∗ Pipeline.ownSems0 osem c ∗ semVal (barCell c) 0)

def dat (c : Dev nD) : Pipeline.Dat τ (Elt F) ℕ ℕ UU ℕ cfg0 c where
  A w := V1 m c (Pipeline.arrRef spec0 w)
  after w _ := match w with
    | 0 => rowV (F := F) c
    | 1 => xV m c
    | 2 => wV m c
    | 3 => resV m c
    | ⟨_ + 4, h⟩ => absurd h (Nat.not_lt.2 (Nat.le_add_left _ _))
  Φ t := if t.val = 0 then Φ₀ m c else Φ₁ c
  q _ := fullShare
  owed t := if t.val = 0 then O₀ c else 0

def pdats : (p : Fin 1) → (c : Dev nD) → Pipeline.Dat τ (Elt F) ℕ ℕ UU ℕ (cfgs p) c := fun _ => dat m

theorem owed_first (c : Dev nD) : (dat m c).owed t0_0.castSucc = O₀ c := by
  show (if t0_0.castSucc.val = 0 then O₀ c else 0) = _
  exact if_pos rfl
theorem owed_zero (c : Dev nD) : (dat m c).owed 0 = O₀ c := by
  show (if (0 : Fin (cfg0.N + 1)).val = 0 then O₀ c else 0) = _
  exact if_pos rfl
theorem owed_last (c : Dev nD) : (dat m c).owed (Fin.last _) = 0 := by
  show (if (Fin.last cfg0.N).val = 0 then O₀ c else 0) = _
  exact if_neg (by decide)
theorem owed_succ (c : Dev nD) : (dat m c).owed t0_0.succ = 0 := by
  show (if t0_0.succ.val = 0 then O₀ c else 0) = _
  exact if_neg (by decide)

theorem owes_elim (c : Dev nD) : ((dat m c).owesAt 0 t0_0.castSucc : sProp 𝕄) ⊢ Owes c evAll := by
  unfold Pipeline.Dat.owesAt Pipeline.owesWithin Owes
  rw [owed_first]
  iintro ⟨%W, -, HO⟩
  iexists W
  iexact HO

theorem owes_intro (c : Dev nD) : (Owes c [] : sProp 𝕄) ⊢ (dat m c).owesAt 0 t0_0.succ := by
  unfold Pipeline.Dat.owesAt Pipeline.owesWithin Pipeline.Dat.bound Owes
  rw [owed_succ]
  iintro ⟨%W, HO⟩
  iexists W
  isplitr
  · ipureintro
    exact fun _ _ => Or.inl trivial
  iexact HO

/-! ## The body -/

/-- The body, from what the region begins with to what it ends with. -/
theorem body_run (c : Dev nD) (tb : Memref sig .tc .smem S39 .i32) (xm : Memref sig .tc .vmem S128x4096 .bf16)
    (wm : Memref sig .tc .vmem S4096x256 .bf16) (om : Memref sig .tc .vmem S4096x256 .f32) (d : S4096x256.Idx → F .f32) :
    iprop(Φ₀ m c ∗ Owes c evAll ∗ owns (c : Thread nD τ) tb fullShare (rowV c) ∗ owns (c : Thread nD τ) xm fullShare (xV m c)
        ∗ owns (c : Thread nD τ) wm fullShare (wV m c) ∗ owns (c : Thread nD τ) om fullShare d)
      ⊢ WP c (body tb xm wm om) fun _ => iprop(Φ₁ c ∗ Owes c [] ∗ owns (c : Thread nD τ) tb fullShare (rowV c) ∗ owns (c : Thread nD τ) xm fullShare (xV m c)
        ∗ owns (c : Thread nD τ) wm fullShare (wV m c) ∗ owns (c : Thread nD τ) om fullShare (resV m c)) := by
  unfold Φ₀ Φ₁ Xk
  rw [scratch_eq]
  unfold Scratch Begin
  iintro ⟨⟨⟨Hs0, Hc1, Hc0, How, Hs12⟩, Hp, %κ, %ιs, #HI, ⟨Hrd, #Hmr⟩, HS, HT, HH, HB, Hm, HD⟩, HO, Htb, Hxm, Hwm, Hom⟩
  iapply (body_spec (X m) (mxV m) κ ιs tb om (wtV m c) c xm wm (xV m c) (wV m c) rfl rfl rfl rfl _) $$ [Hs0 Hc1 Hc0 How Hs12 Hrd HS HT HH HB Hm HD HO Htb Hxm Hwm Hom]
  · isplitr; · iexact HI
    unfold BodyPre
    isplitl [Hc1 Hc0]
    · isplitl [Hc1]; · iexact Hc1
      iexact Hc0
    isplitl [Hs12 Hrd]
    · isplitl [Hs12]; · iexact Hs12
      isplitl [Hrd]; · iexact Hrd
      iexact Hmr
    isplitl [HS]; · iexact HS
    isplitl [HT]; · iexact HT
    isplitl [HH]; · iexact HH
    isplitl [HB]; · iexact HB
    isplitl [Hm How]
    · isplitl [Hm]; · iexact Hm
      iexact How
    isplitl [HD]; · iexact HD
    isplitl [HO]; · iexact HO
    isplitl [Htb]; · iapply (tab_of tb c); iexact Htb
    isplitl [Hs0]; · iexact Hs0
    isplitl [Hom]; · iapply (om_of om c d); iexact Hom
    isplitl [Hxm]; · iapply (xm_of xm c _); iexact Hxm
    iapply (wm_of wm c _); iexact Hwm
  unfold RingPost
  iintro ⟨⟨HF, ⟨How, Htbl, Hm, Hms⟩, HO, Htb, Hw, Hom⟩, Hxm, Hwm, Hb⟩
  imod (close_all (X m) (mxV m) κ ιs c) $$ [HF Hm Hms Hb] with ⟨⟨Hc1, Hc0⟩, Hsem, Hbar⟩
  · isplitr; · iexact HI
    isplitl [HF]; · iexact HF
    isplitl [Hm]; · iexact Hm
    isplitl [Hms]; · iexact Hms
    iexact Hb
  imodintro
  isplitl [Hc1 Hc0 Hsem Hbar How Htbl Hw Hp]
  · isplitl [Hc1 Hc0 How Htbl Hw]
    · isplitl [Hw]
      · unfold WtSt slot
        icases Hw with ⟨%f, Hw, -⟩
        iexists f
        iexact Hw
      isplitl [Hc1]; · iexact Hc1
      isplitl [Hc0]; · iexact Hc0
      isplitl [How]; · iexact How
      unfold tblPts slot
      iexists _
      iexact Htbl
    isplitl [Hp]; · iexact Hp
    isplitl [Hsem]; · rw [ownSems_eq]; iexact Hsem
    iexact Hbar
  isplitl [HO]; · iexact HO
  isplitl [Htb]; · iapply (of_tab tb c); iexact Htb
  isplitl [Hxm]; · iapply (of_xm xm c _); iexact Hxm
  isplitl [Hwm]; · iapply (of_wm wm c _); iexact Hwm
  unfold resV
  iapply (of_om om c _); iexact Hom

end Cert.KernelIdeal.Own

end
-- ==== Proof.Host.lean ====
/-
What the host hands the kernel: the device's row of the table.
-/
module

public import proofs.«01_k».proof.Proof.Stage
public import Idealize.ShloMosaic.Lib.StableHlo.Run
public import Idealize.ShloMosaic.Lib.DynamicIndex

@[expose] public section

noncomputable section

namespace Cert.KernelIdeal.Own

open Idealize.ShloMosaic
open Idealize.ShloMosaic.TcCoe
open Idealize.SL Idealize.SL.Sem
open Gen

variable {F : FTy → Type} [FloatOps F]
variable (m : (ℓ : Loc nD τ sig) → Buf (Elt F) ℓ)

/-- A row sliced out of a table, at a place. -/
theorem slice_apply {α : Type} {a b : ℕ} (g : ℕ → α) (r : ℕ) (hs : Shape.Slices ⟨2, ![a, b]⟩ ![r, 0] ⟨2, ![1, b]⟩)
    (h' : Shape.ShapeCasts ⟨2, ![1, b]⟩ ⟨1, ![b]⟩) (i : (⟨1, ![b]⟩ : Shape).Idx) :
    shapeCast ⟨1, ![b]⟩ (extractStridedSlice ⟨2, ![1, b]⟩ ![r, 0] (fun i => g ((⟨2, ![a, b]⟩ : Shape).rowMajor i).val) hs) h' i = g (r * b + (i 0).val) := by
  have hj : ∀ j : (⟨2, ![1, b]⟩ : Shape).Idx, ((⟨2, ![1, b]⟩ : Shape).rowMajor j).val = ((⟨1, ![b]⟩ : Shape).rowMajor i).val
      → (j 0).val = 0 ∧ (j 1).val = (i 0).val := by
    intro j hj
    have e1 := Shape.rowMajor_val_two j
    have e2 := Shape.rowMajor_val_one i
    have h0 : (j 0).val < 1 := (j 0).isLt
    have h1 : (j 0).val = 0 := by omega
    refine ⟨h1, ?_⟩
    rw [h1, Nat.zero_mul, Nat.zero_add] at e1
    exact e1.symm.trans (hj.trans e2)
  obtain ⟨e0, e1⟩ := hj _ (Shape.rowMajor_reshapeEquiv h' i)
  refine congrArg g ?_
  refine (Shape.rowMajor_val_two _).trans ?_
  show (r + _) * b + (0 + _) = _
  rw [Nat.zero_add]
  exact congrArg₂ (fun x y => (r + x) * b + y) e0 e1

/-- The slice of a table that starts at the device's row, as a row. -/
theorem slice_row {α : Type} (g : ℕ → α) (c : Dev nD) (st : Fin S32x39.rank → Int) (h0 : st 0 = (c.val : Int)) (h1 : st 1 = 0)
    (h : S32x39.Slices (fun _ => 0) S1x39) (h' : S1x39.ShapeCasts S39) :
    shapeCast S39 (Host.dynamicSlice S1x39 (fun i => g (S32x39.rowMajor i).val) st h) h' = fun i => g (c.val * 39 + (i 0).val) := by
  have hs : Shape.Slices S32x39 ![c.val, 0] S1x39 := by
    refine ⟨rfl, fun a => ?_⟩
    fin_cases a
    · show c.val + 1 ≤ 32
      exact c.isLt
    · show 0 + 39 ≤ 39
      exact le_rfl
  have hst : ∀ a, st a = ((![c.val, 0] a : ℕ) : Int) := by
    intro a
    fin_cases a
    · exact h0
    · exact h1
  rw [Host.dynamicSlice_eq_extractStridedSlice S1x39 _ st ![c.val, 0] h hs hst]
  exact funext fun i => slice_apply (a := 32) (b := 39) g c.val hs h' i

/-- The host's index of the device's row is the device's number. -/
theorem row_index : ∀ c : Dev nD, (let w := (Host.remui (Host.divui (constantI S_ 32 c.word) (constantI S_ 32 1#32)) (constantI S_ 32 32#32) : IVec S_ 32)
    BitVec.toInt (select (cmpi .slt w (constantI S_ 32 0#32)) (addi w (constantI S_ 32 32#32)) w (Shape.Idx.first h_S_)) = (c.val : Int)) := by
  decide +kernel

/-- The host's buffers before it slices the table. -/
def V20 (c : Dev nD) : Valuation τ sig (Elt F) := StableHlo.after ((hostOps0 (F := F) c).take 20) (V0 m c)

theorem V20_table (c : Dev nD) : (V20 m c (Proc.devRef .tc main_c) : S32x39.Idx → Elt F .i32) = fun i => lit0t (S32x39.rowMajor i).val := by
  unfold V20 hostOps0
  simp only [List.take_succ_cons, List.take_zero]
  after_results
  rfl

theorem V20_row (c : Dev nD) : BitVec.toInt ((V20 m c (Proc.devRef .tc main_v7) : S_.Idx → Elt F .i32) (Shape.Idx.first h_S_)) = (c.val : Int) := by
  unfold V20 hostOps0
  simp only [List.take_succ_cons, List.take_zero]
  rw [StableHlo.after_cons]
  generalize (StableHlo.nullary main_c _ _).result (V0 m c) = V
  after_results
  exact row_index c

theorem V20_col (c : Dev nD) : BitVec.toInt ((V20 m c (Proc.devRef .tc main_v10) : S_.Idx → Elt F .i32) (Shape.Idx.first h_S_)) = 0 := by
  unfold V20 hostOps0
  simp only [List.take_succ_cons, List.take_zero]
  rw [StableHlo.after_cons]
  generalize (StableHlo.nullary main_c _ _).result (V0 m c) = V
  after_results
  rfl

theorem row_host (c : Dev nD) : (V1 m c main_v12 : S39.Idx → Elt F .i32) = rowV c := by
  show (StableHlo.after ((hostOps0 (F := F) c).drop 20) (V20 m c) (Proc.devRef .tc main_v12) : S39.Idx → Elt F .i32) = _
  have ht := V20_table m c
  have hr := V20_row m c
  have hl := V20_col m c
  generalize V20 m c = V at ht hr hl ⊢
  unfold hostOps0
  simp only [List.drop_succ_cons, List.drop_zero]
  after_results
  rw [ht]
  exact slice_row lit0t c _ hr hl _ _

end Cert.KernelIdeal.Own

end
-- ==== Proof.ProgEq.lean ====
/-
The printed body is the program written with its loops.
-/
module

public import proofs.«01_k».proof.Proof.Prog
public import Idealize.ShloMosaic.Lib.Pipeline.Regions

@[expose] public section

noncomputable section

namespace Cert.KernelIdeal.Own

open Idealize.ShloMosaic Idealize.SL Idealize.SL.Sem
open Gen

variable {F : FTy → Type} [FloatOps F]

/-- The body the pipeline calls is `body` on the staging buffers. -/
theorem body_eq (t : Fin cfg0.N) :
    bodyAt0 (F := F) t = body (st0_0 t) (st0_1 t) (st0_2 t) (st0_3 t) := by
  chain_rfl

end Cert.KernelIdeal.Own

end
-- ==== Proof.Record.lean ====
/-
The region's record: the windows' blocks, the body's obligation, and the region between what the launch
deals and what the program ends with.
-/
module

public import proofs.«01_k».proof.Proof.Region
public import proofs.«01_k».proof.Proof.Host
public import proofs.«01_k».proof.Proof.ProgEq

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Idealize.ShloMosaic.SiteBlocks (L lv)
open Gen

set_option Elab.async false

variable {F : FTy → Type} [FloatOps F]

local notation "𝕄" => MT nD τ sig ℕ (Elt F) ℕ UU ℕ

variable (m : (ℓ : Loc nD τ sig) → Buf (Elt F) ℓ)

/-! ## The windows' blocks -/

theorem blk_0 (f : main_v12.ty.Contents (Elt F)) : ((cfg0.win 0).blk t0_0).view.read (Elt F) f = f :=
  Memref.read_access_unit_zero (Elt F) main_v12 (funext fun a => by fin_cases a <;> decide) _ f
theorem blk_1 (f : main_arg0.ty.Contents (Elt F)) : ((cfg0.win 1).blk t0_0).view.read (Elt F) f = f :=
  Memref.read_access_unit_zero (Elt F) main_arg0 (funext fun a => by fin_cases a <;> decide) _ f
theorem blk_2 (f : main_arg1.ty.Contents (Elt F)) : ((cfg0.win 2).blk t0_0).view.read (Elt F) f = f :=
  Memref.read_access_unit_zero (Elt F) main_arg1 (funext fun a => by fin_cases a <;> decide) _ f
theorem blk_3 (f : main_v13.ty.Contents (Elt F)) : ((cfg0.win 3).blk t0_0).view.read (Elt F) f = f :=
  Memref.read_access_unit_zero (Elt F) main_v13 (funext fun a => by fin_cases a <;> decide) _ f

/-- What the first window's staging buffer holds as the body starts: the device's row. -/
theorem before_0 (c : Dev nD) (d) : (dat m c).before 0 t0_0 d = rowV (F := F) c := by
  unfold Pipeline.Dat.before
  rw [if_pos (fetch0_0 t0_0)]
  exact (blk_0 _).trans (row_host m c)
/-- The second's: its block of the input. -/
theorem before_1 (c : Dev nD) (d) : (dat m c).before 1 t0_0 d = xV m c := by
  unfold Pipeline.Dat.before
  rw [if_pos (fetch0_1 t0_0)]
  exact blk_1 (F := F) _
/-- The third's: its weights. -/
theorem before_2 (c : Dev nD) (d) : (dat m c).before 2 t0_0 d = wV m c := by
  unfold Pipeline.Dat.before
  rw [if_pos (fetch0_2 t0_0)]
  exact blk_2 (F := F) _

/-! ## The body's obligation -/

/-- The four staging buffers, the last at some contents. -/
def Four (c : Dev nD) (tb : Memref sig .tc .smem S39 .i32) (xm : Memref sig .tc .vmem S128x4096 .bf16)
    (wm : Memref sig .tc .vmem S4096x256 .bf16) (om : Memref sig .tc .vmem S4096x256 .f32) (d : S4096x256.Idx → F .f32) : sProp 𝕄 :=
  iprop(owns (c : Thread nD τ) tb fullShare (rowV c) ∗ owns (c : Thread nD τ) xm fullShare (xV m c)
    ∗ owns (c : Thread nD τ) wm fullShare (wV m c) ∗ owns (c : Thread nD τ) om fullShare d)

/-- The body's run, on any four staging buffers. -/
theorem body_four (c : Dev nD) (tb : Memref sig .tc .smem S39 .i32) (xm : Memref sig .tc .vmem S128x4096 .bf16)
    (wm : Memref sig .tc .vmem S4096x256 .bf16) (om : Memref sig .tc .vmem S4096x256 .f32) (d : S4096x256.Idx → F .f32) :
    (iprop(Φ₀ m c ∗ Owes c evAll ∗ Four m c tb xm wm om d) : sProp 𝕄)
      ⊢ WP c (body tb xm wm om) fun _ => iprop(Φ₁ c ∗ Owes c [] ∗ Four m c tb xm wm om (resV m c)) := by
  unfold Four
  exact body_run m c tb xm wm om d

/-- The body's end, as the region's obligation names it. -/
theorem body_end (c : Dev nD) {p p' : Pr F} (he : p' = p) (R : sProp 𝕄) :
    (WP c p fun _ => iprop(Φ₁ c ∗ Owes c [] ∗ R) : sProp 𝕄) ⊢ WP c p' fun _ => iprop(Φ₁ c ∗ (dat m c).owesAt 0 t0_0.succ ∗ R) := by
  subst he
  exact wp_mono _ _ _ (fun _ => sep_mono .rfl (sep_mono (owes_intro m c) .rfl))

/-- What the pipeline calls is the body. -/
theorem call_eq : (defs₀ (F := F)) .tc cfg0.body (cfg0.bodyArgs t0_0 (cfg0.slots t0_0)) = bodyAt0 t0_0 := rfl

theorem body_ob (c : Dev nD) : Pipeline.BodyObligation (dat m c) defs₀ 𝒱₀ 0 Set.univ := fun t => by
  obtain rfl := fin_N0 t
  rw [bigSep_W0, bigSep_W0, call_eq]
  rw [show (dat m c).Φ t0_0.castSucc = Φ₀ m c from rfl, show (dat m c).Φ t0_0.succ = Φ₁ c from rfl]
  have hb : ∀ d, (iprop(Φ₀ m c ∗ Owes c evAll ∗ Four m c (st0_0 t0_0) (st0_1 t0_0) (st0_2 t0_0) (st0_3 t0_0) d) : sProp 𝕄)
      ⊢ WP c (bodyAt0 t0_0) fun _ => iprop(Φ₁ c ∗ (dat m c).owesAt 0 t0_0.succ ∗ Four m c (st0_0 t0_0) (st0_1 t0_0) (st0_2 t0_0) (st0_3 t0_0) (resV m c)) :=
    fun d => (body_four m c (st0_0 t0_0) (st0_1 t0_0) (st0_2 t0_0) (st0_3 t0_0) d).trans (body_end m c (body_eq t0_0) _)
  revert hb
  generalize bodyAt0 (F := F) t0_0 = p
  intro hb
  refine BIBase.Entails.trans (Q := WP c p fun _ => iprop(Φ₁ c ∗ (dat m c).owesAt 0 t0_0.succ ∗ Four m c (st0_0 t0_0) (st0_1 t0_0) (st0_2 t0_0) (st0_3 t0_0) (resV m c))) ?_
    (wp_mono _ _ _ (p := p) (fun _ => ?_))
  · iintro ⟨HΦ, HO, ⟨%d0, H0⟩, ⟨%d1, H1⟩, ⟨%d2, H2⟩, ⟨%d3, H3⟩⟩
    ihave HO' := (owes_elim m c) $$ HO
    iapply (hb d3)
    unfold Four
    isplitl [HΦ]; · iexact HΦ
    isplitl [HO']; · iexact HO'
    isplitl [H0]; · rw [before_0]; iexact H0
    isplitl [H1]; · rw [before_1]; iexact H1
    isplitl [H2]; · rw [before_2]; iexact H2
    iexact H3
  · unfold Four
    dsimp only
    iintro ⟨HΦ, HO, H0, H1, H2, H3⟩
    isplitl [HΦ]; · iexact HΦ
    isplitl [HO]; · iexact HO
    isplitl [H0]; · iexact H0
    isplitl [H1]; · iexact H1
    isplitl [H2]; · iexact H2
    iexact H3

/-! ## The record -/

/-- What the kernel leaves in its result's buffer. -/
def outs : Outs (F := F) := fun _ r c => if h : r = main_v13 then h ▸ (resV m c : Buf (Elt F) ((c : Thread nD τ).loc main_v13)) else V1 m c r

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem osem_facts : Pipeline.OwnSemFacts spec0 osem := by decide

/-- Nothing owed stands at the index the staging copies use. -/
theorem owed_above (c : Dev nD) (t : Fin (cfg0.N + 1)) (g : GSem nD τ sig) (i : ℕ) (h : 0 < (dat m c).owed t g i) : i ∈ L 64 g ∧ 0 < lv g i := by
  have hA : Above 0 evAll := ((above_ring (by decide)).cons ⟨by decide, by decide⟩).cons ⟨by decide, by decide⟩
  change 0 < (if t.val = 0 then O₀ c else 0) g i at h
  by_cases ht : t.val = 0
  · rw [if_pos ht] at h
    obtain ⟨x, hx, rfl, rfl⟩ := TalkSites.tallyL_pos h
    obtain ⟨e, he, rfl⟩ := List.mem_map.mp hx
    exact ⟨SiteBlocks.mem_L' rfl (hA e he).2, (hA e he).1⟩
  · rw [if_neg ht] at h
    exact absurd h (lt_irrefl _)

/-- The buffers the region's arrays leave over. -/
def Sr : Finset (DevRef τ sig) := Pipeline.ucRefs τ sig \ Pipeline.arrRefs spec0

theorem hshare (c : Dev nD) (w : Fin cfg0.W) : (dat m c).share w = fullShare := by
  unfold Pipeline.Dat.share
  exact ite_self _

theorem res_out (c : Dev nD) : V2 m (outs m) c main_v13 = (resV m c : main_v13.ty.Contents (Elt F)) := by
  refine (Function.update_self _ _ _).trans ?_
  exact dif_pos rfl

theorem rest_out (c : Dev nD) (b : DevRef τ sig) (hb : b ∈ Sr) : V2 m (outs m) c b = V1 m c b := by
  refine Function.update_of_ne (fun e => ?_) _ _
  subst e
  exact (Finset.mem_sdiff.mp hb).2 (by decide)

/-- No buffer is addressed by the body beside its windows. -/
theorem held_none (c : Dev nD) (V : Valuation τ sig (Elt F)) : (StableHlo.held (c : Thread nD τ) ∅ V : sProp 𝕄) = iprop(emp) := by
  unfold StableHlo.held
  exact BI.bigSep_empty

theorem enter (c : Dev nD) : (iprop(Pipeline.scopedRest spec0 c ∗ (∃ r, prngReg c r) ∗ StableHlo.held (c : Thread nD τ) ∅ (V1 m c) ∗ Xk (X m) (mxV m) c) : sProp 𝕄) ⊢ Φ₀ m c := by
  unfold Φ₀
  iintro ⟨Hs, Hp, -, HX⟩
  isplitl [Hs]; · iexact Hs
  isplitl [Hp]; · iexact Hp
  iexact HX

theorem leave (c : Dev nD) : (Φ₁ c : sProp 𝕄) ⊢ iprop(Pipeline.scopedRest spec0 c ∗ (∃ r, prngReg c r) ∗ StableHlo.held (c : Thread nD τ) ∅ (V2 m (outs m) c)
      ∗ Pipeline.ownSems0 osem c ∗ semVal (barCell c) 0) := by
  unfold Φ₁
  rw [held_none]
  iintro ⟨Hs, Hp, Ho, Hb⟩
  isplitl [Hs]; · iexact Hs
  isplitl [Hp]; · iexact Hp
  isplitr; · iempintro
  isplitl [Ho]; · iexact Ho
  iexact Hb

theorem arr_in (c : Dev nD) (w : Fin cfg0.W) : (dat m c).arrAt w 0 = V1 m c (Pipeline.arrRef spec0 w) := rfl

theorem arr_out (c : Dev nD) (w : Fin cfg0.W) : (dat m c).arrAt w cfg0.N = V2 m (outs m) c (Pipeline.arrRef spec0 w) := by
  have hi : ∀ w : Fin cfg0.W, (cfg0.win w).isOut = false → Pipeline.arrRef spec0 w ∉ ([main_v13] : List (Ref sig .tc)) →
      (dat m c).arrAt w cfg0.N = V2 m (outs m) c (Pipeline.arrRef spec0 w) := fun w ho hr =>
    ((dat m c).arrAt_in w ho _).trans (V2_of m (outs m) c _ hr).symm
  match w with
  | 0 => exact hi 0 rfl (by decide)
  | 1 => exact hi 1 rfl (by decide)
  | 2 => exact hi 2 rfl (by decide)
  | 3 =>
    rw [show cfg0.N = t0_0.val + 1 from rfl, (dat m c).arrAt_succ 3 t0_0, if_pos (flush0_3 t0_0)]
    refine (blk_3 (F := F) _).symm.trans ((View.read_write_univ _ _).trans ?_)
    exact (res_out m c).symm

set_option backward.isDefEq.respectTransparency.types false in
def reg0 : Pipeline.RegionSeg (pcfgs (F := F)) adm (pdats m) 0 defs₀ 𝒱₀ (L 64) lv 0 :=
  Pipeline.RegionSeg.ofTalk (pcfgs (F := F)) adm (pdats m) 0 defs₀ 𝒱₀ (L 64) lv 0 osem osem_facts
    ∅ Sr (Finset.empty_subset _) kitP rfl (fun c => (body_ob m c).loose)
    (fun _ => 0) O₀ (fun c => (owed_zero m c).trans (zero_add _).symm) (owed_last m) (fun _ => rfl) (hshare m)
    (V1 m) (V2 m (outs m)) (fun c b hb => rest_out m c b (Finset.mem_sdiff.mp hb).1)
    (Kept (X m) (mxV m)) (fun c => semVal (barCell c) 0) (Xk (X m) (mxV m)) (fun c => semVal (barCell c) 0)
    (hopen (X m) (mxV m)) (enter m) (leave m)
    (fun c => by iintro H; imodintro; iexact H)
    (fun _ => 0)
    ⟨fun c w s => SiteBlocks.mem_L' rfl (by decide), fun _ _ _ => le_rfl, fun c t g i h => owed_above m c t g i h⟩
    (fun _ => iprop(emp))
    (arr_in m) (arr_out m)

end Cert.KernelIdeal.Own

end
-- ==== Proof.Run.lean ====
/-
The run of @main: every weakly fair execution ends, with the arguments as they were, the result's buffer
at the kernel's value, and every counter at zero.
-/
module

public import proofs.«01_k».proof.Proof.Record
public import proofs.«01_k».proof.Defs
public import Idealize.ShloMosaic.Lib.Quiescent

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Release (USlots slot slotInv readerAt released writeTok)
open Idealize.ShloMosaic.TalkSites (Pay tallyL)
open Idealize.ShloMosaic.SiteBlocks (L lv)
open Gen

set_option Elab.async false

variable {F : FTy → Type} [FloatOps F]

local notation "𝕄" => MT nD τ sig ℕ (Elt F) ℕ UU ℕ

variable (m : (ℓ : Loc nD τ sig) → Buf (Elt F) ℓ) (ρ : Dev nD → PrngReg)

/-- What the host's operations keep beside the buffers. -/
def E (i : Fin 2) (c : Dev nD) : sProp 𝕄 := match i with
  | 0 => E0 (X m) (mxV m) c
  | 1 => iprop((∃ r, prngReg c r) ∗ semVal (barCell c) 0 ∗ ∃ W, owes (c : Thread nD τ) (0 : CellTallies nD τ sig ℕ) W)

/-- The region's arrays and the buffers left over are all the unscoped buffers. -/
theorem held_arrays (c : Dev nD) (V : Valuation τ sig (Elt F)) :
    (StableHlo.held (c : Thread nD τ) (Pipeline.ucRefs τ sig) V : sProp 𝕄)
      = iprop(StableHlo.held (c : Thread nD τ) (Pipeline.arrRefs spec0) V ∗ StableHlo.held (c : Thread nD τ) Sr V) :=
  StableHlo.held_sub_split (c : Thread nD τ) (Pipeline.arrRefs_sub_ucRefs spec0 winFacts0.arr_unscoped) V

set_option backward.isDefEq.respectTransparency.types false in
theorem hpre (c : Dev nD) : (iprop(StableHlo.held (c : Thread nD τ) (Pipeline.ucRefs τ sig) (V1 m c) ∗ E m 0 c) : sProp 𝕄) ⊢ (reg0 m).pre c := by
  show (_ : sProp 𝕄) ⊢ iprop(StableHlo.held (c : Thread nD τ) (Pipeline.arrRefs spec0) (V1 m c) ∗ (∃ r, prngReg c r)
    ∗ (StableHlo.held (c : Thread nD τ) Sr (V1 m c) ∗ emp) ∗ Kept (X m) (mxV m) c ∗ ∃ Wd, owes (c : Thread nD τ) (0 + O₀ c) Wd)
  rw [held_arrays, zero_add]
  unfold E E0
  iintro ⟨⟨Ha, Hr⟩, Hp, HK, HO⟩
  isplitl [Ha]; · iexact Ha
  isplitl [Hp]; · iexact Hp
  isplitl [Hr]
  · isplitl [Hr]; · iexact Hr
    iempintro
  isplitl [HK]; · iexact HK
  iexact HO

set_option backward.isDefEq.respectTransparency.types false in
theorem hpost (c : Dev nD) : (reg0 m).post c ⊢ (iprop(StableHlo.held (c : Thread nD τ) (Pipeline.ucRefs τ sig) (V2 m (outs m) c) ∗ E m 1 c) : sProp 𝕄) := by
  show iprop(StableHlo.held (c : Thread nD τ) (Pipeline.arrRefs spec0) (V2 m (outs m) c) ∗ (∃ r, prngReg c r)
    ∗ (StableHlo.held (c : Thread nD τ) Sr (V2 m (outs m) c) ∗ emp) ∗ semVal (barCell c) 0 ∗ ∃ Wd, owes (c : Thread nD τ) 0 Wd) ⊢ (_ : sProp 𝕄)
  rw [held_arrays]
  unfold E
  iintro ⟨Ha, Hp, ⟨Hr, -⟩, Hb, HO⟩
  isplitl [Ha Hr]
  · isplitl [Ha]; · iexact Ha
    iexact Hr
  isplitl [Hp]; · iexact Hp
  isplitl [Hb]; · iexact Hb
  iexact HO

theorem unscoped_eq : ∀ sm : SemLoc sig, sm.isScoped .tc = false → ∀ c : Dev nD, ((c : Thread nD τ), sm) = barCell c := by
  intro sm hsm c
  have h : sm ∈ Finset.univ.filter fun sm : SemLoc sig => ¬ sm.isScoped .tc = true :=
    Finset.mem_filter.mpr ⟨Finset.mem_univ _, by rw [hsm]; decide⟩
  rw [show (Finset.univ.filter fun sm : SemLoc sig => ¬ sm.isScoped .tc = true) = {smOf ciBar} from by decide +kernel] at h
  rw [Finset.mem_singleton.mp h]
  rfl

/-- The launch element: the staging copies' share, and the protocol's. -/
theorem split_u₀ : (ownU u₀ : sProp 𝕄)
    ⊢ iprop(BI.own (EP (F := F) (Rounds.initOf (Pipeline.cells cfgs cellOf_inj) (Pipeline.launchToks cfgs cellOf_inj))) ∗ BI.own (embR (launchUC : UC))) :=
  ownU_pair _ _

/-- THE RUN. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v13) = resV m c) ∧ r.2.sem = fun _ => 0) := by
  refine Pipeline.θ_run_regions_kit_dev_sems (pcfgs (F := F)) adm (pdats m) 0 cellOf_inj EP defs₀ 𝒱₀ (L 64) lv m ρ main
    (segs m 𝒱₀ (L 64) lv (E m) 0 (pdats m) (reg0 m))
    (fun c Q => by
      rewrite [main_chain c, Pipeline.Seg.run_eq_chain,
        show (segs m 𝒱₀ (L 64) lv (E m) 0 (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ (SiteBlocks.hL 64) G u₀ ?_
    (T₀ := fun c => iprop(StableHlo.held (c : Thread nD τ) (Pipeline.ucRefs τ sig) (V0 m c) ∗ E m 0 c))
    (Tₙ := fun c => iprop(StableHlo.held (c : Thread nD τ) (Pipeline.ucRefs τ sig) (V2 m (outs m) c) ∗ semVal (barCell c) 0))
    (hch := fun c => ⟨.rfl, hpre m c, (hpost m c).trans ?_⟩)
    (hinit := ?_) (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v13) = resV m c) ∧ s.sem (barCell c) = 0)
    (hfin := fun c s' => ?_) (hQ := fun s h hs => ⟨fun c => (h c).1, sem_eq_zero hs fun c sm hsm => by
        rw [unscoped_eq sm hsm c]; exact (h c).2⟩)
  · -- the library's rounds and the kernel's own
    refine (split_u₀ (F := F)).trans ?_
    rw [G_eq]
    exact fupd_intro
  · unfold E
    iintro ⟨Hh, -, Hb, HO⟩
    isplitr [HO]
    · isplitl [Hh]; · iexact Hh
      iexact Hb
    iexact HO
  · -- the launch: the unscoped buffers are held at what they start with; the rest makes what the segments need
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c.tc : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (first_state (X m) (mxV m) ρ) $$ [Hr Hla] with HE
    · isplitl [Hr]; · iexact Hr
      iexact Hla
    imodintro
    rw [bigSep_sep']
    isplitl [Hh]; · iexact Hh
    iexact HE
  · -- the end: the buffers read off the last contents, the counter at zero
    unfold StableHlo.held
    iintro ⟨⟨Hh, Hb⟩, HSI⟩
    icombine HSI Hb gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V2_main_arg0 m (outs m) c),
        (h (Proc.devRef .tc main_arg1) (Finset.mem_filter.mpr ⟨StableHlo.devRef_mem_tcRefs main_arg1, by decide⟩)).trans (V2_main_arg1 m (outs m) c),
        (h (Proc.devRef .tc main_v13) (Finset.mem_filter.mpr ⟨StableHlo.devRef_mem_tcRefs main_v13, by decide⟩)).trans (res_out m c)⟩, by simpa using hb⟩
    · iexact HSI

end Cert.KernelIdeal.Own

end
-- ==== Proof.Frames.lean ====
/-
The kernel's frames: as printed, and idealized. The two programs have one text, so one run serves both.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Frames

open Idealize.ShloMosaic Idealize.SL.Sem

/-- The idealized kernel runs, leaves its arguments, and ends quiescent. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.Own.run_main (F := Ideal) m ρ)

/-! ## The program as printed is the program idealized -/

section
variable {F : FTy → Type} [FloatOps F]

set_option maxHeartbeats 8000000 in
/-- The two bodies are one. -/
theorem body_same : Cert.Kernel.cc0_body (F := F) = Cert.KernelIdeal.cc0_body (F := F) := rfl

set_option maxHeartbeats 8000000 in
/-- So are the two body tables. -/
theorem bodies_same : Cert.Kernel.defs₀ (F := F) = Cert.KernelIdeal.defs₀ (F := F) := by
  unfold Cert.Kernel.defs₀ Cert.KernelIdeal.defs₀
  congr 1
  funext l a
  match l, a with
  | 0, (t, s) =>
    dsimp only
    rw [body_same]

/-- So are the tables with the pipeline's own entries. -/
theorem defs_same : Cert.Kernel.defs (F := F) = Cert.KernelIdeal.defs (F := F) :=
  congrArg (Pipeline.defs Cert.KernelIdeal.pcfgs) bodies_same

set_option maxHeartbeats 8000000 in
/-- So are the host programs. -/
theorem main_same : Cert.Kernel.main (F := F) = Cert.KernelIdeal.main (F := F) := rfl

/-- The run, of any table and any host program equal to the idealized ones. -/
theorem run_of (D : Defs Cert.KernelIdeal.nD Cert.KernelIdeal.τ Cert.KernelIdeal.sig (Elt F) _)
    (hD : D = Cert.KernelIdeal.defs (F := F)) (M : Dev Cert.KernelIdeal.nD → Prog _ PUnit)
    (hM : M = Cert.KernelIdeal.main (F := F))
    (m : (ℓ : Loc Cert.KernelIdeal.nD Cert.KernelIdeal.τ Cert.KernelIdeal.sig) → Buf (Elt F) ℓ)
    (ρ : Dev Cert.KernelIdeal.nD → PrngReg) :
    θ_run D (onTc (τ := Cert.KernelIdeal.τ) M) ⟨m, fun _ => 0, ρ⟩ (fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1))
      ∧ r.2.sem = fun _ => 0) := by
  subst hD hM
  exact (θ_run Cert.KernelIdeal.defs _ _).mono (fun _ h => ⟨fun c => ⟨(h.1 c).1, (h.1 c).2.1⟩, h.2⟩)
    (Cert.KernelIdeal.Own.run_main (F := F) m ρ)

end

/-- The kernel as printed runs, leaves its arguments, and ends quiescent. -/
theorem frame_kernel : Cert.quiescent_Kernel := fun m ρ _ =>
  run_of (F := Bits) Cert.Kernel.defs defs_same Cert.Kernel.main main_same m ρ

/-- The reference runs, leaves its arguments, and ends quiescent: it has no counter. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Frames

end
-- ==== Proof.Maxima.lean ====
/-
The kernel's result over the extended reals: the whole product's entries, and the maximum of them all.
-/
module

public import proofs.«01_k».proof.Proof.Region
public import Idealize.ShloMosaic.PureOps.Ideal.Laws
public import Idealize.ShloMosaic.PureOps.Reduce
public import Idealize.ShloMosaic.Lib.MatmulPlain
public import Idealize.ShloMosaic.Lib.Layout

@[expose] public section

noncomputable section

namespace Cert.KernelIdeal.Own

open Idealize.ShloMosaic Idealize.ShloMosaic.ValueIdx
open Idealize.ShloMosaic.TcCoe
open Gen

set_option Elab.async false

/-! ## Maxima, by what lies above them -/

/-- −∞'s word. -/
theorem bot_word : Ideal.ofBits .f32 0xFF800000#32 = ⊥ := by simp [Ideal.ofBits, Ideal.ieee]

/-- A fold of maxima is below `b` exactly if its start and its members are. -/
theorem fold_le {ι : Type} (S : Finset ι) (f : ι → EReal) (a b : EReal) :
    (S.fold (FloatOps.maximumf (F := Ideal) (φ := .f32)) a f : EReal) ≤ b ↔ a ≤ b ∧ ∀ i ∈ S, f i ≤ b :=
  Finset.fold_max_le (β := EReal) b

/-- A maximum over all of a vector's entries is below `b` exactly if each entry is. -/
theorem mred_le {s t : Shape} {axes : List (Fin s.rank)} (src : FVec Ideal s .f32) (h : s.Reduces axes t) (hφ : FKind.Formats .f32)
    (hacc : 0xFF800000#32 = FKind.maximumf.neutral .f32 hφ) (j : t.Idx) (hj : ∀ i, h.drop i = j) (b : EReal) :
    (multiReduction .maximumf axes t src 0xFF800000#32 h hφ hacc j : EReal) ≤ b ↔ ∀ i, (src i : EReal) ≤ b := by
  rw [multiReduction_maximumf_eq_fold]
  refine (fold_le _ _ _ b).trans ?_
  constructor
  · exact fun H i => H.2 i (Finset.mem_filter.mpr ⟨Finset.mem_univ _, hj i⟩)
  · refine fun H => ⟨?_, fun i _ => H i⟩
    show Ideal.ofBits .f32 0xFF800000#32 ≤ b
    rw [bot_word]; exact bot_le

/-- The same of a host's maximum. -/
theorem hred_le {s t u : Shape} {axes : List (Fin s.rank)} (src : FVec Ideal s .f32) (h : s.ReducesTo axes t) (hu : 0 < u.numel) (j : t.Idx)
    (hj : ∀ i, h.drop i = j) (b : EReal) :
    (Host.reduce (FloatOps.maximumf (F := Ideal) (φ := .f32)) src (constant (F := Ideal) u .f32 0xFF800000#32) h hu j : EReal) ≤ b ↔ ∀ i, (src i : EReal) ≤ b := by
  rw [Host.reduce_eq_fold]
  refine (fold_le _ _ _ b).trans ?_
  constructor
  · exact fun H i => H.2 i (Finset.mem_filter.mpr ⟨Finset.mem_univ _, hj i⟩)
  · refine fun H => ⟨?_, fun i _ => H i⟩
    show Ideal.ofBits .f32 0xFF800000#32 ≤ b
    rw [bot_word]; exact bot_le

/-- A bound on a reshaped vector's entries is one on the vector's. -/
theorem cast_le {s t : Shape} (v : s.Idx → EReal) (h : s.ShapeCasts t) (b : EReal) : (∀ i, shapeCast t v h i ≤ b) ↔ ∀ j, v j ≤ b :=
  Equiv.forall_congr_left (p := fun i => v (Shape.reshapeEquiv h i) ≤ b) (Shape.reshapeEquiv h) |>.trans (by simp)

theorem one_S1 (i j : S1.Idx) : i = j := by
  funext a
  apply Fin.ext
  have h1 : (i a).val < 1 := lt_of_lt_of_eq (i a).isLt (by match a with | 0 => rfl)
  have h2 : (j a).val < 1 := lt_of_lt_of_eq (j a).isLt (by match a with | 0 => rfl)
  omega

/-- A step of the running maximum. -/
theorem mstep_le (a : EReal) (y : FVec Ideal S64x256 .f32) (b : EReal) :
    (mstep (F := Ideal) a y : EReal) ≤ b ↔ a ≤ b ∧ ∀ i, (y i : EReal) ≤ b := by
  unfold mstep
  show max _ _ ≤ b ↔ _
  rw [max_le_iff]
  refine and_congr_right fun _ => ?_
  refine (mred_le _ _ (.inl rfl) rfl _ (fun i => one_S1 _ _) b).trans ?_
  exact cast_le _ _ b

theorem foldl_le {α : Type} (f : α → FVec Ideal S64x256 .f32) (b : EReal) : ∀ (l : List α) (a : EReal),
    (l.foldl (fun m p => mstep (F := Ideal) m (f p)) a : EReal) ≤ b ↔ a ≤ b ∧ ∀ p ∈ l, ∀ i, (f p i : EReal) ≤ b
  | [], a => ⟨fun h => ⟨h, fun _ hp => absurd hp (by simp)⟩, fun h => h.1⟩
  | p :: l, a => by
    refine (foldl_le f b l (mstep (F := Ideal) a (f p))).trans ?_
    rw [mstep_le]
    constructor
    · rintro ⟨⟨h1, h2⟩, h3⟩
      refine ⟨h1, fun q hq => ?_⟩
      rcases List.mem_cons.mp hq with rfl | hq
      · exact h2
      · exact h3 q hq
    · rintro ⟨h1, h2⟩
      exact ⟨⟨h1, h2 p List.mem_cons_self⟩, fun q hq => h2 q (List.mem_cons_of_mem _ hq)⟩

/-- The maximum of all maxima. -/
theorem pay146_le (a : EReal) (v : Vec Ideal S32x8x128 .f32) (b : EReal) :
    (k0_pay146 (F := Ideal) a v : EReal) ≤ b ↔ a ≤ b ∧ ∀ i, (v i : EReal) ≤ b := by
  unfold k0_pay146
  show max _ _ ≤ b ↔ _
  rw [max_le_iff]
  refine and_congr_right fun _ => ?_
  refine (mred_le _ _ (.inl rfl) rfl _ (fun i => one_S1 _ _) b).trans ?_
  exact cast_le _ _ b

end Cert.KernelIdeal.Own

end
-- ==== Proof.Value.lean ====
/-
The kernel's result over the extended reals, from the whole arrays: a device's columns of the quantised product.
-/
module

public import proofs.«01_k».proof.Proof.Maxima

@[expose] public section

noncomputable section

namespace Cert.KernelIdeal.Own

open Idealize.ShloMosaic Idealize.ShloMosaic.ValueIdx
open Idealize.ShloMosaic.TcCoe
open Gen

set_option Elab.async false

/-! ## The product -/

/-- The whole product with its negative entries replaced with zero. -/
def whole (A : (⟨2, ![4096, 4096]⟩ : Shape).Idx → EReal) (B : (⟨2, ![4096, 8192]⟩ : Shape).Idx → EReal) (i : Fin 4096) (j : Fin 8192) : EReal :=
  max (∑ k : Fin 4096, A (ix2 i k) * B (ix2 k j)) 0

theorem dot_plain : dot_S64x4096_S4096x256_S64x256_1_0_0_1_n_n = DotDims.plain 64 4096 256 := rfl

theorem cast_cast {s t : Shape} (v : s.Idx → EReal) (h : s.ShapeCasts t) (h' : t.ShapeCasts s) : shapeCast s (shapeCast t v h) h' = v := by
  funext j
  show v (Shape.reshapeEquiv h (Shape.reshapeEquiv h' j)) = v j
  rw [Shape.reshapeEquiv_reshapeEquiv, Shape.reshapeEquiv_self]

theorem cast_same {s : Shape} (v : s.Idx → EReal) (h : s.ShapeCasts s) : shapeCast s v h = v := by
  funext j
  show v (Shape.reshapeEquiv h j) = v j
  rw [Shape.reshapeEquiv_self]

/-- A block's product at an entry. -/
theorem yb_at (v : S64x4096.Idx → EReal) (w : S4096x256.Idx → EReal) (r : Fin 64) (c : Fin 256) :
    (yb (F := Ideal) (shapeCast (α := EReal) S1x64x4096 v shapeCasts_S64x4096_S1x64x4096) w (ix2 r c) : EReal)
      = max (∑ k : Fin 4096, v (ix2 r k) * w (ix2 k c)) 0 := by
  unfold yb k0_pay14
  show max (FloatOps.matmul (F := Ideal) dot_S64x4096_S4096x256_S64x256_1_0_0_1_n_n none _ w _ (ix2 r c)) (Ideal.ofBits .f32 0x00000000#32) = _
  rw [dot_plain, Ideal.matmul_plain_apply, Ideal.ofBits_zero_f32, cast_cast]
  congr 1
  show Ideal.ofBits .f32 0x00000000#32 + _ = _
  rw [Ideal.ofBits_zero_f32, zero_add]

/-- The devices' first arguments are the blocks of rows of `A`. -/
def RowsOf (m : (ℓ : Loc nD τ sig) → Buf (Elt Ideal) ℓ) (A : (⟨2, ![4096, 4096]⟩ : Shape).Idx → EReal) : Prop :=
  ∀ c : Dev nD, m ((c.tc : Thread nD τ).loc main_arg0) = Layout.block ⟨2, ![128, 4096]⟩ ⟨2, ![4096, 4096]⟩ 0 32 c A

/-- The devices' second arguments are the blocks of columns of `B`. -/
def ColsOf (m : (ℓ : Loc nD τ sig) → Buf (Elt Ideal) ℓ) (B : (⟨2, ![4096, 8192]⟩ : Shape).Idx → EReal) : Prop :=
  ∀ c : Dev nD, m ((c.tc : Thread nD τ).loc main_arg1) = Layout.block ⟨2, ![4096, 256]⟩ ⟨2, ![4096, 8192]⟩ 1 32 c B

variable (m : (ℓ : Loc nD τ sig) → Buf (Elt Ideal) ℓ)
variable (A : (⟨2, ![4096, 4096]⟩ : Shape).Idx → EReal) (B : (⟨2, ![4096, 8192]⟩ : Shape).Idx → EReal)
variable (hA : RowsOf m A) (hB : ColsOf m B)

/-- Row `r` of half `u` of device `o`'s block, in the whole. -/
def rowAt (o : Dev nD) (u : Fin 2) (r : Fin 64) : Fin 4096 :=
  ⟨o.val * 128 + u.val * 64 + r.val, by have h : o.val < 32 := o.isLt; omega⟩

/-- Column `j` of device `c`'s columns, in the whole. -/
def colAt (c : Dev nD) (j : Fin 256) : Fin 8192 := ⟨c.val * 256 + j.val, by have h : c.val < 32 := c.isLt; omega⟩

include hA in
theorem xV_at (o : Dev nD) (r : Fin 128) (k : Fin 4096) : (xV m o (ix2 r k) : EReal)
    = A (ix2 ⟨o.val * 128 + r.val, by have h : o.val < 32 := o.isLt; omega⟩ k) := by
  have h : xV m o = Layout.block ⟨2, ![128, 4096]⟩ ⟨2, ![4096, 4096]⟩ 0 32 o A := ((V1_of m o main_arg0 (by decide)).trans rfl).trans (hA o)
  rw [h, Layout.block_apply]
  congr 1
  funext a
  apply Fin.ext
  match a with
  | 0 => rfl
  | 1 => rfl

include hB in
theorem wtV_at (c : Dev nD) (k : Fin 4096) (j : Fin 256) : (wtV m c (ix2 k j) : EReal) = B (ix2 k (colAt c j)) := by
  have h : wV m c = Layout.block ⟨2, ![4096, 256]⟩ ⟨2, ![4096, 8192]⟩ 1 32 c B := ((V1_of m c main_arg1 (by decide)).trans rfl).trans (hB c)
  have e : wtV m c = wV m c := by
    unfold wtV k0_pay3
    exact (cast_same _ _).trans (cast_same _ _)
  rw [e, h, Layout.block_apply]
  congr 1
  funext a
  apply Fin.ext
  match a with
  | 0 => rfl
  | 1 => rfl

include hA in
theorem X_at (o : Dev nD) (u : Fin 2) (r : Fin 64) (k : Fin 4096) : (X m o u (ix2 r k) : EReal) = A (ix2 (rowAt o u r) k) := by
  have e : k0_pay4 (xV m o) = xV m o := cast_same _ _
  match u with
  | 0 =>
    show k0_pay5 (xV m o) (ix2 r k) = _
    unfold k0_pay5
    rw [e]
    refine Eq.trans ?_ ((xV_at m A hA o ⟨r.val, by omega⟩ k).trans ?_)
    · show xV m o _ = xV m o _
      congr 1
      funext a
      apply Fin.ext
      match a with
      | 0 => exact Nat.zero_add _
      | 1 => exact Nat.zero_add _
    · congr 2
  | 1 =>
    show k0_pay8 (k0_pay4 (xV m o)) (ix2 r k) = _
    rw [e]
    unfold k0_pay8
    refine Eq.trans ?_ ((xV_at m A hA o ⟨64 + r.val, by omega⟩ k).trans ?_)
    · show xV m o _ = xV m o _
      congr 1
      funext a
      apply Fin.ext
      match a with
      | 0 => rfl
      | 1 => exact Nat.zero_add _
    · congr 2
      apply Fin.ext
      show o.val * 128 + (64 + r.val) = o.val * 128 + 1 * 64 + r.val
      omega

include hA hB in
/-- A block's entries are entries of the whole product. -/
theorem Yb_at (c o : Dev nD) (u : Fin 2) (r : Fin 64) (j : Fin 256) :
    (Yb (X m) (wtV m c) o u (ix2 r j) : EReal) = whole A B (rowAt o u r) (colAt c j) := by
  unfold Yb whole
  rw [yb_at]
  congr 1
  exact Finset.sum_congr rfl fun k _ => congrArg₂ (· * ·) (X_at m A hA o u r k) (wtV_at m B hB c k j)

/-! ## The maximum -/

theorem whole_nonneg (i : Fin 4096) (j : Fin 8192) : 0 ≤ whole A B i j := le_max_right _ _

/-- Every row of the whole is a row of a half. -/
theorem row_of (i : Fin 4096) : ∃ o u r, rowAt o u r = i :=
  ⟨⟨i.val / 128, by show _ < 32; omega⟩, ⟨i.val % 128 / 64, by omega⟩, ⟨i.val % 64, by omega⟩, Fin.ext (by
    show i.val / 128 * 128 + i.val % 128 / 64 * 64 + i.val % 64 = i.val; omega)⟩

theorem col_of (j : Fin 8192) : ∃ c l, colAt c l = j :=
  ⟨⟨j.val / 256, by show _ < 32; omega⟩, ⟨j.val % 256, by omega⟩, Fin.ext (by
    show j.val / 256 * 256 + j.val % 256 = j.val; omega)⟩

include hA hB in
/-- A device's maximum is that of its columns, and zero. -/
theorem mxV_le (c : Dev nD) (b : EReal) : (mxV m c : EReal) ≤ b ↔ 0 ≤ b ∧ ∀ i l, whole A B i (colAt c l) ≤ b := by
  unfold mxV Ml
  refine (foldl_le (fun p : Dev nD × Fin 2 => Yb (X m) (wtV m c) p.1 p.2) b (seqAll c) _).trans ?_
  rw [show (Scalar.ofBits (F := Ideal) .f32 0#32 : EReal) = 0 from Ideal.ofBits_zero_f32]
  refine and_congr_right fun _ => ?_
  constructor
  · intro H i l
    obtain ⟨o, u, r, rfl⟩ := row_of i
    rw [← Yb_at m A B hA hB]
    exact H (o, u) (mem_seqAll c o u) _
  · rintro H ⟨o, u⟩ - i
    rw [eq_ix2 i]
    exact (Yb_at m A B hA hB c o u (i 0) (i 1)).trans_le (H _ _)

/-- The greatest entry of the whole product, as the kernel finds it. -/
def topV (c : Dev nD) : EReal := k0_pay146 (F := Ideal) (mxV m c) (mvec (mxV m) c)

include hA hB in
/-- It is below `b` exactly if every entry is. -/
theorem topV_le (c : Dev nD) (b : EReal) : topV m c ≤ b ↔ ∀ i j, whole A B i j ≤ b := by
  unfold topV
  rw [pay146_le]
  constructor
  · rintro ⟨h1, h2⟩ i j
    obtain ⟨d, l, rfl⟩ := col_of j
    by_cases hd : d = c
    · subst hd
      exact ((mxV_le m A B hA hB d b).mp h1).2 i l
    · have h := h2 (ix3 (show Fin 32 from d) 0 0)
      unfold mvec at h
      rw [if_neg (show ¬ (show Dev nD from d) = c from hd)] at h
      exact ((mxV_le m A B hA hB d b).mp h).2 i l
  · intro H
    have h0 : (0 : EReal) ≤ b := (whole_nonneg A B 0 0).trans (H 0 0)
    refine ⟨(mxV_le m A B hA hB c b).mpr ⟨h0, fun i l => H _ _⟩, fun x => ?_⟩
    unfold mvec
    split
    · show Ideal.ofBits .f32 0x00000000#32 ≤ b
      rw [Ideal.ofBits_zero_f32]; exact h0
    · exact (mxV_le m A B hA hB _ b).mpr ⟨h0, fun i l => H _ _⟩

/-! ## The result -/

/-- The quantised value of `y` where the greatest entry is `t`. -/
def quant (t y : EReal) : EReal :=
  min (Ideal.ofBits .f32 0x42FE0000#32) (max (Ideal.ofBits .f32 0xC2FE0000#32)
    (Ideal.liftRound Ideal.roundHalfEven (Ideal.div y (Ideal.div t (Ideal.ofBits .f32 0x42FE0000#32)))))
    * Ideal.div t (Ideal.ofBits .f32 0x42FE0000#32)

include hA hB in
/-- Each entry of a device's result is the quantised entry of the whole product. -/
theorem resV_at (c : Dev nD) (i : Fin 4096) (l : Fin 256) : (resV m c (ix2 i l) : EReal) = quant (topV m c) (whole A B i (colAt c l)) := by
  have hy : (yAll (wtV m c) (X m) (ix2 i l) : EReal) = whole A B i (colAt c l) := by
    unfold yAll
    refine (Yb_at m A B hA hB c _ _ _ _).trans ?_
    congr 1
    apply Fin.ext
    show i.val / 128 * 128 + i.val % 128 / 64 * 64 + i.val % 64 = i.val
    omega
  rw [← hy]
  unfold resV outV k0_pay1
  rw [cast_same]
  rfl

end Cert.KernelIdeal.Own

end
-- ==== Proof.RefValue.lean ====
/-
The reference's result over the extended reals, and that the kernel's is the same.
-/
module

public import proofs.«01_k».proof.Proof.Value
public import proofs.«01_k».proof.Proof.Gen.ReferenceIdeal.Run
public import Idealize.ShloMosaic.Lib.StackMember

@[expose] public section

noncomputable section

namespace Cert.ReferenceIdeal.Own

open Idealize.ShloMosaic Idealize.ShloMosaic.ValueIdx Idealize.ShloMosaic.TcCoe Idealize.SL.Sem
open Cert.ReferenceIdeal Cert.ReferenceIdeal.Gen
open Cert.KernelIdeal.Own (whole quant topV topV_le hred_le resV resV_at colAt whole_nonneg RowsOf ColsOf)

variable (A : FVec Ideal S4096x4096 .bf16) (B : FVec Ideal S4096x8192 .bf16)

/-- The reference's product with its negative entries replaced with zero. -/
def relu : FVec Ideal S4096x8192 .f32 :=
  maximumf (Host.dotGeneral dot_S4096x4096_S4096x8192_S4096x8192_1_0_0_1_n_n none A B)
    (broadcastInDim S4096x8192 ![] bcast_S_S4096x8192 (constant (F := Ideal) S_ .f32 0x00000000#32))

/-- The greatest magnitude in `y`. -/
def top (y : FVec Ideal S4096x8192 .f32) : FVec Ideal S_ .f32 :=
  Host.reduce (FloatOps.maximumf (F := Ideal) (φ := .f32)) (Host.absf y) (constant (F := Ideal) S_ .f32 0xFF800000#32) reducesTo_S4096x8192_S_d0_1 h_S_

/-- The scale. -/
def scale (y : FVec Ideal S4096x8192 .f32) : FVec Ideal S4096x8192 .f32 :=
  broadcastInDim S4096x8192 ![] bcast_S_S4096x8192 (Host.divf (top y) (constant (F := Ideal) S_ .f32 0x42FE0000#32))

/-- The reference's result. -/
def refV : FVec Ideal S4096x8192 .f32 :=
  mulf (minimumf (broadcastInDim S4096x8192 ![] bcast_S_S4096x8192 (id (constant (F := Ideal) S_ .f32 0x42FE0000#32)))
    (maximumf (broadcastInDim S4096x8192 ![] bcast_S_S4096x8192 (id (constant (F := Ideal) S_ .f32 0xC2FE0000#32)))
      (Host.roundeven (Host.divf (relu A B) (scale (relu A B)))))) (scale (relu A B))

theorem dot_plain : dot_S4096x4096_S4096x8192_S4096x8192_1_0_0_1_n_n = DotDims.plain 4096 4096 8192 := rfl

theorem relu_at (i : Fin 4096) (j : Fin 8192) : (relu A B (ix2 i j) : EReal) = whole A B i j := by
  unfold relu whole
  show max (Host.dotGeneral dot_S4096x4096_S4096x8192_S4096x8192_1_0_0_1_n_n none A B (ix2 i j)) (Ideal.ofBits .f32 0x00000000#32) = _
  rw [Ideal.ofBits_zero_f32, dot_plain, StackMember.dotGeneral_plain_apply]

theorem one_S_ (i j : S_.Idx) : i = j := funext fun a => a.elim0

/-- The greatest magnitude is below `b` exactly if every entry is. -/
theorem top_le (k : S_.Idx) (b : EReal) : (top (relu A B) k : EReal) ≤ b ↔ ∀ i j, whole A B i j ≤ b := by
  unfold top
  refine (hred_le _ _ _ _ (fun i => one_S_ _ _) b).trans ?_
  constructor
  · intro H i j
    rw [← relu_at]
    exact (le_max_left _ _).trans (H (ix2 i j))
  · intro H x
    rw [eq_ix2 x]
    show max (relu A B (ix2 (x 0) (x 1)) : EReal) (-(relu A B (ix2 (x 0) (x 1)) : EReal)) ≤ b
    have e : (relu A B (ix2 (x 0) (x 1)) : EReal) = whole A B (x 0) (x 1) := relu_at A B (x 0) (x 1)
    rw [e]
    refine max_le (H _ _) (le_trans ?_ (H (x 0) (x 1)))
    exact (EReal.neg_le_zero.mpr (whole_nonneg A B _ _)).trans (whole_nonneg A B _ _)

/-- Each entry of the reference's result. -/
theorem refV_at (k : S_.Idx) (i : Fin 4096) (j : Fin 8192) : (refV A B (ix2 i j) : EReal) = quant (top (relu A B) k) (whole A B i j) := by
  rw [← relu_at]
  have h : (scale (relu A B) (ix2 i j) : EReal) = Ideal.div (top (relu A B) k) (Ideal.ofBits .f32 0x42FE0000#32) := by
    unfold scale
    show Ideal.div (top (relu A B) _) _ = _
    congr 1
  unfold refV quant
  rw [← h]
  rfl

/-- Where a device's columns lie in the whole. -/
theorem block_idx (h : Layout.Tiles ⟨2, ![4096, 256]⟩ ⟨2, ![4096, 8192]⟩ 1 32) (c : Dev Cert.KernelIdeal.nD) (i : Fin 4096) (l : Fin 256) :
    h.idx c (ix2 i l) = ix2 i (colAt c l) := by
  funext a
  apply Fin.ext
  match a with
  | 0 => rfl
  | 1 => rfl

/-- A device's result is its columns of the reference's. -/
theorem res_eq (m : (ℓ : Loc Cert.KernelIdeal.nD Cert.KernelIdeal.τ Cert.KernelIdeal.sig) → Buf (Elt Ideal) ℓ)
    (hA : RowsOf m A) (hB : ColsOf m B) (c : Dev Cert.KernelIdeal.nD) :
    resV m c = Layout.block ⟨2, ![4096, 256]⟩ ⟨2, ![4096, 8192]⟩ 1 32 c (refV A B) := by
  have ht : topV m c = top (relu A B) (fun a => a.elim0) := eq_of_forall_ge_iff fun b => (topV_le m A B hA hB c b).trans (top_le A B _ b).symm
  have key : ∀ (i : Fin 4096) (l : Fin 256), (resV m c (ix2 i l) : EReal) = refV A B (ix2 i (colAt c l)) := fun i l =>
    (resV_at m A B hA hB c i l).trans (by rw [ht, ← refV_at])
  funext x
  rw [eq_ix2 x]
  exact (key _ _).trans (congrArg (refV A B) (block_idx _ c _ _).symm)

/-- The reference ends with its result. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ (fun r =>
      r.2.mem (((0 : Dev nD).tc : Thread nD τ).loc main_v11)
          = refV (m (((0 : Dev nD).tc : Thread nD τ).loc main_arg0)) (m (((0 : Dev nD).tc : Thread nD τ).loc main_arg1))
        ∧ r.2.mem (((0 : Dev nD).tc : Thread nD τ).loc main_arg0) = m (((0 : Dev nD).tc : Thread nD τ).loc main_arg0)
        ∧ r.2.mem (((0 : Dev nD).tc : Thread nD τ).loc main_arg1) = m (((0 : Dev nD).tc : Thread nD τ).loc main_arg1)) :=
  (θ_run defs _ _).mono (fun _ h => h 0) (Value.run (F := Ideal) m ρ)

end Cert.ReferenceIdeal.Own

end
-- ==== Proof.Algebraic.lean ====
/-
The value claim: over the extended reals the kernel's devices hold the columns of the reference's result.
-/
module

public import proofs.«01_k».proof.Defs
public import proofs.«01_k».proof.Proof.Run
public import proofs.«01_k».proof.Proof.RefValue

@[expose] public section

noncomputable section

namespace Cert.Frames

open Idealize.ShloMosaic Idealize.SL.Sem

/-- From arguments that are the blocks of the reference's, each device ends with its block of the reference's result. -/
theorem algebraic : Cert.algebraic_KernelIdeal_ReferenceIdeal := fun m g m' g' _ h =>
  ⟨_, (θ_run Cert.KernelIdeal.defs _ _).mono
      (fun _ hr c => ⟨(hr.1 c).2.2.trans (Cert.ReferenceIdeal.Own.res_eq _ _ m (fun c => (h c).1) (fun c => (h c).2) c),
        (hr.1 c).1, (hr.1 c).2.1⟩) (Cert.KernelIdeal.Own.run_main (F := Ideal) m g),
    Cert.ReferenceIdeal.Own.run_ref m' g'⟩

end Cert.Frames

end
-- ==== Proof.lean ====
/-
The claims, put together from their proofs.
-/
module

public import proofs.«01_k».proof.Defs
public import proofs.«01_k».proof.Proof.Frames
public import proofs.«01_k».proof.Proof.Algebraic

@[expose] public section

noncomputable section

namespace Cert.Proof

open Idealize.ShloMosaic Idealize.SL.Sem

/-- The claims of this certificate. -/
theorem claim : Cert.Claim :=
  ⟨Cert.Kernel.Gen.facts, Cert.KernelIdeal.Gen.facts, Cert.ReferenceIdeal.Gen.facts,
    Cert.Frames.frame_kernel, Cert.Frames.frame_ideal, Cert.Frames.frame_reference, trivial,
    Cert.Frames.algebraic⟩

end Cert.Proof

end
